-- ==== Defs.lean ====
def Pre_Kernel [hPre_names_blocks : Cert.Pre_names_blocks.Facts] (m : (ℓ : Loc Cert.Kernel.nD Cert.Kernel.τ Cert.Kernel.sig) → Buf (Elt Bits) ℓ) : Prop :=
  ∀ c : Dev Cert.Kernel.nD,
    (Cert.Pre_names_blocks.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_names_blocks : Cert.Pre_names_blocks.Facts] (m : (ℓ : Loc Cert.KernelIdeal.nD Cert.KernelIdeal.τ Cert.KernelIdeal.sig) → Buf (Elt Ideal) ℓ) : Prop :=
  ∀ c : Dev Cert.KernelIdeal.nD,
    (Cert.Pre_names_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_names_blocks : Cert.Pre_names_blocks.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_names_blocks : Cert.Pre_names_blocks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_names_blocks : Cert.Pre_names_blocks.Facts) (hPre_finite_scores : Cert.Pre_finite_scores.Facts),
    quiescent_Kernel (hKernel := hKernel) (hPre_names_blocks := hPre_names_blocks)
    ∧ quiescent_KernelIdeal (hKernelIdeal := hKernelIdeal) (hPre_names_blocks := hPre_names_blocks)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S1x8192x1024 : Shape := ⟨3, ![1, 8192, 1024]⟩
abbrev S1024x1024 : Shape := ⟨2, ![1024, 1024]⟩
abbrev S128x6 : Shape := ⟨2, ![128, 6]⟩
abbrev S_ : Shape := ⟨0, ![]⟩
abbrev S128 : Shape := ⟨1, ![128]⟩
abbrev S128x1 : Shape := ⟨2, ![128, 1]⟩
abbrev S6 : Shape := ⟨1, ![6]⟩
abbrev S1x6 : Shape := ⟨2, ![1, 6]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S128_S128x1_0 : S128.BroadcastsInDim S128x1 (![0] : Fin 1 → Fin S128x1.rank)
  bcast_S6_S1x6_1 : S6.BroadcastsInDim S1x6 (![1] : Fin 1 → Fin S1x6.rank)
  bcast_S_S128x1 : S_.BroadcastsInDim S128x1 (![] : Fin 0 → Fin S128x1.rank)
  bcast_S_S1x6 : S_.BroadcastsInDim S1x6 (![] : Fin 0 → Fin S1x6.rank)
  bcast_S128x1_S128x6_0_1 : S128x1.BroadcastsInDim S128x6 (![0, 1] : Fin 2 → Fin S128x6.rank)
  bcast_S1x6_S128x6_0_1 : S1x6.BroadcastsInDim S128x6 (![0, 1] : Fin 2 → Fin S128x6.rank)
  bcast_S_S128x6 : S_.BroadcastsInDim S128x6 (![] : Fin 0 → Fin S128x6.rank)
  reducesTo_S128x6_S_d0_1 : S128x6.ReducesTo [0, 1] S_

variable [Facts]

def fn_part2 {F : FTy → Type} [FloatOps F] (main_v13 : IVec S_ 1) (main_v29 : IVec S128x6 1) (main_v30 : IVec S128x6 1) (main_v36 : IVec S128x6 1) : IVec S_ 1 :=
  let main_v37 : IVec S128x6 1 := ori main_v30 main_v36
  let main_v38 : IVec S128x6 1 := andi main_v29 main_v37
  let main_c_9 : IVec S_ 1 := constantI S_ 1 1#1
  let main_v39 : IVec S_ 1 := (fun x v => Host.reduce IntOp.andi x v reducesTo_S128x6_S_d0_1 h_S_) main_v38 main_c_9
  let main_v40 : IVec S_ 1 := andi main_v13 main_v39
  main_v40

def fn_part1 {F : FTy → Type} [FloatOps F] (main_arg5 : IVec S128x6 32) (main_v13 : IVec S_ 1) (main_v15 : IVec S128x1 32) (main_v17 : IVec S1x6 32) : IVec S_ 1 :=
  let main_c_4 : IVec S_ 32 := constantI S_ 32 2#32
  let main_v18 : IVec S128x1 32 := broadcastInDim S128x1 ![] bcast_S_S128x1 main_c_4
  let main_v19 : IVec S128x1 1 := cmpi .sge main_v15 main_v18
  let main_c_5 : IVec S_ 32 := constantI S_ 32 125#32
  let main_v20 : IVec S128x1 32 := broadcastInDim S128x1 ![] bcast_S_S128x1 main_c_5
  let main_v21 : IVec S128x1 1 := cmpi .sle main_v15 main_v20
  let main_v22 : IVec S128x1 1 := andi main_v19 main_v21
  let main_c_6 : IVec S_ 32 := constantI S_ 32 3#32
  let main_v23 : IVec S1x6 32 := broadcastInDim S1x6 ![] bcast_S_S1x6 main_c_6
  let main_v24 : IVec S1x6 1 := cmpi .slt main_v17 main_v23
  let main_v25 : IVec S128x6 1 := broadcastInDim S128x6 ![0, 1] bcast_S128x1_S128x6_0_1 main_v22
  let main_v26 : IVec S128x6 1 := broadcastInDim S128x6 ![0, 1] bcast_S1x6_S128x6_0_1 main_v24
  let main_v27 : IVec S128x6 1 := andi main_v25 main_v26
  let main_c_7 : IVec S_ 32 := constantI S_ 32 128#32
  let main_v28 : IVec S128x6 32 := broadcastInDim S128x6 ![] bcast_S_S128x6 main_c_7
  let main_v29 : IVec S128x6 1 := cmpi .slt main_arg5 main_v28
  let main_v30 : IVec S128x6 1 := noti main_v27
  let main_c_8 : IVec S_ 32 := constantI S_ 32 1#32
  let main_v31 : IVec S128x1 32 := broadcastInDim S128x1 ![] bcast_S_S128x1 main_c_8
  let main_v32 : IVec S128x1 32 := subi main_v15 main_v31
  let main_v33 : IVec S128x6 32 := broadcastInDim S128x6 ![0, 1] bcast_S128x1_S128x6_0_1 main_v32
  let main_v34 : IVec S128x6 32 := broadcastInDim S128x6 ![0, 1] bcast_S1x6_S128x6_0_1 main_v17
  let main_v35 : IVec S128x6 32 := addi main_v33 main_v34
  let main_v36 : IVec S128x6 1 := cmpi .eq main_arg5 main_v35
  fn_part2 (F := F) main_v13 main_v29 main_v30 main_v36

def fn {F : FTy → Type} [FloatOps F] (main_arg0 : FVec F S1x8192x1024 .f32) (main_arg1 : FVec F S1024x1024 .f32) (main_arg2 : FVec F S1024x1024 .f32) (main_arg3 : FVec F S1024x1024 .f32) (main_arg4 : FVec F S1024x1024 .f32) (main_arg5 : IVec S128x6 32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : IVec S128 32 := iotaInDim S128 32 0
  let main_v15 : IVec S128x1 32 := broadcastInDim S128x1 ![0] bcast_S128_S128x1_0 main_v14
  let main_v16 : IVec S6 32 := iotaInDim S6 32 0
  let main_v17 : IVec S1x6 32 := broadcastInDim S1x6 ![1] bcast_S6_S1x6_1 main_v16
  fn_part1 (F := F) main_arg5 main_v13 main_v15 main_v17
-- ==== Pre_names_blocks.lean ====
abbrev S1x8192x1024 : Shape := ⟨3, ![1, 8192, 1024]⟩
abbrev S1024x1024 : Shape := ⟨2, ![1024, 1024]⟩
abbrev S128x6 : Shape := ⟨2, ![128, 6]⟩
abbrev S128 : Shape := ⟨1, ![128]⟩
abbrev S128x1 : Shape := ⟨2, ![128, 1]⟩
abbrev S6 : Shape := ⟨1, ![6]⟩
abbrev S1x6 : Shape := ⟨2, ![1, 6]⟩
abbrev S_ : Shape := ⟨0, ![]⟩

class Facts : Prop where
  bcast_S128_S128x1_0 : S128.BroadcastsInDim S128x1 (![0] : Fin 1 → Fin S128x1.rank)
  bcast_S6_S1x6_1 : S6.BroadcastsInDim S1x6 (![1] : Fin 1 → Fin S1x6.rank)
  bcast_S_S128x1 : S_.BroadcastsInDim S128x1 (![] : Fin 0 → Fin S128x1.rank)
  bcast_S_S1x6 : S_.BroadcastsInDim S1x6 (![] : Fin 0 → Fin S1x6.rank)
  bcast_S128x1_S128x6_0_1 : S128x1.BroadcastsInDim S128x6 (![0, 1] : Fin 2 → Fin S128x6.rank)
  bcast_S1x6_S128x6_0_1 : S1x6.BroadcastsInDim S128x6 (![0, 1] : Fin 2 → Fin S128x6.rank)
  bcast_S_S128x6 : S_.BroadcastsInDim S128x6 (![] : Fin 0 → Fin S128x6.rank)

variable [Facts]

def fn_part1 {F : FTy → Type} [FloatOps F] (main_arg5 : IVec S128x6 32) (main_v3 : IVec S1x6 32) (main_v15 : IVec S128x6 1) (main_v16 : IVec S128x6 1) (main_v18 : IVec S128x1 32) : IVec S128x6 1 :=
  let main_v19 : IVec S128x6 32 := broadcastInDim S128x6 ![0, 1] bcast_S128x1_S128x6_0_1 main_v18
  let main_v20 : IVec S128x6 32 := broadcastInDim S128x6 ![0, 1] bcast_S1x6_S128x6_0_1 main_v3
  let main_v21 : IVec S128x6 32 := addi main_v19 main_v20
  let main_v22 : IVec S128x6 1 := cmpi .eq main_arg5 main_v21
  let main_v23 : IVec S128x6 1 := ori main_v16 main_v22
  let main_v24 : IVec S128x6 1 := andi main_v15 main_v23
  main_v24

def fn {F : FTy → Type} [FloatOps F] (main_arg0 : FVec F S1x8192x1024 .f32) (main_arg1 : FVec F S1024x1024 .f32) (main_arg2 : FVec F S1024x1024 .f32) (main_arg3 : FVec F S1024x1024 .f32) (main_arg4 : FVec F S1024x1024 .f32) (main_arg5 : IVec S128x6 32) : IVec S128x6 1 :=
  let main_v0 : IVec S128 32 := iotaInDim S128 32 0
  let main_v1 : IVec S128x1 32 := broadcastInDim S128x1 ![0] bcast_S128_S128x1_0 main_v0
  let main_v2 : IVec S6 32 := iotaInDim S6 32 0
  let main_v3 : IVec S1x6 32 := broadcastInDim S1x6 ![1] bcast_S6_S1x6_1 main_v2
  let main_c : IVec S_ 32 := constantI S_ 32 2#32
  let main_v4 : IVec S128x1 32 := broadcastInDim S128x1 ![] bcast_S_S128x1 main_c
  let main_v5 : IVec S128x1 1 := cmpi .sge main_v1 main_v4
  let main_c_0 : IVec S_ 32 := constantI S_ 32 125#32
  let main_v6 : IVec S128x1 32 := broadcastInDim S128x1 ![] bcast_S_S128x1 main_c_0
  let main_v7 : IVec S128x1 1 := cmpi .sle main_v1 main_v6
  let main_v8 : IVec S128x1 1 := andi main_v5 main_v7
  let main_c_1 : IVec S_ 32 := constantI S_ 32 3#32
  let main_v9 : IVec S1x6 32 := broadcastInDim S1x6 ![] bcast_S_S1x6 main_c_1
  let main_v10 : IVec S1x6 1 := cmpi .slt main_v3 main_v9
  let main_v11 : IVec S128x6 1 := broadcastInDim S128x6 ![0, 1] bcast_S128x1_S128x6_0_1 main_v8
  let main_v12 : IVec S128x6 1 := broadcastInDim S128x6 ![0, 1] bcast_S1x6_S128x6_0_1 main_v10
  let main_v13 : IVec S128x6 1 := andi main_v11 main_v12
  let main_c_2 : IVec S_ 32 := constantI S_ 32 128#32
  let main_v14 : IVec S128x6 32 := broadcastInDim S128x6 ![] bcast_S_S128x6 main_c_2
  let main_v15 : IVec S128x6 1 := cmpi .slt main_arg5 main_v14
  let main_v16 : IVec S128x6 1 := noti main_v13
  let main_c_3 : IVec S_ 32 := constantI S_ 32 1#32
  let main_v17 : IVec S128x1 32 := broadcastInDim S128x1 ![] bcast_S_S128x1 main_c_3
  let main_v18 : IVec S128x1 32 := subi main_v1 main_v17
  fn_part1 (F := F) main_arg5 main_v3 main_v15 main_v16 main_v18
-- ==== Kernel.lean ====
abbrev S1x8192x1024 : Shape := ⟨3, ![1, 8192, 1024]⟩
abbrev S1024x1024 : Shape := ⟨2, ![1024, 1024]⟩
abbrev S128x6 : Shape := ⟨2, ![128, 6]⟩
abbrev S8192x1024 : Shape := ⟨2, ![8192, 1024]⟩
abbrev S_ : Shape := ⟨0, ![]⟩
abbrev S1024x3072 : Shape := ⟨2, ![1024, 3072]⟩
abbrev S48x8192x64 : Shape := ⟨3, ![48, 8192, 64]⟩
abbrev S2048x1024 : Shape := ⟨2, ![2048, 1024]⟩
abbrev S1024x512 : Shape := ⟨2, ![1024, 512]⟩
abbrev S8x2048x64 : Shape := ⟨3, ![8, 2048, 64]⟩
abbrev S2048x512 : Shape := ⟨2, ![2048, 512]⟩
abbrev S2048x64 : Shape := ⟨2, ![2048, 64]⟩
abbrev S1x2048x64 : Shape := ⟨3, ![1, 2048, 64]⟩
abbrev S48x128x64x64 : Shape := ⟨4, ![48, 128, 64, 64]⟩
abbrev S16x128x64x64 : Shape := ⟨4, ![16, 128, 64, 64]⟩
abbrev S1x128x64x64 : Shape := ⟨4, ![1, 128, 64, 64]⟩
abbrev S16x512x64 : Shape := ⟨3, ![16, 512, 64]⟩
abbrev S16x512x128 : Shape := ⟨3, ![16, 512, 128]⟩
abbrev S128x64x512 : Shape := ⟨3, ![128, 64, 512]⟩
abbrev S128x64x64 : Shape := ⟨3, ![128, 64, 64]⟩
abbrev S8192x64 : Shape := ⟨2, ![8192, 64]⟩
abbrev S1x1x64x64 : Shape := ⟨4, ![1, 1, 64, 64]⟩
abbrev S64x64 : Shape := ⟨2, ![64, 64]⟩
abbrev S64x8192 : Shape := ⟨2, ![64, 8192]⟩
abbrev S64 : Shape := ⟨1, ![64]⟩
abbrev S64x1 : Shape := ⟨2, ![64, 1]⟩
abbrev S1x64x64 : Shape := ⟨3, ![1, 64, 64]⟩
abbrev S512x64 : Shape := ⟨2, ![512, 64]⟩
abbrev S1x512x64 : Shape := ⟨3, ![1, 512, 64]⟩
abbrev S64x128 : Shape := ⟨2, ![64, 128]⟩
abbrev S1x64x128 : Shape := ⟨3, ![1, 64, 128]⟩
abbrev S1x3x64x64 : Shape := ⟨4, ![1, 3, 64, 64]⟩
abbrev S3x64x64 : Shape := ⟨3, ![3, 64, 64]⟩
abbrev S192x64 : Shape := ⟨2, ![192, 64]⟩
abbrev S1x192x64 : Shape := ⟨3, ![1, 192, 64]⟩
abbrev S1x1 : Shape := ⟨2, ![1, 1]⟩
abbrev S64x512 : Shape := ⟨2, ![64, 512]⟩
abbrev S64x256 : Shape := ⟨2, ![64, 256]⟩
abbrev S1x64x512 : Shape := ⟨3, ![1, 64, 512]⟩
abbrev S1x512x128 : Shape := ⟨3, ![1, 512, 128]⟩
abbrev S512x128 : Shape := ⟨2, ![512, 128]⟩
abbrev S16x8192x64 : Shape := ⟨3, ![16, 8192, 64]⟩
abbrev S16x64x1024 : Shape := ⟨3, ![16, 64, 1024]⟩
abbrev S16x1024x64 : Shape := ⟨3, ![16, 1024, 64]⟩
abbrev S1x1024x64 : Shape := ⟨3, ![1, 1024, 64]⟩
abbrev S1024x64 : Shape := ⟨2, ![1024, 64]⟩

abbrev nBuf : Space → Nat
  | .hbm => 19
  | .vmem => 22
  | .smem => 1
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8192x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x3072, .f32⟩
  | .hbm, ⟨10, _⟩ => ⟨S1024x3072, .bf16⟩
  | .hbm, ⟨11, _⟩ => ⟨S48x8192x64, .bf16⟩
  | .hbm, ⟨12, _⟩ => ⟨S48x128x64x64, .bf16⟩
  | .hbm, ⟨13, _⟩ => ⟨S16x128x64x64, .bf16⟩
  | .hbm, ⟨14, _⟩ => ⟨S16x8192x64, .bf16⟩
  | .hbm, ⟨15, _⟩ => ⟨S1024x1024, .bf16⟩
  | .hbm, ⟨16, _⟩ => ⟨S16x64x1024, .bf16⟩
  | .hbm, ⟨17, _⟩ => ⟨S8192x1024, .f32⟩
  | .hbm, ⟨18, _⟩ => ⟨S1x8192x1024, .f32⟩
  | .local _ .vmem, ⟨0, _⟩ => ⟨S2048x1024, .f32⟩
  | .local _ .vmem, ⟨1, _⟩ => ⟨S2048x1024, .f32⟩
  | .local _ .vmem, ⟨2, _⟩ => ⟨S1024x512, .bf16⟩
  | .local _ .vmem, ⟨3, _⟩ => ⟨S1024x512, .bf16⟩
  | .local _ .vmem, ⟨4, _⟩ => ⟨S8x2048x64, .bf16⟩
  | .local _ .vmem, ⟨5, _⟩ => ⟨S8x2048x64, .bf16⟩
  | .local _ .vmem, ⟨6, _⟩ => ⟨S1x128x64x64, .bf16⟩
  | .local _ .vmem, ⟨7, _⟩ => ⟨S1x128x64x64, .bf16⟩
  | .local _ .vmem, ⟨8, _⟩ => ⟨S1x128x64x64, .bf16⟩
  | .local _ .vmem, ⟨9, _⟩ => ⟨S1x128x64x64, .bf16⟩
  | .local _ .vmem, ⟨10, _⟩ => ⟨S1x128x64x64, .bf16⟩
  | .local _ .vmem, ⟨11, _⟩ => ⟨S1x128x64x64, .bf16⟩
  | .local _ .vmem, ⟨12, _⟩ => ⟨S1x128x64x64, .bf16⟩
  | .local _ .vmem, ⟨13, _⟩ => ⟨S1x128x64x64, .bf16⟩
  | .local _ .vmem, ⟨14, _⟩ => ⟨S16x512x64, .bf16⟩
  | .local _ .vmem, ⟨15, _⟩ => ⟨S16x512x128, .bf16⟩
  | .local _ .vmem, ⟨16, _⟩ => ⟨S128x64x512, .bf16⟩
  | .local _ .vmem, ⟨17, _⟩ => ⟨S16x1024x64, .bf16⟩
  | .local _ .vmem, ⟨18, _⟩ => ⟨S16x1024x64, .bf16⟩
  | .local _ .vmem, ⟨19, _⟩ => ⟨S16x64x1024, .bf16⟩
  | .local _ .vmem, ⟨20, _⟩ => ⟨S1024x1024, .f32⟩
  | .local _ .vmem, ⟨21, _⟩ => ⟨S1024x1024, .f32⟩
  | .local _ .smem, ⟨0, _⟩ => ⟨S128x6, .i32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![16], ![false]⟩

abbrev pre1 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

@[reducible] def k1_t1_loop : Scf.Loop 32 :=
  let c0_i32 : BitVec 32 := 0#32
  let c7_i32 : BitVec 32 := 7#32
  let v372 : BitVec 32 := Scalar.addi c0_i32 c7_i32
  let c1_i32 : BitVec 32 := 1#32
  ⟨c0_i32, v372, c1_i32⟩
def k1_off1 (k1_t1 : Fin k1_t1_loop.trips) : Fin 4 → Nat :=
  let c0_2143 : Index := 0#32
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c0_i32_2141 : BitVec 32 := 0#32
  let v2083 : BitVec 32 := Scalar.addi v2082 c0_i32_2141
  let c1_i32_2142 : BitVec 32 := 1#32
  let v2084 : BitVec 32 := Scalar.subi v2083 c1_i32_2142
  let v2085 : Index := Scalar.indexCast v2084
  let c0_2144 : Index := 0#32
  let c0_2145 : Index := 0#32
  ![0, v2085.toNat, 0, 0]
def k1_off2 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c0_i32_2149 : BitVec 32 := 0#32
  let v2092 : BitVec 32 := Scalar.addi v2082 c0_i32_2149
  let v2093 : Index := Scalar.indexCast v2092
  let c3_2150 : Index := 3#32
  ![v2093.toNat, 3]
def k1_off3 (v2094 : BitVec 32) : Fin 4 → Nat :=
  let c0_2152 : Index := 0#32
  let c0_i32_2151 : BitVec 32 := 0#32
  let v2095 : BitVec 32 := Scalar.maxsi v2094 c0_i32_2151
  let v2096 : Index := Scalar.indexCast v2095
  let c0_2153 : Index := 0#32
  let c0_2154 : Index := 0#32
  ![0, v2096.toNat, 0, 0]

def k1_chk1 (v2094 : BitVec 32) : Prop :=
  (∀ a, (k1_off3 v2094) a + S1x1x64x64.size a ≤ S1x128x64x64.size a)
theorem k1_off3_inb : ∀ (v2094 : BitVec 32) (k1_hw1 : k1_chk1 v2094), ∀ a, (k1_off3 v2094) a + S1x1x64x64.size a ≤ S1x128x64x64.size a := fun v2094 k1_hw1 => k1_hw1

def k1_off4 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c0_i32_2158 : BitVec 32 := 0#32
  let v2102 : BitVec 32 := Scalar.addi v2082 c0_i32_2158
  let v2103 : Index := Scalar.indexCast v2102
  let c4_2159 : Index := 4#32
  ![v2103.toNat, 4]
def k1_off5 (v2104 : BitVec 32) : Fin 4 → Nat :=
  let c0_2161 : Index := 0#32
  let c0_i32_2160 : BitVec 32 := 0#32
  let v2105 : BitVec 32 := Scalar.maxsi v2104 c0_i32_2160
  let v2106 : Index := Scalar.indexCast v2105
  let c0_2162 : Index := 0#32
  let c0_2163 : Index := 0#32
  ![0, v2106.toNat, 0, 0]

def k1_chk2 (v2104 : BitVec 32) : Prop :=
  (∀ a, (k1_off5 v2104) a + S1x1x64x64.size a ≤ S1x128x64x64.size a)
theorem k1_off5_inb : ∀ (v2104 : BitVec 32) (k1_hw2 : k1_chk2 v2104), ∀ a, (k1_off5 v2104) a + S1x1x64x64.size a ≤ S1x128x64x64.size a := fun v2104 k1_hw2 => k1_hw2

def k1_off6 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c0_i32_2167 : BitVec 32 := 0#32
  let v2112 : BitVec 32 := Scalar.addi v2082 c0_i32_2167
  let v2113 : Index := Scalar.indexCast v2112
  let c5_2168 : Index := 5#32
  ![v2113.toNat, 5]
def k1_off7 (v2114 : BitVec 32) : Fin 4 → Nat :=
  let c0_2170 : Index := 0#32
  let c0_i32_2169 : BitVec 32 := 0#32
  let v2115 : BitVec 32 := Scalar.maxsi v2114 c0_i32_2169
  let v2116 : Index := Scalar.indexCast v2115
  let c0_2171 : Index := 0#32
  let c0_2172 : Index := 0#32
  ![0, v2116.toNat, 0, 0]

def k1_chk3 (v2114 : BitVec 32) : Prop :=
  (∀ a, (k1_off7 v2114) a + S1x1x64x64.size a ≤ S1x128x64x64.size a)
theorem k1_off7_inb : ∀ (v2114 : BitVec 32) (k1_hw3 : k1_chk3 v2114), ∀ a, (k1_off7 v2114) a + S1x1x64x64.size a ≤ S1x128x64x64.size a := fun v2114 k1_hw3 => k1_hw3

def k1_off8 (k1_t1 : Fin k1_t1_loop.trips) : Fin 4 → Nat :=
  let c0_2178 : Index := 0#32
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c1_i32_2176 : BitVec 32 := 1#32
  let v2122 : BitVec 32 := Scalar.addi v2082 c1_i32_2176
  let c1_i32_2177 : BitVec 32 := 1#32
  let v2123 : BitVec 32 := Scalar.subi v2122 c1_i32_2177
  let v2124 : Index := Scalar.indexCast v2123
  let c0_2179 : Index := 0#32
  let c0_2180 : Index := 0#32
  ![0, v2124.toNat, 0, 0]
def k1_off9 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c1_i32_2184 : BitVec 32 := 1#32
  let v2131 : BitVec 32 := Scalar.addi v2082 c1_i32_2184
  let v2132 : Index := Scalar.indexCast v2131
  let c3_2185 : Index := 3#32
  ![v2132.toNat, 3]
def k1_off10 (v2133 : BitVec 32) : Fin 4 → Nat :=
  let c0_2187 : Index := 0#32
  let c0_i32_2186 : BitVec 32 := 0#32
  let v2134 : BitVec 32 := Scalar.maxsi v2133 c0_i32_2186
  let v2135 : Index := Scalar.indexCast v2134
  let c0_2188 : Index := 0#32
  let c0_2189 : Index := 0#32
  ![0, v2135.toNat, 0, 0]

def k1_chk4 (v2133 : BitVec 32) : Prop :=
  (∀ a, (k1_off10 v2133) a + S1x1x64x64.size a ≤ S1x128x64x64.size a)
theorem k1_off10_inb : ∀ (v2133 : BitVec 32) (k1_hw4 : k1_chk4 v2133), ∀ a, (k1_off10 v2133) a + S1x1x64x64.size a ≤ S1x128x64x64.size a := fun v2133 k1_hw4 => k1_hw4

def k1_off11 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c1_i32_2193 : BitVec 32 := 1#32
  let v2141 : BitVec 32 := Scalar.addi v2082 c1_i32_2193
  let v2142 : Index := Scalar.indexCast v2141
  let c4_2194 : Index := 4#32
  ![v2142.toNat, 4]
def k1_off12 (v2143 : BitVec 32) : Fin 4 → Nat :=
  let c0_2196 : Index := 0#32
  let c0_i32_2195 : BitVec 32 := 0#32
  let v2144 : BitVec 32 := Scalar.maxsi v2143 c0_i32_2195
  let v2145 : Index := Scalar.indexCast v2144
  let c0_2197 : Index := 0#32
  let c0_2198 : Index := 0#32
  ![0, v2145.toNat, 0, 0]

def k1_chk5 (v2143 : BitVec 32) : Prop :=
  (∀ a, (k1_off12 v2143) a + S1x1x64x64.size a ≤ S1x128x64x64.size a)
theorem k1_off12_inb : ∀ (v2143 : BitVec 32) (k1_hw5 : k1_chk5 v2143), ∀ a, (k1_off12 v2143) a + S1x1x64x64.size a ≤ S1x128x64x64.size a := fun v2143 k1_hw5 => k1_hw5

def k1_off13 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c1_i32_2202 : BitVec 32 := 1#32
  let v2151 : BitVec 32 := Scalar.addi v2082 c1_i32_2202
  let v2152 : Index := Scalar.indexCast v2151
  let c5_2203 : Index := 5#32
  ![v2152.toNat, 5]
def k1_off14 (v2153 : BitVec 32) : Fin 4 → Nat :=
  let c0_2205 : Index := 0#32
  let c0_i32_2204 : BitVec 32 := 0#32
  let v2154 : BitVec 32 := Scalar.maxsi v2153 c0_i32_2204
  let v2155 : Index := Scalar.indexCast v2154
  let c0_2206 : Index := 0#32
  let c0_2207 : Index := 0#32
  ![0, v2155.toNat, 0, 0]

def k1_chk6 (v2153 : BitVec 32) : Prop :=
  (∀ a, (k1_off14 v2153) a + S1x1x64x64.size a ≤ S1x128x64x64.size a)
theorem k1_off14_inb : ∀ (v2153 : BitVec 32) (k1_hw6 : k1_chk6 v2153), ∀ a, (k1_off14 v2153) a + S1x1x64x64.size a ≤ S1x128x64x64.size a := fun v2153 k1_hw6 => k1_hw6

def k1_off15 (k1_t1 : Fin k1_t1_loop.trips) : Fin 4 → Nat :=
  let c0_2213 : Index := 0#32
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c2_i32_2211 : BitVec 32 := 2#32
  let v2161 : BitVec 32 := Scalar.addi v2082 c2_i32_2211
  let c1_i32_2212 : BitVec 32 := 1#32
  let v2162 : BitVec 32 := Scalar.subi v2161 c1_i32_2212
  let v2163 : Index := Scalar.indexCast v2162
  let c0_2214 : Index := 0#32
  let c0_2215 : Index := 0#32
  ![0, v2163.toNat, 0, 0]
def k1_off16 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c2_i32_2219 : BitVec 32 := 2#32
  let v2170 : BitVec 32 := Scalar.addi v2082 c2_i32_2219
  let v2171 : Index := Scalar.indexCast v2170
  let c3_2220 : Index := 3#32
  ![v2171.toNat, 3]
def k1_off17 (v2172 : BitVec 32) : Fin 4 → Nat :=
  let c0_2222 : Index := 0#32
  let c0_i32_2221 : BitVec 32 := 0#32
  let v2173 : BitVec 32 := Scalar.maxsi v2172 c0_i32_2221
  let v2174 : Index := Scalar.indexCast v2173
  let c0_2223 : Index := 0#32
  let c0_2224 : Index := 0#32
  ![0, v2174.toNat, 0, 0]

def k1_chk7 (v2172 : BitVec 32) : Prop :=
  (∀ a, (k1_off17 v2172) a + S1x1x64x64.size a ≤ S1x128x64x64.size a)
theorem k1_off17_inb : ∀ (v2172 : BitVec 32) (k1_hw7 : k1_chk7 v2172), ∀ a, (k1_off17 v2172) a + S1x1x64x64.size a ≤ S1x128x64x64.size a := fun v2172 k1_hw7 => k1_hw7

def k1_off18 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c2_i32_2228 : BitVec 32 := 2#32
  let v2180 : BitVec 32 := Scalar.addi v2082 c2_i32_2228
  let v2181 : Index := Scalar.indexCast v2180
  let c4_2229 : Index := 4#32
  ![v2181.toNat, 4]
def k1_off19 (v2182 : BitVec 32) : Fin 4 → Nat :=
  let c0_2231 : Index := 0#32
  let c0_i32_2230 : BitVec 32 := 0#32
  let v2183 : BitVec 32 := Scalar.maxsi v2182 c0_i32_2230
  let v2184 : Index := Scalar.indexCast v2183
  let c0_2232 : Index := 0#32
  let c0_2233 : Index := 0#32
  ![0, v2184.toNat, 0, 0]

def k1_chk8 (v2182 : BitVec 32) : Prop :=
  (∀ a, (k1_off19 v2182) a + S1x1x64x64.size a ≤ S1x128x64x64.size a)
theorem k1_off19_inb : ∀ (v2182 : BitVec 32) (k1_hw8 : k1_chk8 v2182), ∀ a, (k1_off19 v2182) a + S1x1x64x64.size a ≤ S1x128x64x64.size a := fun v2182 k1_hw8 => k1_hw8

def k1_off20 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c2_i32_2237 : BitVec 32 := 2#32
  let v2190 : BitVec 32 := Scalar.addi v2082 c2_i32_2237
  let v2191 : Index := Scalar.indexCast v2190
  let c5_2238 : Index := 5#32
  ![v2191.toNat, 5]
def k1_off21 (v2192 : BitVec 32) : Fin 4 → Nat :=
  let c0_2240 : Index := 0#32
  let c0_i32_2239 : BitVec 32 := 0#32
  let v2193 : BitVec 32 := Scalar.maxsi v2192 c0_i32_2239
  let v2194 : Index := Scalar.indexCast v2193
  let c0_2241 : Index := 0#32
  let c0_2242 : Index := 0#32
  ![0, v2194.toNat, 0, 0]

def k1_chk9 (v2192 : BitVec 32) : Prop :=
  (∀ a, (k1_off21 v2192) a + S1x1x64x64.size a ≤ S1x128x64x64.size a)
theorem k1_off21_inb : ∀ (v2192 : BitVec 32) (k1_hw9 : k1_chk9 v2192), ∀ a, (k1_off21 v2192) a + S1x1x64x64.size a ≤ S1x128x64x64.size a := fun v2192 k1_hw9 => k1_hw9

def k1_off22 (k1_t1 : Fin k1_t1_loop.trips) : Fin 4 → Nat :=
  let c0_2247 : Index := 0#32
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c3_i32 : BitVec 32 := 3#32
  let v2200 : BitVec 32 := Scalar.addi v2082 c3_i32
  let c1_i32_2246 : BitVec 32 := 1#32
  let v2201 : BitVec 32 := Scalar.subi v2200 c1_i32_2246
  let v2202 : Index := Scalar.indexCast v2201
  let c0_2248 : Index := 0#32
  let c0_2249 : Index := 0#32
  ![0, v2202.toNat, 0, 0]
def k1_off23 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c3_i32_2253 : BitVec 32 := 3#32
  let v2209 : BitVec 32 := Scalar.addi v2082 c3_i32_2253
  let v2210 : Index := Scalar.indexCast v2209
  let c3_2254 : Index := 3#32
  ![v2210.toNat, 3]
def k1_off24 (v2211 : BitVec 32) : Fin 4 → Nat :=
  let c0_2256 : Index := 0#32
  let c0_i32_2255 : BitVec 32 := 0#32
  let v2212 : BitVec 32 := Scalar.maxsi v2211 c0_i32_2255
  let v2213 : Index := Scalar.indexCast v2212
  let c0_2257 : Index := 0#32
  let c0_2258 : Index := 0#32
  ![0, v2213.toNat, 0, 0]

def k1_chk10 (v2211 : BitVec 32) : Prop :=
  (∀ a, (k1_off24 v2211) a + S1x1x64x64.size a ≤ S1x128x64x64.size a)
theorem k1_off24_inb : ∀ (v2211 : BitVec 32) (k1_hw10 : k1_chk10 v2211), ∀ a, (k1_off24 v2211) a + S1x1x64x64.size a ≤ S1x128x64x64.size a := fun v2211 k1_hw10 => k1_hw10

def k1_off25 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c3_i32_2262 : BitVec 32 := 3#32
  let v2219 : BitVec 32 := Scalar.addi v2082 c3_i32_2262
  let v2220 : Index := Scalar.indexCast v2219
  let c4_2263 : Index := 4#32
  ![v2220.toNat, 4]
def k1_off26 (v2221 : BitVec 32) : Fin 4 → Nat :=
  let c0_2265 : Index := 0#32
  let c0_i32_2264 : BitVec 32 := 0#32
  let v2222 : BitVec 32 := Scalar.maxsi v2221 c0_i32_2264
  let v2223 : Index := Scalar.indexCast v2222
  let c0_2266 : Index := 0#32
  let c0_2267 : Index := 0#32
  ![0, v2223.toNat, 0, 0]

def k1_chk11 (v2221 : BitVec 32) : Prop :=
  (∀ a, (k1_off26 v2221) a + S1x1x64x64.size a ≤ S1x128x64x64.size a)
theorem k1_off26_inb : ∀ (v2221 : BitVec 32) (k1_hw11 : k1_chk11 v2221), ∀ a, (k1_off26 v2221) a + S1x1x64x64.size a ≤ S1x128x64x64.size a := fun v2221 k1_hw11 => k1_hw11

def k1_off27 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c3_i32_2271 : BitVec 32 := 3#32
  let v2229 : BitVec 32 := Scalar.addi v2082 c3_i32_2271
  let v2230 : Index := Scalar.indexCast v2229
  let c5_2272 : Index := 5#32
  ![v2230.toNat, 5]
def k1_off28 (v2231 : BitVec 32) : Fin 4 → Nat :=
  let c0_2274 : Index := 0#32
  let c0_i32_2273 : BitVec 32 := 0#32
  let v2232 : BitVec 32 := Scalar.maxsi v2231 c0_i32_2273
  let v2233 : Index := Scalar.indexCast v2232
  let c0_2275 : Index := 0#32
  let c0_2276 : Index := 0#32
  ![0, v2233.toNat, 0, 0]

def k1_chk12 (v2231 : BitVec 32) : Prop :=
  (∀ a, (k1_off28 v2231) a + S1x1x64x64.size a ≤ S1x128x64x64.size a)
theorem k1_off28_inb : ∀ (v2231 : BitVec 32) (k1_hw12 : k1_chk12 v2231), ∀ a, (k1_off28 v2231) a + S1x1x64x64.size a ≤ S1x128x64x64.size a := fun v2231 k1_hw12 => k1_hw12

def k1_off29 (k1_t1 : Fin k1_t1_loop.trips) : Fin 4 → Nat :=
  let c0_2281 : Index := 0#32
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c4_i32 : BitVec 32 := 4#32
  let v2239 : BitVec 32 := Scalar.addi v2082 c4_i32
  let c1_i32_2280 : BitVec 32 := 1#32
  let v2240 : BitVec 32 := Scalar.subi v2239 c1_i32_2280
  let v2241 : Index := Scalar.indexCast v2240
  let c0_2282 : Index := 0#32
  let c0_2283 : Index := 0#32
  ![0, v2241.toNat, 0, 0]
def k1_off30 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c4_i32_2287 : BitVec 32 := 4#32
  let v2248 : BitVec 32 := Scalar.addi v2082 c4_i32_2287
  let v2249 : Index := Scalar.indexCast v2248
  let c3_2288 : Index := 3#32
  ![v2249.toNat, 3]
def k1_off31 (v2250 : BitVec 32) : Fin 4 → Nat :=
  let c0_2290 : Index := 0#32
  let c0_i32_2289 : BitVec 32 := 0#32
  let v2251 : BitVec 32 := Scalar.maxsi v2250 c0_i32_2289
  let v2252 : Index := Scalar.indexCast v2251
  let c0_2291 : Index := 0#32
  let c0_2292 : Index := 0#32
  ![0, v2252.toNat, 0, 0]

def k1_chk13 (v2250 : BitVec 32) : Prop :=
  (∀ a, (k1_off31 v2250) a + S1x1x64x64.size a ≤ S1x128x64x64.size a)
theorem k1_off31_inb : ∀ (v2250 : BitVec 32) (k1_hw13 : k1_chk13 v2250), ∀ a, (k1_off31 v2250) a + S1x1x64x64.size a ≤ S1x128x64x64.size a := fun v2250 k1_hw13 => k1_hw13

def k1_off32 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c4_i32_2296 : BitVec 32 := 4#32
  let v2258 : BitVec 32 := Scalar.addi v2082 c4_i32_2296
  let v2259 : Index := Scalar.indexCast v2258
  let c4_2297 : Index := 4#32
  ![v2259.toNat, 4]
def k1_off33 (v2260 : BitVec 32) : Fin 4 → Nat :=
  let c0_2299 : Index := 0#32
  let c0_i32_2298 : BitVec 32 := 0#32
  let v2261 : BitVec 32 := Scalar.maxsi v2260 c0_i32_2298
  let v2262 : Index := Scalar.indexCast v2261
  let c0_2300 : Index := 0#32
  let c0_2301 : Index := 0#32
  ![0, v2262.toNat, 0, 0]

def k1_chk14 (v2260 : BitVec 32) : Prop :=
  (∀ a, (k1_off33 v2260) a + S1x1x64x64.size a ≤ S1x128x64x64.size a)
theorem k1_off33_inb : ∀ (v2260 : BitVec 32) (k1_hw14 : k1_chk14 v2260), ∀ a, (k1_off33 v2260) a + S1x1x64x64.size a ≤ S1x128x64x64.size a := fun v2260 k1_hw14 => k1_hw14

def k1_off34 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c4_i32_2305 : BitVec 32 := 4#32
  let v2268 : BitVec 32 := Scalar.addi v2082 c4_i32_2305
  let v2269 : Index := Scalar.indexCast v2268
  let c5_2306 : Index := 5#32
  ![v2269.toNat, 5]
def k1_off35 (v2270 : BitVec 32) : Fin 4 → Nat :=
  let c0_2308 : Index := 0#32
  let c0_i32_2307 : BitVec 32 := 0#32
  let v2271 : BitVec 32 := Scalar.maxsi v2270 c0_i32_2307
  let v2272 : Index := Scalar.indexCast v2271
  let c0_2309 : Index := 0#32
  let c0_2310 : Index := 0#32
  ![0, v2272.toNat, 0, 0]

def k1_chk15 (v2270 : BitVec 32) : Prop :=
  (∀ a, (k1_off35 v2270) a + S1x1x64x64.size a ≤ S1x128x64x64.size a)
theorem k1_off35_inb : ∀ (v2270 : BitVec 32) (k1_hw15 : k1_chk15 v2270), ∀ a, (k1_off35 v2270) a + S1x1x64x64.size a ≤ S1x128x64x64.size a := fun v2270 k1_hw15 => k1_hw15

def k1_off36 (k1_t1 : Fin k1_t1_loop.trips) : Fin 4 → Nat :=
  let c0_2315 : Index := 0#32
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c5_i32 : BitVec 32 := 5#32
  let v2278 : BitVec 32 := Scalar.addi v2082 c5_i32
  let c1_i32_2314 : BitVec 32 := 1#32
  let v2279 : BitVec 32 := Scalar.subi v2278 c1_i32_2314
  let v2280 : Index := Scalar.indexCast v2279
  let c0_2316 : Index := 0#32
  let c0_2317 : Index := 0#32
  ![0, v2280.toNat, 0, 0]
def k1_off37 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c5_i32_2321 : BitVec 32 := 5#32
  let v2287 : BitVec 32 := Scalar.addi v2082 c5_i32_2321
  let v2288 : Index := Scalar.indexCast v2287
  let c3_2322 : Index := 3#32
  ![v2288.toNat, 3]
def k1_off38 (v2289 : BitVec 32) : Fin 4 → Nat :=
  let c0_2324 : Index := 0#32
  let c0_i32_2323 : BitVec 32 := 0#32
  let v2290 : BitVec 32 := Scalar.maxsi v2289 c0_i32_2323
  let v2291 : Index := Scalar.indexCast v2290
  let c0_2325 : Index := 0#32
  let c0_2326 : Index := 0#32
  ![0, v2291.toNat, 0, 0]

def k1_chk16 (v2289 : BitVec 32) : Prop :=
  (∀ a, (k1_off38 v2289) a + S1x1x64x64.size a ≤ S1x128x64x64.size a)
theorem k1_off38_inb : ∀ (v2289 : BitVec 32) (k1_hw16 : k1_chk16 v2289), ∀ a, (k1_off38 v2289) a + S1x1x64x64.size a ≤ S1x128x64x64.size a := fun v2289 k1_hw16 => k1_hw16

def k1_off39 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c5_i32_2330 : BitVec 32 := 5#32
  let v2297 : BitVec 32 := Scalar.addi v2082 c5_i32_2330
  let v2298 : Index := Scalar.indexCast v2297
  let c4_2331 : Index := 4#32
  ![v2298.toNat, 4]
def k1_off40 (v2299 : BitVec 32) : Fin 4 → Nat :=
  let c0_2333 : Index := 0#32
  let c0_i32_2332 : BitVec 32 := 0#32
  let v2300 : BitVec 32 := Scalar.maxsi v2299 c0_i32_2332
  let v2301 : Index := Scalar.indexCast v2300
  let c0_2334 : Index := 0#32
  let c0_2335 : Index := 0#32
  ![0, v2301.toNat, 0, 0]

def k1_chk17 (v2299 : BitVec 32) : Prop :=
  (∀ a, (k1_off40 v2299) a + S1x1x64x64.size a ≤ S1x128x64x64.size a)
theorem k1_off40_inb : ∀ (v2299 : BitVec 32) (k1_hw17 : k1_chk17 v2299), ∀ a, (k1_off40 v2299) a + S1x1x64x64.size a ≤ S1x128x64x64.size a := fun v2299 k1_hw17 => k1_hw17

def k1_off41 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c5_i32_2339 : BitVec 32 := 5#32
  let v2307 : BitVec 32 := Scalar.addi v2082 c5_i32_2339
  let v2308 : Index := Scalar.indexCast v2307
  let c5_2340 : Index := 5#32
  ![v2308.toNat, 5]
def k1_off42 (v2309 : BitVec 32) : Fin 4 → Nat :=
  let c0_2342 : Index := 0#32
  let c0_i32_2341 : BitVec 32 := 0#32
  let v2310 : BitVec 32 := Scalar.maxsi v2309 c0_i32_2341
  let v2311 : Index := Scalar.indexCast v2310
  let c0_2343 : Index := 0#32
  let c0_2344 : Index := 0#32
  ![0, v2311.toNat, 0, 0]

def k1_chk18 (v2309 : BitVec 32) : Prop :=
  (∀ a, (k1_off42 v2309) a + S1x1x64x64.size a ≤ S1x128x64x64.size a)
theorem k1_off42_inb : ∀ (v2309 : BitVec 32) (k1_hw18 : k1_chk18 v2309), ∀ a, (k1_off42 v2309) a + S1x1x64x64.size a ≤ S1x128x64x64.size a := fun v2309 k1_hw18 => k1_hw18

def k1_off43 (k1_t1 : Fin k1_t1_loop.trips) : Fin 4 → Nat :=
  let c0_2349 : Index := 0#32
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c6_i32 : BitVec 32 := 6#32
  let v2317 : BitVec 32 := Scalar.addi v2082 c6_i32
  let c1_i32_2348 : BitVec 32 := 1#32
  let v2318 : BitVec 32 := Scalar.subi v2317 c1_i32_2348
  let v2319 : Index := Scalar.indexCast v2318
  let c0_2350 : Index := 0#32
  let c0_2351 : Index := 0#32
  ![0, v2319.toNat, 0, 0]
def k1_off44 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c6_i32_2355 : BitVec 32 := 6#32
  let v2326 : BitVec 32 := Scalar.addi v2082 c6_i32_2355
  let v2327 : Index := Scalar.indexCast v2326
  let c3_2356 : Index := 3#32
  ![v2327.toNat, 3]
def k1_off45 (v2328 : BitVec 32) : Fin 4 → Nat :=
  let c0_2358 : Index := 0#32
  let c0_i32_2357 : BitVec 32 := 0#32
  let v2329 : BitVec 32 := Scalar.maxsi v2328 c0_i32_2357
  let v2330 : Index := Scalar.indexCast v2329
  let c0_2359 : Index := 0#32
  let c0_2360 : Index := 0#32
  ![0, v2330.toNat, 0, 0]

def k1_chk19 (v2328 : BitVec 32) : Prop :=
  (∀ a, (k1_off45 v2328) a + S1x1x64x64.size a ≤ S1x128x64x64.size a)
theorem k1_off45_inb : ∀ (v2328 : BitVec 32) (k1_hw19 : k1_chk19 v2328), ∀ a, (k1_off45 v2328) a + S1x1x64x64.size a ≤ S1x128x64x64.size a := fun v2328 k1_hw19 => k1_hw19

def k1_off46 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c6_i32_2364 : BitVec 32 := 6#32
  let v2336 : BitVec 32 := Scalar.addi v2082 c6_i32_2364
  let v2337 : Index := Scalar.indexCast v2336
  let c4_2365 : Index := 4#32
  ![v2337.toNat, 4]
def k1_off47 (v2338 : BitVec 32) : Fin 4 → Nat :=
  let c0_2367 : Index := 0#32
  let c0_i32_2366 : BitVec 32 := 0#32
  let v2339 : BitVec 32 := Scalar.maxsi v2338 c0_i32_2366
  let v2340 : Index := Scalar.indexCast v2339
  let c0_2368 : Index := 0#32
  let c0_2369 : Index := 0#32
  ![0, v2340.toNat, 0, 0]

def k1_chk20 (v2338 : BitVec 32) : Prop :=
  (∀ a, (k1_off47 v2338) a + S1x1x64x64.size a ≤ S1x128x64x64.size a)
theorem k1_off47_inb : ∀ (v2338 : BitVec 32) (k1_hw20 : k1_chk20 v2338), ∀ a, (k1_off47 v2338) a + S1x1x64x64.size a ≤ S1x128x64x64.size a := fun v2338 k1_hw20 => k1_hw20

def k1_off48 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c6_i32_2373 : BitVec 32 := 6#32
  let v2346 : BitVec 32 := Scalar.addi v2082 c6_i32_2373
  let v2347 : Index := Scalar.indexCast v2346
  let c5_2374 : Index := 5#32
  ![v2347.toNat, 5]
def k1_off49 (v2348 : BitVec 32) : Fin 4 → Nat :=
  let c0_2376 : Index := 0#32
  let c0_i32_2375 : BitVec 32 := 0#32
  let v2349 : BitVec 32 := Scalar.maxsi v2348 c0_i32_2375
  let v2350 : Index := Scalar.indexCast v2349
  let c0_2377 : Index := 0#32
  let c0_2378 : Index := 0#32
  ![0, v2350.toNat, 0, 0]

def k1_chk21 (v2348 : BitVec 32) : Prop :=
  (∀ a, (k1_off49 v2348) a + S1x1x64x64.size a ≤ S1x128x64x64.size a)
theorem k1_off49_inb : ∀ (v2348 : BitVec 32) (k1_hw21 : k1_chk21 v2348), ∀ a, (k1_off49 v2348) a + S1x1x64x64.size a ≤ S1x128x64x64.size a := fun v2348 k1_hw21 => k1_hw21

def k1_off50 (k1_t1 : Fin k1_t1_loop.trips) : Fin 4 → Nat :=
  let c0_2384 : Index := 0#32
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c7_i32_2382 : BitVec 32 := 7#32
  let v2356 : BitVec 32 := Scalar.addi v2082 c7_i32_2382
  let c1_i32_2383 : BitVec 32 := 1#32
  let v2357 : BitVec 32 := Scalar.subi v2356 c1_i32_2383
  let v2358 : Index := Scalar.indexCast v2357
  let c0_2385 : Index := 0#32
  let c0_2386 : Index := 0#32
  ![0, v2358.toNat, 0, 0]
def k1_off51 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c7_i32_2390 : BitVec 32 := 7#32
  let v2365 : BitVec 32 := Scalar.addi v2082 c7_i32_2390
  let v2366 : Index := Scalar.indexCast v2365
  let c3_2391 : Index := 3#32
  ![v2366.toNat, 3]
def k1_off52 (v2367 : BitVec 32) : Fin 4 → Nat :=
  let c0_2393 : Index := 0#32
  let c0_i32_2392 : BitVec 32 := 0#32
  let v2368 : BitVec 32 := Scalar.maxsi v2367 c0_i32_2392
  let v2369 : Index := Scalar.indexCast v2368
  let c0_2394 : Index := 0#32
  let c0_2395 : Index := 0#32
  ![0, v2369.toNat, 0, 0]

def k1_chk22 (v2367 : BitVec 32) : Prop :=
  (∀ a, (k1_off52 v2367) a + S1x1x64x64.size a ≤ S1x128x64x64.size a)
theorem k1_off52_inb : ∀ (v2367 : BitVec 32) (k1_hw22 : k1_chk22 v2367), ∀ a, (k1_off52 v2367) a + S1x1x64x64.size a ≤ S1x128x64x64.size a := fun v2367 k1_hw22 => k1_hw22

def k1_off53 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c7_i32_2399 : BitVec 32 := 7#32
  let v2375 : BitVec 32 := Scalar.addi v2082 c7_i32_2399
  let v2376 : Index := Scalar.indexCast v2375
  let c4_2400 : Index := 4#32
  ![v2376.toNat, 4]
def k1_off54 (v2377 : BitVec 32) : Fin 4 → Nat :=
  let c0_2402 : Index := 0#32
  let c0_i32_2401 : BitVec 32 := 0#32
  let v2378 : BitVec 32 := Scalar.maxsi v2377 c0_i32_2401
  let v2379 : Index := Scalar.indexCast v2378
  let c0_2403 : Index := 0#32
  let c0_2404 : Index := 0#32
  ![0, v2379.toNat, 0, 0]

def k1_chk23 (v2377 : BitVec 32) : Prop :=
  (∀ a, (k1_off54 v2377) a + S1x1x64x64.size a ≤ S1x128x64x64.size a)
theorem k1_off54_inb : ∀ (v2377 : BitVec 32) (k1_hw23 : k1_chk23 v2377), ∀ a, (k1_off54 v2377) a + S1x1x64x64.size a ≤ S1x128x64x64.size a := fun v2377 k1_hw23 => k1_hw23

def k1_off55 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c7_i32_2408 : BitVec 32 := 7#32
  let v2385 : BitVec 32 := Scalar.addi v2082 c7_i32_2408
  let v2386 : Index := Scalar.indexCast v2385
  let c5_2409 : Index := 5#32
  ![v2386.toNat, 5]
def k1_off56 (v2387 : BitVec 32) : Fin 4 → Nat :=
  let c0_2411 : Index := 0#32
  let c0_i32_2410 : BitVec 32 := 0#32
  let v2388 : BitVec 32 := Scalar.maxsi v2387 c0_i32_2410
  let v2389 : Index := Scalar.indexCast v2388
  let c0_2412 : Index := 0#32
  let c0_2413 : Index := 0#32
  ![0, v2389.toNat, 0, 0]

def k1_chk24 (v2387 : BitVec 32) : Prop :=
  (∀ a, (k1_off56 v2387) a + S1x1x64x64.size a ≤ S1x128x64x64.size a)
theorem k1_off56_inb : ∀ (v2387 : BitVec 32) (k1_hw24 : k1_chk24 v2387), ∀ a, (k1_off56 v2387) a + S1x1x64x64.size a ≤ S1x128x64x64.size a := fun v2387 k1_hw24 => k1_hw24

def k1_off57 (k1_t1 : Fin k1_t1_loop.trips) : Fin 4 → Nat :=
  let c0_2418 : Index := 0#32
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c8_i32 : BitVec 32 := 8#32
  let v2395 : BitVec 32 := Scalar.addi v2082 c8_i32
  let c1_i32_2417 : BitVec 32 := 1#32
  let v2396 : BitVec 32 := Scalar.subi v2395 c1_i32_2417
  let v2397 : Index := Scalar.indexCast v2396
  let c0_2419 : Index := 0#32
  let c0_2420 : Index := 0#32
  ![0, v2397.toNat, 0, 0]
def k1_off58 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c8_i32_2424 : BitVec 32 := 8#32
  let v2404 : BitVec 32 := Scalar.addi v2082 c8_i32_2424
  let v2405 : Index := Scalar.indexCast v2404
  let c3_2425 : Index := 3#32
  ![v2405.toNat, 3]
def k1_off59 (v2406 : BitVec 32) : Fin 4 → Nat :=
  let c0_2427 : Index := 0#32
  let c0_i32_2426 : BitVec 32 := 0#32
  let v2407 : BitVec 32 := Scalar.maxsi v2406 c0_i32_2426
  let v2408 : Index := Scalar.indexCast v2407
  let c0_2428 : Index := 0#32
  let c0_2429 : Index := 0#32
  ![0, v2408.toNat, 0, 0]

def k1_chk25 (v2406 : BitVec 32) : Prop :=
  (∀ a, (k1_off59 v2406) a + S1x1x64x64.size a ≤ S1x128x64x64.size a)
theorem k1_off59_inb : ∀ (v2406 : BitVec 32) (k1_hw25 : k1_chk25 v2406), ∀ a, (k1_off59 v2406) a + S1x1x64x64.size a ≤ S1x128x64x64.size a := fun v2406 k1_hw25 => k1_hw25

def k1_off60 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c8_i32_2433 : BitVec 32 := 8#32
  let v2414 : BitVec 32 := Scalar.addi v2082 c8_i32_2433
  let v2415 : Index := Scalar.indexCast v2414
  let c4_2434 : Index := 4#32
  ![v2415.toNat, 4]
def k1_off61 (v2416 : BitVec 32) : Fin 4 → Nat :=
  let c0_2436 : Index := 0#32
  let c0_i32_2435 : BitVec 32 := 0#32
  let v2417 : BitVec 32 := Scalar.maxsi v2416 c0_i32_2435
  let v2418 : Index := Scalar.indexCast v2417
  let c0_2437 : Index := 0#32
  let c0_2438 : Index := 0#32
  ![0, v2418.toNat, 0, 0]

def k1_chk26 (v2416 : BitVec 32) : Prop :=
  (∀ a, (k1_off61 v2416) a + S1x1x64x64.size a ≤ S1x128x64x64.size a)
theorem k1_off61_inb : ∀ (v2416 : BitVec 32) (k1_hw26 : k1_chk26 v2416), ∀ a, (k1_off61 v2416) a + S1x1x64x64.size a ≤ S1x128x64x64.size a := fun v2416 k1_hw26 => k1_hw26

def k1_off62 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c8_i32_2442 : BitVec 32 := 8#32
  let v2424 : BitVec 32 := Scalar.addi v2082 c8_i32_2442
  let v2425 : Index := Scalar.indexCast v2424
  let c5_2443 : Index := 5#32
  ![v2425.toNat, 5]
def k1_off63 (v2426 : BitVec 32) : Fin 4 → Nat :=
  let c0_2445 : Index := 0#32
  let c0_i32_2444 : BitVec 32 := 0#32
  let v2427 : BitVec 32 := Scalar.maxsi v2426 c0_i32_2444
  let v2428 : Index := Scalar.indexCast v2427
  let c0_2446 : Index := 0#32
  let c0_2447 : Index := 0#32
  ![0, v2428.toNat, 0, 0]

def k1_chk27 (v2426 : BitVec 32) : Prop :=
  (∀ a, (k1_off63 v2426) a + S1x1x64x64.size a ≤ S1x128x64x64.size a)
theorem k1_off63_inb : ∀ (v2426 : BitVec 32) (k1_hw27 : k1_chk27 v2426), ∀ a, (k1_off63 v2426) a + S1x1x64x64.size a ≤ S1x128x64x64.size a := fun v2426 k1_hw27 => k1_hw27

def k1_off64 (k1_t1 : Fin k1_t1_loop.trips) : Fin 4 → Nat :=
  let c0_2452 : Index := 0#32
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c9_i32 : BitVec 32 := 9#32
  let v2434 : BitVec 32 := Scalar.addi v2082 c9_i32
  let c1_i32_2451 : BitVec 32 := 1#32
  let v2435 : BitVec 32 := Scalar.subi v2434 c1_i32_2451
  let v2436 : Index := Scalar.indexCast v2435
  let c0_2453 : Index := 0#32
  let c0_2454 : Index := 0#32
  ![0, v2436.toNat, 0, 0]
def k1_off65 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c9_i32_2458 : BitVec 32 := 9#32
  let v2443 : BitVec 32 := Scalar.addi v2082 c9_i32_2458
  let v2444 : Index := Scalar.indexCast v2443
  let c3_2459 : Index := 3#32
  ![v2444.toNat, 3]
def k1_off66 (v2445 : BitVec 32) : Fin 4 → Nat :=
  let c0_2461 : Index := 0#32
  let c0_i32_2460 : BitVec 32 := 0#32
  let v2446 : BitVec 32 := Scalar.maxsi v2445 c0_i32_2460
  let v2447 : Index := Scalar.indexCast v2446
  let c0_2462 : Index := 0#32
  let c0_2463 : Index := 0#32
  ![0, v2447.toNat, 0, 0]

def k1_chk28 (v2445 : BitVec 32) : Prop :=
  (∀ a, (k1_off66 v2445) a + S1x1x64x64.size a ≤ S1x128x64x64.size a)
theorem k1_off66_inb : ∀ (v2445 : BitVec 32) (k1_hw28 : k1_chk28 v2445), ∀ a, (k1_off66 v2445) a + S1x1x64x64.size a ≤ S1x128x64x64.size a := fun v2445 k1_hw28 => k1_hw28

def k1_off67 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c9_i32_2467 : BitVec 32 := 9#32
  let v2453 : BitVec 32 := Scalar.addi v2082 c9_i32_2467
  let v2454 : Index := Scalar.indexCast v2453
  let c4_2468 : Index := 4#32
  ![v2454.toNat, 4]
def k1_off68 (v2455 : BitVec 32) : Fin 4 → Nat :=
  let c0_2470 : Index := 0#32
  let c0_i32_2469 : BitVec 32 := 0#32
  let v2456 : BitVec 32 := Scalar.maxsi v2455 c0_i32_2469
  let v2457 : Index := Scalar.indexCast v2456
  let c0_2471 : Index := 0#32
  let c0_2472 : Index := 0#32
  ![0, v2457.toNat, 0, 0]

def k1_chk29 (v2455 : BitVec 32) : Prop :=
  (∀ a, (k1_off68 v2455) a + S1x1x64x64.size a ≤ S1x128x64x64.size a)
theorem k1_off68_inb : ∀ (v2455 : BitVec 32) (k1_hw29 : k1_chk29 v2455), ∀ a, (k1_off68 v2455) a + S1x1x64x64.size a ≤ S1x128x64x64.size a := fun v2455 k1_hw29 => k1_hw29

def k1_off69 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c9_i32_2476 : BitVec 32 := 9#32
  let v2463 : BitVec 32 := Scalar.addi v2082 c9_i32_2476
  let v2464 : Index := Scalar.indexCast v2463
  let c5_2477 : Index := 5#32
  ![v2464.toNat, 5]
def k1_off70 (v2465 : BitVec 32) : Fin 4 → Nat :=
  let c0_2479 : Index := 0#32
  let c0_i32_2478 : BitVec 32 := 0#32
  let v2466 : BitVec 32 := Scalar.maxsi v2465 c0_i32_2478
  let v2467 : Index := Scalar.indexCast v2466
  let c0_2480 : Index := 0#32
  let c0_2481 : Index := 0#32
  ![0, v2467.toNat, 0, 0]

def k1_chk30 (v2465 : BitVec 32) : Prop :=
  (∀ a, (k1_off70 v2465) a + S1x1x64x64.size a ≤ S1x128x64x64.size a)
theorem k1_off70_inb : ∀ (v2465 : BitVec 32) (k1_hw30 : k1_chk30 v2465), ∀ a, (k1_off70 v2465) a + S1x1x64x64.size a ≤ S1x128x64x64.size a := fun v2465 k1_hw30 => k1_hw30

def k1_off71 (k1_t1 : Fin k1_t1_loop.trips) : Fin 4 → Nat :=
  let c0_2486 : Index := 0#32
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c10_i32 : BitVec 32 := 10#32
  let v2473 : BitVec 32 := Scalar.addi v2082 c10_i32
  let c1_i32_2485 : BitVec 32 := 1#32
  let v2474 : BitVec 32 := Scalar.subi v2473 c1_i32_2485
  let v2475 : Index := Scalar.indexCast v2474
  let c0_2487 : Index := 0#32
  let c0_2488 : Index := 0#32
  ![0, v2475.toNat, 0, 0]
def k1_off72 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c10_i32_2492 : BitVec 32 := 10#32
  let v2482 : BitVec 32 := Scalar.addi v2082 c10_i32_2492
  let v2483 : Index := Scalar.indexCast v2482
  let c3_2493 : Index := 3#32
  ![v2483.toNat, 3]
def k1_off73 (v2484 : BitVec 32) : Fin 4 → Nat :=
  let c0_2495 : Index := 0#32
  let c0_i32_2494 : BitVec 32 := 0#32
  let v2485 : BitVec 32 := Scalar.maxsi v2484 c0_i32_2494
  let v2486 : Index := Scalar.indexCast v2485
  let c0_2496 : Index := 0#32
  let c0_2497 : Index := 0#32
  ![0, v2486.toNat, 0, 0]

def k1_chk31 (v2484 : BitVec 32) : Prop :=
  (∀ a, (k1_off73 v2484) a + S1x1x64x64.size a ≤ S1x128x64x64.size a)
theorem k1_off73_inb : ∀ (v2484 : BitVec 32) (k1_hw31 : k1_chk31 v2484), ∀ a, (k1_off73 v2484) a + S1x1x64x64.size a ≤ S1x128x64x64.size a := fun v2484 k1_hw31 => k1_hw31

def k1_off74 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c10_i32_2501 : BitVec 32 := 10#32
  let v2492 : BitVec 32 := Scalar.addi v2082 c10_i32_2501
  let v2493 : Index := Scalar.indexCast v2492
  let c4_2502 : Index := 4#32
  ![v2493.toNat, 4]
def k1_off75 (v2494 : BitVec 32) : Fin 4 → Nat :=
  let c0_2504 : Index := 0#32
  let c0_i32_2503 : BitVec 32 := 0#32
  let v2495 : BitVec 32 := Scalar.maxsi v2494 c0_i32_2503
  let v2496 : Index := Scalar.indexCast v2495
  let c0_2505 : Index := 0#32
  let c0_2506 : Index := 0#32
  ![0, v2496.toNat, 0, 0]

def k1_chk32 (v2494 : BitVec 32) : Prop :=
  (∀ a, (k1_off75 v2494) a + S1x1x64x64.size a ≤ S1x128x64x64.size a)
theorem k1_off75_inb : ∀ (v2494 : BitVec 32) (k1_hw32 : k1_chk32 v2494), ∀ a, (k1_off75 v2494) a + S1x1x64x64.size a ≤ S1x128x64x64.size a := fun v2494 k1_hw32 => k1_hw32

def k1_off76 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c10_i32_2510 : BitVec 32 := 10#32
  let v2502 : BitVec 32 := Scalar.addi v2082 c10_i32_2510
  let v2503 : Index := Scalar.indexCast v2502
  let c5_2511 : Index := 5#32
  ![v2503.toNat, 5]
def k1_off77 (v2504 : BitVec 32) : Fin 4 → Nat :=
  let c0_2513 : Index := 0#32
  let c0_i32_2512 : BitVec 32 := 0#32
  let v2505 : BitVec 32 := Scalar.maxsi v2504 c0_i32_2512
  let v2506 : Index := Scalar.indexCast v2505
  let c0_2514 : Index := 0#32
  let c0_2515 : Index := 0#32
  ![0, v2506.toNat, 0, 0]

def k1_chk33 (v2504 : BitVec 32) : Prop :=
  (∀ a, (k1_off77 v2504) a + S1x1x64x64.size a ≤ S1x128x64x64.size a)
theorem k1_off77_inb : ∀ (v2504 : BitVec 32) (k1_hw33 : k1_chk33 v2504), ∀ a, (k1_off77 v2504) a + S1x1x64x64.size a ≤ S1x128x64x64.size a := fun v2504 k1_hw33 => k1_hw33

def k1_off78 (k1_t1 : Fin k1_t1_loop.trips) : Fin 4 → Nat :=
  let c0_2520 : Index := 0#32
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c11_i32 : BitVec 32 := 11#32
  let v2512 : BitVec 32 := Scalar.addi v2082 c11_i32
  let c1_i32_2519 : BitVec 32 := 1#32
  let v2513 : BitVec 32 := Scalar.subi v2512 c1_i32_2519
  let v2514 : Index := Scalar.indexCast v2513
  let c0_2521 : Index := 0#32
  let c0_2522 : Index := 0#32
  ![0, v2514.toNat, 0, 0]
def k1_off79 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c11_i32_2526 : BitVec 32 := 11#32
  let v2521 : BitVec 32 := Scalar.addi v2082 c11_i32_2526
  let v2522 : Index := Scalar.indexCast v2521
  let c3_2527 : Index := 3#32
  ![v2522.toNat, 3]
def k1_off80 (v2523 : BitVec 32) : Fin 4 → Nat :=
  let c0_2529 : Index := 0#32
  let c0_i32_2528 : BitVec 32 := 0#32
  let v2524 : BitVec 32 := Scalar.maxsi v2523 c0_i32_2528
  let v2525 : Index := Scalar.indexCast v2524
  let c0_2530 : Index := 0#32
  let c0_2531 : Index := 0#32
  ![0, v2525.toNat, 0, 0]

def k1_chk34 (v2523 : BitVec 32) : Prop :=
  (∀ a, (k1_off80 v2523) a + S1x1x64x64.size a ≤ S1x128x64x64.size a)
theorem k1_off80_inb : ∀ (v2523 : BitVec 32) (k1_hw34 : k1_chk34 v2523), ∀ a, (k1_off80 v2523) a + S1x1x64x64.size a ≤ S1x128x64x64.size a := fun v2523 k1_hw34 => k1_hw34

def k1_off81 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c11_i32_2535 : BitVec 32 := 11#32
  let v2531 : BitVec 32 := Scalar.addi v2082 c11_i32_2535
  let v2532 : Index := Scalar.indexCast v2531
  let c4_2536 : Index := 4#32
  ![v2532.toNat, 4]
def k1_off82 (v2533 : BitVec 32) : Fin 4 → Nat :=
  let c0_2538 : Index := 0#32
  let c0_i32_2537 : BitVec 32 := 0#32
  let v2534 : BitVec 32 := Scalar.maxsi v2533 c0_i32_2537
  let v2535 : Index := Scalar.indexCast v2534
  let c0_2539 : Index := 0#32
  let c0_2540 : Index := 0#32
  ![0, v2535.toNat, 0, 0]

def k1_chk35 (v2533 : BitVec 32) : Prop :=
  (∀ a, (k1_off82 v2533) a + S1x1x64x64.size a ≤ S1x128x64x64.size a)
theorem k1_off82_inb : ∀ (v2533 : BitVec 32) (k1_hw35 : k1_chk35 v2533), ∀ a, (k1_off82 v2533) a + S1x1x64x64.size a ≤ S1x128x64x64.size a := fun v2533 k1_hw35 => k1_hw35

def k1_off83 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c11_i32_2544 : BitVec 32 := 11#32
  let v2541 : BitVec 32 := Scalar.addi v2082 c11_i32_2544
  let v2542 : Index := Scalar.indexCast v2541
  let c5_2545 : Index := 5#32
  ![v2542.toNat, 5]
def k1_off84 (v2543 : BitVec 32) : Fin 4 → Nat :=
  let c0_2547 : Index := 0#32
  let c0_i32_2546 : BitVec 32 := 0#32
  let v2544 : BitVec 32 := Scalar.maxsi v2543 c0_i32_2546
  let v2545 : Index := Scalar.indexCast v2544
  let c0_2548 : Index := 0#32
  let c0_2549 : Index := 0#32
  ![0, v2545.toNat, 0, 0]

def k1_chk36 (v2543 : BitVec 32) : Prop :=
  (∀ a, (k1_off84 v2543) a + S1x1x64x64.size a ≤ S1x128x64x64.size a)
theorem k1_off84_inb : ∀ (v2543 : BitVec 32) (k1_hw36 : k1_chk36 v2543), ∀ a, (k1_off84 v2543) a + S1x1x64x64.size a ≤ S1x128x64x64.size a := fun v2543 k1_hw36 => k1_hw36

def k1_off85 (k1_t1 : Fin k1_t1_loop.trips) : Fin 4 → Nat :=
  let c0_2554 : Index := 0#32
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c12_i32 : BitVec 32 := 12#32
  let v2551 : BitVec 32 := Scalar.addi v2082 c12_i32
  let c1_i32_2553 : BitVec 32 := 1#32
  let v2552 : BitVec 32 := Scalar.subi v2551 c1_i32_2553
  let v2553 : Index := Scalar.indexCast v2552
  let c0_2555 : Index := 0#32
  let c0_2556 : Index := 0#32
  ![0, v2553.toNat, 0, 0]
def k1_off86 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c12_i32_2560 : BitVec 32 := 12#32
  let v2560 : BitVec 32 := Scalar.addi v2082 c12_i32_2560
  let v2561 : Index := Scalar.indexCast v2560
  let c3_2561 : Index := 3#32
  ![v2561.toNat, 3]
def k1_off87 (v2562 : BitVec 32) : Fin 4 → Nat :=
  let c0_2563 : Index := 0#32
  let c0_i32_2562 : BitVec 32 := 0#32
  let v2563 : BitVec 32 := Scalar.maxsi v2562 c0_i32_2562
  let v2564 : Index := Scalar.indexCast v2563
  let c0_2564 : Index := 0#32
  let c0_2565 : Index := 0#32
  ![0, v2564.toNat, 0, 0]

def k1_chk37 (v2562 : BitVec 32) : Prop :=
  (∀ a, (k1_off87 v2562) a + S1x1x64x64.size a ≤ S1x128x64x64.size a)
theorem k1_off87_inb : ∀ (v2562 : BitVec 32) (k1_hw37 : k1_chk37 v2562), ∀ a, (k1_off87 v2562) a + S1x1x64x64.size a ≤ S1x128x64x64.size a := fun v2562 k1_hw37 => k1_hw37

def k1_off88 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c12_i32_2569 : BitVec 32 := 12#32
  let v2570 : BitVec 32 := Scalar.addi v2082 c12_i32_2569
  let v2571 : Index := Scalar.indexCast v2570
  let c4_2570 : Index := 4#32
  ![v2571.toNat, 4]
def k1_off89 (v2572 : BitVec 32) : Fin 4 → Nat :=
  let c0_2572 : Index := 0#32
  let c0_i32_2571 : BitVec 32 := 0#32
  let v2573 : BitVec 32 := Scalar.maxsi v2572 c0_i32_2571
  let v2574 : Index := Scalar.indexCast v2573
  let c0_2573 : Index := 0#32
  let c0_2574 : Index := 0#32
  ![0, v2574.toNat, 0, 0]

def k1_chk38 (v2572 : BitVec 32) : Prop :=
  (∀ a, (k1_off89 v2572) a + S1x1x64x64.size a ≤ S1x128x64x64.size a)
theorem k1_off89_inb : ∀ (v2572 : BitVec 32) (k1_hw38 : k1_chk38 v2572), ∀ a, (k1_off89 v2572) a + S1x1x64x64.size a ≤ S1x128x64x64.size a := fun v2572 k1_hw38 => k1_hw38

def k1_off90 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c12_i32_2578 : BitVec 32 := 12#32
  let v2580 : BitVec 32 := Scalar.addi v2082 c12_i32_2578
  let v2581 : Index := Scalar.indexCast v2580
  let c5_2579 : Index := 5#32
  ![v2581.toNat, 5]
def k1_off91 (v2582 : BitVec 32) : Fin 4 → Nat :=
  let c0_2581 : Index := 0#32
  let c0_i32_2580 : BitVec 32 := 0#32
  let v2583 : BitVec 32 := Scalar.maxsi v2582 c0_i32_2580
  let v2584 : Index := Scalar.indexCast v2583
  let c0_2582 : Index := 0#32
  let c0_2583 : Index := 0#32
  ![0, v2584.toNat, 0, 0]

def k1_chk39 (v2582 : BitVec 32) : Prop :=
  (∀ a, (k1_off91 v2582) a + S1x1x64x64.size a ≤ S1x128x64x64.size a)
theorem k1_off91_inb : ∀ (v2582 : BitVec 32) (k1_hw39 : k1_chk39 v2582), ∀ a, (k1_off91 v2582) a + S1x1x64x64.size a ≤ S1x128x64x64.size a := fun v2582 k1_hw39 => k1_hw39

def k1_off92 (k1_t1 : Fin k1_t1_loop.trips) : Fin 4 → Nat :=
  let c0_2588 : Index := 0#32
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c13_i32 : BitVec 32 := 13#32
  let v2590 : BitVec 32 := Scalar.addi v2082 c13_i32
  let c1_i32_2587 : BitVec 32 := 1#32
  let v2591 : BitVec 32 := Scalar.subi v2590 c1_i32_2587
  let v2592 : Index := Scalar.indexCast v2591
  let c0_2589 : Index := 0#32
  let c0_2590 : Index := 0#32
  ![0, v2592.toNat, 0, 0]
def k1_off93 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c13_i32_2594 : BitVec 32 := 13#32
  let v2599 : BitVec 32 := Scalar.addi v2082 c13_i32_2594
  let v2600 : Index := Scalar.indexCast v2599
  let c3_2595 : Index := 3#32
  ![v2600.toNat, 3]
def k1_off94 (v2601 : BitVec 32) : Fin 4 → Nat :=
  let c0_2597 : Index := 0#32
  let c0_i32_2596 : BitVec 32 := 0#32
  let v2602 : BitVec 32 := Scalar.maxsi v2601 c0_i32_2596
  let v2603 : Index := Scalar.indexCast v2602
  let c0_2598 : Index := 0#32
  let c0_2599 : Index := 0#32
  ![0, v2603.toNat, 0, 0]

def k1_chk40 (v2601 : BitVec 32) : Prop :=
  (∀ a, (k1_off94 v2601) a + S1x1x64x64.size a ≤ S1x128x64x64.size a)
theorem k1_off94_inb : ∀ (v2601 : BitVec 32) (k1_hw40 : k1_chk40 v2601), ∀ a, (k1_off94 v2601) a + S1x1x64x64.size a ≤ S1x128x64x64.size a := fun v2601 k1_hw40 => k1_hw40

def k1_off95 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c13_i32_2603 : BitVec 32 := 13#32
  let v2609 : BitVec 32 := Scalar.addi v2082 c13_i32_2603
  let v2610 : Index := Scalar.indexCast v2609
  let c4_2604 : Index := 4#32
  ![v2610.toNat, 4]
def k1_off96 (v2611 : BitVec 32) : Fin 4 → Nat :=
  let c0_2606 : Index := 0#32
  let c0_i32_2605 : BitVec 32 := 0#32
  let v2612 : BitVec 32 := Scalar.maxsi v2611 c0_i32_2605
  let v2613 : Index := Scalar.indexCast v2612
  let c0_2607 : Index := 0#32
  let c0_2608 : Index := 0#32
  ![0, v2613.toNat, 0, 0]

def k1_chk41 (v2611 : BitVec 32) : Prop :=
  (∀ a, (k1_off96 v2611) a + S1x1x64x64.size a ≤ S1x128x64x64.size a)
theorem k1_off96_inb : ∀ (v2611 : BitVec 32) (k1_hw41 : k1_chk41 v2611), ∀ a, (k1_off96 v2611) a + S1x1x64x64.size a ≤ S1x128x64x64.size a := fun v2611 k1_hw41 => k1_hw41

def k1_off97 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c13_i32_2612 : BitVec 32 := 13#32
  let v2619 : BitVec 32 := Scalar.addi v2082 c13_i32_2612
  let v2620 : Index := Scalar.indexCast v2619
  let c5_2613 : Index := 5#32
  ![v2620.toNat, 5]
def k1_off98 (v2621 : BitVec 32) : Fin 4 → Nat :=
  let c0_2615 : Index := 0#32
  let c0_i32_2614 : BitVec 32 := 0#32
  let v2622 : BitVec 32 := Scalar.maxsi v2621 c0_i32_2614
  let v2623 : Index := Scalar.indexCast v2622
  let c0_2616 : Index := 0#32
  let c0_2617 : Index := 0#32
  ![0, v2623.toNat, 0, 0]

def k1_chk42 (v2621 : BitVec 32) : Prop :=
  (∀ a, (k1_off98 v2621) a + S1x1x64x64.size a ≤ S1x128x64x64.size a)
theorem k1_off98_inb : ∀ (v2621 : BitVec 32) (k1_hw42 : k1_chk42 v2621), ∀ a, (k1_off98 v2621) a + S1x1x64x64.size a ≤ S1x128x64x64.size a := fun v2621 k1_hw42 => k1_hw42

def k1_off99 (k1_t1 : Fin k1_t1_loop.trips) : Fin 4 → Nat :=
  let c0_2622 : Index := 0#32
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c14_i32 : BitVec 32 := 14#32
  let v2629 : BitVec 32 := Scalar.addi v2082 c14_i32
  let c1_i32_2621 : BitVec 32 := 1#32
  let v2630 : BitVec 32 := Scalar.subi v2629 c1_i32_2621
  let v2631 : Index := Scalar.indexCast v2630
  let c0_2623 : Index := 0#32
  let c0_2624 : Index := 0#32
  ![0, v2631.toNat, 0, 0]
def k1_off100 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c14_i32_2628 : BitVec 32 := 14#32
  let v2638 : BitVec 32 := Scalar.addi v2082 c14_i32_2628
  let v2639 : Index := Scalar.indexCast v2638
  let c3_2629 : Index := 3#32
  ![v2639.toNat, 3]
def k1_off101 (v2640 : BitVec 32) : Fin 4 → Nat :=
  let c0_2631 : Index := 0#32
  let c0_i32_2630 : BitVec 32 := 0#32
  let v2641 : BitVec 32 := Scalar.maxsi v2640 c0_i32_2630
  let v2642 : Index := Scalar.indexCast v2641
  let c0_2632 : Index := 0#32
  let c0_2633 : Index := 0#32
  ![0, v2642.toNat, 0, 0]

def k1_chk43 (v2640 : BitVec 32) : Prop :=
  (∀ a, (k1_off101 v2640) a + S1x1x64x64.size a ≤ S1x128x64x64.size a)
theorem k1_off101_inb : ∀ (v2640 : BitVec 32) (k1_hw43 : k1_chk43 v2640), ∀ a, (k1_off101 v2640) a + S1x1x64x64.size a ≤ S1x128x64x64.size a := fun v2640 k1_hw43 => k1_hw43

def k1_off102 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c14_i32_2637 : BitVec 32 := 14#32
  let v2648 : BitVec 32 := Scalar.addi v2082 c14_i32_2637
  let v2649 : Index := Scalar.indexCast v2648
  let c4_2638 : Index := 4#32
  ![v2649.toNat, 4]
def k1_off103 (v2650 : BitVec 32) : Fin 4 → Nat :=
  let c0_2640 : Index := 0#32
  let c0_i32_2639 : BitVec 32 := 0#32
  let v2651 : BitVec 32 := Scalar.maxsi v2650 c0_i32_2639
  let v2652 : Index := Scalar.indexCast v2651
  let c0_2641 : Index := 0#32
  let c0_2642 : Index := 0#32
  ![0, v2652.toNat, 0, 0]

def k1_chk44 (v2650 : BitVec 32) : Prop :=
  (∀ a, (k1_off103 v2650) a + S1x1x64x64.size a ≤ S1x128x64x64.size a)
theorem k1_off103_inb : ∀ (v2650 : BitVec 32) (k1_hw44 : k1_chk44 v2650), ∀ a, (k1_off103 v2650) a + S1x1x64x64.size a ≤ S1x128x64x64.size a := fun v2650 k1_hw44 => k1_hw44

def k1_off104 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c14_i32_2646 : BitVec 32 := 14#32
  let v2658 : BitVec 32 := Scalar.addi v2082 c14_i32_2646
  let v2659 : Index := Scalar.indexCast v2658
  let c5_2647 : Index := 5#32
  ![v2659.toNat, 5]
def k1_off105 (v2660 : BitVec 32) : Fin 4 → Nat :=
  let c0_2649 : Index := 0#32
  let c0_i32_2648 : BitVec 32 := 0#32
  let v2661 : BitVec 32 := Scalar.maxsi v2660 c0_i32_2648
  let v2662 : Index := Scalar.indexCast v2661
  let c0_2650 : Index := 0#32
  let c0_2651 : Index := 0#32
  ![0, v2662.toNat, 0, 0]

def k1_chk45 (v2660 : BitVec 32) : Prop :=
  (∀ a, (k1_off105 v2660) a + S1x1x64x64.size a ≤ S1x128x64x64.size a)
theorem k1_off105_inb : ∀ (v2660 : BitVec 32) (k1_hw45 : k1_chk45 v2660), ∀ a, (k1_off105 v2660) a + S1x1x64x64.size a ≤ S1x128x64x64.size a := fun v2660 k1_hw45 => k1_hw45

def k1_off106 (k1_t1 : Fin k1_t1_loop.trips) : Fin 4 → Nat :=
  let c0_2656 : Index := 0#32
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c15_i32 : BitVec 32 := 15#32
  let v2668 : BitVec 32 := Scalar.addi v2082 c15_i32
  let c1_i32_2655 : BitVec 32 := 1#32
  let v2669 : BitVec 32 := Scalar.subi v2668 c1_i32_2655
  let v2670 : Index := Scalar.indexCast v2669
  let c0_2657 : Index := 0#32
  let c0_2658 : Index := 0#32
  ![0, v2670.toNat, 0, 0]
def k1_off107 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c15_i32_2662 : BitVec 32 := 15#32
  let v2677 : BitVec 32 := Scalar.addi v2082 c15_i32_2662
  let v2678 : Index := Scalar.indexCast v2677
  let c3_2663 : Index := 3#32
  ![v2678.toNat, 3]
def k1_off108 (v2679 : BitVec 32) : Fin 4 → Nat :=
  let c0_2665 : Index := 0#32
  let c0_i32_2664 : BitVec 32 := 0#32
  let v2680 : BitVec 32 := Scalar.maxsi v2679 c0_i32_2664
  let v2681 : Index := Scalar.indexCast v2680
  let c0_2666 : Index := 0#32
  let c0_2667 : Index := 0#32
  ![0, v2681.toNat, 0, 0]

def k1_chk46 (v2679 : BitVec 32) : Prop :=
  (∀ a, (k1_off108 v2679) a + S1x1x64x64.size a ≤ S1x128x64x64.size a)
theorem k1_off108_inb : ∀ (v2679 : BitVec 32) (k1_hw46 : k1_chk46 v2679), ∀ a, (k1_off108 v2679) a + S1x1x64x64.size a ≤ S1x128x64x64.size a := fun v2679 k1_hw46 => k1_hw46

def k1_off109 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c15_i32_2671 : BitVec 32 := 15#32
  let v2687 : BitVec 32 := Scalar.addi v2082 c15_i32_2671
  let v2688 : Index := Scalar.indexCast v2687
  let c4_2672 : Index := 4#32
  ![v2688.toNat, 4]
def k1_off110 (v2689 : BitVec 32) : Fin 4 → Nat :=
  let c0_2674 : Index := 0#32
  let c0_i32_2673 : BitVec 32 := 0#32
  let v2690 : BitVec 32 := Scalar.maxsi v2689 c0_i32_2673
  let v2691 : Index := Scalar.indexCast v2690
  let c0_2675 : Index := 0#32
  let c0_2676 : Index := 0#32
  ![0, v2691.toNat, 0, 0]

def k1_chk47 (v2689 : BitVec 32) : Prop :=
  (∀ a, (k1_off110 v2689) a + S1x1x64x64.size a ≤ S1x128x64x64.size a)
theorem k1_off110_inb : ∀ (v2689 : BitVec 32) (k1_hw47 : k1_chk47 v2689), ∀ a, (k1_off110 v2689) a + S1x1x64x64.size a ≤ S1x128x64x64.size a := fun v2689 k1_hw47 => k1_hw47

def k1_off111 (k1_t1 : Fin k1_t1_loop.trips) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let c15_i32_2680 : BitVec 32 := 15#32
  let v2697 : BitVec 32 := Scalar.addi v2082 c15_i32_2680
  let v2698 : Index := Scalar.indexCast v2697
  let c5_2681 : Index := 5#32
  ![v2698.toNat, 5]
def k1_off112 (v2699 : BitVec 32) : Fin 4 → Nat :=
  let c0_2683 : Index := 0#32
  let c0_i32_2682 : BitVec 32 := 0#32
  let v2700 : BitVec 32 := Scalar.maxsi v2699 c0_i32_2682
  let v2701 : Index := Scalar.indexCast v2700
  let c0_2684 : Index := 0#32
  let c0_2685 : Index := 0#32
  ![0, v2701.toNat, 0, 0]

def k1_chk48 (v2699 : BitVec 32) : Prop :=
  (∀ a, (k1_off112 v2699) a + S1x1x64x64.size a ≤ S1x128x64x64.size a)
theorem k1_off112_inb : ∀ (v2699 : BitVec 32) (k1_hw48 : k1_chk48 v2699), ∀ a, (k1_off112 v2699) a + S1x1x64x64.size a ≤ S1x128x64x64.size a := fun v2699 k1_hw48 => k1_hw48

def k1_off113 (k1_t1 : Fin k1_t1_loop.trips) (c0_i32_2689 : BitVec 32) : Fin 4 → Nat :=
  let c0_2690 : Index := 0#32
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let v2707 : BitVec 32 := Scalar.addi v2082 c0_i32_2689
  let v2708 : Index := Scalar.indexCast v2707
  let c0_2691 : Index := 0#32
  let c0_2692 : Index := 0#32
  ![0, v2708.toNat, 0, 0]
def k1_off114 (k1_t1 : Fin k1_t1_loop.trips) (c0_i32_2689 : BitVec 32) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let v2707 : BitVec 32 := Scalar.addi v2082 c0_i32_2689
  let v2715 : Index := Scalar.indexCast v2707
  let c3_2697 : Index := 3#32
  ![v2715.toNat, 3]
def k1_off115 (k1_t1 : Fin k1_t1_loop.trips) (c0_i32_2689 : BitVec 32) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let v2707 : BitVec 32 := Scalar.addi v2082 c0_i32_2689
  let v2723 : Index := Scalar.indexCast v2707
  let c4_2701 : Index := 4#32
  ![v2723.toNat, 4]
def k1_off116 (k1_t1 : Fin k1_t1_loop.trips) (c0_i32_2689 : BitVec 32) : Fin 2 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let v2707 : BitVec 32 := Scalar.addi v2082 c0_i32_2689
  let v2730 : Index := Scalar.indexCast v2707
  let c5_2705 : Index := 5#32
  ![v2730.toNat, 5]
def k1_off117 (k1_t1 : Fin k1_t1_loop.trips) (c0_i32_2689 : BitVec 32) : Fin 3 → Nat :=
  let c16_i32 : BitVec 32 := 16#32
  let c0_i32 : BitVec 32 := 0#32
  let c1_i32 : BitVec 32 := 1#32
  let arg9 : BitVec 32 := Scf.iv c0_i32 c1_i32 k1_t1
  let v2081 : BitVec 32 := Scalar.muli c16_i32 arg9
  let c2_i32 : BitVec 32 := 2#32
  let v2082 : BitVec 32 := Scalar.addi v2081 c2_i32
  let v2707 : BitVec 32 := Scalar.addi v2082 c0_i32_2689
  let v2740 : Index := Scalar.indexCast v2707
  let c0_2709 : Index := 0#32
  let c0_2710 : Index := 0#32
  ![v2740.toNat, 0, 0]
def k1_off118 (v379 : BitVec 32) : Fin 4 → Nat :=
  let c0_425 : Index := 0#32
  let c0_i32_424 : BitVec 32 := 0#32
  let v380 : BitVec 32 := Scalar.maxsi v379 c0_i32_424
  let v381 : Index := Scalar.indexCast v380
  let c0_426 : Index := 0#32
  let c0_427 : Index := 0#32
  ![0, v381.toNat, 0, 0]

def k1_chk49 (v379 : BitVec 32) : Prop :=
  (∀ a, (k1_off118 v379) a + S1x1x64x64.size a ≤ S1x128x64x64.size a)
theorem k1_off118_inb : ∀ (v379 : BitVec 32) (k1_hw49 : k1_chk49 v379), ∀ a, (k1_off118 v379) a + S1x1x64x64.size a ≤ S1x128x64x64.size a := fun v379 k1_hw49 => k1_hw49

def k1_off119 (v387 : BitVec 32) : Fin 4 → Nat :=
  let c0_433 : Index := 0#32
  let c0_i32_432 : BitVec 32 := 0#32
  let v388 : BitVec 32 := Scalar.maxsi v387 c0_i32_432
  let v389 : Index := Scalar.indexCast v388
  let c0_434 : Index := 0#32
  let c0_435 : Index := 0#32
  ![0, v389.toNat, 0, 0]

def k1_chk50 (v387 : BitVec 32) : Prop :=
  (∀ a, (k1_off119 v387) a + S1x1x64x64.size a ≤ S1x128x64x64.size a)
theorem k1_off119_inb : ∀ (v387 : BitVec 32) (k1_hw50 : k1_chk50 v387), ∀ a, (k1_off119 v387) a + S1x1x64x64.size a ≤ S1x128x64x64.size a := fun v387 k1_hw50 => k1_hw50

def k1_off120 (v395 : BitVec 32) : Fin 4 → Nat :=
  let c0_441 : Index := 0#32
  let c0_i32_440 : BitVec 32 := 0#32
  let v396 : BitVec 32 := Scalar.maxsi v395 c0_i32_440
  let v397 : Index := Scalar.indexCast v396
  let c0_442 : Index := 0#32
  let c0_443 : Index := 0#32
  ![0, v397.toNat, 0, 0]

def k1_chk51 (v395 : BitVec 32) : Prop :=
  (∀ a, (k1_off120 v395) a + S1x1x64x64.size a ≤ S1x128x64x64.size a)
theorem k1_off120_inb : ∀ (v395 : BitVec 32) (k1_hw51 : k1_chk51 v395), ∀ a, (k1_off120 v395) a + S1x1x64x64.size a ≤ S1x128x64x64.size a := fun v395 k1_hw51 => k1_hw51

def k1_off121 (v409 : BitVec 32) : Fin 4 → Nat :=
  let c0_455 : Index := 0#32
  let c0_i32_454 : BitVec 32 := 0#32
  let v410 : BitVec 32 := Scalar.maxsi v409 c0_i32_454
  let v411 : Index := Scalar.indexCast v410
  let c0_456 : Index := 0#32
  let c0_457 : Index := 0#32
  ![0, v411.toNat, 0, 0]

def k1_chk52 (v409 : BitVec 32) : Prop :=
  (∀ a, (k1_off121 v409) a + S1x1x64x64.size a ≤ S1x128x64x64.size a)
theorem k1_off121_inb : ∀ (v409 : BitVec 32) (k1_hw52 : k1_chk52 v409), ∀ a, (k1_off121 v409) a + S1x1x64x64.size a ≤ S1x128x64x64.size a := fun v409 k1_hw52 => k1_hw52

def k1_off122 (v417 : BitVec 32) : Fin 4 → Nat :=
  let c0_464 : Index := 0#32
  let c0_i32_463 : BitVec 32 := 0#32
  let v418 : BitVec 32 := Scalar.maxsi v417 c0_i32_463
  let v419 : Index := Scalar.indexCast v418
  let c0_465 : Index := 0#32
  let c0_466 : Index := 0#32
  ![0, v419.toNat, 0, 0]

def k1_chk53 (v417 : BitVec 32) : Prop :=
  (∀ a, (k1_off122 v417) a + S1x1x64x64.size a ≤ S1x128x64x64.size a)
theorem k1_off122_inb : ∀ (v417 : BitVec 32) (k1_hw53 : k1_chk53 v417), ∀ a, (k1_off122 v417) a + S1x1x64x64.size a ≤ S1x128x64x64.size a := fun v417 k1_hw53 => k1_hw53

def k1_off123 (v425 : BitVec 32) : Fin 4 → Nat :=
  let c0_473 : Index := 0#32
  let c0_i32_472 : BitVec 32 := 0#32
  let v426 : BitVec 32 := Scalar.maxsi v425 c0_i32_472
  let v427 : Index := Scalar.indexCast v426
  let c0_474 : Index := 0#32
  let c0_475 : Index := 0#32
  ![0, v427.toNat, 0, 0]

def k1_chk54 (v425 : BitVec 32) : Prop :=
  (∀ a, (k1_off123 v425) a + S1x1x64x64.size a ≤ S1x128x64x64.size a)
theorem k1_off123_inb : ∀ (v425 : BitVec 32) (k1_hw54 : k1_chk54 v425), ∀ a, (k1_off123 v425) a + S1x1x64x64.size a ≤ S1x128x64x64.size a := fun v425 k1_hw54 => k1_hw54

def k1_off124 (v439 : BitVec 32) : Fin 4 → Nat :=
  let c0_488 : Index := 0#32
  let c0_i32_487 : BitVec 32 := 0#32
  let v440 : BitVec 32 := Scalar.maxsi v439 c0_i32_487
  let v441 : Index := Scalar.indexCast v440
  let c0_489 : Index := 0#32
  let c0_490 : Index := 0#32
  ![0, v441.toNat, 0, 0]

def k1_chk55 (v439 : BitVec 32) : Prop :=
  (∀ a, (k1_off124 v439) a + S1x1x64x64.size a ≤ S1x128x64x64.size a)
theorem k1_off124_inb : ∀ (v439 : BitVec 32) (k1_hw55 : k1_chk55 v439), ∀ a, (k1_off124 v439) a + S1x1x64x64.size a ≤ S1x128x64x64.size a := fun v439 k1_hw55 => k1_hw55

def k1_off125 (v447 : BitVec 32) : Fin 4 → Nat :=
  let c0_497 : Index := 0#32
  let c0_i32_496 : BitVec 32 := 0#32
  let v448 : BitVec 32 := Scalar.maxsi v447 c0_i32_496
  let v449 : Index := Scalar.indexCast v448
  let c0_498 : Index := 0#32
  let c0_499 : Index := 0#32
  ![0, v449.toNat, 0, 0]

def k1_chk56 (v447 : BitVec 32) : Prop :=
  (∀ a, (k1_off125 v447) a + S1x1x64x64.size a ≤ S1x128x64x64.size a)
theorem k1_off125_inb : ∀ (v447 : BitVec 32) (k1_hw56 : k1_chk56 v447), ∀ a, (k1_off125 v447) a + S1x1x64x64.size a ≤ S1x128x64x64.size a := fun v447 k1_hw56 => k1_hw56

def k1_off126 (v455 : BitVec 32) : Fin 4 → Nat :=
  let c0_506 : Index := 0#32
  let c0_i32_505 : BitVec 32 := 0#32
  let v456 : BitVec 32 := Scalar.maxsi v455 c0_i32_505
  let v457 : Index := Scalar.indexCast v456
  let c0_507 : Index := 0#32
  let c0_508 : Index := 0#32
  ![0, v457.toNat, 0, 0]

def k1_chk57 (v455 : BitVec 32) : Prop :=
  (∀ a, (k1_off126 v455) a + S1x1x64x64.size a ≤ S1x128x64x64.size a)
theorem k1_off126_inb : ∀ (v455 : BitVec 32) (k1_hw57 : k1_chk57 v455), ∀ a, (k1_off126 v455) a + S1x1x64x64.size a ≤ S1x128x64x64.size a := fun v455 k1_hw57 => k1_hw57

def k1_off127 (v469 : BitVec 32) : Fin 4 → Nat :=
  let c0_521 : Index := 0#32
  let c0_i32_520 : BitVec 32 := 0#32
  let v470 : BitVec 32 := Scalar.maxsi v469 c0_i32_520
  let v471 : Index := Scalar.indexCast v470
  let c0_522 : Index := 0#32
  let c0_523 : Index := 0#32
  ![0, v471.toNat, 0, 0]

def k1_chk58 (v469 : BitVec 32) : Prop :=
  (∀ a, (k1_off127 v469) a + S1x1x64x64.size a ≤ S1x128x64x64.size a)
theorem k1_off127_inb : ∀ (v469 : BitVec 32) (k1_hw58 : k1_chk58 v469), ∀ a, (k1_off127 v469) a + S1x1x64x64.size a ≤ S1x128x64x64.size a := fun v469 k1_hw58 => k1_hw58

def k1_off128 (v477 : BitVec 32) : Fin 4 → Nat :=
  let c0_530 : Index := 0#32
  let c0_i32_529 : BitVec 32 := 0#32
  let v478 : BitVec 32 := Scalar.maxsi v477 c0_i32_529
  let v479 : Index := Scalar.indexCast v478
  let c0_531 : Index := 0#32
  let c0_532 : Index := 0#32
  ![0, v479.toNat, 0, 0]

def k1_chk59 (v477 : BitVec 32) : Prop :=
  (∀ a, (k1_off128 v477) a + S1x1x64x64.size a ≤ S1x128x64x64.size a)
theorem k1_off128_inb : ∀ (v477 : BitVec 32) (k1_hw59 : k1_chk59 v477), ∀ a, (k1_off128 v477) a + S1x1x64x64.size a ≤ S1x128x64x64.size a := fun v477 k1_hw59 => k1_hw59

def k1_off129 (v485 : BitVec 32) : Fin 4 → Nat :=
  let c0_539 : Index := 0#32
  let c0_i32_538 : BitVec 32 := 0#32
  let v486 : BitVec 32 := Scalar.maxsi v485 c0_i32_538
  let v487 : Index := Scalar.indexCast v486
  let c0_540 : Index := 0#32
  let c0_541 : Index := 0#32
  ![0, v487.toNat, 0, 0]

def k1_chk60 (v485 : BitVec 32) : Prop :=
  (∀ a, (k1_off129 v485) a + S1x1x64x64.size a ≤ S1x128x64x64.size a)
theorem k1_off129_inb : ∀ (v485 : BitVec 32) (k1_hw60 : k1_chk60 v485), ∀ a, (k1_off129 v485) a + S1x1x64x64.size a ≤ S1x128x64x64.size a := fun v485 k1_hw60 => k1_hw60

def k1_off130 (v499 : BitVec 32) : Fin 4 → Nat :=
  let c0_554 : Index := 0#32
  let c0_i32_553 : BitVec 32 := 0#32
  let v500 : BitVec 32 := Scalar.maxsi v499 c0_i32_553
  let v501 : Index := Scalar.indexCast v500
  let c0_555 : Index := 0#32
  let c0_556 : Index := 0#32
  ![0, v501.toNat, 0, 0]

def k1_chk61 (v499 : BitVec 32) : Prop :=
  (∀ a, (k1_off130 v499) a + S1x1x64x64.size a ≤ S1x128x64x64.size a)
theorem k1_off130_inb : ∀ (v499 : BitVec 32) (k1_hw61 : k1_chk61 v499), ∀ a, (k1_off130 v499) a + S1x1x64x64.size a ≤ S1x128x64x64.size a := fun v499 k1_hw61 => k1_hw61

def k1_off131 (v507 : BitVec 32) : Fin 4 → Nat :=
  let c0_563 : Index := 0#32
  let c0_i32_562 : BitVec 32 := 0#32
  let v508 : BitVec 32 := Scalar.maxsi v507 c0_i32_562
  let v509 : Index := Scalar.indexCast v508
  let c0_564 : Index := 0#32
  let c0_565 : Index := 0#32
  ![0, v509.toNat, 0, 0]

def k1_chk62 (v507 : BitVec 32) : Prop :=
  (∀ a, (k1_off131 v507) a + S1x1x64x64.size a ≤ S1x128x64x64.size a)
theorem k1_off131_inb : ∀ (v507 : BitVec 32) (k1_hw62 : k1_chk62 v507), ∀ a, (k1_off131 v507) a + S1x1x64x64.size a ≤ S1x128x64x64.size a := fun v507 k1_hw62 => k1_hw62

def k1_off132 (v515 : BitVec 32) : Fin 4 → Nat :=
  let c0_572 : Index := 0#32
  let c0_i32_571 : BitVec 32 := 0#32
  let v516 : BitVec 32 := Scalar.maxsi v515 c0_i32_571
  let v517 : Index := Scalar.indexCast v516
  let c0_573 : Index := 0#32
  let c0_574 : Index := 0#32
  ![0, v517.toNat, 0, 0]

def k1_chk63 (v515 : BitVec 32) : Prop :=
  (∀ a, (k1_off132 v515) a + S1x1x64x64.size a ≤ S1x128x64x64.size a)
theorem k1_off132_inb : ∀ (v515 : BitVec 32) (k1_hw63 : k1_chk63 v515), ∀ a, (k1_off132 v515) a + S1x1x64x64.size a ≤ S1x128x64x64.size a := fun v515 k1_hw63 => k1_hw63

def k1_off133 (v529 : BitVec 32) : Fin 4 → Nat :=
  let c0_587 : Index := 0#32
  let c0_i32_586 : BitVec 32 := 0#32
  let v530 : BitVec 32 := Scalar.maxsi v529 c0_i32_586
  let v531 : Index := Scalar.indexCast v530
  let c0_588 : Index := 0#32
  let c0_589 : Index := 0#32
  ![0, v531.toNat, 0, 0]

def k1_chk64 (v529 : BitVec 32) : Prop :=
  (∀ a, (k1_off133 v529) a + S1x1x64x64.size a ≤ S1x128x64x64.size a)
theorem k1_off133_inb : ∀ (v529 : BitVec 32) (k1_hw64 : k1_chk64 v529), ∀ a, (k1_off133 v529) a + S1x1x64x64.size a ≤ S1x128x64x64.size a := fun v529 k1_hw64 => k1_hw64

def k1_off134 (v537 : BitVec 32) : Fin 4 → Nat :=
  let c0_596 : Index := 0#32
  let c0_i32_595 : BitVec 32 := 0#32
  let v538 : BitVec 32 := Scalar.maxsi v537 c0_i32_595
  let v539 : Index := Scalar.indexCast v538
  let c0_597 : Index := 0#32
  let c0_598 : Index := 0#32
  ![0, v539.toNat, 0, 0]

def k1_chk65 (v537 : BitVec 32) : Prop :=
  (∀ a, (k1_off134 v537) a + S1x1x64x64.size a ≤ S1x128x64x64.size a)
theorem k1_off134_inb : ∀ (v537 : BitVec 32) (k1_hw65 : k1_chk65 v537), ∀ a, (k1_off134 v537) a + S1x1x64x64.size a ≤ S1x128x64x64.size a := fun v537 k1_hw65 => k1_hw65

def k1_off135 (v545 : BitVec 32) : Fin 4 → Nat :=
  let c0_605 : Index := 0#32
  let c0_i32_604 : BitVec 32 := 0#32
  let v546 : BitVec 32 := Scalar.maxsi v545 c0_i32_604
  let v547 : Index := Scalar.indexCast v546
  let c0_606 : Index := 0#32
  let c0_607 : Index := 0#32
  ![0, v547.toNat, 0, 0]

def k1_chk66 (v545 : BitVec 32) : Prop :=
  (∀ a, (k1_off135 v545) a + S1x1x64x64.size a ≤ S1x128x64x64.size a)
theorem k1_off135_inb : ∀ (v545 : BitVec 32) (k1_hw66 : k1_chk66 v545), ∀ a, (k1_off135 v545) a + S1x1x64x64.size a ≤ S1x128x64x64.size a := fun v545 k1_hw66 => k1_hw66

def k1_off136 (v559 : BitVec 32) : Fin 4 → Nat :=
  let c0_620 : Index := 0#32
  let c0_i32_619 : BitVec 32 := 0#32
  let v560 : BitVec 32 := Scalar.maxsi v559 c0_i32_619
  let v561 : Index := Scalar.indexCast v560
  let c0_621 : Index := 0#32
  let c0_622 : Index := 0#32
  ![0, v561.toNat, 0, 0]

def k1_chk67 (v559 : BitVec 32) : Prop :=
  (∀ a, (k1_off136 v559) a + S1x1x64x64.size a ≤ S1x128x64x64.size a)
theorem k1_off136_inb : ∀ (v559 : BitVec 32) (k1_hw67 : k1_chk67 v559), ∀ a, (k1_off136 v559) a + S1x1x64x64.size a ≤ S1x128x64x64.size a := fun v559 k1_hw67 => k1_hw67

def k1_off137 (v567 : BitVec 32) : Fin 4 → Nat :=
  let c0_629 : Index := 0#32
  let c0_i32_628 : BitVec 32 := 0#32
  let v568 : BitVec 32 := Scalar.maxsi v567 c0_i32_628
  let v569 : Index := Scalar.indexCast v568
  let c0_630 : Index := 0#32
  let c0_631 : Index := 0#32
  ![0, v569.toNat, 0, 0]

def k1_chk68 (v567 : BitVec 32) : Prop :=
  (∀ a, (k1_off137 v567) a + S1x1x64x64.size a ≤ S1x128x64x64.size a)
theorem k1_off137_inb : ∀ (v567 : BitVec 32) (k1_hw68 : k1_chk68 v567), ∀ a, (k1_off137 v567) a + S1x1x64x64.size a ≤ S1x128x64x64.size a := fun v567 k1_hw68 => k1_hw68

def k1_off138 (v575 : BitVec 32) : Fin 4 → Nat :=
  let c0_638 : Index := 0#32
  let c0_i32_637 : BitVec 32 := 0#32
  let v576 : BitVec 32 := Scalar.maxsi v575 c0_i32_637
  let v577 : Index := Scalar.indexCast v576
  let c0_639 : Index := 0#32
  let c0_640 : Index := 0#32
  ![0, v577.toNat, 0, 0]

def k1_chk69 (v575 : BitVec 32) : Prop :=
  (∀ a, (k1_off138 v575) a + S1x1x64x64.size a ≤ S1x128x64x64.size a)
theorem k1_off138_inb : ∀ (v575 : BitVec 32) (k1_hw69 : k1_chk69 v575), ∀ a, (k1_off138 v575) a + S1x1x64x64.size a ≤ S1x128x64x64.size a := fun v575 k1_hw69 => k1_hw69

def k1_off139 (v589 : BitVec 32) : Fin 4 → Nat :=
  let c0_653 : Index := 0#32
  let c0_i32_652 : BitVec 32 := 0#32
  let v590 : BitVec 32 := Scalar.maxsi v589 c0_i32_652
  let v591 : Index := Scalar.indexCast v590
  let c0_654 : Index := 0#32
  let c0_655 : Index := 0#32
  ![0, v591.toNat, 0, 0]

def k1_chk70 (v589 : BitVec 32) : Prop :=
  (∀ a, (k1_off139 v589) a + S1x1x64x64.size a ≤ S1x128x64x64.size a)
theorem k1_off139_inb : ∀ (v589 : BitVec 32) (k1_hw70 : k1_chk70 v589), ∀ a, (k1_off139 v589) a + S1x1x64x64.size a ≤ S1x128x64x64.size a := fun v589 k1_hw70 => k1_hw70

def k1_off140 (v597 : BitVec 32) : Fin 4 → Nat :=
  let c0_662 : Index := 0#32
  let c0_i32_661 : BitVec 32 := 0#32
  let v598 : BitVec 32 := Scalar.maxsi v597 c0_i32_661
  let v599 : Index := Scalar.indexCast v598
  let c0_663 : Index := 0#32
  let c0_664 : Index := 0#32
  ![0, v599.toNat, 0, 0]

def k1_chk71 (v597 : BitVec 32) : Prop :=
  (∀ a, (k1_off140 v597) a + S1x1x64x64.size a ≤ S1x128x64x64.size a)
theorem k1_off140_inb : ∀ (v597 : BitVec 32) (k1_hw71 : k1_chk71 v597), ∀ a, (k1_off140 v597) a + S1x1x64x64.size a ≤ S1x128x64x64.size a := fun v597 k1_hw71 => k1_hw71

def k1_off141 (v605 : BitVec 32) : Fin 4 → Nat :=
  let c0_671 : Index := 0#32
  let c0_i32_670 : BitVec 32 := 0#32
  let v606 : BitVec 32 := Scalar.maxsi v605 c0_i32_670
  let v607 : Index := Scalar.indexCast v606
  let c0_672 : Index := 0#32
  let c0_673 : Index := 0#32
  ![0, v607.toNat, 0, 0]

def k1_chk72 (v605 : BitVec 32) : Prop :=
  (∀ a, (k1_off141 v605) a + S1x1x64x64.size a ≤ S1x128x64x64.size a)
theorem k1_off141_inb : ∀ (v605 : BitVec 32) (k1_hw72 : k1_chk72 v605), ∀ a, (k1_off141 v605) a + S1x1x64x64.size a ≤ S1x128x64x64.size a := fun v605 k1_hw72 => k1_hw72

def k1_off142 (v619 : BitVec 32) : Fin 4 → Nat :=
  let c0_686 : Index := 0#32
  let c0_i32_685 : BitVec 32 := 0#32
  let v620 : BitVec 32 := Scalar.maxsi v619 c0_i32_685
  let v621 : Index := Scalar.indexCast v620
  let c0_687 : Index := 0#32
  let c0_688 : Index := 0#32
  ![0, v621.toNat, 0, 0]

def k1_chk73 (v619 : BitVec 32) : Prop :=
  (∀ a, (k1_off142 v619) a + S1x1x64x64.size a ≤ S1x128x64x64.size a)
theorem k1_off142_inb : ∀ (v619 : BitVec 32) (k1_hw73 : k1_chk73 v619), ∀ a, (k1_off142 v619) a + S1x1x64x64.size a ≤ S1x128x64x64.size a := fun v619 k1_hw73 => k1_hw73

def k1_off143 (v627 : BitVec 32) : Fin 4 → Nat :=
  let c0_695 : Index := 0#32
  let c0_i32_694 : BitVec 32 := 0#32
  let v628 : BitVec 32 := Scalar.maxsi v627 c0_i32_694
  let v629 : Index := Scalar.indexCast v628
  let c0_696 : Index := 0#32
  let c0_697 : Index := 0#32
  ![0, v629.toNat, 0, 0]

def k1_chk74 (v627 : BitVec 32) : Prop :=
  (∀ a, (k1_off143 v627) a + S1x1x64x64.size a ≤ S1x128x64x64.size a)
theorem k1_off143_inb : ∀ (v627 : BitVec 32) (k1_hw74 : k1_chk74 v627), ∀ a, (k1_off143 v627) a + S1x1x64x64.size a ≤ S1x128x64x64.size a := fun v627 k1_hw74 => k1_hw74

def k1_off144 (v635 : BitVec 32) : Fin 4 → Nat :=
  let c0_704 : Index := 0#32
  let c0_i32_703 : BitVec 32 := 0#32
  let v636 : BitVec 32 := Scalar.maxsi v635 c0_i32_703
  let v637 : Index := Scalar.indexCast v636
  let c0_705 : Index := 0#32
  let c0_706 : Index := 0#32
  ![0, v637.toNat, 0, 0]

def k1_chk75 (v635 : BitVec 32) : Prop :=
  (∀ a, (k1_off144 v635) a + S1x1x64x64.size a ≤ S1x128x64x64.size a)
theorem k1_off144_inb : ∀ (v635 : BitVec 32) (k1_hw75 : k1_chk75 v635), ∀ a, (k1_off144 v635) a + S1x1x64x64.size a ≤ S1x128x64x64.size a := fun v635 k1_hw75 => k1_hw75

def k1_off145 (v649 : BitVec 32) : Fin 4 → Nat :=
  let c0_719 : Index := 0#32
  let c0_i32_718 : BitVec 32 := 0#32
  let v650 : BitVec 32 := Scalar.maxsi v649 c0_i32_718
  let v651 : Index := Scalar.indexCast v650
  let c0_720 : Index := 0#32
  let c0_721 : Index := 0#32
  ![0, v651.toNat, 0, 0]

def k1_chk76 (v649 : BitVec 32) : Prop :=
  (∀ a, (k1_off145 v649) a + S1x1x64x64.size a ≤ S1x128x64x64.size a)
theorem k1_off145_inb : ∀ (v649 : BitVec 32) (k1_hw76 : k1_chk76 v649), ∀ a, (k1_off145 v649) a + S1x1x64x64.size a ≤ S1x128x64x64.size a := fun v649 k1_hw76 => k1_hw76

def k1_off146 (v657 : BitVec 32) : Fin 4 → Nat :=
  let c0_728 : Index := 0#32
  let c0_i32_727 : BitVec 32 := 0#32
  let v658 : BitVec 32 := Scalar.maxsi v657 c0_i32_727
  let v659 : Index := Scalar.indexCast v658
  let c0_729 : Index := 0#32
  let c0_730 : Index := 0#32
  ![0, v659.toNat, 0, 0]

def k1_chk77 (v657 : BitVec 32) : Prop :=
  (∀ a, (k1_off146 v657) a + S1x1x64x64.size a ≤ S1x128x64x64.size a)
theorem k1_off146_inb : ∀ (v657 : BitVec 32) (k1_hw77 : k1_chk77 v657), ∀ a, (k1_off146 v657) a + S1x1x64x64.size a ≤ S1x128x64x64.size a := fun v657 k1_hw77 => k1_hw77

def k1_off147 (v665 : BitVec 32) : Fin 4 → Nat :=
  let c0_737 : Index := 0#32
  let c0_i32_736 : BitVec 32 := 0#32
  let v666 : BitVec 32 := Scalar.maxsi v665 c0_i32_736
  let v667 : Index := Scalar.indexCast v666
  let c0_738 : Index := 0#32
  let c0_739 : Index := 0#32
  ![0, v667.toNat, 0, 0]

def k1_chk78 (v665 : BitVec 32) : Prop :=
  (∀ a, (k1_off147 v665) a + S1x1x64x64.size a ≤ S1x128x64x64.size a)
theorem k1_off147_inb : ∀ (v665 : BitVec 32) (k1_hw78 : k1_chk78 v665), ∀ a, (k1_off147 v665) a + S1x1x64x64.size a ≤ S1x128x64x64.size a := fun v665 k1_hw78 => k1_hw78

def k1_off148 (v679 : BitVec 32) : Fin 4 → Nat :=
  let c0_752 : Index := 0#32
  let c0_i32_751 : BitVec 32 := 0#32
  let v680 : BitVec 32 := Scalar.maxsi v679 c0_i32_751
  let v681 : Index := Scalar.indexCast v680
  let c0_753 : Index := 0#32
  let c0_754 : Index := 0#32
  ![0, v681.toNat, 0, 0]

def k1_chk79 (v679 : BitVec 32) : Prop :=
  (∀ a, (k1_off148 v679) a + S1x1x64x64.size a ≤ S1x128x64x64.size a)
theorem k1_off148_inb : ∀ (v679 : BitVec 32) (k1_hw79 : k1_chk79 v679), ∀ a, (k1_off148 v679) a + S1x1x64x64.size a ≤ S1x128x64x64.size a := fun v679 k1_hw79 => k1_hw79

def k1_off149 (v687 : BitVec 32) : Fin 4 → Nat :=
  let c0_761 : Index := 0#32
  let c0_i32_760 : BitVec 32 := 0#32
  let v688 : BitVec 32 := Scalar.maxsi v687 c0_i32_760
  let v689 : Index := Scalar.indexCast v688
  let c0_762 : Index := 0#32
  let c0_763 : Index := 0#32
  ![0, v689.toNat, 0, 0]

def k1_chk80 (v687 : BitVec 32) : Prop :=
  (∀ a, (k1_off149 v687) a + S1x1x64x64.size a ≤ S1x128x64x64.size a)
theorem k1_off149_inb : ∀ (v687 : BitVec 32) (k1_hw80 : k1_chk80 v687), ∀ a, (k1_off149 v687) a + S1x1x64x64.size a ≤ S1x128x64x64.size a := fun v687 k1_hw80 => k1_hw80

def k1_off150 (v695 : BitVec 32) : Fin 4 → Nat :=
  let c0_770 : Index := 0#32
  let c0_i32_769 : BitVec 32 := 0#32
  let v696 : BitVec 32 := Scalar.maxsi v695 c0_i32_769
  let v697 : Index := Scalar.indexCast v696
  let c0_771 : Index := 0#32
  let c0_772 : Index := 0#32
  ![0, v697.toNat, 0, 0]

def k1_chk81 (v695 : BitVec 32) : Prop :=
  (∀ a, (k1_off150 v695) a + S1x1x64x64.size a ≤ S1x128x64x64.size a)
theorem k1_off150_inb : ∀ (v695 : BitVec 32) (k1_hw81 : k1_chk81 v695), ∀ a, (k1_off150 v695) a + S1x1x64x64.size a ≤ S1x128x64x64.size a := fun v695 k1_hw81 => k1_hw81

def k1_off151 (v709 : BitVec 32) : Fin 4 → Nat :=
  let c0_785 : Index := 0#32
  let c0_i32_784 : BitVec 32 := 0#32
  let v710 : BitVec 32 := Scalar.maxsi v709 c0_i32_784
  let v711 : Index := Scalar.indexCast v710
  let c0_786 : Index := 0#32
  let c0_787 : Index := 0#32
  ![0, v711.toNat, 0, 0]

def k1_chk82 (v709 : BitVec 32) : Prop :=
  (∀ a, (k1_off151 v709) a + S1x1x64x64.size a ≤ S1x128x64x64.size a)
theorem k1_off151_inb : ∀ (v709 : BitVec 32) (k1_hw82 : k1_chk82 v709), ∀ a, (k1_off151 v709) a + S1x1x64x64.size a ≤ S1x128x64x64.size a := fun v709 k1_hw82 => k1_hw82

def k1_off152 (v717 : BitVec 32) : Fin 4 → Nat :=
  let c0_794 : Index := 0#32
  let c0_i32_793 : BitVec 32 := 0#32
  let v718 : BitVec 32 := Scalar.maxsi v717 c0_i32_793
  let v719 : Index := Scalar.indexCast v718
  let c0_795 : Index := 0#32
  let c0_796 : Index := 0#32
  ![0, v719.toNat, 0, 0]

def k1_chk83 (v717 : BitVec 32) : Prop :=
  (∀ a, (k1_off152 v717) a + S1x1x64x64.size a ≤ S1x128x64x64.size a)
theorem k1_off152_inb : ∀ (v717 : BitVec 32) (k1_hw83 : k1_chk83 v717), ∀ a, (k1_off152 v717) a + S1x1x64x64.size a ≤ S1x128x64x64.size a := fun v717 k1_hw83 => k1_hw83

def k1_off153 (v725 : BitVec 32) : Fin 4 → Nat :=
  let c0_803 : Index := 0#32
  let c0_i32_802 : BitVec 32 := 0#32
  let v726 : BitVec 32 := Scalar.maxsi v725 c0_i32_802
  let v727 : Index := Scalar.indexCast v726
  let c0_804 : Index := 0#32
  let c0_805 : Index := 0#32
  ![0, v727.toNat, 0, 0]

def k1_chk84 (v725 : BitVec 32) : Prop :=
  (∀ a, (k1_off153 v725) a + S1x1x64x64.size a ≤ S1x128x64x64.size a)
theorem k1_off153_inb : ∀ (v725 : BitVec 32) (k1_hw84 : k1_chk84 v725), ∀ a, (k1_off153 v725) a + S1x1x64x64.size a ≤ S1x128x64x64.size a := fun v725 k1_hw84 => k1_hw84

def k1_off154 (v733 : BitVec 32) : Fin 4 → Nat :=
  let c0_812 : Index := 0#32
  let c0_i32_811 : BitVec 32 := 0#32
  let v734 : BitVec 32 := Scalar.maxsi v733 c0_i32_811
  let v735 : Index := Scalar.indexCast v734
  let c0_813 : Index := 0#32
  let c0_814 : Index := 0#32
  ![0, v735.toNat, 0, 0]

def k1_chk85 (v733 : BitVec 32) : Prop :=
  (∀ a, (k1_off154 v733) a + S1x1x64x64.size a ≤ S1x128x64x64.size a)
theorem k1_off154_inb : ∀ (v733 : BitVec 32) (k1_hw85 : k1_chk85 v733), ∀ a, (k1_off154 v733) a + S1x1x64x64.size a ≤ S1x128x64x64.size a := fun v733 k1_hw85 => k1_hw85

def k1_off155 (v741 : BitVec 32) : Fin 4 → Nat :=
  let c0_821 : Index := 0#32
  let c0_i32_820 : BitVec 32 := 0#32
  let v742 : BitVec 32 := Scalar.maxsi v741 c0_i32_820
  let v743 : Index := Scalar.indexCast v742
  let c0_822 : Index := 0#32
  let c0_823 : Index := 0#32
  ![0, v743.toNat, 0, 0]

def k1_chk86 (v741 : BitVec 32) : Prop :=
  (∀ a, (k1_off155 v741) a + S1x1x64x64.size a ≤ S1x128x64x64.size a)
theorem k1_off155_inb : ∀ (v741 : BitVec 32) (k1_hw86 : k1_chk86 v741), ∀ a, (k1_off155 v741) a + S1x1x64x64.size a ≤ S1x128x64x64.size a := fun v741 k1_hw86 => k1_hw86

def k1_off156 (v749 : BitVec 32) : Fin 4 → Nat :=
  let c0_829 : Index := 0#32
  let c0_i32_828 : BitVec 32 := 0#32
  let v750 : BitVec 32 := Scalar.maxsi v749 c0_i32_828
  let v751 : Index := Scalar.indexCast v750
  let c0_830 : Index := 0#32
  let c0_831 : Index := 0#32
  ![0, v751.toNat, 0, 0]

def k1_chk87 (v749 : BitVec 32) : Prop :=
  (∀ a, (k1_off156 v749) a + S1x1x64x64.size a ≤ S1x128x64x64.size a)
theorem k1_off156_inb : ∀ (v749 : BitVec 32) (k1_hw87 : k1_chk87 v749), ∀ a, (k1_off156 v749) a + S1x1x64x64.size a ≤ S1x128x64x64.size a := fun v749 k1_hw87 => k1_hw87

def k1_off157 (v757 : BitVec 32) : Fin 4 → Nat :=
  let c0_837 : Index := 0#32
  let c0_i32_836 : BitVec 32 := 0#32
  let v758 : BitVec 32 := Scalar.maxsi v757 c0_i32_836
  let v759 : Index := Scalar.indexCast v758
  let c0_838 : Index := 0#32
  let c0_839 : Index := 0#32
  ![0, v759.toNat, 0, 0]

def k1_chk88 (v757 : BitVec 32) : Prop :=
  (∀ a, (k1_off157 v757) a + S1x1x64x64.size a ≤ S1x128x64x64.size a)
theorem k1_off157_inb : ∀ (v757 : BitVec 32) (k1_hw88 : k1_chk88 v757), ∀ a, (k1_off157 v757) a + S1x1x64x64.size a ≤ S1x128x64x64.size a := fun v757 k1_hw88 => k1_hw88

def k1_off158 (v765 : BitVec 32) : Fin 4 → Nat :=
  let c0_846 : Index := 0#32
  let c0_i32_845 : BitVec 32 := 0#32
  let v766 : BitVec 32 := Scalar.maxsi v765 c0_i32_845
  let v767 : Index := Scalar.indexCast v766
  let c0_847 : Index := 0#32
  let c0_848 : Index := 0#32
  ![0, v767.toNat, 0, 0]

def k1_chk89 (v765 : BitVec 32) : Prop :=
  (∀ a, (k1_off158 v765) a + S1x1x64x64.size a ≤ S1x128x64x64.size a)
theorem k1_off158_inb : ∀ (v765 : BitVec 32) (k1_hw89 : k1_chk89 v765), ∀ a, (k1_off158 v765) a + S1x1x64x64.size a ≤ S1x128x64x64.size a := fun v765 k1_hw89 => k1_hw89

def k1_off159 (v773 : BitVec 32) : Fin 4 → Nat :=
  let c0_855 : Index := 0#32
  let c0_i32_854 : BitVec 32 := 0#32
  let v774 : BitVec 32 := Scalar.maxsi v773 c0_i32_854
  let v775 : Index := Scalar.indexCast v774
  let c0_856 : Index := 0#32
  let c0_857 : Index := 0#32
  ![0, v775.toNat, 0, 0]

def k1_chk90 (v773 : BitVec 32) : Prop :=
  (∀ a, (k1_off159 v773) a + S1x1x64x64.size a ≤ S1x128x64x64.size a)
theorem k1_off159_inb : ∀ (v773 : BitVec 32) (k1_hw90 : k1_chk90 v773), ∀ a, (k1_off159 v773) a + S1x1x64x64.size a ≤ S1x128x64x64.size a := fun v773 k1_hw90 => k1_hw90

def k1_off160 (v781 : BitVec 32) : Fin 4 → Nat :=
  let c0_863 : Index := 0#32
  let c0_i32_862 : BitVec 32 := 0#32
  let v782 : BitVec 32 := Scalar.maxsi v781 c0_i32_862
  let v783 : Index := Scalar.indexCast v782
  let c0_864 : Index := 0#32
  let c0_865 : Index := 0#32
  ![0, v783.toNat, 0, 0]

def k1_chk91 (v781 : BitVec 32) : Prop :=
  (∀ a, (k1_off160 v781) a + S1x1x64x64.size a ≤ S1x128x64x64.size a)
theorem k1_off160_inb : ∀ (v781 : BitVec 32) (k1_hw91 : k1_chk91 v781), ∀ a, (k1_off160 v781) a + S1x1x64x64.size a ≤ S1x128x64x64.size a := fun v781 k1_hw91 => k1_hw91

def k1_off161 (v789 : BitVec 32) : Fin 4 → Nat :=
  let c0_872 : Index := 0#32
  let c0_i32_871 : BitVec 32 := 0#32
  let v790 : BitVec 32 := Scalar.maxsi v789 c0_i32_871
  let v791 : Index := Scalar.indexCast v790
  let c0_873 : Index := 0#32
  let c0_874 : Index := 0#32
  ![0, v791.toNat, 0, 0]

def k1_chk92 (v789 : BitVec 32) : Prop :=
  (∀ a, (k1_off161 v789) a + S1x1x64x64.size a ≤ S1x128x64x64.size a)
theorem k1_off161_inb : ∀ (v789 : BitVec 32) (k1_hw92 : k1_chk92 v789), ∀ a, (k1_off161 v789) a + S1x1x64x64.size a ≤ S1x128x64x64.size a := fun v789 k1_hw92 => k1_hw92

def k1_off162 (v797 : BitVec 32) : Fin 4 → Nat :=
  let c0_881 : Index := 0#32
  let c0_i32_880 : BitVec 32 := 0#32
  let v798 : BitVec 32 := Scalar.maxsi v797 c0_i32_880
  let v799 : Index := Scalar.indexCast v798
  let c0_882 : Index := 0#32
  let c0_883 : Index := 0#32
  ![0, v799.toNat, 0, 0]

def k1_chk93 (v797 : BitVec 32) : Prop :=
  (∀ a, (k1_off162 v797) a + S1x1x64x64.size a ≤ S1x128x64x64.size a)
theorem k1_off162_inb : ∀ (v797 : BitVec 32) (k1_hw93 : k1_chk93 v797), ∀ a, (k1_off162 v797) a + S1x1x64x64.size a ≤ S1x128x64x64.size a := fun v797 k1_hw93 => k1_hw93

def k1_off163 (v805 : BitVec 32) : Fin 4 → Nat :=
  let c0_890 : Index := 0#32
  let c0_i32_889 : BitVec 32 := 0#32
  let v806 : BitVec 32 := Scalar.maxsi v805 c0_i32_889
  let v807 : Index := Scalar.indexCast v806
  let c0_891 : Index := 0#32
  let c0_892 : Index := 0#32
  ![0, v807.toNat, 0, 0]

def k1_chk94 (v805 : BitVec 32) : Prop :=
  (∀ a, (k1_off163 v805) a + S1x1x64x64.size a ≤ S1x128x64x64.size a)
theorem k1_off163_inb : ∀ (v805 : BitVec 32) (k1_hw94 : k1_chk94 v805), ∀ a, (k1_off163 v805) a + S1x1x64x64.size a ≤ S1x128x64x64.size a := fun v805 k1_hw94 => k1_hw94

def k1_off164 (v813 : BitVec 32) : Fin 4 → Nat :=
  let c0_899 : Index := 0#32
  let c0_i32_898 : BitVec 32 := 0#32
  let v814 : BitVec 32 := Scalar.maxsi v813 c0_i32_898
  let v815 : Index := Scalar.indexCast v814
  let c0_900 : Index := 0#32
  let c0_901 : Index := 0#32
  ![0, v815.toNat, 0, 0]

def k1_chk95 (v813 : BitVec 32) : Prop :=
  (∀ a, (k1_off164 v813) a + S1x1x64x64.size a ≤ S1x128x64x64.size a)
theorem k1_off164_inb : ∀ (v813 : BitVec 32) (k1_hw95 : k1_chk95 v813), ∀ a, (k1_off164 v813) a + S1x1x64x64.size a ≤ S1x128x64x64.size a := fun v813 k1_hw95 => k1_hw95

def k1_off165 (v821 : BitVec 32) : Fin 4 → Nat :=
  let c0_908 : Index := 0#32
  let c0_i32_907 : BitVec 32 := 0#32
  let v822 : BitVec 32 := Scalar.maxsi v821 c0_i32_907
  let v823 : Index := Scalar.indexCast v822
  let c0_909 : Index := 0#32
  let c0_910 : Index := 0#32
  ![0, v823.toNat, 0, 0]

def k1_chk96 (v821 : BitVec 32) : Prop :=
  (∀ a, (k1_off165 v821) a + S1x1x64x64.size a ≤ S1x128x64x64.size a)
theorem k1_off165_inb : ∀ (v821 : BitVec 32) (k1_hw96 : k1_chk96 v821), ∀ a, (k1_off165 v821) a + S1x1x64x64.size a ≤ S1x128x64x64.size a := fun v821 k1_hw96 => k1_hw96

def k1_off166 (v829 : BitVec 32) : Fin 4 → Nat :=
  let c0_916 : Index := 0#32
  let c0_i32_915 : BitVec 32 := 0#32
  let v830 : BitVec 32 := Scalar.maxsi v829 c0_i32_915
  let v831 : Index := Scalar.indexCast v830
  let c0_917 : Index := 0#32
  let c0_918 : Index := 0#32
  ![0, v831.toNat, 0, 0]

def k1_chk97 (v829 : BitVec 32) : Prop :=
  (∀ a, (k1_off166 v829) a + S1x1x64x64.size a ≤ S1x128x64x64.size a)
theorem k1_off166_inb : ∀ (v829 : BitVec 32) (k1_hw97 : k1_chk97 v829), ∀ a, (k1_off166 v829) a + S1x1x64x64.size a ≤ S1x128x64x64.size a := fun v829 k1_hw97 => k1_hw97

def k1_off167 (v837 : BitVec 32) : Fin 4 → Nat :=
  let c0_925 : Index := 0#32
  let c0_i32_924 : BitVec 32 := 0#32
  let v838 : BitVec 32 := Scalar.maxsi v837 c0_i32_924
  let v839 : Index := Scalar.indexCast v838
  let c0_926 : Index := 0#32
  let c0_927 : Index := 0#32
  ![0, v839.toNat, 0, 0]

def k1_chk98 (v837 : BitVec 32) : Prop :=
  (∀ a, (k1_off167 v837) a + S1x1x64x64.size a ≤ S1x128x64x64.size a)
theorem k1_off167_inb : ∀ (v837 : BitVec 32) (k1_hw98 : k1_chk98 v837), ∀ a, (k1_off167 v837) a + S1x1x64x64.size a ≤ S1x128x64x64.size a := fun v837 k1_hw98 => k1_hw98

def k1_off168 (v845 : BitVec 32) : Fin 4 → Nat :=
  let c0_934 : Index := 0#32
  let c0_i32_933 : BitVec 32 := 0#32
  let v846 : BitVec 32 := Scalar.maxsi v845 c0_i32_933
  let v847 : Index := Scalar.indexCast v846
  let c0_935 : Index := 0#32
  let c0_936 : Index := 0#32
  ![0, v847.toNat, 0, 0]

def k1_chk99 (v845 : BitVec 32) : Prop :=
  (∀ a, (k1_off168 v845) a + S1x1x64x64.size a ≤ S1x128x64x64.size a)
theorem k1_off168_inb : ∀ (v845 : BitVec 32) (k1_hw99 : k1_chk99 v845), ∀ a, (k1_off168 v845) a + S1x1x64x64.size a ≤ S1x128x64x64.size a := fun v845 k1_hw99 => k1_hw99

def k1_off169 (v853 : BitVec 32) : Fin 4 → Nat :=
  let c0_943 : Index := 0#32
  let c0_i32_942 : BitVec 32 := 0#32
  let v854 : BitVec 32 := Scalar.maxsi v853 c0_i32_942
  let v855 : Index := Scalar.indexCast v854
  let c0_944 : Index := 0#32
  let c0_945 : Index := 0#32
  ![0, v855.toNat, 0, 0]

def k1_chk100 (v853 : BitVec 32) : Prop :=
  (∀ a, (k1_off169 v853) a + S1x1x64x64.size a ≤ S1x128x64x64.size a)
theorem k1_off169_inb : ∀ (v853 : BitVec 32) (k1_hw100 : k1_chk100 v853), ∀ a, (k1_off169 v853) a + S1x1x64x64.size a ≤ S1x128x64x64.size a := fun v853 k1_hw100 => k1_hw100

def k1_off170 (v861 : BitVec 32) : Fin 4 → Nat :=
  let c0_952 : Index := 0#32
  let c0_i32_951 : BitVec 32 := 0#32
  let v862 : BitVec 32 := Scalar.maxsi v861 c0_i32_951
  let v863 : Index := Scalar.indexCast v862
  let c0_953 : Index := 0#32
  let c0_954 : Index := 0#32
  ![0, v863.toNat, 0, 0]

def k1_chk101 (v861 : BitVec 32) : Prop :=
  (∀ a, (k1_off170 v861) a + S1x1x64x64.size a ≤ S1x128x64x64.size a)
theorem k1_off170_inb : ∀ (v861 : BitVec 32) (k1_hw101 : k1_chk101 v861), ∀ a, (k1_off170 v861) a + S1x1x64x64.size a ≤ S1x128x64x64.size a := fun v861 k1_hw101 => k1_hw101

def k1_off171 (v869 : BitVec 32) : Fin 4 → Nat :=
  let c0_961 : Index := 0#32
  let c0_i32_960 : BitVec 32 := 0#32
  let v870 : BitVec 32 := Scalar.maxsi v869 c0_i32_960
  let v871 : Index := Scalar.indexCast v870
  let c0_962 : Index := 0#32
  let c0_963 : Index := 0#32
  ![0, v871.toNat, 0, 0]

def k1_chk102 (v869 : BitVec 32) : Prop :=
  (∀ a, (k1_off171 v869) a + S1x1x64x64.size a ≤ S1x128x64x64.size a)
theorem k1_off171_inb : ∀ (v869 : BitVec 32) (k1_hw102 : k1_chk102 v869), ∀ a, (k1_off171 v869) a + S1x1x64x64.size a ≤ S1x128x64x64.size a := fun v869 k1_hw102 => k1_hw102

@[reducible] def k1_t2_loop : Scf.Loop 32 :=
  let c0_i32_1402 : BitVec 32 := 0#32
  let c7_i32_1403 : BitVec 32 := 7#32
  let v1396 : BitVec 32 := Scalar.addi c0_i32_1402 c7_i32_1403
  let c1_i32_1404 : BitVec 32 := 1#32
  ⟨c0_i32_1402, v1396, c1_i32_1404⟩
def k1_off172 (k1_t2 : Fin k1_t2_loop.trips) : Fin 4 → Nat :=
  let c0_2143 : Index := 0#32
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c0_i32_2141 : BitVec 32 := 0#32
  let v2083 : BitVec 32 := Scalar.addi v2082 c0_i32_2141
  let c1_i32_2142 : BitVec 32 := 1#32
  let v2084 : BitVec 32 := Scalar.subi v2083 c1_i32_2142
  let v2085 : Index := Scalar.indexCast v2084
  let c0_2144 : Index := 0#32
  let c0_2145 : Index := 0#32
  ![0, v2085.toNat, 0, 0]
def k1_off173 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c0_i32_2149 : BitVec 32 := 0#32
  let v2092 : BitVec 32 := Scalar.addi v2082 c0_i32_2149
  let v2093 : Index := Scalar.indexCast v2092
  let c3_2150 : Index := 3#32
  ![v2093.toNat, 3]
def k1_off174 (v2094 : BitVec 32) : Fin 4 → Nat :=
  let c0_2152 : Index := 0#32
  let c0_i32_2151 : BitVec 32 := 0#32
  let v2095 : BitVec 32 := Scalar.maxsi v2094 c0_i32_2151
  let v2096 : Index := Scalar.indexCast v2095
  let c0_2153 : Index := 0#32
  let c0_2154 : Index := 0#32
  ![0, v2096.toNat, 0, 0]

def k1_chk103 (v2094 : BitVec 32) : Prop :=
  (∀ a, (k1_off174 v2094) a + S1x1x64x64.size a ≤ S1x128x64x64.size a)
theorem k1_off174_inb : ∀ (v2094 : BitVec 32) (k1_hw103 : k1_chk103 v2094), ∀ a, (k1_off174 v2094) a + S1x1x64x64.size a ≤ S1x128x64x64.size a := fun v2094 k1_hw103 => k1_hw103

def k1_off175 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c0_i32_2158 : BitVec 32 := 0#32
  let v2102 : BitVec 32 := Scalar.addi v2082 c0_i32_2158
  let v2103 : Index := Scalar.indexCast v2102
  let c4_2159 : Index := 4#32
  ![v2103.toNat, 4]
def k1_off176 (v2104 : BitVec 32) : Fin 4 → Nat :=
  let c0_2161 : Index := 0#32
  let c0_i32_2160 : BitVec 32 := 0#32
  let v2105 : BitVec 32 := Scalar.maxsi v2104 c0_i32_2160
  let v2106 : Index := Scalar.indexCast v2105
  let c0_2162 : Index := 0#32
  let c0_2163 : Index := 0#32
  ![0, v2106.toNat, 0, 0]

def k1_chk104 (v2104 : BitVec 32) : Prop :=
  (∀ a, (k1_off176 v2104) a + S1x1x64x64.size a ≤ S1x128x64x64.size a)
theorem k1_off176_inb : ∀ (v2104 : BitVec 32) (k1_hw104 : k1_chk104 v2104), ∀ a, (k1_off176 v2104) a + S1x1x64x64.size a ≤ S1x128x64x64.size a := fun v2104 k1_hw104 => k1_hw104

def k1_off177 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c0_i32_2167 : BitVec 32 := 0#32
  let v2112 : BitVec 32 := Scalar.addi v2082 c0_i32_2167
  let v2113 : Index := Scalar.indexCast v2112
  let c5_2168 : Index := 5#32
  ![v2113.toNat, 5]
def k1_off178 (v2114 : BitVec 32) : Fin 4 → Nat :=
  let c0_2170 : Index := 0#32
  let c0_i32_2169 : BitVec 32 := 0#32
  let v2115 : BitVec 32 := Scalar.maxsi v2114 c0_i32_2169
  let v2116 : Index := Scalar.indexCast v2115
  let c0_2171 : Index := 0#32
  let c0_2172 : Index := 0#32
  ![0, v2116.toNat, 0, 0]

def k1_chk105 (v2114 : BitVec 32) : Prop :=
  (∀ a, (k1_off178 v2114) a + S1x1x64x64.size a ≤ S1x128x64x64.size a)
theorem k1_off178_inb : ∀ (v2114 : BitVec 32) (k1_hw105 : k1_chk105 v2114), ∀ a, (k1_off178 v2114) a + S1x1x64x64.size a ≤ S1x128x64x64.size a := fun v2114 k1_hw105 => k1_hw105

def k1_off179 (k1_t2 : Fin k1_t2_loop.trips) : Fin 4 → Nat :=
  let c0_2178 : Index := 0#32
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c1_i32_2176 : BitVec 32 := 1#32
  let v2122 : BitVec 32 := Scalar.addi v2082 c1_i32_2176
  let c1_i32_2177 : BitVec 32 := 1#32
  let v2123 : BitVec 32 := Scalar.subi v2122 c1_i32_2177
  let v2124 : Index := Scalar.indexCast v2123
  let c0_2179 : Index := 0#32
  let c0_2180 : Index := 0#32
  ![0, v2124.toNat, 0, 0]
def k1_off180 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c1_i32_2184 : BitVec 32 := 1#32
  let v2131 : BitVec 32 := Scalar.addi v2082 c1_i32_2184
  let v2132 : Index := Scalar.indexCast v2131
  let c3_2185 : Index := 3#32
  ![v2132.toNat, 3]
def k1_off181 (v2133 : BitVec 32) : Fin 4 → Nat :=
  let c0_2187 : Index := 0#32
  let c0_i32_2186 : BitVec 32 := 0#32
  let v2134 : BitVec 32 := Scalar.maxsi v2133 c0_i32_2186
  let v2135 : Index := Scalar.indexCast v2134
  let c0_2188 : Index := 0#32
  let c0_2189 : Index := 0#32
  ![0, v2135.toNat, 0, 0]

def k1_chk106 (v2133 : BitVec 32) : Prop :=
  (∀ a, (k1_off181 v2133) a + S1x1x64x64.size a ≤ S1x128x64x64.size a)
theorem k1_off181_inb : ∀ (v2133 : BitVec 32) (k1_hw106 : k1_chk106 v2133), ∀ a, (k1_off181 v2133) a + S1x1x64x64.size a ≤ S1x128x64x64.size a := fun v2133 k1_hw106 => k1_hw106

def k1_off182 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c1_i32_2193 : BitVec 32 := 1#32
  let v2141 : BitVec 32 := Scalar.addi v2082 c1_i32_2193
  let v2142 : Index := Scalar.indexCast v2141
  let c4_2194 : Index := 4#32
  ![v2142.toNat, 4]
def k1_off183 (v2143 : BitVec 32) : Fin 4 → Nat :=
  let c0_2196 : Index := 0#32
  let c0_i32_2195 : BitVec 32 := 0#32
  let v2144 : BitVec 32 := Scalar.maxsi v2143 c0_i32_2195
  let v2145 : Index := Scalar.indexCast v2144
  let c0_2197 : Index := 0#32
  let c0_2198 : Index := 0#32
  ![0, v2145.toNat, 0, 0]

def k1_chk107 (v2143 : BitVec 32) : Prop :=
  (∀ a, (k1_off183 v2143) a + S1x1x64x64.size a ≤ S1x128x64x64.size a)
theorem k1_off183_inb : ∀ (v2143 : BitVec 32) (k1_hw107 : k1_chk107 v2143), ∀ a, (k1_off183 v2143) a + S1x1x64x64.size a ≤ S1x128x64x64.size a := fun v2143 k1_hw107 => k1_hw107

def k1_off184 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c1_i32_2202 : BitVec 32 := 1#32
  let v2151 : BitVec 32 := Scalar.addi v2082 c1_i32_2202
  let v2152 : Index := Scalar.indexCast v2151
  let c5_2203 : Index := 5#32
  ![v2152.toNat, 5]
def k1_off185 (v2153 : BitVec 32) : Fin 4 → Nat :=
  let c0_2205 : Index := 0#32
  let c0_i32_2204 : BitVec 32 := 0#32
  let v2154 : BitVec 32 := Scalar.maxsi v2153 c0_i32_2204
  let v2155 : Index := Scalar.indexCast v2154
  let c0_2206 : Index := 0#32
  let c0_2207 : Index := 0#32
  ![0, v2155.toNat, 0, 0]

def k1_chk108 (v2153 : BitVec 32) : Prop :=
  (∀ a, (k1_off185 v2153) a + S1x1x64x64.size a ≤ S1x128x64x64.size a)
theorem k1_off185_inb : ∀ (v2153 : BitVec 32) (k1_hw108 : k1_chk108 v2153), ∀ a, (k1_off185 v2153) a + S1x1x64x64.size a ≤ S1x128x64x64.size a := fun v2153 k1_hw108 => k1_hw108

def k1_off186 (k1_t2 : Fin k1_t2_loop.trips) : Fin 4 → Nat :=
  let c0_2213 : Index := 0#32
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c2_i32_2211 : BitVec 32 := 2#32
  let v2161 : BitVec 32 := Scalar.addi v2082 c2_i32_2211
  let c1_i32_2212 : BitVec 32 := 1#32
  let v2162 : BitVec 32 := Scalar.subi v2161 c1_i32_2212
  let v2163 : Index := Scalar.indexCast v2162
  let c0_2214 : Index := 0#32
  let c0_2215 : Index := 0#32
  ![0, v2163.toNat, 0, 0]
def k1_off187 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c2_i32_2219 : BitVec 32 := 2#32
  let v2170 : BitVec 32 := Scalar.addi v2082 c2_i32_2219
  let v2171 : Index := Scalar.indexCast v2170
  let c3_2220 : Index := 3#32
  ![v2171.toNat, 3]
def k1_off188 (v2172 : BitVec 32) : Fin 4 → Nat :=
  let c0_2222 : Index := 0#32
  let c0_i32_2221 : BitVec 32 := 0#32
  let v2173 : BitVec 32 := Scalar.maxsi v2172 c0_i32_2221
  let v2174 : Index := Scalar.indexCast v2173
  let c0_2223 : Index := 0#32
  let c0_2224 : Index := 0#32
  ![0, v2174.toNat, 0, 0]

def k1_chk109 (v2172 : BitVec 32) : Prop :=
  (∀ a, (k1_off188 v2172) a + S1x1x64x64.size a ≤ S1x128x64x64.size a)
theorem k1_off188_inb : ∀ (v2172 : BitVec 32) (k1_hw109 : k1_chk109 v2172), ∀ a, (k1_off188 v2172) a + S1x1x64x64.size a ≤ S1x128x64x64.size a := fun v2172 k1_hw109 => k1_hw109

def k1_off189 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c2_i32_2228 : BitVec 32 := 2#32
  let v2180 : BitVec 32 := Scalar.addi v2082 c2_i32_2228
  let v2181 : Index := Scalar.indexCast v2180
  let c4_2229 : Index := 4#32
  ![v2181.toNat, 4]
def k1_off190 (v2182 : BitVec 32) : Fin 4 → Nat :=
  let c0_2231 : Index := 0#32
  let c0_i32_2230 : BitVec 32 := 0#32
  let v2183 : BitVec 32 := Scalar.maxsi v2182 c0_i32_2230
  let v2184 : Index := Scalar.indexCast v2183
  let c0_2232 : Index := 0#32
  let c0_2233 : Index := 0#32
  ![0, v2184.toNat, 0, 0]

def k1_chk110 (v2182 : BitVec 32) : Prop :=
  (∀ a, (k1_off190 v2182) a + S1x1x64x64.size a ≤ S1x128x64x64.size a)
theorem k1_off190_inb : ∀ (v2182 : BitVec 32) (k1_hw110 : k1_chk110 v2182), ∀ a, (k1_off190 v2182) a + S1x1x64x64.size a ≤ S1x128x64x64.size a := fun v2182 k1_hw110 => k1_hw110

def k1_off191 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c2_i32_2237 : BitVec 32 := 2#32
  let v2190 : BitVec 32 := Scalar.addi v2082 c2_i32_2237
  let v2191 : Index := Scalar.indexCast v2190
  let c5_2238 : Index := 5#32
  ![v2191.toNat, 5]
def k1_off192 (v2192 : BitVec 32) : Fin 4 → Nat :=
  let c0_2240 : Index := 0#32
  let c0_i32_2239 : BitVec 32 := 0#32
  let v2193 : BitVec 32 := Scalar.maxsi v2192 c0_i32_2239
  let v2194 : Index := Scalar.indexCast v2193
  let c0_2241 : Index := 0#32
  let c0_2242 : Index := 0#32
  ![0, v2194.toNat, 0, 0]

def k1_chk111 (v2192 : BitVec 32) : Prop :=
  (∀ a, (k1_off192 v2192) a + S1x1x64x64.size a ≤ S1x128x64x64.size a)
theorem k1_off192_inb : ∀ (v2192 : BitVec 32) (k1_hw111 : k1_chk111 v2192), ∀ a, (k1_off192 v2192) a + S1x1x64x64.size a ≤ S1x128x64x64.size a := fun v2192 k1_hw111 => k1_hw111

def k1_off193 (k1_t2 : Fin k1_t2_loop.trips) : Fin 4 → Nat :=
  let c0_2247 : Index := 0#32
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c3_i32 : BitVec 32 := 3#32
  let v2200 : BitVec 32 := Scalar.addi v2082 c3_i32
  let c1_i32_2246 : BitVec 32 := 1#32
  let v2201 : BitVec 32 := Scalar.subi v2200 c1_i32_2246
  let v2202 : Index := Scalar.indexCast v2201
  let c0_2248 : Index := 0#32
  let c0_2249 : Index := 0#32
  ![0, v2202.toNat, 0, 0]
def k1_off194 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c3_i32_2253 : BitVec 32 := 3#32
  let v2209 : BitVec 32 := Scalar.addi v2082 c3_i32_2253
  let v2210 : Index := Scalar.indexCast v2209
  let c3_2254 : Index := 3#32
  ![v2210.toNat, 3]
def k1_off195 (v2211 : BitVec 32) : Fin 4 → Nat :=
  let c0_2256 : Index := 0#32
  let c0_i32_2255 : BitVec 32 := 0#32
  let v2212 : BitVec 32 := Scalar.maxsi v2211 c0_i32_2255
  let v2213 : Index := Scalar.indexCast v2212
  let c0_2257 : Index := 0#32
  let c0_2258 : Index := 0#32
  ![0, v2213.toNat, 0, 0]

def k1_chk112 (v2211 : BitVec 32) : Prop :=
  (∀ a, (k1_off195 v2211) a + S1x1x64x64.size a ≤ S1x128x64x64.size a)
theorem k1_off195_inb : ∀ (v2211 : BitVec 32) (k1_hw112 : k1_chk112 v2211), ∀ a, (k1_off195 v2211) a + S1x1x64x64.size a ≤ S1x128x64x64.size a := fun v2211 k1_hw112 => k1_hw112

def k1_off196 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c3_i32_2262 : BitVec 32 := 3#32
  let v2219 : BitVec 32 := Scalar.addi v2082 c3_i32_2262
  let v2220 : Index := Scalar.indexCast v2219
  let c4_2263 : Index := 4#32
  ![v2220.toNat, 4]
def k1_off197 (v2221 : BitVec 32) : Fin 4 → Nat :=
  let c0_2265 : Index := 0#32
  let c0_i32_2264 : BitVec 32 := 0#32
  let v2222 : BitVec 32 := Scalar.maxsi v2221 c0_i32_2264
  let v2223 : Index := Scalar.indexCast v2222
  let c0_2266 : Index := 0#32
  let c0_2267 : Index := 0#32
  ![0, v2223.toNat, 0, 0]

def k1_chk113 (v2221 : BitVec 32) : Prop :=
  (∀ a, (k1_off197 v2221) a + S1x1x64x64.size a ≤ S1x128x64x64.size a)
theorem k1_off197_inb : ∀ (v2221 : BitVec 32) (k1_hw113 : k1_chk113 v2221), ∀ a, (k1_off197 v2221) a + S1x1x64x64.size a ≤ S1x128x64x64.size a := fun v2221 k1_hw113 => k1_hw113

def k1_off198 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c3_i32_2271 : BitVec 32 := 3#32
  let v2229 : BitVec 32 := Scalar.addi v2082 c3_i32_2271
  let v2230 : Index := Scalar.indexCast v2229
  let c5_2272 : Index := 5#32
  ![v2230.toNat, 5]
def k1_off199 (v2231 : BitVec 32) : Fin 4 → Nat :=
  let c0_2274 : Index := 0#32
  let c0_i32_2273 : BitVec 32 := 0#32
  let v2232 : BitVec 32 := Scalar.maxsi v2231 c0_i32_2273
  let v2233 : Index := Scalar.indexCast v2232
  let c0_2275 : Index := 0#32
  let c0_2276 : Index := 0#32
  ![0, v2233.toNat, 0, 0]

def k1_chk114 (v2231 : BitVec 32) : Prop :=
  (∀ a, (k1_off199 v2231) a + S1x1x64x64.size a ≤ S1x128x64x64.size a)
theorem k1_off199_inb : ∀ (v2231 : BitVec 32) (k1_hw114 : k1_chk114 v2231), ∀ a, (k1_off199 v2231) a + S1x1x64x64.size a ≤ S1x128x64x64.size a := fun v2231 k1_hw114 => k1_hw114

def k1_off200 (k1_t2 : Fin k1_t2_loop.trips) : Fin 4 → Nat :=
  let c0_2281 : Index := 0#32
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c4_i32 : BitVec 32 := 4#32
  let v2239 : BitVec 32 := Scalar.addi v2082 c4_i32
  let c1_i32_2280 : BitVec 32 := 1#32
  let v2240 : BitVec 32 := Scalar.subi v2239 c1_i32_2280
  let v2241 : Index := Scalar.indexCast v2240
  let c0_2282 : Index := 0#32
  let c0_2283 : Index := 0#32
  ![0, v2241.toNat, 0, 0]
def k1_off201 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c4_i32_2287 : BitVec 32 := 4#32
  let v2248 : BitVec 32 := Scalar.addi v2082 c4_i32_2287
  let v2249 : Index := Scalar.indexCast v2248
  let c3_2288 : Index := 3#32
  ![v2249.toNat, 3]
def k1_off202 (v2250 : BitVec 32) : Fin 4 → Nat :=
  let c0_2290 : Index := 0#32
  let c0_i32_2289 : BitVec 32 := 0#32
  let v2251 : BitVec 32 := Scalar.maxsi v2250 c0_i32_2289
  let v2252 : Index := Scalar.indexCast v2251
  let c0_2291 : Index := 0#32
  let c0_2292 : Index := 0#32
  ![0, v2252.toNat, 0, 0]

def k1_chk115 (v2250 : BitVec 32) : Prop :=
  (∀ a, (k1_off202 v2250) a + S1x1x64x64.size a ≤ S1x128x64x64.size a)
theorem k1_off202_inb : ∀ (v2250 : BitVec 32) (k1_hw115 : k1_chk115 v2250), ∀ a, (k1_off202 v2250) a + S1x1x64x64.size a ≤ S1x128x64x64.size a := fun v2250 k1_hw115 => k1_hw115

def k1_off203 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c4_i32_2296 : BitVec 32 := 4#32
  let v2258 : BitVec 32 := Scalar.addi v2082 c4_i32_2296
  let v2259 : Index := Scalar.indexCast v2258
  let c4_2297 : Index := 4#32
  ![v2259.toNat, 4]
def k1_off204 (v2260 : BitVec 32) : Fin 4 → Nat :=
  let c0_2299 : Index := 0#32
  let c0_i32_2298 : BitVec 32 := 0#32
  let v2261 : BitVec 32 := Scalar.maxsi v2260 c0_i32_2298
  let v2262 : Index := Scalar.indexCast v2261
  let c0_2300 : Index := 0#32
  let c0_2301 : Index := 0#32
  ![0, v2262.toNat, 0, 0]

def k1_chk116 (v2260 : BitVec 32) : Prop :=
  (∀ a, (k1_off204 v2260) a + S1x1x64x64.size a ≤ S1x128x64x64.size a)
theorem k1_off204_inb : ∀ (v2260 : BitVec 32) (k1_hw116 : k1_chk116 v2260), ∀ a, (k1_off204 v2260) a + S1x1x64x64.size a ≤ S1x128x64x64.size a := fun v2260 k1_hw116 => k1_hw116

def k1_off205 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c4_i32_2305 : BitVec 32 := 4#32
  let v2268 : BitVec 32 := Scalar.addi v2082 c4_i32_2305
  let v2269 : Index := Scalar.indexCast v2268
  let c5_2306 : Index := 5#32
  ![v2269.toNat, 5]
def k1_off206 (v2270 : BitVec 32) : Fin 4 → Nat :=
  let c0_2308 : Index := 0#32
  let c0_i32_2307 : BitVec 32 := 0#32
  let v2271 : BitVec 32 := Scalar.maxsi v2270 c0_i32_2307
  let v2272 : Index := Scalar.indexCast v2271
  let c0_2309 : Index := 0#32
  let c0_2310 : Index := 0#32
  ![0, v2272.toNat, 0, 0]

def k1_chk117 (v2270 : BitVec 32) : Prop :=
  (∀ a, (k1_off206 v2270) a + S1x1x64x64.size a ≤ S1x128x64x64.size a)
theorem k1_off206_inb : ∀ (v2270 : BitVec 32) (k1_hw117 : k1_chk117 v2270), ∀ a, (k1_off206 v2270) a + S1x1x64x64.size a ≤ S1x128x64x64.size a := fun v2270 k1_hw117 => k1_hw117

def k1_off207 (k1_t2 : Fin k1_t2_loop.trips) : Fin 4 → Nat :=
  let c0_2315 : Index := 0#32
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c5_i32 : BitVec 32 := 5#32
  let v2278 : BitVec 32 := Scalar.addi v2082 c5_i32
  let c1_i32_2314 : BitVec 32 := 1#32
  let v2279 : BitVec 32 := Scalar.subi v2278 c1_i32_2314
  let v2280 : Index := Scalar.indexCast v2279
  let c0_2316 : Index := 0#32
  let c0_2317 : Index := 0#32
  ![0, v2280.toNat, 0, 0]
def k1_off208 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c5_i32_2321 : BitVec 32 := 5#32
  let v2287 : BitVec 32 := Scalar.addi v2082 c5_i32_2321
  let v2288 : Index := Scalar.indexCast v2287
  let c3_2322 : Index := 3#32
  ![v2288.toNat, 3]
def k1_off209 (v2289 : BitVec 32) : Fin 4 → Nat :=
  let c0_2324 : Index := 0#32
  let c0_i32_2323 : BitVec 32 := 0#32
  let v2290 : BitVec 32 := Scalar.maxsi v2289 c0_i32_2323
  let v2291 : Index := Scalar.indexCast v2290
  let c0_2325 : Index := 0#32
  let c0_2326 : Index := 0#32
  ![0, v2291.toNat, 0, 0]

def k1_chk118 (v2289 : BitVec 32) : Prop :=
  (∀ a, (k1_off209 v2289) a + S1x1x64x64.size a ≤ S1x128x64x64.size a)
theorem k1_off209_inb : ∀ (v2289 : BitVec 32) (k1_hw118 : k1_chk118 v2289), ∀ a, (k1_off209 v2289) a + S1x1x64x64.size a ≤ S1x128x64x64.size a := fun v2289 k1_hw118 => k1_hw118

def k1_off210 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c5_i32_2330 : BitVec 32 := 5#32
  let v2297 : BitVec 32 := Scalar.addi v2082 c5_i32_2330
  let v2298 : Index := Scalar.indexCast v2297
  let c4_2331 : Index := 4#32
  ![v2298.toNat, 4]
def k1_off211 (v2299 : BitVec 32) : Fin 4 → Nat :=
  let c0_2333 : Index := 0#32
  let c0_i32_2332 : BitVec 32 := 0#32
  let v2300 : BitVec 32 := Scalar.maxsi v2299 c0_i32_2332
  let v2301 : Index := Scalar.indexCast v2300
  let c0_2334 : Index := 0#32
  let c0_2335 : Index := 0#32
  ![0, v2301.toNat, 0, 0]

def k1_chk119 (v2299 : BitVec 32) : Prop :=
  (∀ a, (k1_off211 v2299) a + S1x1x64x64.size a ≤ S1x128x64x64.size a)
theorem k1_off211_inb : ∀ (v2299 : BitVec 32) (k1_hw119 : k1_chk119 v2299), ∀ a, (k1_off211 v2299) a + S1x1x64x64.size a ≤ S1x128x64x64.size a := fun v2299 k1_hw119 => k1_hw119

def k1_off212 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c5_i32_2339 : BitVec 32 := 5#32
  let v2307 : BitVec 32 := Scalar.addi v2082 c5_i32_2339
  let v2308 : Index := Scalar.indexCast v2307
  let c5_2340 : Index := 5#32
  ![v2308.toNat, 5]
def k1_off213 (v2309 : BitVec 32) : Fin 4 → Nat :=
  let c0_2342 : Index := 0#32
  let c0_i32_2341 : BitVec 32 := 0#32
  let v2310 : BitVec 32 := Scalar.maxsi v2309 c0_i32_2341
  let v2311 : Index := Scalar.indexCast v2310
  let c0_2343 : Index := 0#32
  let c0_2344 : Index := 0#32
  ![0, v2311.toNat, 0, 0]

def k1_chk120 (v2309 : BitVec 32) : Prop :=
  (∀ a, (k1_off213 v2309) a + S1x1x64x64.size a ≤ S1x128x64x64.size a)
theorem k1_off213_inb : ∀ (v2309 : BitVec 32) (k1_hw120 : k1_chk120 v2309), ∀ a, (k1_off213 v2309) a + S1x1x64x64.size a ≤ S1x128x64x64.size a := fun v2309 k1_hw120 => k1_hw120

def k1_off214 (k1_t2 : Fin k1_t2_loop.trips) : Fin 4 → Nat :=
  let c0_2349 : Index := 0#32
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c6_i32 : BitVec 32 := 6#32
  let v2317 : BitVec 32 := Scalar.addi v2082 c6_i32
  let c1_i32_2348 : BitVec 32 := 1#32
  let v2318 : BitVec 32 := Scalar.subi v2317 c1_i32_2348
  let v2319 : Index := Scalar.indexCast v2318
  let c0_2350 : Index := 0#32
  let c0_2351 : Index := 0#32
  ![0, v2319.toNat, 0, 0]
def k1_off215 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c6_i32_2355 : BitVec 32 := 6#32
  let v2326 : BitVec 32 := Scalar.addi v2082 c6_i32_2355
  let v2327 : Index := Scalar.indexCast v2326
  let c3_2356 : Index := 3#32
  ![v2327.toNat, 3]
def k1_off216 (v2328 : BitVec 32) : Fin 4 → Nat :=
  let c0_2358 : Index := 0#32
  let c0_i32_2357 : BitVec 32 := 0#32
  let v2329 : BitVec 32 := Scalar.maxsi v2328 c0_i32_2357
  let v2330 : Index := Scalar.indexCast v2329
  let c0_2359 : Index := 0#32
  let c0_2360 : Index := 0#32
  ![0, v2330.toNat, 0, 0]

def k1_chk121 (v2328 : BitVec 32) : Prop :=
  (∀ a, (k1_off216 v2328) a + S1x1x64x64.size a ≤ S1x128x64x64.size a)
theorem k1_off216_inb : ∀ (v2328 : BitVec 32) (k1_hw121 : k1_chk121 v2328), ∀ a, (k1_off216 v2328) a + S1x1x64x64.size a ≤ S1x128x64x64.size a := fun v2328 k1_hw121 => k1_hw121

def k1_off217 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c6_i32_2364 : BitVec 32 := 6#32
  let v2336 : BitVec 32 := Scalar.addi v2082 c6_i32_2364
  let v2337 : Index := Scalar.indexCast v2336
  let c4_2365 : Index := 4#32
  ![v2337.toNat, 4]
def k1_off218 (v2338 : BitVec 32) : Fin 4 → Nat :=
  let c0_2367 : Index := 0#32
  let c0_i32_2366 : BitVec 32 := 0#32
  let v2339 : BitVec 32 := Scalar.maxsi v2338 c0_i32_2366
  let v2340 : Index := Scalar.indexCast v2339
  let c0_2368 : Index := 0#32
  let c0_2369 : Index := 0#32
  ![0, v2340.toNat, 0, 0]

def k1_chk122 (v2338 : BitVec 32) : Prop :=
  (∀ a, (k1_off218 v2338) a + S1x1x64x64.size a ≤ S1x128x64x64.size a)
theorem k1_off218_inb : ∀ (v2338 : BitVec 32) (k1_hw122 : k1_chk122 v2338), ∀ a, (k1_off218 v2338) a + S1x1x64x64.size a ≤ S1x128x64x64.size a := fun v2338 k1_hw122 => k1_hw122

def k1_off219 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c6_i32_2373 : BitVec 32 := 6#32
  let v2346 : BitVec 32 := Scalar.addi v2082 c6_i32_2373
  let v2347 : Index := Scalar.indexCast v2346
  let c5_2374 : Index := 5#32
  ![v2347.toNat, 5]
def k1_off220 (v2348 : BitVec 32) : Fin 4 → Nat :=
  let c0_2376 : Index := 0#32
  let c0_i32_2375 : BitVec 32 := 0#32
  let v2349 : BitVec 32 := Scalar.maxsi v2348 c0_i32_2375
  let v2350 : Index := Scalar.indexCast v2349
  let c0_2377 : Index := 0#32
  let c0_2378 : Index := 0#32
  ![0, v2350.toNat, 0, 0]

def k1_chk123 (v2348 : BitVec 32) : Prop :=
  (∀ a, (k1_off220 v2348) a + S1x1x64x64.size a ≤ S1x128x64x64.size a)
theorem k1_off220_inb : ∀ (v2348 : BitVec 32) (k1_hw123 : k1_chk123 v2348), ∀ a, (k1_off220 v2348) a + S1x1x64x64.size a ≤ S1x128x64x64.size a := fun v2348 k1_hw123 => k1_hw123

def k1_off221 (k1_t2 : Fin k1_t2_loop.trips) : Fin 4 → Nat :=
  let c0_2384 : Index := 0#32
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c7_i32_2382 : BitVec 32 := 7#32
  let v2356 : BitVec 32 := Scalar.addi v2082 c7_i32_2382
  let c1_i32_2383 : BitVec 32 := 1#32
  let v2357 : BitVec 32 := Scalar.subi v2356 c1_i32_2383
  let v2358 : Index := Scalar.indexCast v2357
  let c0_2385 : Index := 0#32
  let c0_2386 : Index := 0#32
  ![0, v2358.toNat, 0, 0]
def k1_off222 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c7_i32_2390 : BitVec 32 := 7#32
  let v2365 : BitVec 32 := Scalar.addi v2082 c7_i32_2390
  let v2366 : Index := Scalar.indexCast v2365
  let c3_2391 : Index := 3#32
  ![v2366.toNat, 3]
def k1_off223 (v2367 : BitVec 32) : Fin 4 → Nat :=
  let c0_2393 : Index := 0#32
  let c0_i32_2392 : BitVec 32 := 0#32
  let v2368 : BitVec 32 := Scalar.maxsi v2367 c0_i32_2392
  let v2369 : Index := Scalar.indexCast v2368
  let c0_2394 : Index := 0#32
  let c0_2395 : Index := 0#32
  ![0, v2369.toNat, 0, 0]

def k1_chk124 (v2367 : BitVec 32) : Prop :=
  (∀ a, (k1_off223 v2367) a + S1x1x64x64.size a ≤ S1x128x64x64.size a)
theorem k1_off223_inb : ∀ (v2367 : BitVec 32) (k1_hw124 : k1_chk124 v2367), ∀ a, (k1_off223 v2367) a + S1x1x64x64.size a ≤ S1x128x64x64.size a := fun v2367 k1_hw124 => k1_hw124

def k1_off224 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c7_i32_2399 : BitVec 32 := 7#32
  let v2375 : BitVec 32 := Scalar.addi v2082 c7_i32_2399
  let v2376 : Index := Scalar.indexCast v2375
  let c4_2400 : Index := 4#32
  ![v2376.toNat, 4]
def k1_off225 (v2377 : BitVec 32) : Fin 4 → Nat :=
  let c0_2402 : Index := 0#32
  let c0_i32_2401 : BitVec 32 := 0#32
  let v2378 : BitVec 32 := Scalar.maxsi v2377 c0_i32_2401
  let v2379 : Index := Scalar.indexCast v2378
  let c0_2403 : Index := 0#32
  let c0_2404 : Index := 0#32
  ![0, v2379.toNat, 0, 0]

def k1_chk125 (v2377 : BitVec 32) : Prop :=
  (∀ a, (k1_off225 v2377) a + S1x1x64x64.size a ≤ S1x128x64x64.size a)
theorem k1_off225_inb : ∀ (v2377 : BitVec 32) (k1_hw125 : k1_chk125 v2377), ∀ a, (k1_off225 v2377) a + S1x1x64x64.size a ≤ S1x128x64x64.size a := fun v2377 k1_hw125 => k1_hw125

def k1_off226 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c7_i32_2408 : BitVec 32 := 7#32
  let v2385 : BitVec 32 := Scalar.addi v2082 c7_i32_2408
  let v2386 : Index := Scalar.indexCast v2385
  let c5_2409 : Index := 5#32
  ![v2386.toNat, 5]
def k1_off227 (v2387 : BitVec 32) : Fin 4 → Nat :=
  let c0_2411 : Index := 0#32
  let c0_i32_2410 : BitVec 32 := 0#32
  let v2388 : BitVec 32 := Scalar.maxsi v2387 c0_i32_2410
  let v2389 : Index := Scalar.indexCast v2388
  let c0_2412 : Index := 0#32
  let c0_2413 : Index := 0#32
  ![0, v2389.toNat, 0, 0]

def k1_chk126 (v2387 : BitVec 32) : Prop :=
  (∀ a, (k1_off227 v2387) a + S1x1x64x64.size a ≤ S1x128x64x64.size a)
theorem k1_off227_inb : ∀ (v2387 : BitVec 32) (k1_hw126 : k1_chk126 v2387), ∀ a, (k1_off227 v2387) a + S1x1x64x64.size a ≤ S1x128x64x64.size a := fun v2387 k1_hw126 => k1_hw126

def k1_off228 (k1_t2 : Fin k1_t2_loop.trips) : Fin 4 → Nat :=
  let c0_2418 : Index := 0#32
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c8_i32 : BitVec 32 := 8#32
  let v2395 : BitVec 32 := Scalar.addi v2082 c8_i32
  let c1_i32_2417 : BitVec 32 := 1#32
  let v2396 : BitVec 32 := Scalar.subi v2395 c1_i32_2417
  let v2397 : Index := Scalar.indexCast v2396
  let c0_2419 : Index := 0#32
  let c0_2420 : Index := 0#32
  ![0, v2397.toNat, 0, 0]
def k1_off229 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c8_i32_2424 : BitVec 32 := 8#32
  let v2404 : BitVec 32 := Scalar.addi v2082 c8_i32_2424
  let v2405 : Index := Scalar.indexCast v2404
  let c3_2425 : Index := 3#32
  ![v2405.toNat, 3]
def k1_off230 (v2406 : BitVec 32) : Fin 4 → Nat :=
  let c0_2427 : Index := 0#32
  let c0_i32_2426 : BitVec 32 := 0#32
  let v2407 : BitVec 32 := Scalar.maxsi v2406 c0_i32_2426
  let v2408 : Index := Scalar.indexCast v2407
  let c0_2428 : Index := 0#32
  let c0_2429 : Index := 0#32
  ![0, v2408.toNat, 0, 0]

def k1_chk127 (v2406 : BitVec 32) : Prop :=
  (∀ a, (k1_off230 v2406) a + S1x1x64x64.size a ≤ S1x128x64x64.size a)
theorem k1_off230_inb : ∀ (v2406 : BitVec 32) (k1_hw127 : k1_chk127 v2406), ∀ a, (k1_off230 v2406) a + S1x1x64x64.size a ≤ S1x128x64x64.size a := fun v2406 k1_hw127 => k1_hw127

def k1_off231 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c8_i32_2433 : BitVec 32 := 8#32
  let v2414 : BitVec 32 := Scalar.addi v2082 c8_i32_2433
  let v2415 : Index := Scalar.indexCast v2414
  let c4_2434 : Index := 4#32
  ![v2415.toNat, 4]
def k1_off232 (v2416 : BitVec 32) : Fin 4 → Nat :=
  let c0_2436 : Index := 0#32
  let c0_i32_2435 : BitVec 32 := 0#32
  let v2417 : BitVec 32 := Scalar.maxsi v2416 c0_i32_2435
  let v2418 : Index := Scalar.indexCast v2417
  let c0_2437 : Index := 0#32
  let c0_2438 : Index := 0#32
  ![0, v2418.toNat, 0, 0]

def k1_chk128 (v2416 : BitVec 32) : Prop :=
  (∀ a, (k1_off232 v2416) a + S1x1x64x64.size a ≤ S1x128x64x64.size a)
theorem k1_off232_inb : ∀ (v2416 : BitVec 32) (k1_hw128 : k1_chk128 v2416), ∀ a, (k1_off232 v2416) a + S1x1x64x64.size a ≤ S1x128x64x64.size a := fun v2416 k1_hw128 => k1_hw128

def k1_off233 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c8_i32_2442 : BitVec 32 := 8#32
  let v2424 : BitVec 32 := Scalar.addi v2082 c8_i32_2442
  let v2425 : Index := Scalar.indexCast v2424
  let c5_2443 : Index := 5#32
  ![v2425.toNat, 5]
def k1_off234 (v2426 : BitVec 32) : Fin 4 → Nat :=
  let c0_2445 : Index := 0#32
  let c0_i32_2444 : BitVec 32 := 0#32
  let v2427 : BitVec 32 := Scalar.maxsi v2426 c0_i32_2444
  let v2428 : Index := Scalar.indexCast v2427
  let c0_2446 : Index := 0#32
  let c0_2447 : Index := 0#32
  ![0, v2428.toNat, 0, 0]

def k1_chk129 (v2426 : BitVec 32) : Prop :=
  (∀ a, (k1_off234 v2426) a + S1x1x64x64.size a ≤ S1x128x64x64.size a)
theorem k1_off234_inb : ∀ (v2426 : BitVec 32) (k1_hw129 : k1_chk129 v2426), ∀ a, (k1_off234 v2426) a + S1x1x64x64.size a ≤ S1x128x64x64.size a := fun v2426 k1_hw129 => k1_hw129

def k1_off235 (k1_t2 : Fin k1_t2_loop.trips) : Fin 4 → Nat :=
  let c0_2452 : Index := 0#32
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c9_i32 : BitVec 32 := 9#32
  let v2434 : BitVec 32 := Scalar.addi v2082 c9_i32
  let c1_i32_2451 : BitVec 32 := 1#32
  let v2435 : BitVec 32 := Scalar.subi v2434 c1_i32_2451
  let v2436 : Index := Scalar.indexCast v2435
  let c0_2453 : Index := 0#32
  let c0_2454 : Index := 0#32
  ![0, v2436.toNat, 0, 0]
def k1_off236 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c9_i32_2458 : BitVec 32 := 9#32
  let v2443 : BitVec 32 := Scalar.addi v2082 c9_i32_2458
  let v2444 : Index := Scalar.indexCast v2443
  let c3_2459 : Index := 3#32
  ![v2444.toNat, 3]
def k1_off237 (v2445 : BitVec 32) : Fin 4 → Nat :=
  let c0_2461 : Index := 0#32
  let c0_i32_2460 : BitVec 32 := 0#32
  let v2446 : BitVec 32 := Scalar.maxsi v2445 c0_i32_2460
  let v2447 : Index := Scalar.indexCast v2446
  let c0_2462 : Index := 0#32
  let c0_2463 : Index := 0#32
  ![0, v2447.toNat, 0, 0]

def k1_chk130 (v2445 : BitVec 32) : Prop :=
  (∀ a, (k1_off237 v2445) a + S1x1x64x64.size a ≤ S1x128x64x64.size a)
theorem k1_off237_inb : ∀ (v2445 : BitVec 32) (k1_hw130 : k1_chk130 v2445), ∀ a, (k1_off237 v2445) a + S1x1x64x64.size a ≤ S1x128x64x64.size a := fun v2445 k1_hw130 => k1_hw130

def k1_off238 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c9_i32_2467 : BitVec 32 := 9#32
  let v2453 : BitVec 32 := Scalar.addi v2082 c9_i32_2467
  let v2454 : Index := Scalar.indexCast v2453
  let c4_2468 : Index := 4#32
  ![v2454.toNat, 4]
def k1_off239 (v2455 : BitVec 32) : Fin 4 → Nat :=
  let c0_2470 : Index := 0#32
  let c0_i32_2469 : BitVec 32 := 0#32
  let v2456 : BitVec 32 := Scalar.maxsi v2455 c0_i32_2469
  let v2457 : Index := Scalar.indexCast v2456
  let c0_2471 : Index := 0#32
  let c0_2472 : Index := 0#32
  ![0, v2457.toNat, 0, 0]

def k1_chk131 (v2455 : BitVec 32) : Prop :=
  (∀ a, (k1_off239 v2455) a + S1x1x64x64.size a ≤ S1x128x64x64.size a)
theorem k1_off239_inb : ∀ (v2455 : BitVec 32) (k1_hw131 : k1_chk131 v2455), ∀ a, (k1_off239 v2455) a + S1x1x64x64.size a ≤ S1x128x64x64.size a := fun v2455 k1_hw131 => k1_hw131

def k1_off240 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c9_i32_2476 : BitVec 32 := 9#32
  let v2463 : BitVec 32 := Scalar.addi v2082 c9_i32_2476
  let v2464 : Index := Scalar.indexCast v2463
  let c5_2477 : Index := 5#32
  ![v2464.toNat, 5]
def k1_off241 (v2465 : BitVec 32) : Fin 4 → Nat :=
  let c0_2479 : Index := 0#32
  let c0_i32_2478 : BitVec 32 := 0#32
  let v2466 : BitVec 32 := Scalar.maxsi v2465 c0_i32_2478
  let v2467 : Index := Scalar.indexCast v2466
  let c0_2480 : Index := 0#32
  let c0_2481 : Index := 0#32
  ![0, v2467.toNat, 0, 0]

def k1_chk132 (v2465 : BitVec 32) : Prop :=
  (∀ a, (k1_off241 v2465) a + S1x1x64x64.size a ≤ S1x128x64x64.size a)
theorem k1_off241_inb : ∀ (v2465 : BitVec 32) (k1_hw132 : k1_chk132 v2465), ∀ a, (k1_off241 v2465) a + S1x1x64x64.size a ≤ S1x128x64x64.size a := fun v2465 k1_hw132 => k1_hw132

def k1_off242 (k1_t2 : Fin k1_t2_loop.trips) : Fin 4 → Nat :=
  let c0_2486 : Index := 0#32
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c10_i32 : BitVec 32 := 10#32
  let v2473 : BitVec 32 := Scalar.addi v2082 c10_i32
  let c1_i32_2485 : BitVec 32 := 1#32
  let v2474 : BitVec 32 := Scalar.subi v2473 c1_i32_2485
  let v2475 : Index := Scalar.indexCast v2474
  let c0_2487 : Index := 0#32
  let c0_2488 : Index := 0#32
  ![0, v2475.toNat, 0, 0]
def k1_off243 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c10_i32_2492 : BitVec 32 := 10#32
  let v2482 : BitVec 32 := Scalar.addi v2082 c10_i32_2492
  let v2483 : Index := Scalar.indexCast v2482
  let c3_2493 : Index := 3#32
  ![v2483.toNat, 3]
def k1_off244 (v2484 : BitVec 32) : Fin 4 → Nat :=
  let c0_2495 : Index := 0#32
  let c0_i32_2494 : BitVec 32 := 0#32
  let v2485 : BitVec 32 := Scalar.maxsi v2484 c0_i32_2494
  let v2486 : Index := Scalar.indexCast v2485
  let c0_2496 : Index := 0#32
  let c0_2497 : Index := 0#32
  ![0, v2486.toNat, 0, 0]

def k1_chk133 (v2484 : BitVec 32) : Prop :=
  (∀ a, (k1_off244 v2484) a + S1x1x64x64.size a ≤ S1x128x64x64.size a)
theorem k1_off244_inb : ∀ (v2484 : BitVec 32) (k1_hw133 : k1_chk133 v2484), ∀ a, (k1_off244 v2484) a + S1x1x64x64.size a ≤ S1x128x64x64.size a := fun v2484 k1_hw133 => k1_hw133

def k1_off245 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c10_i32_2501 : BitVec 32 := 10#32
  let v2492 : BitVec 32 := Scalar.addi v2082 c10_i32_2501
  let v2493 : Index := Scalar.indexCast v2492
  let c4_2502 : Index := 4#32
  ![v2493.toNat, 4]
def k1_off246 (v2494 : BitVec 32) : Fin 4 → Nat :=
  let c0_2504 : Index := 0#32
  let c0_i32_2503 : BitVec 32 := 0#32
  let v2495 : BitVec 32 := Scalar.maxsi v2494 c0_i32_2503
  let v2496 : Index := Scalar.indexCast v2495
  let c0_2505 : Index := 0#32
  let c0_2506 : Index := 0#32
  ![0, v2496.toNat, 0, 0]

def k1_chk134 (v2494 : BitVec 32) : Prop :=
  (∀ a, (k1_off246 v2494) a + S1x1x64x64.size a ≤ S1x128x64x64.size a)
theorem k1_off246_inb : ∀ (v2494 : BitVec 32) (k1_hw134 : k1_chk134 v2494), ∀ a, (k1_off246 v2494) a + S1x1x64x64.size a ≤ S1x128x64x64.size a := fun v2494 k1_hw134 => k1_hw134

def k1_off247 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c10_i32_2510 : BitVec 32 := 10#32
  let v2502 : BitVec 32 := Scalar.addi v2082 c10_i32_2510
  let v2503 : Index := Scalar.indexCast v2502
  let c5_2511 : Index := 5#32
  ![v2503.toNat, 5]
def k1_off248 (v2504 : BitVec 32) : Fin 4 → Nat :=
  let c0_2513 : Index := 0#32
  let c0_i32_2512 : BitVec 32 := 0#32
  let v2505 : BitVec 32 := Scalar.maxsi v2504 c0_i32_2512
  let v2506 : Index := Scalar.indexCast v2505
  let c0_2514 : Index := 0#32
  let c0_2515 : Index := 0#32
  ![0, v2506.toNat, 0, 0]

def k1_chk135 (v2504 : BitVec 32) : Prop :=
  (∀ a, (k1_off248 v2504) a + S1x1x64x64.size a ≤ S1x128x64x64.size a)
theorem k1_off248_inb : ∀ (v2504 : BitVec 32) (k1_hw135 : k1_chk135 v2504), ∀ a, (k1_off248 v2504) a + S1x1x64x64.size a ≤ S1x128x64x64.size a := fun v2504 k1_hw135 => k1_hw135

def k1_off249 (k1_t2 : Fin k1_t2_loop.trips) : Fin 4 → Nat :=
  let c0_2520 : Index := 0#32
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c11_i32 : BitVec 32 := 11#32
  let v2512 : BitVec 32 := Scalar.addi v2082 c11_i32
  let c1_i32_2519 : BitVec 32 := 1#32
  let v2513 : BitVec 32 := Scalar.subi v2512 c1_i32_2519
  let v2514 : Index := Scalar.indexCast v2513
  let c0_2521 : Index := 0#32
  let c0_2522 : Index := 0#32
  ![0, v2514.toNat, 0, 0]
def k1_off250 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c11_i32_2526 : BitVec 32 := 11#32
  let v2521 : BitVec 32 := Scalar.addi v2082 c11_i32_2526
  let v2522 : Index := Scalar.indexCast v2521
  let c3_2527 : Index := 3#32
  ![v2522.toNat, 3]
def k1_off251 (v2523 : BitVec 32) : Fin 4 → Nat :=
  let c0_2529 : Index := 0#32
  let c0_i32_2528 : BitVec 32 := 0#32
  let v2524 : BitVec 32 := Scalar.maxsi v2523 c0_i32_2528
  let v2525 : Index := Scalar.indexCast v2524
  let c0_2530 : Index := 0#32
  let c0_2531 : Index := 0#32
  ![0, v2525.toNat, 0, 0]

def k1_chk136 (v2523 : BitVec 32) : Prop :=
  (∀ a, (k1_off251 v2523) a + S1x1x64x64.size a ≤ S1x128x64x64.size a)
theorem k1_off251_inb : ∀ (v2523 : BitVec 32) (k1_hw136 : k1_chk136 v2523), ∀ a, (k1_off251 v2523) a + S1x1x64x64.size a ≤ S1x128x64x64.size a := fun v2523 k1_hw136 => k1_hw136

def k1_off252 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c11_i32_2535 : BitVec 32 := 11#32
  let v2531 : BitVec 32 := Scalar.addi v2082 c11_i32_2535
  let v2532 : Index := Scalar.indexCast v2531
  let c4_2536 : Index := 4#32
  ![v2532.toNat, 4]
def k1_off253 (v2533 : BitVec 32) : Fin 4 → Nat :=
  let c0_2538 : Index := 0#32
  let c0_i32_2537 : BitVec 32 := 0#32
  let v2534 : BitVec 32 := Scalar.maxsi v2533 c0_i32_2537
  let v2535 : Index := Scalar.indexCast v2534
  let c0_2539 : Index := 0#32
  let c0_2540 : Index := 0#32
  ![0, v2535.toNat, 0, 0]

def k1_chk137 (v2533 : BitVec 32) : Prop :=
  (∀ a, (k1_off253 v2533) a + S1x1x64x64.size a ≤ S1x128x64x64.size a)
theorem k1_off253_inb : ∀ (v2533 : BitVec 32) (k1_hw137 : k1_chk137 v2533), ∀ a, (k1_off253 v2533) a + S1x1x64x64.size a ≤ S1x128x64x64.size a := fun v2533 k1_hw137 => k1_hw137

def k1_off254 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c11_i32_2544 : BitVec 32 := 11#32
  let v2541 : BitVec 32 := Scalar.addi v2082 c11_i32_2544
  let v2542 : Index := Scalar.indexCast v2541
  let c5_2545 : Index := 5#32
  ![v2542.toNat, 5]
def k1_off255 (v2543 : BitVec 32) : Fin 4 → Nat :=
  let c0_2547 : Index := 0#32
  let c0_i32_2546 : BitVec 32 := 0#32
  let v2544 : BitVec 32 := Scalar.maxsi v2543 c0_i32_2546
  let v2545 : Index := Scalar.indexCast v2544
  let c0_2548 : Index := 0#32
  let c0_2549 : Index := 0#32
  ![0, v2545.toNat, 0, 0]

def k1_chk138 (v2543 : BitVec 32) : Prop :=
  (∀ a, (k1_off255 v2543) a + S1x1x64x64.size a ≤ S1x128x64x64.size a)
theorem k1_off255_inb : ∀ (v2543 : BitVec 32) (k1_hw138 : k1_chk138 v2543), ∀ a, (k1_off255 v2543) a + S1x1x64x64.size a ≤ S1x128x64x64.size a := fun v2543 k1_hw138 => k1_hw138

def k1_off256 (k1_t2 : Fin k1_t2_loop.trips) : Fin 4 → Nat :=
  let c0_2554 : Index := 0#32
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c12_i32 : BitVec 32 := 12#32
  let v2551 : BitVec 32 := Scalar.addi v2082 c12_i32
  let c1_i32_2553 : BitVec 32 := 1#32
  let v2552 : BitVec 32 := Scalar.subi v2551 c1_i32_2553
  let v2553 : Index := Scalar.indexCast v2552
  let c0_2555 : Index := 0#32
  let c0_2556 : Index := 0#32
  ![0, v2553.toNat, 0, 0]
def k1_off257 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c12_i32_2560 : BitVec 32 := 12#32
  let v2560 : BitVec 32 := Scalar.addi v2082 c12_i32_2560
  let v2561 : Index := Scalar.indexCast v2560
  let c3_2561 : Index := 3#32
  ![v2561.toNat, 3]
def k1_off258 (v2562 : BitVec 32) : Fin 4 → Nat :=
  let c0_2563 : Index := 0#32
  let c0_i32_2562 : BitVec 32 := 0#32
  let v2563 : BitVec 32 := Scalar.maxsi v2562 c0_i32_2562
  let v2564 : Index := Scalar.indexCast v2563
  let c0_2564 : Index := 0#32
  let c0_2565 : Index := 0#32
  ![0, v2564.toNat, 0, 0]

def k1_chk139 (v2562 : BitVec 32) : Prop :=
  (∀ a, (k1_off258 v2562) a + S1x1x64x64.size a ≤ S1x128x64x64.size a)
theorem k1_off258_inb : ∀ (v2562 : BitVec 32) (k1_hw139 : k1_chk139 v2562), ∀ a, (k1_off258 v2562) a + S1x1x64x64.size a ≤ S1x128x64x64.size a := fun v2562 k1_hw139 => k1_hw139

def k1_off259 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c12_i32_2569 : BitVec 32 := 12#32
  let v2570 : BitVec 32 := Scalar.addi v2082 c12_i32_2569
  let v2571 : Index := Scalar.indexCast v2570
  let c4_2570 : Index := 4#32
  ![v2571.toNat, 4]
def k1_off260 (v2572 : BitVec 32) : Fin 4 → Nat :=
  let c0_2572 : Index := 0#32
  let c0_i32_2571 : BitVec 32 := 0#32
  let v2573 : BitVec 32 := Scalar.maxsi v2572 c0_i32_2571
  let v2574 : Index := Scalar.indexCast v2573
  let c0_2573 : Index := 0#32
  let c0_2574 : Index := 0#32
  ![0, v2574.toNat, 0, 0]

def k1_chk140 (v2572 : BitVec 32) : Prop :=
  (∀ a, (k1_off260 v2572) a + S1x1x64x64.size a ≤ S1x128x64x64.size a)
theorem k1_off260_inb : ∀ (v2572 : BitVec 32) (k1_hw140 : k1_chk140 v2572), ∀ a, (k1_off260 v2572) a + S1x1x64x64.size a ≤ S1x128x64x64.size a := fun v2572 k1_hw140 => k1_hw140

def k1_off261 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c12_i32_2578 : BitVec 32 := 12#32
  let v2580 : BitVec 32 := Scalar.addi v2082 c12_i32_2578
  let v2581 : Index := Scalar.indexCast v2580
  let c5_2579 : Index := 5#32
  ![v2581.toNat, 5]
def k1_off262 (v2582 : BitVec 32) : Fin 4 → Nat :=
  let c0_2581 : Index := 0#32
  let c0_i32_2580 : BitVec 32 := 0#32
  let v2583 : BitVec 32 := Scalar.maxsi v2582 c0_i32_2580
  let v2584 : Index := Scalar.indexCast v2583
  let c0_2582 : Index := 0#32
  let c0_2583 : Index := 0#32
  ![0, v2584.toNat, 0, 0]

def k1_chk141 (v2582 : BitVec 32) : Prop :=
  (∀ a, (k1_off262 v2582) a + S1x1x64x64.size a ≤ S1x128x64x64.size a)
theorem k1_off262_inb : ∀ (v2582 : BitVec 32) (k1_hw141 : k1_chk141 v2582), ∀ a, (k1_off262 v2582) a + S1x1x64x64.size a ≤ S1x128x64x64.size a := fun v2582 k1_hw141 => k1_hw141

def k1_off263 (k1_t2 : Fin k1_t2_loop.trips) : Fin 4 → Nat :=
  let c0_2588 : Index := 0#32
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c13_i32 : BitVec 32 := 13#32
  let v2590 : BitVec 32 := Scalar.addi v2082 c13_i32
  let c1_i32_2587 : BitVec 32 := 1#32
  let v2591 : BitVec 32 := Scalar.subi v2590 c1_i32_2587
  let v2592 : Index := Scalar.indexCast v2591
  let c0_2589 : Index := 0#32
  let c0_2590 : Index := 0#32
  ![0, v2592.toNat, 0, 0]
def k1_off264 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c13_i32_2594 : BitVec 32 := 13#32
  let v2599 : BitVec 32 := Scalar.addi v2082 c13_i32_2594
  let v2600 : Index := Scalar.indexCast v2599
  let c3_2595 : Index := 3#32
  ![v2600.toNat, 3]
def k1_off265 (v2601 : BitVec 32) : Fin 4 → Nat :=
  let c0_2597 : Index := 0#32
  let c0_i32_2596 : BitVec 32 := 0#32
  let v2602 : BitVec 32 := Scalar.maxsi v2601 c0_i32_2596
  let v2603 : Index := Scalar.indexCast v2602
  let c0_2598 : Index := 0#32
  let c0_2599 : Index := 0#32
  ![0, v2603.toNat, 0, 0]

def k1_chk142 (v2601 : BitVec 32) : Prop :=
  (∀ a, (k1_off265 v2601) a + S1x1x64x64.size a ≤ S1x128x64x64.size a)
theorem k1_off265_inb : ∀ (v2601 : BitVec 32) (k1_hw142 : k1_chk142 v2601), ∀ a, (k1_off265 v2601) a + S1x1x64x64.size a ≤ S1x128x64x64.size a := fun v2601 k1_hw142 => k1_hw142

def k1_off266 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c13_i32_2603 : BitVec 32 := 13#32
  let v2609 : BitVec 32 := Scalar.addi v2082 c13_i32_2603
  let v2610 : Index := Scalar.indexCast v2609
  let c4_2604 : Index := 4#32
  ![v2610.toNat, 4]
def k1_off267 (v2611 : BitVec 32) : Fin 4 → Nat :=
  let c0_2606 : Index := 0#32
  let c0_i32_2605 : BitVec 32 := 0#32
  let v2612 : BitVec 32 := Scalar.maxsi v2611 c0_i32_2605
  let v2613 : Index := Scalar.indexCast v2612
  let c0_2607 : Index := 0#32
  let c0_2608 : Index := 0#32
  ![0, v2613.toNat, 0, 0]

def k1_chk143 (v2611 : BitVec 32) : Prop :=
  (∀ a, (k1_off267 v2611) a + S1x1x64x64.size a ≤ S1x128x64x64.size a)
theorem k1_off267_inb : ∀ (v2611 : BitVec 32) (k1_hw143 : k1_chk143 v2611), ∀ a, (k1_off267 v2611) a + S1x1x64x64.size a ≤ S1x128x64x64.size a := fun v2611 k1_hw143 => k1_hw143

def k1_off268 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c13_i32_2612 : BitVec 32 := 13#32
  let v2619 : BitVec 32 := Scalar.addi v2082 c13_i32_2612
  let v2620 : Index := Scalar.indexCast v2619
  let c5_2613 : Index := 5#32
  ![v2620.toNat, 5]
def k1_off269 (v2621 : BitVec 32) : Fin 4 → Nat :=
  let c0_2615 : Index := 0#32
  let c0_i32_2614 : BitVec 32 := 0#32
  let v2622 : BitVec 32 := Scalar.maxsi v2621 c0_i32_2614
  let v2623 : Index := Scalar.indexCast v2622
  let c0_2616 : Index := 0#32
  let c0_2617 : Index := 0#32
  ![0, v2623.toNat, 0, 0]

def k1_chk144 (v2621 : BitVec 32) : Prop :=
  (∀ a, (k1_off269 v2621) a + S1x1x64x64.size a ≤ S1x128x64x64.size a)
theorem k1_off269_inb : ∀ (v2621 : BitVec 32) (k1_hw144 : k1_chk144 v2621), ∀ a, (k1_off269 v2621) a + S1x1x64x64.size a ≤ S1x128x64x64.size a := fun v2621 k1_hw144 => k1_hw144

def k1_off270 (k1_t2 : Fin k1_t2_loop.trips) : Fin 4 → Nat :=
  let c0_2622 : Index := 0#32
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c14_i32 : BitVec 32 := 14#32
  let v2629 : BitVec 32 := Scalar.addi v2082 c14_i32
  let c1_i32_2621 : BitVec 32 := 1#32
  let v2630 : BitVec 32 := Scalar.subi v2629 c1_i32_2621
  let v2631 : Index := Scalar.indexCast v2630
  let c0_2623 : Index := 0#32
  let c0_2624 : Index := 0#32
  ![0, v2631.toNat, 0, 0]
def k1_off271 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c14_i32_2628 : BitVec 32 := 14#32
  let v2638 : BitVec 32 := Scalar.addi v2082 c14_i32_2628
  let v2639 : Index := Scalar.indexCast v2638
  let c3_2629 : Index := 3#32
  ![v2639.toNat, 3]
def k1_off272 (v2640 : BitVec 32) : Fin 4 → Nat :=
  let c0_2631 : Index := 0#32
  let c0_i32_2630 : BitVec 32 := 0#32
  let v2641 : BitVec 32 := Scalar.maxsi v2640 c0_i32_2630
  let v2642 : Index := Scalar.indexCast v2641
  let c0_2632 : Index := 0#32
  let c0_2633 : Index := 0#32
  ![0, v2642.toNat, 0, 0]

def k1_chk145 (v2640 : BitVec 32) : Prop :=
  (∀ a, (k1_off272 v2640) a + S1x1x64x64.size a ≤ S1x128x64x64.size a)
theorem k1_off272_inb : ∀ (v2640 : BitVec 32) (k1_hw145 : k1_chk145 v2640), ∀ a, (k1_off272 v2640) a + S1x1x64x64.size a ≤ S1x128x64x64.size a := fun v2640 k1_hw145 => k1_hw145

def k1_off273 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c14_i32_2637 : BitVec 32 := 14#32
  let v2648 : BitVec 32 := Scalar.addi v2082 c14_i32_2637
  let v2649 : Index := Scalar.indexCast v2648
  let c4_2638 : Index := 4#32
  ![v2649.toNat, 4]
def k1_off274 (v2650 : BitVec 32) : Fin 4 → Nat :=
  let c0_2640 : Index := 0#32
  let c0_i32_2639 : BitVec 32 := 0#32
  let v2651 : BitVec 32 := Scalar.maxsi v2650 c0_i32_2639
  let v2652 : Index := Scalar.indexCast v2651
  let c0_2641 : Index := 0#32
  let c0_2642 : Index := 0#32
  ![0, v2652.toNat, 0, 0]

def k1_chk146 (v2650 : BitVec 32) : Prop :=
  (∀ a, (k1_off274 v2650) a + S1x1x64x64.size a ≤ S1x128x64x64.size a)
theorem k1_off274_inb : ∀ (v2650 : BitVec 32) (k1_hw146 : k1_chk146 v2650), ∀ a, (k1_off274 v2650) a + S1x1x64x64.size a ≤ S1x128x64x64.size a := fun v2650 k1_hw146 => k1_hw146

def k1_off275 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c14_i32_2646 : BitVec 32 := 14#32
  let v2658 : BitVec 32 := Scalar.addi v2082 c14_i32_2646
  let v2659 : Index := Scalar.indexCast v2658
  let c5_2647 : Index := 5#32
  ![v2659.toNat, 5]
def k1_off276 (v2660 : BitVec 32) : Fin 4 → Nat :=
  let c0_2649 : Index := 0#32
  let c0_i32_2648 : BitVec 32 := 0#32
  let v2661 : BitVec 32 := Scalar.maxsi v2660 c0_i32_2648
  let v2662 : Index := Scalar.indexCast v2661
  let c0_2650 : Index := 0#32
  let c0_2651 : Index := 0#32
  ![0, v2662.toNat, 0, 0]

def k1_chk147 (v2660 : BitVec 32) : Prop :=
  (∀ a, (k1_off276 v2660) a + S1x1x64x64.size a ≤ S1x128x64x64.size a)
theorem k1_off276_inb : ∀ (v2660 : BitVec 32) (k1_hw147 : k1_chk147 v2660), ∀ a, (k1_off276 v2660) a + S1x1x64x64.size a ≤ S1x128x64x64.size a := fun v2660 k1_hw147 => k1_hw147

def k1_off277 (k1_t2 : Fin k1_t2_loop.trips) : Fin 4 → Nat :=
  let c0_2656 : Index := 0#32
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c15_i32 : BitVec 32 := 15#32
  let v2668 : BitVec 32 := Scalar.addi v2082 c15_i32
  let c1_i32_2655 : BitVec 32 := 1#32
  let v2669 : BitVec 32 := Scalar.subi v2668 c1_i32_2655
  let v2670 : Index := Scalar.indexCast v2669
  let c0_2657 : Index := 0#32
  let c0_2658 : Index := 0#32
  ![0, v2670.toNat, 0, 0]
def k1_off278 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c15_i32_2662 : BitVec 32 := 15#32
  let v2677 : BitVec 32 := Scalar.addi v2082 c15_i32_2662
  let v2678 : Index := Scalar.indexCast v2677
  let c3_2663 : Index := 3#32
  ![v2678.toNat, 3]
def k1_off279 (v2679 : BitVec 32) : Fin 4 → Nat :=
  let c0_2665 : Index := 0#32
  let c0_i32_2664 : BitVec 32 := 0#32
  let v2680 : BitVec 32 := Scalar.maxsi v2679 c0_i32_2664
  let v2681 : Index := Scalar.indexCast v2680
  let c0_2666 : Index := 0#32
  let c0_2667 : Index := 0#32
  ![0, v2681.toNat, 0, 0]

def k1_chk148 (v2679 : BitVec 32) : Prop :=
  (∀ a, (k1_off279 v2679) a + S1x1x64x64.size a ≤ S1x128x64x64.size a)
theorem k1_off279_inb : ∀ (v2679 : BitVec 32) (k1_hw148 : k1_chk148 v2679), ∀ a, (k1_off279 v2679) a + S1x1x64x64.size a ≤ S1x128x64x64.size a := fun v2679 k1_hw148 => k1_hw148

def k1_off280 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c15_i32_2671 : BitVec 32 := 15#32
  let v2687 : BitVec 32 := Scalar.addi v2082 c15_i32_2671
  let v2688 : Index := Scalar.indexCast v2687
  let c4_2672 : Index := 4#32
  ![v2688.toNat, 4]
def k1_off281 (v2689 : BitVec 32) : Fin 4 → Nat :=
  let c0_2674 : Index := 0#32
  let c0_i32_2673 : BitVec 32 := 0#32
  let v2690 : BitVec 32 := Scalar.maxsi v2689 c0_i32_2673
  let v2691 : Index := Scalar.indexCast v2690
  let c0_2675 : Index := 0#32
  let c0_2676 : Index := 0#32
  ![0, v2691.toNat, 0, 0]

def k1_chk149 (v2689 : BitVec 32) : Prop :=
  (∀ a, (k1_off281 v2689) a + S1x1x64x64.size a ≤ S1x128x64x64.size a)
theorem k1_off281_inb : ∀ (v2689 : BitVec 32) (k1_hw149 : k1_chk149 v2689), ∀ a, (k1_off281 v2689) a + S1x1x64x64.size a ≤ S1x128x64x64.size a := fun v2689 k1_hw149 => k1_hw149

def k1_off282 (k1_t2 : Fin k1_t2_loop.trips) : Fin 2 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let c15_i32_2680 : BitVec 32 := 15#32
  let v2697 : BitVec 32 := Scalar.addi v2082 c15_i32_2680
  let v2698 : Index := Scalar.indexCast v2697
  let c5_2681 : Index := 5#32
  ![v2698.toNat, 5]
def k1_off283 (v2699 : BitVec 32) : Fin 4 → Nat :=
  let c0_2683 : Index := 0#32
  let c0_i32_2682 : BitVec 32 := 0#32
  let v2700 : BitVec 32 := Scalar.maxsi v2699 c0_i32_2682
  let v2701 : Index := Scalar.indexCast v2700
  let c0_2684 : Index := 0#32
  let c0_2685 : Index := 0#32
  ![0, v2701.toNat, 0, 0]

def k1_chk150 (v2699 : BitVec 32) : Prop :=
  (∀ a, (k1_off283 v2699) a + S1x1x64x64.size a ≤ S1x128x64x64.size a)
theorem k1_off283_inb : ∀ (v2699 : BitVec 32) (k1_hw150 : k1_chk150 v2699), ∀ a, (k1_off283 v2699) a + S1x1x64x64.size a ≤ S1x128x64x64.size a := fun v2699 k1_hw150 => k1_hw150

def k1_off284 (k1_t2 : Fin k1_t2_loop.trips) (c0_i32_2689 : BitVec 32) : Fin 3 → Nat :=
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let v2707 : BitVec 32 := Scalar.addi v2082 c0_i32_2689
  let v2708 : Index := Scalar.indexCast v2707
  let c0_2690 : Index := 0#32
  let c0_2691 : Index := 0#32
  ![v2708.toNat, 0, 0]
def k1_off285 (k1_t2 : Fin k1_t2_loop.trips) (c0_i32_2689 : BitVec 32) : Fin 4 → Nat :=
  let c0_2696 : Index := 0#32
  let c16_i32 : BitVec 32 := 16#32
  let c0_i32_1402 : BitVec 32 := 0#32
  let c1_i32_1404 : BitVec 32 := 1#32
  let arg9 : BitVec 32 := Scf.iv c0_i32_1402 c1_i32_1404 k1_t2
  let v2081 : BitVec 32 := Scalar.muli c16_i32 arg9
  let c2_i32 : BitVec 32 := 2#32
  let v2082 : BitVec 32 := Scalar.addi v2081 c2_i32
  let v2707 : BitVec 32 := Scalar.addi v2082 c0_i32_2689
  let v2718 : Index := Scalar.indexCast v2707
  let c0_2697 : Index := 0#32
  let c0_2698 : Index := 0#32
  ![0, v2718.toNat, 0, 0]
def k1_off286 (v1403 : BitVec 32) : Fin 4 → Nat :=
  let c0_1416 : Index := 0#32
  let c0_i32_1415 : BitVec 32 := 0#32
  let v1404 : BitVec 32 := Scalar.maxsi v1403 c0_i32_1415
  let v1405 : Index := Scalar.indexCast v1404
  let c0_1417 : Index := 0#32
  let c0_1418 : Index := 0#32
  ![0, v1405.toNat, 0, 0]

def k1_chk151 (v1403 : BitVec 32) : Prop :=
  (∀ a, (k1_off286 v1403) a + S1x1x64x64.size a ≤ S1x128x64x64.size a)
theorem k1_off286_inb : ∀ (v1403 : BitVec 32) (k1_hw151 : k1_chk151 v1403), ∀ a, (k1_off286 v1403) a + S1x1x64x64.size a ≤ S1x128x64x64.size a := fun v1403 k1_hw151 => k1_hw151

def k1_off287 (v1411 : BitVec 32) : Fin 4 → Nat :=
  let c0_1425 : Index := 0#32
  let c0_i32_1424 : BitVec 32 := 0#32
  let v1412 : BitVec 32 := Scalar.maxsi v1411 c0_i32_1424
  let v1413 : Index := Scalar.indexCast v1412
  let c0_1426 : Index := 0#32
  let c0_1427 : Index := 0#32
  ![0, v1413.toNat, 0, 0]

def k1_chk152 (v1411 : BitVec 32) : Prop :=
  (∀ a, (k1_off287 v1411) a + S1x1x64x64.size a ≤ S1x128x64x64.size a)
theorem k1_off287_inb : ∀ (v1411 : BitVec 32) (k1_hw152 : k1_chk152 v1411), ∀ a, (k1_off287 v1411) a + S1x1x64x64.size a ≤ S1x128x64x64.size a := fun v1411 k1_hw152 => k1_hw152

def k1_off288 (v1419 : BitVec 32) : Fin 4 → Nat :=
  let c0_1434 : Index := 0#32
  let c0_i32_1433 : BitVec 32 := 0#32
  let v1420 : BitVec 32 := Scalar.maxsi v1419 c0_i32_1433
  let v1421 : Index := Scalar.indexCast v1420
  let c0_1435 : Index := 0#32
  let c0_1436 : Index := 0#32
  ![0, v1421.toNat, 0, 0]

def k1_chk153 (v1419 : BitVec 32) : Prop :=
  (∀ a, (k1_off288 v1419) a + S1x1x64x64.size a ≤ S1x128x64x64.size a)
theorem k1_off288_inb : ∀ (v1419 : BitVec 32) (k1_hw153 : k1_chk153 v1419), ∀ a, (k1_off288 v1419) a + S1x1x64x64.size a ≤ S1x128x64x64.size a := fun v1419 k1_hw153 => k1_hw153

def k1_off289 (v1433 : BitVec 32) : Fin 4 → Nat :=
  let c0_1450 : Index := 0#32
  let c0_i32_1449 : BitVec 32 := 0#32
  let v1434 : BitVec 32 := Scalar.maxsi v1433 c0_i32_1449
  let v1435 : Index := Scalar.indexCast v1434
  let c0_1451 : Index := 0#32
  let c0_1452 : Index := 0#32
  ![0, v1435.toNat, 0, 0]

def k1_chk154 (v1433 : BitVec 32) : Prop :=
  (∀ a, (k1_off289 v1433) a + S1x1x64x64.size a ≤ S1x128x64x64.size a)
theorem k1_off289_inb : ∀ (v1433 : BitVec 32) (k1_hw154 : k1_chk154 v1433), ∀ a, (k1_off289 v1433) a + S1x1x64x64.size a ≤ S1x128x64x64.size a := fun v1433 k1_hw154 => k1_hw154

def k1_off290 (v1441 : BitVec 32) : Fin 4 → Nat :=
  let c0_1459 : Index := 0#32
  let c0_i32_1458 : BitVec 32 := 0#32
  let v1442 : BitVec 32 := Scalar.maxsi v1441 c0_i32_1458
  let v1443 : Index := Scalar.indexCast v1442
  let c0_1460 : Index := 0#32
  let c0_1461 : Index := 0#32
  ![0, v1443.toNat, 0, 0]

def k1_chk155 (v1441 : BitVec 32) : Prop :=
  (∀ a, (k1_off290 v1441) a + S1x1x64x64.size a ≤ S1x128x64x64.size a)
theorem k1_off290_inb : ∀ (v1441 : BitVec 32) (k1_hw155 : k1_chk155 v1441), ∀ a, (k1_off290 v1441) a + S1x1x64x64.size a ≤ S1x128x64x64.size a := fun v1441 k1_hw155 => k1_hw155

def k1_off291 (v1449 : BitVec 32) : Fin 4 → Nat :=
  let c0_1468 : Index := 0#32
  let c0_i32_1467 : BitVec 32 := 0#32
  let v1450 : BitVec 32 := Scalar.maxsi v1449 c0_i32_1467
  let v1451 : Index := Scalar.indexCast v1450
  let c0_1469 : Index := 0#32
  let c0_1470 : Index := 0#32
  ![0, v1451.toNat, 0, 0]

def k1_chk156 (v1449 : BitVec 32) : Prop :=
  (∀ a, (k1_off291 v1449) a + S1x1x64x64.size a ≤ S1x128x64x64.size a)
theorem k1_off291_inb : ∀ (v1449 : BitVec 32) (k1_hw156 : k1_chk156 v1449), ∀ a, (k1_off291 v1449) a + S1x1x64x64.size a ≤ S1x128x64x64.size a := fun v1449 k1_hw156 => k1_hw156

def k1_off292 (v1463 : BitVec 32) : Fin 4 → Nat :=
  let c0_1484 : Index := 0#32
  let c0_i32_1483 : BitVec 32 := 0#32
  let v1464 : BitVec 32 := Scalar.maxsi v1463 c0_i32_1483
  let v1465 : Index := Scalar.indexCast v1464
  let c0_1485 : Index := 0#32
  let c0_1486 : Index := 0#32
  ![0, v1465.toNat, 0, 0]

def k1_chk157 (v1463 : BitVec 32) : Prop :=
  (∀ a, (k1_off292 v1463) a + S1x1x64x64.size a ≤ S1x128x64x64.size a)
theorem k1_off292_inb : ∀ (v1463 : BitVec 32) (k1_hw157 : k1_chk157 v1463), ∀ a, (k1_off292 v1463) a + S1x1x64x64.size a ≤ S1x128x64x64.size a := fun v1463 k1_hw157 => k1_hw157

def k1_off293 (v1471 : BitVec 32) : Fin 4 → Nat :=
  let c0_1493 : Index := 0#32
  let c0_i32_1492 : BitVec 32 := 0#32
  let v1472 : BitVec 32 := Scalar.maxsi v1471 c0_i32_1492
  let v1473 : Index := Scalar.indexCast v1472
  let c0_1494 : Index := 0#32
  let c0_1495 : Index := 0#32
  ![0, v1473.toNat, 0, 0]

def k1_chk158 (v1471 : BitVec 32) : Prop :=
  (∀ a, (k1_off293 v1471) a + S1x1x64x64.size a ≤ S1x128x64x64.size a)
theorem k1_off293_inb : ∀ (v1471 : BitVec 32) (k1_hw158 : k1_chk158 v1471), ∀ a, (k1_off293 v1471) a + S1x1x64x64.size a ≤ S1x128x64x64.size a := fun v1471 k1_hw158 => k1_hw158

def k1_off294 (v1479 : BitVec 32) : Fin 4 → Nat :=
  let c0_1502 : Index := 0#32
  let c0_i32_1501 : BitVec 32 := 0#32
  let v1480 : BitVec 32 := Scalar.maxsi v1479 c0_i32_1501
  let v1481 : Index := Scalar.indexCast v1480
  let c0_1503 : Index := 0#32
  let c0_1504 : Index := 0#32
  ![0, v1481.toNat, 0, 0]

def k1_chk159 (v1479 : BitVec 32) : Prop :=
  (∀ a, (k1_off294 v1479) a + S1x1x64x64.size a ≤ S1x128x64x64.size a)
theorem k1_off294_inb : ∀ (v1479 : BitVec 32) (k1_hw159 : k1_chk159 v1479), ∀ a, (k1_off294 v1479) a + S1x1x64x64.size a ≤ S1x128x64x64.size a := fun v1479 k1_hw159 => k1_hw159

def k1_off295 (v1493 : BitVec 32) : Fin 4 → Nat :=
  let c0_1518 : Index := 0#32
  let c0_i32_1517 : BitVec 32 := 0#32
  let v1494 : BitVec 32 := Scalar.maxsi v1493 c0_i32_1517
  let v1495 : Index := Scalar.indexCast v1494
  let c0_1519 : Index := 0#32
  let c0_1520 : Index := 0#32
  ![0, v1495.toNat, 0, 0]

def k1_chk160 (v1493 : BitVec 32) : Prop :=
  (∀ a, (k1_off295 v1493) a + S1x1x64x64.size a ≤ S1x128x64x64.size a)
theorem k1_off295_inb : ∀ (v1493 : BitVec 32) (k1_hw160 : k1_chk160 v1493), ∀ a, (k1_off295 v1493) a + S1x1x64x64.size a ≤ S1x128x64x64.size a := fun v1493 k1_hw160 => k1_hw160

def k1_off296 (v1501 : BitVec 32) : Fin 4 → Nat :=
  let c0_1527 : Index := 0#32
  let c0_i32_1526 : BitVec 32 := 0#32
  let v1502 : BitVec 32 := Scalar.maxsi v1501 c0_i32_1526
  let v1503 : Index := Scalar.indexCast v1502
  let c0_1528 : Index := 0#32
  let c0_1529 : Index := 0#32
  ![0, v1503.toNat, 0, 0]

def k1_chk161 (v1501 : BitVec 32) : Prop :=
  (∀ a, (k1_off296 v1501) a + S1x1x64x64.size a ≤ S1x128x64x64.size a)
theorem k1_off296_inb : ∀ (v1501 : BitVec 32) (k1_hw161 : k1_chk161 v1501), ∀ a, (k1_off296 v1501) a + S1x1x64x64.size a ≤ S1x128x64x64.size a := fun v1501 k1_hw161 => k1_hw161

def k1_off297 (v1509 : BitVec 32) : Fin 4 → Nat :=
  let c0_1536 : Index := 0#32
  let c0_i32_1535 : BitVec 32 := 0#32
  let v1510 : BitVec 32 := Scalar.maxsi v1509 c0_i32_1535
  let v1511 : Index := Scalar.indexCast v1510
  let c0_1537 : Index := 0#32
  let c0_1538 : Index := 0#32
  ![0, v1511.toNat, 0, 0]

def k1_chk162 (v1509 : BitVec 32) : Prop :=
  (∀ a, (k1_off297 v1509) a + S1x1x64x64.size a ≤ S1x128x64x64.size a)
theorem k1_off297_inb : ∀ (v1509 : BitVec 32) (k1_hw162 : k1_chk162 v1509), ∀ a, (k1_off297 v1509) a + S1x1x64x64.size a ≤ S1x128x64x64.size a := fun v1509 k1_hw162 => k1_hw162

def k1_off298 (v1523 : BitVec 32) : Fin 4 → Nat :=
  let c0_1552 : Index := 0#32
  let c0_i32_1551 : BitVec 32 := 0#32
  let v1524 : BitVec 32 := Scalar.maxsi v1523 c0_i32_1551
  let v1525 : Index := Scalar.indexCast v1524
  let c0_1553 : Index := 0#32
  let c0_1554 : Index := 0#32
  ![0, v1525.toNat, 0, 0]

def k1_chk163 (v1523 : BitVec 32) : Prop :=
  (∀ a, (k1_off298 v1523) a + S1x1x64x64.size a ≤ S1x128x64x64.size a)
theorem k1_off298_inb : ∀ (v1523 : BitVec 32) (k1_hw163 : k1_chk163 v1523), ∀ a, (k1_off298 v1523) a + S1x1x64x64.size a ≤ S1x128x64x64.size a := fun v1523 k1_hw163 => k1_hw163

def k1_off299 (v1531 : BitVec 32) : Fin 4 → Nat :=
  let c0_1561 : Index := 0#32
  let c0_i32_1560 : BitVec 32 := 0#32
  let v1532 : BitVec 32 := Scalar.maxsi v1531 c0_i32_1560
  let v1533 : Index := Scalar.indexCast v1532
  let c0_1562 : Index := 0#32
  let c0_1563 : Index := 0#32
  ![0, v1533.toNat, 0, 0]

def k1_chk164 (v1531 : BitVec 32) : Prop :=
  (∀ a, (k1_off299 v1531) a + S1x1x64x64.size a ≤ S1x128x64x64.size a)
theorem k1_off299_inb : ∀ (v1531 : BitVec 32) (k1_hw164 : k1_chk164 v1531), ∀ a, (k1_off299 v1531) a + S1x1x64x64.size a ≤ S1x128x64x64.size a := fun v1531 k1_hw164 => k1_hw164

def k1_off300 (v1539 : BitVec 32) : Fin 4 → Nat :=
  let c0_1570 : Index := 0#32
  let c0_i32_1569 : BitVec 32 := 0#32
  let v1540 : BitVec 32 := Scalar.maxsi v1539 c0_i32_1569
  let v1541 : Index := Scalar.indexCast v1540
  let c0_1571 : Index := 0#32
  let c0_1572 : Index := 0#32
  ![0, v1541.toNat, 0, 0]

def k1_chk165 (v1539 : BitVec 32) : Prop :=
  (∀ a, (k1_off300 v1539) a + S1x1x64x64.size a ≤ S1x128x64x64.size a)
theorem k1_off300_inb : ∀ (v1539 : BitVec 32) (k1_hw165 : k1_chk165 v1539), ∀ a, (k1_off300 v1539) a + S1x1x64x64.size a ≤ S1x128x64x64.size a := fun v1539 k1_hw165 => k1_hw165

def k1_off301 (v1553 : BitVec 32) : Fin 4 → Nat :=
  let c0_1586 : Index := 0#32
  let c0_i32_1585 : BitVec 32 := 0#32
  let v1554 : BitVec 32 := Scalar.maxsi v1553 c0_i32_1585
  let v1555 : Index := Scalar.indexCast v1554
  let c0_1587 : Index := 0#32
  let c0_1588 : Index := 0#32
  ![0, v1555.toNat, 0, 0]

def k1_chk166 (v1553 : BitVec 32) : Prop :=
  (∀ a, (k1_off301 v1553) a + S1x1x64x64.size a ≤ S1x128x64x64.size a)
theorem k1_off301_inb : ∀ (v1553 : BitVec 32) (k1_hw166 : k1_chk166 v1553), ∀ a, (k1_off301 v1553) a + S1x1x64x64.size a ≤ S1x128x64x64.size a := fun v1553 k1_hw166 => k1_hw166

def k1_off302 (v1561 : BitVec 32) : Fin 4 → Nat :=
  let c0_1595 : Index := 0#32
  let c0_i32_1594 : BitVec 32 := 0#32
  let v1562 : BitVec 32 := Scalar.maxsi v1561 c0_i32_1594
  let v1563 : Index := Scalar.indexCast v1562
  let c0_1596 : Index := 0#32
  let c0_1597 : Index := 0#32
  ![0, v1563.toNat, 0, 0]

def k1_chk167 (v1561 : BitVec 32) : Prop :=
  (∀ a, (k1_off302 v1561) a + S1x1x64x64.size a ≤ S1x128x64x64.size a)
theorem k1_off302_inb : ∀ (v1561 : BitVec 32) (k1_hw167 : k1_chk167 v1561), ∀ a, (k1_off302 v1561) a + S1x1x64x64.size a ≤ S1x128x64x64.size a := fun v1561 k1_hw167 => k1_hw167

def k1_off303 (v1569 : BitVec 32) : Fin 4 → Nat :=
  let c0_1604 : Index := 0#32
  let c0_i32_1603 : BitVec 32 := 0#32
  let v1570 : BitVec 32 := Scalar.maxsi v1569 c0_i32_1603
  let v1571 : Index := Scalar.indexCast v1570
  let c0_1605 : Index := 0#32
  let c0_1606 : Index := 0#32
  ![0, v1571.toNat, 0, 0]

def k1_chk168 (v1569 : BitVec 32) : Prop :=
  (∀ a, (k1_off303 v1569) a + S1x1x64x64.size a ≤ S1x128x64x64.size a)
theorem k1_off303_inb : ∀ (v1569 : BitVec 32) (k1_hw168 : k1_chk168 v1569), ∀ a, (k1_off303 v1569) a + S1x1x64x64.size a ≤ S1x128x64x64.size a := fun v1569 k1_hw168 => k1_hw168

def k1_off304 (v1583 : BitVec 32) : Fin 4 → Nat :=
  let c0_1620 : Index := 0#32
  let c0_i32_1619 : BitVec 32 := 0#32
  let v1584 : BitVec 32 := Scalar.maxsi v1583 c0_i32_1619
  let v1585 : Index := Scalar.indexCast v1584
  let c0_1621 : Index := 0#32
  let c0_1622 : Index := 0#32
  ![0, v1585.toNat, 0, 0]

def k1_chk169 (v1583 : BitVec 32) : Prop :=
  (∀ a, (k1_off304 v1583) a + S1x1x64x64.size a ≤ S1x128x64x64.size a)
theorem k1_off304_inb : ∀ (v1583 : BitVec 32) (k1_hw169 : k1_chk169 v1583), ∀ a, (k1_off304 v1583) a + S1x1x64x64.size a ≤ S1x128x64x64.size a := fun v1583 k1_hw169 => k1_hw169

def k1_off305 (v1591 : BitVec 32) : Fin 4 → Nat :=
  let c0_1629 : Index := 0#32
  let c0_i32_1628 : BitVec 32 := 0#32
  let v1592 : BitVec 32 := Scalar.maxsi v1591 c0_i32_1628
  let v1593 : Index := Scalar.indexCast v1592
  let c0_1630 : Index := 0#32
  let c0_1631 : Index := 0#32
  ![0, v1593.toNat, 0, 0]

def k1_chk170 (v1591 : BitVec 32) : Prop :=
  (∀ a, (k1_off305 v1591) a + S1x1x64x64.size a ≤ S1x128x64x64.size a)
theorem k1_off305_inb : ∀ (v1591 : BitVec 32) (k1_hw170 : k1_chk170 v1591), ∀ a, (k1_off305 v1591) a + S1x1x64x64.size a ≤ S1x128x64x64.size a := fun v1591 k1_hw170 => k1_hw170

def k1_off306 (v1599 : BitVec 32) : Fin 4 → Nat :=
  let c0_1638 : Index := 0#32
  let c0_i32_1637 : BitVec 32 := 0#32
  let v1600 : BitVec 32 := Scalar.maxsi v1599 c0_i32_1637
  let v1601 : Index := Scalar.indexCast v1600
  let c0_1639 : Index := 0#32
  let c0_1640 : Index := 0#32
  ![0, v1601.toNat, 0, 0]

def k1_chk171 (v1599 : BitVec 32) : Prop :=
  (∀ a, (k1_off306 v1599) a + S1x1x64x64.size a ≤ S1x128x64x64.size a)
theorem k1_off306_inb : ∀ (v1599 : BitVec 32) (k1_hw171 : k1_chk171 v1599), ∀ a, (k1_off306 v1599) a + S1x1x64x64.size a ≤ S1x128x64x64.size a := fun v1599 k1_hw171 => k1_hw171

def k1_off307 (v1613 : BitVec 32) : Fin 4 → Nat :=
  let c0_1654 : Index := 0#32
  let c0_i32_1653 : BitVec 32 := 0#32
  let v1614 : BitVec 32 := Scalar.maxsi v1613 c0_i32_1653
  let v1615 : Index := Scalar.indexCast v1614
  let c0_1655 : Index := 0#32
  let c0_1656 : Index := 0#32
  ![0, v1615.toNat, 0, 0]

def k1_chk172 (v1613 : BitVec 32) : Prop :=
  (∀ a, (k1_off307 v1613) a + S1x1x64x64.size a ≤ S1x128x64x64.size a)
theorem k1_off307_inb : ∀ (v1613 : BitVec 32) (k1_hw172 : k1_chk172 v1613), ∀ a, (k1_off307 v1613) a + S1x1x64x64.size a ≤ S1x128x64x64.size a := fun v1613 k1_hw172 => k1_hw172

def k1_off308 (v1621 : BitVec 32) : Fin 4 → Nat :=
  let c0_1663 : Index := 0#32
  let c0_i32_1662 : BitVec 32 := 0#32
  let v1622 : BitVec 32 := Scalar.maxsi v1621 c0_i32_1662
  let v1623 : Index := Scalar.indexCast v1622
  let c0_1664 : Index := 0#32
  let c0_1665 : Index := 0#32
  ![0, v1623.toNat, 0, 0]

def k1_chk173 (v1621 : BitVec 32) : Prop :=
  (∀ a, (k1_off308 v1621) a + S1x1x64x64.size a ≤ S1x128x64x64.size a)
theorem k1_off308_inb : ∀ (v1621 : BitVec 32) (k1_hw173 : k1_chk173 v1621), ∀ a, (k1_off308 v1621) a + S1x1x64x64.size a ≤ S1x128x64x64.size a := fun v1621 k1_hw173 => k1_hw173

def k1_off309 (v1629 : BitVec 32) : Fin 4 → Nat :=
  let c0_1672 : Index := 0#32
  let c0_i32_1671 : BitVec 32 := 0#32
  let v1630 : BitVec 32 := Scalar.maxsi v1629 c0_i32_1671
  let v1631 : Index := Scalar.indexCast v1630
  let c0_1673 : Index := 0#32
  let c0_1674 : Index := 0#32
  ![0, v1631.toNat, 0, 0]

def k1_chk174 (v1629 : BitVec 32) : Prop :=
  (∀ a, (k1_off309 v1629) a + S1x1x64x64.size a ≤ S1x128x64x64.size a)
theorem k1_off309_inb : ∀ (v1629 : BitVec 32) (k1_hw174 : k1_chk174 v1629), ∀ a, (k1_off309 v1629) a + S1x1x64x64.size a ≤ S1x128x64x64.size a := fun v1629 k1_hw174 => k1_hw174

def k1_off310 (v1643 : BitVec 32) : Fin 4 → Nat :=
  let c0_1688 : Index := 0#32
  let c0_i32_1687 : BitVec 32 := 0#32
  let v1644 : BitVec 32 := Scalar.maxsi v1643 c0_i32_1687
  let v1645 : Index := Scalar.indexCast v1644
  let c0_1689 : Index := 0#32
  let c0_1690 : Index := 0#32
  ![0, v1645.toNat, 0, 0]

def k1_chk175 (v1643 : BitVec 32) : Prop :=
  (∀ a, (k1_off310 v1643) a + S1x1x64x64.size a ≤ S1x128x64x64.size a)
theorem k1_off310_inb : ∀ (v1643 : BitVec 32) (k1_hw175 : k1_chk175 v1643), ∀ a, (k1_off310 v1643) a + S1x1x64x64.size a ≤ S1x128x64x64.size a := fun v1643 k1_hw175 => k1_hw175

def k1_off311 (v1651 : BitVec 32) : Fin 4 → Nat :=
  let c0_1697 : Index := 0#32
  let c0_i32_1696 : BitVec 32 := 0#32
  let v1652 : BitVec 32 := Scalar.maxsi v1651 c0_i32_1696
  let v1653 : Index := Scalar.indexCast v1652
  let c0_1698 : Index := 0#32
  let c0_1699 : Index := 0#32
  ![0, v1653.toNat, 0, 0]

def k1_chk176 (v1651 : BitVec 32) : Prop :=
  (∀ a, (k1_off311 v1651) a + S1x1x64x64.size a ≤ S1x128x64x64.size a)
theorem k1_off311_inb : ∀ (v1651 : BitVec 32) (k1_hw176 : k1_chk176 v1651), ∀ a, (k1_off311 v1651) a + S1x1x64x64.size a ≤ S1x128x64x64.size a := fun v1651 k1_hw176 => k1_hw176

def k1_off312 (v1659 : BitVec 32) : Fin 4 → Nat :=
  let c0_1706 : Index := 0#32
  let c0_i32_1705 : BitVec 32 := 0#32
  let v1660 : BitVec 32 := Scalar.maxsi v1659 c0_i32_1705
  let v1661 : Index := Scalar.indexCast v1660
  let c0_1707 : Index := 0#32
  let c0_1708 : Index := 0#32
  ![0, v1661.toNat, 0, 0]

def k1_chk177 (v1659 : BitVec 32) : Prop :=
  (∀ a, (k1_off312 v1659) a + S1x1x64x64.size a ≤ S1x128x64x64.size a)
theorem k1_off312_inb : ∀ (v1659 : BitVec 32) (k1_hw177 : k1_chk177 v1659), ∀ a, (k1_off312 v1659) a + S1x1x64x64.size a ≤ S1x128x64x64.size a := fun v1659 k1_hw177 => k1_hw177

def k1_off313 (v1673 : BitVec 32) : Fin 4 → Nat :=
  let c0_1722 : Index := 0#32
  let c0_i32_1721 : BitVec 32 := 0#32
  let v1674 : BitVec 32 := Scalar.maxsi v1673 c0_i32_1721
  let v1675 : Index := Scalar.indexCast v1674
  let c0_1723 : Index := 0#32
  let c0_1724 : Index := 0#32
  ![0, v1675.toNat, 0, 0]

def k1_chk178 (v1673 : BitVec 32) : Prop :=
  (∀ a, (k1_off313 v1673) a + S1x1x64x64.size a ≤ S1x128x64x64.size a)
theorem k1_off313_inb : ∀ (v1673 : BitVec 32) (k1_hw178 : k1_chk178 v1673), ∀ a, (k1_off313 v1673) a + S1x1x64x64.size a ≤ S1x128x64x64.size a := fun v1673 k1_hw178 => k1_hw178

def k1_off314 (v1681 : BitVec 32) : Fin 4 → Nat :=
  let c0_1731 : Index := 0#32
  let c0_i32_1730 : BitVec 32 := 0#32
  let v1682 : BitVec 32 := Scalar.maxsi v1681 c0_i32_1730
  let v1683 : Index := Scalar.indexCast v1682
  let c0_1732 : Index := 0#32
  let c0_1733 : Index := 0#32
  ![0, v1683.toNat, 0, 0]

def k1_chk179 (v1681 : BitVec 32) : Prop :=
  (∀ a, (k1_off314 v1681) a + S1x1x64x64.size a ≤ S1x128x64x64.size a)
theorem k1_off314_inb : ∀ (v1681 : BitVec 32) (k1_hw179 : k1_chk179 v1681), ∀ a, (k1_off314 v1681) a + S1x1x64x64.size a ≤ S1x128x64x64.size a := fun v1681 k1_hw179 => k1_hw179

def k1_off315 (v1689 : BitVec 32) : Fin 4 → Nat :=
  let c0_1740 : Index := 0#32
  let c0_i32_1739 : BitVec 32 := 0#32
  let v1690 : BitVec 32 := Scalar.maxsi v1689 c0_i32_1739
  let v1691 : Index := Scalar.indexCast v1690
  let c0_1741 : Index := 0#32
  let c0_1742 : Index := 0#32
  ![0, v1691.toNat, 0, 0]

def k1_chk180 (v1689 : BitVec 32) : Prop :=
  (∀ a, (k1_off315 v1689) a + S1x1x64x64.size a ≤ S1x128x64x64.size a)
theorem k1_off315_inb : ∀ (v1689 : BitVec 32) (k1_hw180 : k1_chk180 v1689), ∀ a, (k1_off315 v1689) a + S1x1x64x64.size a ≤ S1x128x64x64.size a := fun v1689 k1_hw180 => k1_hw180

def k1_off316 (v1703 : BitVec 32) : Fin 4 → Nat :=
  let c0_1756 : Index := 0#32
  let c0_i32_1755 : BitVec 32 := 0#32
  let v1704 : BitVec 32 := Scalar.maxsi v1703 c0_i32_1755
  let v1705 : Index := Scalar.indexCast v1704
  let c0_1757 : Index := 0#32
  let c0_1758 : Index := 0#32
  ![0, v1705.toNat, 0, 0]

def k1_chk181 (v1703 : BitVec 32) : Prop :=
  (∀ a, (k1_off316 v1703) a + S1x1x64x64.size a ≤ S1x128x64x64.size a)
theorem k1_off316_inb : ∀ (v1703 : BitVec 32) (k1_hw181 : k1_chk181 v1703), ∀ a, (k1_off316 v1703) a + S1x1x64x64.size a ≤ S1x128x64x64.size a := fun v1703 k1_hw181 => k1_hw181

def k1_off317 (v1711 : BitVec 32) : Fin 4 → Nat :=
  let c0_1765 : Index := 0#32
  let c0_i32_1764 : BitVec 32 := 0#32
  let v1712 : BitVec 32 := Scalar.maxsi v1711 c0_i32_1764
  let v1713 : Index := Scalar.indexCast v1712
  let c0_1766 : Index := 0#32
  let c0_1767 : Index := 0#32
  ![0, v1713.toNat, 0, 0]

def k1_chk182 (v1711 : BitVec 32) : Prop :=
  (∀ a, (k1_off317 v1711) a + S1x1x64x64.size a ≤ S1x128x64x64.size a)
theorem k1_off317_inb : ∀ (v1711 : BitVec 32) (k1_hw182 : k1_chk182 v1711), ∀ a, (k1_off317 v1711) a + S1x1x64x64.size a ≤ S1x128x64x64.size a := fun v1711 k1_hw182 => k1_hw182

def k1_off318 (v1719 : BitVec 32) : Fin 4 → Nat :=
  let c0_1774 : Index := 0#32
  let c0_i32_1773 : BitVec 32 := 0#32
  let v1720 : BitVec 32 := Scalar.maxsi v1719 c0_i32_1773
  let v1721 : Index := Scalar.indexCast v1720
  let c0_1775 : Index := 0#32
  let c0_1776 : Index := 0#32
  ![0, v1721.toNat, 0, 0]

def k1_chk183 (v1719 : BitVec 32) : Prop :=
  (∀ a, (k1_off318 v1719) a + S1x1x64x64.size a ≤ S1x128x64x64.size a)
theorem k1_off318_inb : ∀ (v1719 : BitVec 32) (k1_hw183 : k1_chk183 v1719), ∀ a, (k1_off318 v1719) a + S1x1x64x64.size a ≤ S1x128x64x64.size a := fun v1719 k1_hw183 => k1_hw183

def k1_off319 (v1733 : BitVec 32) : Fin 4 → Nat :=
  let c0_1790 : Index := 0#32
  let c0_i32_1789 : BitVec 32 := 0#32
  let v1734 : BitVec 32 := Scalar.maxsi v1733 c0_i32_1789
  let v1735 : Index := Scalar.indexCast v1734
  let c0_1791 : Index := 0#32
  let c0_1792 : Index := 0#32
  ![0, v1735.toNat, 0, 0]

def k1_chk184 (v1733 : BitVec 32) : Prop :=
  (∀ a, (k1_off319 v1733) a + S1x1x64x64.size a ≤ S1x128x64x64.size a)
theorem k1_off319_inb : ∀ (v1733 : BitVec 32) (k1_hw184 : k1_chk184 v1733), ∀ a, (k1_off319 v1733) a + S1x1x64x64.size a ≤ S1x128x64x64.size a := fun v1733 k1_hw184 => k1_hw184

def k1_off320 (v1741 : BitVec 32) : Fin 4 → Nat :=
  let c0_1799 : Index := 0#32
  let c0_i32_1798 : BitVec 32 := 0#32
  let v1742 : BitVec 32 := Scalar.maxsi v1741 c0_i32_1798
  let v1743 : Index := Scalar.indexCast v1742
  let c0_1800 : Index := 0#32
  let c0_1801 : Index := 0#32
  ![0, v1743.toNat, 0, 0]

def k1_chk185 (v1741 : BitVec 32) : Prop :=
  (∀ a, (k1_off320 v1741) a + S1x1x64x64.size a ≤ S1x128x64x64.size a)
theorem k1_off320_inb : ∀ (v1741 : BitVec 32) (k1_hw185 : k1_chk185 v1741), ∀ a, (k1_off320 v1741) a + S1x1x64x64.size a ≤ S1x128x64x64.size a := fun v1741 k1_hw185 => k1_hw185

def k1_off321 (v1749 : BitVec 32) : Fin 4 → Nat :=
  let c0_1808 : Index := 0#32
  let c0_i32_1807 : BitVec 32 := 0#32
  let v1750 : BitVec 32 := Scalar.maxsi v1749 c0_i32_1807
  let v1751 : Index := Scalar.indexCast v1750
  let c0_1809 : Index := 0#32
  let c0_1810 : Index := 0#32
  ![0, v1751.toNat, 0, 0]

def k1_chk186 (v1749 : BitVec 32) : Prop :=
  (∀ a, (k1_off321 v1749) a + S1x1x64x64.size a ≤ S1x128x64x64.size a)
theorem k1_off321_inb : ∀ (v1749 : BitVec 32) (k1_hw186 : k1_chk186 v1749), ∀ a, (k1_off321 v1749) a + S1x1x64x64.size a ≤ S1x128x64x64.size a := fun v1749 k1_hw186 => k1_hw186

def k1_off322 (v1757 : BitVec 32) : Fin 4 → Nat :=
  let c0_1817 : Index := 0#32
  let c0_i32_1816 : BitVec 32 := 0#32
  let v1758 : BitVec 32 := Scalar.maxsi v1757 c0_i32_1816
  let v1759 : Index := Scalar.indexCast v1758
  let c0_1818 : Index := 0#32
  let c0_1819 : Index := 0#32
  ![0, v1759.toNat, 0, 0]

def k1_chk187 (v1757 : BitVec 32) : Prop :=
  (∀ a, (k1_off322 v1757) a + S1x1x64x64.size a ≤ S1x128x64x64.size a)
theorem k1_off322_inb : ∀ (v1757 : BitVec 32) (k1_hw187 : k1_chk187 v1757), ∀ a, (k1_off322 v1757) a + S1x1x64x64.size a ≤ S1x128x64x64.size a := fun v1757 k1_hw187 => k1_hw187

def k1_off323 (v1765 : BitVec 32) : Fin 4 → Nat :=
  let c0_1826 : Index := 0#32
  let c0_i32_1825 : BitVec 32 := 0#32
  let v1766 : BitVec 32 := Scalar.maxsi v1765 c0_i32_1825
  let v1767 : Index := Scalar.indexCast v1766
  let c0_1827 : Index := 0#32
  let c0_1828 : Index := 0#32
  ![0, v1767.toNat, 0, 0]

def k1_chk188 (v1765 : BitVec 32) : Prop :=
  (∀ a, (k1_off323 v1765) a + S1x1x64x64.size a ≤ S1x128x64x64.size a)
theorem k1_off323_inb : ∀ (v1765 : BitVec 32) (k1_hw188 : k1_chk188 v1765), ∀ a, (k1_off323 v1765) a + S1x1x64x64.size a ≤ S1x128x64x64.size a := fun v1765 k1_hw188 => k1_hw188

def k1_off324 (v1773 : BitVec 32) : Fin 4 → Nat :=
  let c0_1835 : Index := 0#32
  let c0_i32_1834 : BitVec 32 := 0#32
  let v1774 : BitVec 32 := Scalar.maxsi v1773 c0_i32_1834
  let v1775 : Index := Scalar.indexCast v1774
  let c0_1836 : Index := 0#32
  let c0_1837 : Index := 0#32
  ![0, v1775.toNat, 0, 0]

def k1_chk189 (v1773 : BitVec 32) : Prop :=
  (∀ a, (k1_off324 v1773) a + S1x1x64x64.size a ≤ S1x128x64x64.size a)
theorem k1_off324_inb : ∀ (v1773 : BitVec 32) (k1_hw189 : k1_chk189 v1773), ∀ a, (k1_off324 v1773) a + S1x1x64x64.size a ≤ S1x128x64x64.size a := fun v1773 k1_hw189 => k1_hw189

def k1_off325 (v1781 : BitVec 32) : Fin 4 → Nat :=
  let c0_1844 : Index := 0#32
  let c0_i32_1843 : BitVec 32 := 0#32
  let v1782 : BitVec 32 := Scalar.maxsi v1781 c0_i32_1843
  let v1783 : Index := Scalar.indexCast v1782
  let c0_1845 : Index := 0#32
  let c0_1846 : Index := 0#32
  ![0, v1783.toNat, 0, 0]

def k1_chk190 (v1781 : BitVec 32) : Prop :=
  (∀ a, (k1_off325 v1781) a + S1x1x64x64.size a ≤ S1x128x64x64.size a)
theorem k1_off325_inb : ∀ (v1781 : BitVec 32) (k1_hw190 : k1_chk190 v1781), ∀ a, (k1_off325 v1781) a + S1x1x64x64.size a ≤ S1x128x64x64.size a := fun v1781 k1_hw190 => k1_hw190

def k1_off326 (v1789 : BitVec 32) : Fin 4 → Nat :=
  let c0_1853 : Index := 0#32
  let c0_i32_1852 : BitVec 32 := 0#32
  let v1790 : BitVec 32 := Scalar.maxsi v1789 c0_i32_1852
  let v1791 : Index := Scalar.indexCast v1790
  let c0_1854 : Index := 0#32
  let c0_1855 : Index := 0#32
  ![0, v1791.toNat, 0, 0]

def k1_chk191 (v1789 : BitVec 32) : Prop :=
  (∀ a, (k1_off326 v1789) a + S1x1x64x64.size a ≤ S1x128x64x64.size a)
theorem k1_off326_inb : ∀ (v1789 : BitVec 32) (k1_hw191 : k1_chk191 v1789), ∀ a, (k1_off326 v1789) a + S1x1x64x64.size a ≤ S1x128x64x64.size a := fun v1789 k1_hw191 => k1_hw191

def k1_off327 (v1797 : BitVec 32) : Fin 4 → Nat :=
  let c0_1862 : Index := 0#32
  let c0_i32_1861 : BitVec 32 := 0#32
  let v1798 : BitVec 32 := Scalar.maxsi v1797 c0_i32_1861
  let v1799 : Index := Scalar.indexCast v1798
  let c0_1863 : Index := 0#32
  let c0_1864 : Index := 0#32
  ![0, v1799.toNat, 0, 0]

def k1_chk192 (v1797 : BitVec 32) : Prop :=
  (∀ a, (k1_off327 v1797) a + S1x1x64x64.size a ≤ S1x128x64x64.size a)
theorem k1_off327_inb : ∀ (v1797 : BitVec 32) (k1_hw192 : k1_chk192 v1797), ∀ a, (k1_off327 v1797) a + S1x1x64x64.size a ≤ S1x128x64x64.size a := fun v1797 k1_hw192 => k1_hw192

def k1_off328 (v1805 : BitVec 32) : Fin 4 → Nat :=
  let c0_1871 : Index := 0#32
  let c0_i32_1870 : BitVec 32 := 0#32
  let v1806 : BitVec 32 := Scalar.maxsi v1805 c0_i32_1870
  let v1807 : Index := Scalar.indexCast v1806
  let c0_1872 : Index := 0#32
  let c0_1873 : Index := 0#32
  ![0, v1807.toNat, 0, 0]

def k1_chk193 (v1805 : BitVec 32) : Prop :=
  (∀ a, (k1_off328 v1805) a + S1x1x64x64.size a ≤ S1x128x64x64.size a)
theorem k1_off328_inb : ∀ (v1805 : BitVec 32) (k1_hw193 : k1_chk193 v1805), ∀ a, (k1_off328 v1805) a + S1x1x64x64.size a ≤ S1x128x64x64.size a := fun v1805 k1_hw193 => k1_hw193

def k1_off329 (v1813 : BitVec 32) : Fin 4 → Nat :=
  let c0_1880 : Index := 0#32
  let c0_i32_1879 : BitVec 32 := 0#32
  let v1814 : BitVec 32 := Scalar.maxsi v1813 c0_i32_1879
  let v1815 : Index := Scalar.indexCast v1814
  let c0_1881 : Index := 0#32
  let c0_1882 : Index := 0#32
  ![0, v1815.toNat, 0, 0]

def k1_chk194 (v1813 : BitVec 32) : Prop :=
  (∀ a, (k1_off329 v1813) a + S1x1x64x64.size a ≤ S1x128x64x64.size a)
theorem k1_off329_inb : ∀ (v1813 : BitVec 32) (k1_hw194 : k1_chk194 v1813), ∀ a, (k1_off329 v1813) a + S1x1x64x64.size a ≤ S1x128x64x64.size a := fun v1813 k1_hw194 => k1_hw194

def k1_off330 (v1821 : BitVec 32) : Fin 4 → Nat :=
  let c0_1889 : Index := 0#32
  let c0_i32_1888 : BitVec 32 := 0#32
  let v1822 : BitVec 32 := Scalar.maxsi v1821 c0_i32_1888
  let v1823 : Index := Scalar.indexCast v1822
  let c0_1890 : Index := 0#32
  let c0_1891 : Index := 0#32
  ![0, v1823.toNat, 0, 0]

def k1_chk195 (v1821 : BitVec 32) : Prop :=
  (∀ a, (k1_off330 v1821) a + S1x1x64x64.size a ≤ S1x128x64x64.size a)
theorem k1_off330_inb : ∀ (v1821 : BitVec 32) (k1_hw195 : k1_chk195 v1821), ∀ a, (k1_off330 v1821) a + S1x1x64x64.size a ≤ S1x128x64x64.size a := fun v1821 k1_hw195 => k1_hw195

def k1_off331 (v1829 : BitVec 32) : Fin 4 → Nat :=
  let c0_1898 : Index := 0#32
  let c0_i32_1897 : BitVec 32 := 0#32
  let v1830 : BitVec 32 := Scalar.maxsi v1829 c0_i32_1897
  let v1831 : Index := Scalar.indexCast v1830
  let c0_1899 : Index := 0#32
  let c0_1900 : Index := 0#32
  ![0, v1831.toNat, 0, 0]

def k1_chk196 (v1829 : BitVec 32) : Prop :=
  (∀ a, (k1_off331 v1829) a + S1x1x64x64.size a ≤ S1x128x64x64.size a)
theorem k1_off331_inb : ∀ (v1829 : BitVec 32) (k1_hw196 : k1_chk196 v1829), ∀ a, (k1_off331 v1829) a + S1x1x64x64.size a ≤ S1x128x64x64.size a := fun v1829 k1_hw196 => k1_hw196

def k1_off332 (v1837 : BitVec 32) : Fin 4 → Nat :=
  let c0_1907 : Index := 0#32
  let c0_i32_1906 : BitVec 32 := 0#32
  let v1838 : BitVec 32 := Scalar.maxsi v1837 c0_i32_1906
  let v1839 : Index := Scalar.indexCast v1838
  let c0_1908 : Index := 0#32
  let c0_1909 : Index := 0#32
  ![0, v1839.toNat, 0, 0]

def k1_chk197 (v1837 : BitVec 32) : Prop :=
  (∀ a, (k1_off332 v1837) a + S1x1x64x64.size a ≤ S1x128x64x64.size a)
theorem k1_off332_inb : ∀ (v1837 : BitVec 32) (k1_hw197 : k1_chk197 v1837), ∀ a, (k1_off332 v1837) a + S1x1x64x64.size a ≤ S1x128x64x64.size a := fun v1837 k1_hw197 => k1_hw197

def k1_off333 (v1845 : BitVec 32) : Fin 4 → Nat :=
  let c0_1916 : Index := 0#32
  let c0_i32_1915 : BitVec 32 := 0#32
  let v1846 : BitVec 32 := Scalar.maxsi v1845 c0_i32_1915
  let v1847 : Index := Scalar.indexCast v1846
  let c0_1917 : Index := 0#32
  let c0_1918 : Index := 0#32
  ![0, v1847.toNat, 0, 0]

def k1_chk198 (v1845 : BitVec 32) : Prop :=
  (∀ a, (k1_off333 v1845) a + S1x1x64x64.size a ≤ S1x128x64x64.size a)
theorem k1_off333_inb : ∀ (v1845 : BitVec 32) (k1_hw198 : k1_chk198 v1845), ∀ a, (k1_off333 v1845) a + S1x1x64x64.size a ≤ S1x128x64x64.size a := fun v1845 k1_hw198 => k1_hw198

def k1_off334 (v1853 : BitVec 32) : Fin 4 → Nat :=
  let c0_1925 : Index := 0#32
  let c0_i32_1924 : BitVec 32 := 0#32
  let v1854 : BitVec 32 := Scalar.maxsi v1853 c0_i32_1924
  let v1855 : Index := Scalar.indexCast v1854
  let c0_1926 : Index := 0#32
  let c0_1927 : Index := 0#32
  ![0, v1855.toNat, 0, 0]

def k1_chk199 (v1853 : BitVec 32) : Prop :=
  (∀ a, (k1_off334 v1853) a + S1x1x64x64.size a ≤ S1x128x64x64.size a)
theorem k1_off334_inb : ∀ (v1853 : BitVec 32) (k1_hw199 : k1_chk199 v1853), ∀ a, (k1_off334 v1853) a + S1x1x64x64.size a ≤ S1x128x64x64.size a := fun v1853 k1_hw199 => k1_hw199

def k1_off335 (v1861 : BitVec 32) : Fin 4 → Nat :=
  let c0_1934 : Index := 0#32
  let c0_i32_1933 : BitVec 32 := 0#32
  let v1862 : BitVec 32 := Scalar.maxsi v1861 c0_i32_1933
  let v1863 : Index := Scalar.indexCast v1862
  let c0_1935 : Index := 0#32
  let c0_1936 : Index := 0#32
  ![0, v1863.toNat, 0, 0]

def k1_chk200 (v1861 : BitVec 32) : Prop :=
  (∀ a, (k1_off335 v1861) a + S1x1x64x64.size a ≤ S1x128x64x64.size a)
theorem k1_off335_inb : ∀ (v1861 : BitVec 32) (k1_hw200 : k1_chk200 v1861), ∀ a, (k1_off335 v1861) a + S1x1x64x64.size a ≤ S1x128x64x64.size a := fun v1861 k1_hw200 => k1_hw200

def k1_off336 (v1869 : BitVec 32) : Fin 4 → Nat :=
  let c0_1943 : Index := 0#32
  let c0_i32_1942 : BitVec 32 := 0#32
  let v1870 : BitVec 32 := Scalar.maxsi v1869 c0_i32_1942
  let v1871 : Index := Scalar.indexCast v1870
  let c0_1944 : Index := 0#32
  let c0_1945 : Index := 0#32
  ![0, v1871.toNat, 0, 0]

def k1_chk201 (v1869 : BitVec 32) : Prop :=
  (∀ a, (k1_off336 v1869) a + S1x1x64x64.size a ≤ S1x128x64x64.size a)
theorem k1_off336_inb : ∀ (v1869 : BitVec 32) (k1_hw201 : k1_chk201 v1869), ∀ a, (k1_off336 v1869) a + S1x1x64x64.size a ≤ S1x128x64x64.size a := fun v1869 k1_hw201 => k1_hw201

def k1_off337 (v1877 : BitVec 32) : Fin 4 → Nat :=
  let c0_1952 : Index := 0#32
  let c0_i32_1951 : BitVec 32 := 0#32
  let v1878 : BitVec 32 := Scalar.maxsi v1877 c0_i32_1951
  let v1879 : Index := Scalar.indexCast v1878
  let c0_1953 : Index := 0#32
  let c0_1954 : Index := 0#32
  ![0, v1879.toNat, 0, 0]

def k1_chk202 (v1877 : BitVec 32) : Prop :=
  (∀ a, (k1_off337 v1877) a + S1x1x64x64.size a ≤ S1x128x64x64.size a)
theorem k1_off337_inb : ∀ (v1877 : BitVec 32) (k1_hw202 : k1_chk202 v1877), ∀ a, (k1_off337 v1877) a + S1x1x64x64.size a ≤ S1x128x64x64.size a := fun v1877 k1_hw202 => k1_hw202

def k1_off338 (v1885 : BitVec 32) : Fin 4 → Nat :=
  let c0_1961 : Index := 0#32
  let c0_i32_1960 : BitVec 32 := 0#32
  let v1886 : BitVec 32 := Scalar.maxsi v1885 c0_i32_1960
  let v1887 : Index := Scalar.indexCast v1886
  let c0_1962 : Index := 0#32
  let c0_1963 : Index := 0#32
  ![0, v1887.toNat, 0, 0]

def k1_chk203 (v1885 : BitVec 32) : Prop :=
  (∀ a, (k1_off338 v1885) a + S1x1x64x64.size a ≤ S1x128x64x64.size a)
theorem k1_off338_inb : ∀ (v1885 : BitVec 32) (k1_hw203 : k1_chk203 v1885), ∀ a, (k1_off338 v1885) a + S1x1x64x64.size a ≤ S1x128x64x64.size a := fun v1885 k1_hw203 => k1_hw203

def k1_off339 (v1893 : BitVec 32) : Fin 4 → Nat :=
  let c0_1970 : Index := 0#32
  let c0_i32_1969 : BitVec 32 := 0#32
  let v1894 : BitVec 32 := Scalar.maxsi v1893 c0_i32_1969
  let v1895 : Index := Scalar.indexCast v1894
  let c0_1971 : Index := 0#32
  let c0_1972 : Index := 0#32
  ![0, v1895.toNat, 0, 0]

def k1_chk204 (v1893 : BitVec 32) : Prop :=
  (∀ a, (k1_off339 v1893) a + S1x1x64x64.size a ≤ S1x128x64x64.size a)
theorem k1_off339_inb : ∀ (v1893 : BitVec 32) (k1_hw204 : k1_chk204 v1893), ∀ a, (k1_off339 v1893) a + S1x1x64x64.size a ≤ S1x128x64x64.size a := fun v1893 k1_hw204 => k1_hw204

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_2 (i : grid1.Coords) : Fin 4 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x128x64x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x64x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x64x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x64x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16x1024x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x64x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S1x8192x1024 : Shape := ⟨3, ![1, 8192, 1024]⟩
abbrev S1024x1024 : Shape := ⟨2, ![1024, 1024]⟩
abbrev S128x6 : Shape := ⟨2, ![128, 6]⟩
abbrev S1x8192x16x64 : Shape := ⟨4, ![1, 8192, 16, 64]⟩
abbrev S1x16x8192x64 : Shape := ⟨4, ![1, 16, 8192, 64]⟩
abbrev S1x16x64x64 : Shape := ⟨4, ![1, 16, 64, 64]⟩
abbrev S1x16x64x8192 : Shape := ⟨4, ![1, 16, 64, 8192]⟩
abbrev S_ : Shape := ⟨0, ![]⟩
abbrev S1x16x64 : Shape := ⟨3, ![1, 16, 64]⟩
abbrev S1x16x64x1 : Shape := ⟨4, ![1, 16, 64, 1]⟩
abbrev S1x16x128x64x64 : Shape := ⟨5, ![1, 16, 128, 64, 64]⟩
abbrev S768 : Shape := ⟨1, ![768]⟩
abbrev S768x1 : Shape := ⟨2, ![768, 1]⟩
abbrev S1x16x768x64x64 : Shape := ⟨5, ![1, 16, 768, 64, 64]⟩
abbrev S1x16x128x6x64x64 : Shape := ⟨6, ![1, 16, 128, 6, 64, 64]⟩
abbrev S1x16x128x64x6x64 : Shape := ⟨6, ![1, 16, 128, 64, 6, 64]⟩
abbrev S128x6x1 : Shape := ⟨3, ![128, 6, 1]⟩
abbrev S64 : Shape := ⟨1, ![64]⟩
abbrev S1x1x64 : Shape := ⟨3, ![1, 1, 64]⟩
abbrev S128x6x64 : Shape := ⟨3, ![128, 6, 64]⟩
abbrev S1x1x128x1x6x64 : Shape := ⟨6, ![1, 1, 128, 1, 6, 64]⟩
abbrev S1x16x128x64x384 : Shape := ⟨5, ![1, 16, 128, 64, 384]⟩
abbrev S1x16x128x64x448 : Shape := ⟨5, ![1, 16, 128, 64, 448]⟩
abbrev S1x16x128x64 : Shape := ⟨4, ![1, 16, 128, 64]⟩
abbrev S1x16x128x64x1 : Shape := ⟨5, ![1, 16, 128, 64, 1]⟩
abbrev S1x16x128x384x64 : Shape := ⟨5, ![1, 16, 128, 384, 64]⟩
abbrev S8192 : Shape := ⟨1, ![8192]⟩
abbrev S1x1x8192x1 : Shape := ⟨4, ![1, 1, 8192, 1]⟩

abbrev nBuf : Space → Nat
  | .hbm => 128
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S128x6, .i32⟩
  | .hbm, ⟨6, _⟩ => ⟨S1x8192x1024, .f32⟩
  | .hbm, ⟨7, _⟩ => ⟨S1x8192x16x64, .f32⟩
  | .hbm, ⟨8, _⟩ => ⟨S1x16x8192x64, .f32⟩
  | .hbm, ⟨9, _⟩ => ⟨S1x8192x1024, .f32⟩
  | .hbm, ⟨10, _⟩ => ⟨S1x8192x16x64, .f32⟩
  | .hbm, ⟨11, _⟩ => ⟨S1x16x8192x64, .f32⟩
  | .hbm, ⟨12, _⟩ => ⟨S1x8192x1024, .f32⟩
  | .hbm, ⟨13, _⟩ => ⟨S1x8192x16x64, .f32⟩
  | .hbm, ⟨14, _⟩ => ⟨S1x16x8192x64, .f32⟩
  | .hbm, ⟨15, _⟩ => ⟨S1x16x64x64, .f32⟩
  | .hbm, ⟨16, _⟩ => ⟨S1x16x64x8192, .f32⟩
  | .hbm, ⟨17, _⟩ => ⟨S_, .f32⟩
  | .hbm, ⟨18, _⟩ => ⟨S1x16x64x8192, .f32⟩
  | .hbm, ⟨19, _⟩ => ⟨S1x16x64x8192, .f32⟩
  | .hbm, ⟨20, _⟩ => ⟨S_, .f32⟩
  | .hbm, ⟨21, _⟩ => ⟨S1x16x64, .f32⟩
  | .hbm, ⟨22, _⟩ => ⟨S_, .f32⟩
  | .hbm, ⟨23, _⟩ => ⟨S1x16x64, .f32⟩
  | .hbm, ⟨24, _⟩ => ⟨S1x16x64, .f32⟩
  | .hbm, ⟨25, _⟩ => ⟨S1x16x64x1, .f32⟩
  | .hbm, ⟨26, _⟩ => ⟨S1x16x64x8192, .f32⟩
  | .hbm, ⟨27, _⟩ => ⟨S1x16x64x8192, .f32⟩
  | .hbm, ⟨28, _⟩ => ⟨S1x16x64x8192, .f32⟩
  | .hbm, ⟨29, _⟩ => ⟨S_, .f32⟩
  | .hbm, ⟨30, _⟩ => ⟨S1x16x64, .f32⟩
  | .hbm, ⟨31, _⟩ => ⟨S1x16x64x1, .f32⟩
  | .hbm, ⟨32, _⟩ => ⟨S1x16x64x8192, .f32⟩
  | .hbm, ⟨33, _⟩ => ⟨S1x16x64x8192, .f32⟩
  | .hbm, ⟨34, _⟩ => ⟨S1x16x64x64, .f32⟩
  | .hbm, ⟨35, _⟩ => ⟨S1x16x128x64x64, .f32⟩
  | .hbm, ⟨36, _⟩ => ⟨S1x16x128x64x64, .f32⟩
  | .hbm, ⟨37, _⟩ => ⟨S1x16x128x64x64, .f32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S128x6, .i32⟩
  | .hbm, ⟨42, _⟩ => ⟨S128x6, .i32⟩
  | .hbm, ⟨43, _⟩ => ⟨S_, .i32⟩
  | .hbm, ⟨44, _⟩ => ⟨S128x6, .i32⟩
  | .hbm, ⟨45, _⟩ => ⟨S128x6, .i32⟩
  | .hbm, ⟨46, _⟩ => ⟨S768, .i32⟩
  | .hbm, ⟨47, _⟩ => ⟨S768x1, .i32⟩
  | .hbm, ⟨48, _⟩ => ⟨S1x16x768x64x64, .f32⟩
  | .hbm, ⟨49, _⟩ => ⟨S1x16x128x6x64x64, .f32⟩
  | .hbm, ⟨50, _⟩ => ⟨S768, .i32⟩
  | .hbm, ⟨51, _⟩ => ⟨S768x1, .i32⟩
  | .hbm, ⟨52, _⟩ => ⟨S1x16x768x64x64, .f32⟩
  | .hbm, ⟨53, _⟩ => ⟨S1x16x128x6x64x64, .f32⟩
  | .hbm, ⟨54, _⟩ => ⟨S1x16x128x64x6x64, .f32⟩
  | .hbm, ⟨55, _⟩ => ⟨S_, .f32⟩
  | .hbm, ⟨56, _⟩ => ⟨S1x16x128x64x6x64, .f32⟩
  | .hbm, ⟨57, _⟩ => ⟨S1x16x128x64x6x64, .f32⟩
  | .hbm, ⟨58, _⟩ => ⟨S128x6x1, .i32⟩
  | .hbm, ⟨59, _⟩ => ⟨S_, .i32⟩
  | .hbm, ⟨60, _⟩ => ⟨S128x6x1, .i32⟩
  | .hbm, ⟨61, _⟩ => ⟨S128x6x1, .i32⟩
  | .hbm, ⟨62, _⟩ => ⟨S64, .i32⟩
  | .hbm, ⟨63, _⟩ => ⟨S1x1x64, .i32⟩
  | .hbm, ⟨64, _⟩ => ⟨S128x6x64, .i32⟩
  | .hbm, ⟨65, _⟩ => ⟨S128x6x64, .i32⟩
  | .hbm, ⟨66, _⟩ => ⟨S128x6x64, .i32⟩
  | .hbm, ⟨67, _⟩ => ⟨S_, .i32⟩
  | .hbm, ⟨68, _⟩ => ⟨S128x6, .i32⟩
  | .hbm, ⟨69, _⟩ => ⟨S128x6, .i1⟩
  | .hbm, ⟨70, _⟩ => ⟨S128x6x1, .i1⟩
  | .hbm, ⟨71, _⟩ => ⟨S_, .i32⟩
  | .hbm, ⟨72, _⟩ => ⟨S128x6x64, .i32⟩
  | .hbm, ⟨73, _⟩ => ⟨S128x6x64, .i1⟩
  | .hbm, ⟨74, _⟩ => ⟨S128x6x64, .i1⟩
  | .hbm, ⟨75, _⟩ => ⟨S128x6x64, .i1⟩
  | .hbm, ⟨76, _⟩ => ⟨S_, .i32⟩
  | .hbm, ⟨77, _⟩ => ⟨S128x6x64, .i32⟩
  | .hbm, ⟨78, _⟩ => ⟨S128x6x64, .i1⟩
  | .hbm, ⟨79, _⟩ => ⟨S128x6x64, .i1⟩
  | .hbm, ⟨80, _⟩ => ⟨S1x1x128x1x6x64, .i1⟩
  | .hbm, ⟨81, _⟩ => ⟨S_, .f32⟩
  | .hbm, ⟨82, _⟩ => ⟨S_, .f32⟩
  | .hbm, ⟨83, _⟩ => ⟨S1x16x128x64x6x64, .i1⟩
  | .hbm, ⟨84, _⟩ => ⟨S1x16x128x64x6x64, .f32⟩
  | .hbm, ⟨85, _⟩ => ⟨S1x16x128x64x6x64, .f32⟩
  | .hbm, ⟨86, _⟩ => ⟨S1x16x64x64, .f32⟩
  | .hbm, ⟨87, _⟩ => ⟨S1x16x128x64x64, .f32⟩
  | .hbm, ⟨88, _⟩ => ⟨S_, .f32⟩
  | .hbm, ⟨89, _⟩ => ⟨S1x16x128x64x64, .f32⟩
  | .hbm, ⟨90, _⟩ => ⟨S1x16x128x64x64, .f32⟩
  | .hbm, ⟨91, _⟩ => ⟨S1x16x128x64x384, .f32⟩
  | .hbm, ⟨92, _⟩ => ⟨S1x16x128x64x448, .f32⟩
  | .hbm, ⟨93, _⟩ => ⟨S_, .f32⟩
  | .hbm, ⟨94, _⟩ => ⟨S1x16x128x64, .f32⟩
  | .hbm, ⟨95, _⟩ => ⟨S_, .f32⟩
  | .hbm, ⟨96, _⟩ => ⟨S1x16x128x64, .f32⟩
  | .hbm, ⟨97, _⟩ => ⟨S1x16x128x64, .f32⟩
  | .hbm, ⟨98, _⟩ => ⟨S1x16x128x64x1, .f32⟩
  | .hbm, ⟨99, _⟩ => ⟨S1x16x128x64x448, .f32⟩
  | .hbm, ⟨100, _⟩ => ⟨S1x16x128x64x448, .f32⟩
  | .hbm, ⟨101, _⟩ => ⟨S1x16x128x64x448, .f32⟩
  | .hbm, ⟨102, _⟩ => ⟨S_, .f32⟩
  | .hbm, ⟨103, _⟩ => ⟨S1x16x128x64, .f32⟩
  | .hbm, ⟨104, _⟩ => ⟨S1x16x128x64x1, .f32⟩
  | .hbm, ⟨105, _⟩ => ⟨S1x16x128x64x448, .f32⟩
  | .hbm, ⟨106, _⟩ => ⟨S1x16x128x64x448, .f32⟩
  | .hbm, ⟨107, _⟩ => ⟨S1x16x128x64x64, .f32⟩
  | .hbm, ⟨108, _⟩ => ⟨S1x16x64x64, .f32⟩
  | .hbm, ⟨109, _⟩ => ⟨S1x16x128x64x64, .f32⟩
  | .hbm, ⟨110, _⟩ => ⟨S1x16x128x64x384, .f32⟩
  | .hbm, ⟨111, _⟩ => ⟨S1x16x128x384x64, .f32⟩
  | .hbm, ⟨112, _⟩ => ⟨S1x16x128x64x64, .f32⟩
  | .hbm, ⟨113, _⟩ => ⟨S1x16x128x64x64, .f32⟩
  | .hbm, ⟨114, _⟩ => ⟨S1x16x8192x64, .f32⟩
  | .hbm, ⟨115, _⟩ => ⟨S_, .i32⟩
  | .hbm, ⟨116, _⟩ => ⟨S_, .f32⟩
  | .hbm, ⟨117, _⟩ => ⟨S1x16x8192x64, .f32⟩
  | .hbm, ⟨118, _⟩ => ⟨S8192, .i32⟩
  | .hbm, ⟨119, _⟩ => ⟨S_, .i32⟩
  | .hbm, ⟨120, _⟩ => ⟨S8192, .i32⟩
  | .hbm, ⟨121, _⟩ => ⟨S8192, .i1⟩
  | .hbm, ⟨122, _⟩ => ⟨S1x1x8192x1, .i1⟩
  | .hbm, ⟨123, _⟩ => ⟨S1x16x8192x64, .i1⟩
  | .hbm, ⟨124, _⟩ => ⟨S1x16x8192x64, .f32⟩
  | .hbm, ⟨125, _⟩ => ⟨S1x8192x16x64, .f32⟩
  | .hbm, ⟨126, _⟩ => ⟨S1x8192x1024, .f32⟩
  | .hbm, ⟨127, _⟩ => ⟨S1x8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_c_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v28 : Ref sig .tc := ⟨.hbm, 45, rfl⟩
abbrev main_v29 : Ref sig .tc := ⟨.hbm, 46, rfl⟩
abbrev main_call1_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call2_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_6 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_7 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_8 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_10 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_11 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_13 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_14 : Ref sig .tc := ⟨.hbm, 115, rfl⟩
abbrev main_call4_v0 : Ref sig .tc := ⟨.hbm, 116, rfl⟩
abbrev main_v83 : Ref sig .tc := ⟨.hbm, 117, rfl⟩
abbrev main_v84 : Ref sig .tc := ⟨.hbm, 118, rfl⟩
abbrev main_c_15 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_call5_v0 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]
-- ==== Proof.Seg.lean ====
/-
  A kernel of @main as a step between two states of the program's unscoped buffers: entered with every unscoped buffer
  at a valuation, left with every one at another, the tables read along the way unchanged. Input windows may share one
  array.
-/
module

public import proofs.«01_k».proof.Proof.Gen.KernelIdeal.Regions
public import proofs.«01_k».proof.Proof.Gen.KernelIdeal.Points
public import Idealize.ShloMosaic.Lib.Pipeline.RegionArraysT
public import Idealize.ShloMosaic.Lib.Pipeline.FrameTail

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal Cert.KernelIdeal.Gen

variable {F : FTy → Type} [FloatOps F]

local notation "𝕄" => MT nD τ sig Unit (Elt F) ℕ (UR sig nD τ) ℕ

/-- No core owes another anything, so no level is assigned. -/
abbrev noIx : GSem nD τ sig → Finset Unit := fun _ => ∅
abbrev noLv : GSem nD τ sig → Unit → ℕ := fun _ _ => 0

/-- A core that owes nothing. -/
abbrev idleCore (c : Dev nD) : sProp 𝕄 := iprop(∃ W, owes (c : Thread nD τ) (0 : CellTallies nD τ sig Unit) W)

/-- The distinct buffers behind a kernel's windows, held whole, are its arrays held at the valuation. -/
theorem arrBufs_held {gr W : Nat} (win : Fin W → WinSpec sig gr) (c : Dev nD) (V : Valuation τ sig (Elt F)) :
    (arrBufs win c (fun b => V (Proc.devRef .tc b)) : sProp 𝕄) = StableHlo.held (c.tc : Thread nD τ) (arrRefs win) V := by
  unfold arrBufs StableHlo.held arrRefs
  rw [bigSep_map]
  rfl

variable (a : (p : Fin 3) → (pcfgs (F := F) p).Adm)
  (pdats : (p : Fin 3) → (c : Dev nD) → Dat τ (Elt F) Unit ℕ (UR sig nD τ) ℕ (pin (pcfgs (F := F)) a p) c)

/-- What is left of the unscoped buffers once a kernel's arrays and tables are taken out. -/
def outside (p : Fin 3) : Finset (DevRef τ sig) :=
  (ucRefs τ sig \ arrRefs (pcfgs (F := F) p).spec) \ tblRefs (pcfgs (F := F) p).pre

set_option backward.isDefEq.respectTransparency.types false in
/-- Every unscoped buffer at a valuation is the kernel's arrays, its tables and the others. -/
theorem held_parts (p : Fin 3) (kit : PLaunchFacts₀ (nD := nD) (τ := τ) (pcfgs (F := F)) p) (c : Dev nD)
    (V : Valuation τ sig (Elt F)) (G : (w : Fin (pin (pcfgs (F := F)) a p).W) → Buf (Elt F) (((pin (pcfgs (F := F)) a p).win w).arr.view.loc (c.tc : Thread nD τ)))
    (hq : ∀ w, ((pin (pcfgs (F := F)) a p).spec w).isOut = false → (pdats p c).q w = shareOf (pin (pcfgs (F := F)) a p).spec w)
    (hG : ∀ w, G w = V (Proc.devRef .tc (arrRef (pin (pcfgs (F := F)) a p).spec w)))
    (hT : ∀ k, (a p).1 k = V (Proc.devRef .tc ((pcfgs (F := F) p).pre.ref k))) :
    (StableHlo.held (c.tc : Thread nD τ) (ucRefs τ sig) V : sProp 𝕄)
      = iprop((pdats p c).arrays G ∗ tablesAt (pcfgs (F := F)) a p c ∗ StableHlo.held (c.tc : Thread nD τ) (outside (F := F) p) V) := by
  rw [StableHlo.held_sub_split (c.tc : Thread nD τ) (arrRefs_sub_ucRefs (pcfgs (F := F) p).spec kit.win.arr_unscoped) V,
    StableHlo.held_sub_split (c.tc : Thread nD τ) (tblRefs_sub_ucRefs_sdiff (pcfgs (F := F) p).spec (pcfgs (F := F) p).pre kit.pre.unscoped kit.pre.disj) V,
    ← arrBufs_held (pcfgs (F := F) p).spec c V, ← prefHeld_held (pcfgs (F := F) p).pre kit.pre.inj c (a p).1 V hT]
  rw [← (pdats p c).arrBufs_eq_arrays kit.sharedIn kit.arr_whole hq (fun b => V (Proc.devRef .tc b)) G hG]
  rfl

set_option backward.isDefEq.respectTransparency.types false in
/-- Kernel `p` between two states of the unscoped buffers. -/
def kernelSeg (p : Fin 3) (kit : PLaunchFacts₀ (nD := nD) (τ := τ) (pcfgs (F := F)) p)
    (hbody : ∀ c, BodyObligationLoose (pdats p c) defs₀ Variants.none () Set.univ)
    (howed : ∀ c t, (pdats p c).owed t = 0) (hrec : ∀ c, (pdats p c).recorded 0 = Set.univ)
    (hq : ∀ c w, ((pin (pcfgs (F := F)) a p).spec w).isOut = false → (pdats p c).q w = shareOf (pin (pcfgs (F := F)) a p).spec w)
    (hin : ∀ c, iprop(scopedRest (pin (pcfgs (F := F)) a p).spec c ∗ tablesAt (pcfgs (F := F)) a p c) ⊢ (pdats p c).Φ 0)
    (hout : ∀ c, (pdats p c).Φ (Fin.last (pin (pcfgs (F := F)) a p).N)
      ⊢ iprop(scopedRest (pin (pcfgs (F := F)) a p).spec c ∗ tablesAt (pcfgs (F := F)) a p c))
    (V V' : Dev nD → Valuation τ sig (Elt F))
    (hV : ∀ c w, (pdats p c).arrAt w 0 = V c (Proc.devRef .tc (arrRef (pin (pcfgs (F := F)) a p).spec w)))
    (hV' : ∀ c w, (pdats p c).arrAt w (pin (pcfgs (F := F)) a p).N = V' c (Proc.devRef .tc (arrRef (pin (pcfgs (F := F)) a p).spec w)))
    (hT : ∀ c k, (a p).1 k = V c (Proc.devRef .tc ((pcfgs (F := F) p).pre.ref k)))
    (hT' : ∀ c k, (a p).1 k = V' c (Proc.devRef .tc ((pcfgs (F := F) p).pre.ref k)))
    (hoff : ∀ c, ∀ b ∈ outside (F := F) p, V' c b = V c b) :
    RegionSeg (pcfgs (F := F)) a pdats () defs₀ Variants.none noIx noLv p where
  win := kit.win
  block_pos := kit.block_pos
  stage_whole := kit.stage_whole
  K := PEmpty
  osem k := k.elim
  ho := OwnSemFacts.none _
  hbody := hbody
  hwaits := hwaits_of_owed_zero _ _ _ _ noIx noLv p howed
  pre c := iprop(StableHlo.held (c.tc : Thread nD τ) (ucRefs τ sig) (V c) ∗ idleCore c)
  post c := iprop(StableHlo.held (c.tc : Thread nD τ) (ucRefs τ sig) (V' c) ∗ idleCore c)
  X _ := BI.emp
  Y c := tablesAt (pcfgs (F := F)) a p c
  Z c := StableHlo.held (c.tc : Thread nD τ) (outside (F := F) p) (V c)
  hentry c := by
    rw [ownSems0_none, held_parts a pdats p kit c (V c) _ (hq c) (hV c) (hT c)]
    iintro ⟨⟨⟨Ha, Hpf, Hu⟩, HO⟩, -, -⟩
    imodintro
    isplitl [Ha]; · iexact Ha
    isplitl [Hpf]; · iexact Hpf
    isplitl [HO]
    · unfold Dat.owesAt owesWithin Dat.bound
      rw [howed c 0, hrec c]
      icases HO with ⟨%W, HO⟩; iexists W; isplitr; · ipureintro; exact fun _ _ => Or.inl trivial
      iexact HO
    isplitr; · iempintro
    iexact Hu
  hin c := (show _ ⊢ iprop(scopedRest (pin (pcfgs (F := F)) a p).spec c ∗ tablesAt (pcfgs (F := F)) a p c) from by
    iintro ⟨-, Hpf, Hr⟩
    isplitl [Hr]; · iexact Hr
    iexact Hpf).trans (hin c)
  hout c := (hout c).trans (by
    rw [ownSems0_none]
    iintro ⟨Hr, Hpf⟩
    isplitl [Hpf]; · iexact Hpf
    isplitr; · iempintro
    iexact Hr)
  hexit c := by
    rw [held_parts a pdats p kit c (V' c) _ (hq c) (hV' c) (hT' c),
      StableHlo.held_congr (c.tc : Thread nD τ) (S := outside (F := F) p) (V := V' c) (V' := V c) (hoff c)]
    iintro ⟨Ha, HO, Hpf, Hu⟩
    imodintro
    isplitr [HO]
    · isplitl [Ha]; · iexact Ha
      isplitl [Hpf]; · iexact Hpf
      iexact Hu
    unfold Dat.owesAt owesWithin
    rw [howed c (Fin.last _)]
    icases HO with ⟨%W, -, HO⟩; iexists W; iexact HO

end Cert.KernelIdeal.Proof
end
-- ==== Proof.Stages.lean ====
module

public import proofs.«01_k».proof.Proof.Gen.KernelIdeal
public import Idealize.ShloMosaic.Lib.Pipeline.Regions

/-! # The attention body as a program of stages

The attention call's body is a long straight line: sixteen key/value slots are filled and used in turn, twice
seven times over sixteen query blocks and once more over the fourteen blocks left. Here the same text is said
by a few stages — fill a slot of the keys, fill a slot of the values, the weights of a query block, its
output — and lists of the blocks they run over. -/

@[expose] public section

noncomputable section

namespace Cert.KernelIdeal.Proof

open Idealize.ShloMosaic Idealize.ShloMosaic.TcCoe Idealize.SL.Sem
open Cert.KernelIdeal Cert.KernelIdeal.Facts₀ Cert.KernelIdeal.Facts

variable {F : FTy → Type} [FloatOps F] [Cert.KernelIdeal.Facts]

/-- The memory references of one run of the attention body. -/
structure Bufs where
  /-- the grid point -/
  i : grid1.Coords
  /-- the table of block indices -/
  idx : Memref sig .tc .smem S128x6 .i32
  hidx : idx.IsWhole
  /-- queries, keys and values of the head -/
  q : Memref sig .tc .vmem S1x128x64x64 .bf16
  hq : q.IsWhole
  k : Memref sig .tc .vmem S1x128x64x64 .bf16
  hk : k.IsWhole
  v : Memref sig .tc .vmem S1x128x64x64 .bf16
  hv : v.IsWhole
  /-- the head's output -/
  o : Memref sig .tc .vmem S1x128x64x64 .bf16
  ho : o.IsWhole
  /-- the slots of gathered keys, of gathered values, and the weights -/
  ka : Memref sig .tc .vmem S16x512x64 .bf16
  hka : ka.IsWhole
  va : Memref sig .tc .vmem S16x512x128 .bf16
  hva : va.IsWhole
  p : Memref sig .tc .vmem S128x64x512 .bf16
  hp : p.IsWhole

/-- A program of the attention body. -/
abbrev TProg (F : FTy → Type) (α : Type) := Prog (TpuEff nD τ sig (Elt F) Λ₀ .tc) α

/-- Run `f` on each member of a list in turn. -/
def eachOf {α : Type} (f : α → TProg F PUnit) : List α → TProg F PUnit
  | [] => pure ⟨⟩
  | a :: l => f a >>= fun _ => eachOf f l

/-! ## Pieces of a buffer -/

/-- Read a piece of `m`. -/
def getAt {s : Shape} (m : Memref sig .tc .vmem s .bf16) (r : Rect s) (h : 0 < r.shape.numel) :
    TProg F (r.shape.Idx → Elt F .bf16) :=
  Prog.lift (.load m r.toLoadRect (View.loadsAt_vmem h))

/-- Write a piece of `m`: whole rows of words, unit strides. -/
def putAt {s : Shape} (m : Memref sig .tc .vmem s .bf16) (hm : m.IsWhole) (r : Rect s) (h : 0 < r.shape.numel)
    (hpk : r.PackedRows (EltTy.packing .bf16)) (x : r.shape.Idx → Elt F .bf16) : TProg F PUnit :=
  Prog.lift (.store m r x Finset.univ (View.stores_vmem h (hm.storeExact_slice rfl _ hpk) (fun _ => rfl)) (.inl rfl))

/-! ## The pieces used, and that they lie inside -/

/-- Block `n` of the head's keys (or queries, values, output). -/
theorem in_blk {n : Nat} (hn : n < 128) :
    ∀ a, (![0, n, 0, 0] : Fin 4 → Nat) a + S1x1x64x64.size a ≤ S1x128x64x64.size a := by
  intro a; fin_cases a <;> simp [S1x1x64x64, S1x128x64x64] <;> omega

/-- Three blocks from `w` on. -/
theorem in_win {w : Nat} (hw : w + 3 ≤ 128) :
    ∀ a, (![0, w, 0, 0] : Fin 4 → Nat) a + S1x3x64x64.size a ≤ S1x128x64x64.size a := by
  intro a; fin_cases a <;> simp [S1x3x64x64, S1x128x64x64] <;> omega

/-- All blocks. -/
theorem in_all : ∀ a, (![0, 0, 0, 0] : Fin 4 → Nat) a + S1x128x64x64.size a ≤ S1x128x64x64.size a := by
  intro a; fin_cases a <;> simp [S1x128x64x64]

/-- A word of the table. -/
theorem in_idx {n j : Nat} (hn : n < 128) (hj : j < 6) :
    ∀ a, (![n, j] : Fin 2 → Nat) a + S1x1.size a ≤ S128x6.size a := by
  intro a; fin_cases a <;> simp [S1x1, S128x6] <;> omega

/-- Sixty-four rows of a slot of the keys. -/
theorem in_ka64 {b r : Nat} (hb : b < 16) (hr : r + 64 ≤ 512) :
    ∀ a, (![b, r, 0] : Fin 3 → Nat) a + S1x64x64.size a ≤ S16x512x64.size a := by
  intro a; fin_cases a <;> simp [S1x64x64, S16x512x64] <;> omega

/-- The window rows of a slot of the keys. -/
theorem in_ka192 {b : Nat} (hb : b < 16) :
    ∀ a, (![b, 64, 0] : Fin 3 → Nat) a + S1x192x64.size a ≤ S16x512x64.size a := by
  intro a; fin_cases a <;> simp [S1x192x64, S16x512x64] <;> omega

/-- A whole slot of the keys. -/
theorem in_ka512 {b : Nat} (hb : b < 16) :
    ∀ a, (![b, 0, 0] : Fin 3 → Nat) a + S1x512x64.size a ≤ S16x512x64.size a := by
  intro a; fin_cases a <;> simp [S1x512x64, S16x512x64] <;> omega

/-- Sixty-four rows of a slot of the values, the half of the columns that holds values. -/
theorem in_va64 {b r : Nat} (hb : b < 16) (hr : r + 64 ≤ 512) :
    ∀ a, (![b, r, 0] : Fin 3 → Nat) a + S1x64x64.size a ≤ S16x512x128.size a := by
  intro a; fin_cases a <;> simp [S1x64x64, S16x512x128] <;> omega

/-- The window rows of a slot of the values. -/
theorem in_va192 {b : Nat} (hb : b < 16) :
    ∀ a, (![b, 64, 0] : Fin 3 → Nat) a + S1x192x64.size a ≤ S16x512x128.size a := by
  intro a; fin_cases a <;> simp [S1x192x64, S16x512x128] <;> omega

/-- A whole slot of the values, all columns. -/
theorem in_va512 {b : Nat} (hb : b < 16) :
    ∀ a, (![b, 0, 0] : Fin 3 → Nat) a + S1x512x128.size a ≤ S16x512x128.size a := by
  intro a; fin_cases a <;> simp [S1x512x128, S16x512x128] <;> omega

/-- The columns of ones of a slot of the values. -/
theorem in_vaOnes {b : Nat} (hb : b < 16) :
    ∀ a, (![b, 0, 64] : Fin 3 → Nat) a + S1x512x64.size a ≤ S16x512x128.size a := by
  intro a; fin_cases a <;> simp [S1x512x64, S16x512x128] <;> omega

/-- The rows of zeros at the end of a slot of the values. -/
theorem in_vaPad {b : Nat} (hb : b < 16) :
    ∀ a, (![b, 448, 0] : Fin 3 → Nat) a + S1x64x128.size a ≤ S16x512x128.size a := by
  intro a; fin_cases a <;> simp [S1x64x128, S16x512x128] <;> omega

/-- The weights of block `n`. -/
theorem in_p {n : Nat} (hn : n < 128) :
    ∀ a, (![n, 0, 0] : Fin 3 → Nat) a + S1x64x512.size a ≤ S128x64x512.size a := by
  intro a; fin_cases a <;> simp [S1x64x512, S128x64x512] <;> omega

/-- A piece of a rank-three buffer whose rows start and number a multiple of two is whole words. -/
theorem packed3 {n1 n2 n3 m1 m2 m3 b r c : Nat} (inb) (ho : 2 ∣ r) (hs : 2 ∣ m2) :
    (Rect.unit (s := ⟨3, ![n1, n2, n3]⟩) ![b, r, c] ![m1, m2, m3] inb).PackedRows (EltTy.packing .bf16) :=
  .inr ⟨Nat.le_add_left 2 1, rfl, .inl ⟨ho, hs⟩⟩

/-- The same at rank four. -/
theorem packed4 {n1 n2 n3 n4 m1 m2 m3 m4 a b r c : Nat} (inb) (ho : 2 ∣ r) (hs : 2 ∣ m3) :
    (Rect.unit (s := ⟨4, ![n1, n2, n3, n4]⟩) ![a, b, r, c] ![m1, m2, m3, m4] inb).PackedRows (EltTy.packing .bf16) :=
  .inr ⟨Nat.le_add_left 2 2, rfl, .inl ⟨ho, hs⟩⟩

/-! ## The stages -/

variable (B : Bufs)

/-- The word `(n, j)` of the table. -/
def idxAt (n j : Nat) (hn : n < 128) (hj : j < 6) : TProg F (Elt F .i32) :=
  smemLoad B.idx (Rect.unit (s := S128x6) ![n, j] S1x1.size (in_idx hn hj)) numel1_S1x1 rfl

/-- The word `(n, j)` of the table, and that the block it names is one of the 128. -/
def idxOk (n j : Nat) (hn : n < 128) (hj : j < 6) : TProg F (Σ' v : Elt F .i32, k1_chk1 v) := do
  let v : Elt F .i32 ← idxAt B n j hn hj
  let h ← Prog.lift (TpuEff.assume (k1_chk1 v) (k1_chk1.dec v))
  pure ⟨v, h.down⟩

/-- Block `n` of a head array. -/
def blkAt (m : Memref sig .tc .vmem S1x128x64x64 .bf16) (n : Nat) (hn : n < 128) : TProg F (Vec F S1x1x64x64 .bf16) :=
  getAt m (Rect.unit (s := S1x128x64x64) ![0, n, 0, 0] S1x1x64x64.size (in_blk hn)) h_S1x1x64x64

/-- The block the word `v` names. -/
def blkOf (m : Memref sig .tc .vmem S1x128x64x64 .bf16) (v : Elt F .i32) (h : k1_chk1 v) : TProg F (Vec F S1x1x64x64 .bf16) :=
  getAt m (Rect.unit (s := S1x128x64x64) (k1_off3 v) S1x1x64x64.size (k1_off3_inb v h)) h_S1x1x64x64

/-- Blocks `w`, `w+1`, `w+2` of a head array. -/
def winAt (m : Memref sig .tc .vmem S1x128x64x64 .bf16) (w : Nat) (hw : w + 3 ≤ 128) : TProg F (Vec F S1x3x64x64 .bf16) :=
  getAt m (Rect.unit (s := S1x128x64x64) ![0, w, 0, 0] S1x3x64x64.size (in_win hw)) h_S1x3x64x64

/-- Write sixty-four rows of slot `b` of the keys (what was there is read and dropped). -/
def kaPut (b r : Nat) (hb : b < 16) (hr : r + 64 ≤ 512) (h2 : 2 ∣ r) (x : FVec F S64x64 .bf16) : TProg F PUnit := do
  let _ ← getAt B.ka (Rect.unit (s := S16x512x64) ![b, r, 0] S1x64x64.size (in_ka64 hb hr)) h_S1x64x64
  putAt B.ka B.hka (Rect.unit (s := S16x512x64) ![b, r, 0] S1x64x64.size (in_ka64 hb hr)) h_S1x64x64
    (packed3 _ h2 (by decide)) (shapeCast S1x64x64 x shapeCasts_S64x64_S1x64x64)

/-- Write sixty-four rows of slot `b` of the values. -/
def vaPut (b r : Nat) (hb : b < 16) (hr : r + 64 ≤ 512) (h2 : 2 ∣ r) (x : FVec F S64x64 .bf16) : TProg F PUnit := do
  let _ ← getAt B.va (Rect.unit (s := S16x512x128) ![b, r, 0] S1x64x64.size (in_va64 hb hr)) h_S1x64x64
  putAt B.va B.hva (Rect.unit (s := S16x512x128) ![b, r, 0] S1x64x64.size (in_va64 hb hr)) h_S1x64x64
    (packed3 _ h2 (by decide)) (shapeCast S1x64x64 x shapeCasts_S64x64_S1x64x64)

/-- The window of three key blocks from `w` into slot `b`. -/
def kaWin (w b : Nat) (hw : w + 3 ≤ 128) (hb : b < 16) : TProg F PUnit := do
  let x : Vec F S1x3x64x64 .bf16 ← winAt B.k w hw
  let _ ← getAt B.ka (Rect.unit (s := S16x512x64) ![b, 64, 0] S1x192x64.size (in_ka192 hb)) h_S1x192x64
  putAt B.ka B.hka (Rect.unit (s := S16x512x64) ![b, 64, 0] S1x192x64.size (in_ka192 hb)) h_S1x192x64
    (packed3 _ (by decide) (by decide))
    (shapeCast S1x192x64 (shapeCast S192x64 (shapeCast S3x64x64 x shapeCasts_S1x3x64x64_S3x64x64) shapeCasts_S3x64x64_S192x64) shapeCasts_S192x64_S1x192x64)

/-- The window of three value blocks from `w` into slot `b`. -/
def vaWin (w b : Nat) (hw : w + 3 ≤ 128) (hb : b < 16) : TProg F PUnit := do
  let x : Vec F S1x3x64x64 .bf16 ← winAt B.v w hw
  let _ ← getAt B.va (Rect.unit (s := S16x512x128) ![b, 64, 0] S1x192x64.size (in_va192 hb)) h_S1x192x64
  putAt B.va B.hva (Rect.unit (s := S16x512x128) ![b, 64, 0] S1x192x64.size (in_va192 hb)) h_S1x192x64
    (packed3 _ (by decide) (by decide))
    (shapeCast S1x192x64 (shapeCast S192x64 (shapeCast S3x64x64 x shapeCasts_S1x3x64x64_S3x64x64) shapeCasts_S3x64x64_S192x64) shapeCasts_S192x64_S1x192x64)

/-- The key block that word `(n, j)` names into its rows of slot `b`. -/
def kaSlot (n b : Nat) (hn : n < 128) (hb : b < 16) (j : Nat) (hj : j < 6) : TProg F PUnit := do
  let ⟨v, h⟩ ← idxOk (F := F) B n j hn hj
  let x : Vec F S1x1x64x64 .bf16 ← blkOf B.k v h
  kaPut B b ((j + 1) * 64) hb (by omega) ⟨(j + 1) * 32, by omega⟩ (shapeCast S64x64 x shapeCasts_S1x1x64x64_S64x64)

/-- The value block that word `(n, j)` names into its rows of slot `b`. -/
def vaSlot (n b : Nat) (hn : n < 128) (hb : b < 16) (j : Nat) (hj : j < 6) : TProg F PUnit := do
  let ⟨v, h⟩ ← idxOk (F := F) B n j hn hj
  let x : Vec F S1x1x64x64 .bf16 ← blkOf B.v v h
  vaPut B b ((j + 1) * 64) hb (by omega) ⟨(j + 1) * 32, by omega⟩ (shapeCast S64x64 x shapeCasts_S1x1x64x64_S64x64)

/-- Fill slot `b` of the keys for query block `n`: the window, then the three chosen blocks. -/
def kaFill (n w b : Nat) (hn : n < 128) (hw : w + 3 ≤ 128) (hb : b < 16) : TProg F PUnit := do
  kaWin B w b hw hb
  kaSlot B n b hn hb 3 (by decide)
  kaSlot B n b hn hb 4 (by decide)
  kaSlot B n b hn hb 5 (by decide)

/-- Fill slot `b` of the values for query block `n`. -/
def vaFill (n w b : Nat) (hn : n < 128) (hw : w + 3 ≤ 128) (hb : b < 16) : TProg F PUnit := do
  vaWin B w b hw hb
  vaSlot B n b hn hb 3 (by decide)
  vaSlot B n b hn hb 4 (by decide)
  vaSlot B n b hn hb 5 (by decide)

/-- Fill slot `b` of the keys for query block `n`, all six blocks by their words. -/
def kaFill6 (n b : Nat) (hn : n < 128) (hb : b < 16) : TProg F PUnit := do
  kaSlot B n b hn hb 0 (by decide)
  kaSlot B n b hn hb 1 (by decide)
  kaSlot B n b hn hb 2 (by decide)
  kaSlot B n b hn hb 3 (by decide)
  kaSlot B n b hn hb 4 (by decide)
  kaSlot B n b hn hb 5 (by decide)

/-- Fill slot `b` of the values for query block `n`, all six blocks by their words. -/
def vaFill6 (n b : Nat) (hn : n < 128) (hb : b < 16) : TProg F PUnit := do
  vaSlot B n b hn hb 0 (by decide)
  vaSlot B n b hn hb 1 (by decide)
  vaSlot B n b hn hb 2 (by decide)
  vaSlot B n b hn hb 3 (by decide)
  vaSlot B n b hn hb 4 (by decide)
  vaSlot B n b hn hb 5 (by decide)

/-- One where the word chooses a block past the first, else zero. -/
def gate (v : Elt F .i32) : F .f32 :=
  Scalar.select (Scalar.cmpi .sge v 1#32) (Scalar.ofBits .f32 0x3F800000#32) (Scalar.ofBits .f32 0x00000000#32)

/-- Sixty-four columns, times a gate. -/
def gated (e : FVec F S64x512 .f32) (c : Nat) (h : S64x512.Slices ![0, c] S64x64) (v : Elt F .i32) : FVec F S64x64 .f32 :=
  mulf (extractStridedSlice S64x64 ![0, c] e h) (broadcast S64x64 (gate v))

/-- The exponentials of the scores of a query block against a slot of keys. -/
def expScores (q : Vec F S1x1x64x64 .bf16) (ka : Vec F S1x512x64 .bf16) : FVec F S64x512 .f32 :=
  exp (matmul dot_S64x64_S512x64_S64x512_1_1_0_0_n_n none (shapeCast S64x64 q shapeCasts_S1x1x64x64_S64x64)
    (shapeCast S512x64 ka shapeCasts_S1x512x64_S512x64) (constant S64x512 .f32 0x00000000#32))

/-- The weights with the three chosen blocks gated. -/
def weights3 (e : FVec F S64x512 .f32) (v3 v4 v5 : Elt F .i32) : Vec F S1x64x512 .bf16 :=
  shapeCast S1x64x512 (truncf .bf16 (concatenate S64x512 1
    [⟨S64x256, extractStridedSlice S64x256 ![0, 0] e slices_S64x512_o0_0_S64x256⟩,
     ⟨S64x64, gated e 256 slices_S64x512_o0_256_S64x64 v3⟩, ⟨S64x64, gated e 320 slices_S64x512_o0_320_S64x64 v4⟩,
     ⟨S64x64, gated e 384 slices_S64x512_o0_384_S64x64 v5⟩,
     ⟨S64x64, extractStridedSlice S64x64 ![0, 448] e slices_S64x512_o0_448_S64x64⟩]
    concatenates_S64x256_S64x64_S64x64_S64x64_S64x64_S64x512_d1) bitsLt_bf16_f32) shapeCasts_S64x512_S1x64x512

/-- The weights with all six blocks gated. -/
def weights6 (e : FVec F S64x512 .f32) (v0 v1 v2 v3 v4 v5 : Elt F .i32) : Vec F S1x64x512 .bf16 :=
  shapeCast S1x64x512 (truncf .bf16 (concatenate S64x512 1
    [⟨S64x64, extractStridedSlice S64x64 ![0, 0] e slices_S64x512_o0_0_S64x64⟩,
     ⟨S64x64, gated e 64 slices_S64x512_o0_64_S64x64 v0⟩, ⟨S64x64, gated e 128 slices_S64x512_o0_128_S64x64 v1⟩,
     ⟨S64x64, gated e 192 slices_S64x512_o0_192_S64x64 v2⟩,
     ⟨S64x64, gated e 256 slices_S64x512_o0_256_S64x64 v3⟩, ⟨S64x64, gated e 320 slices_S64x512_o0_320_S64x64 v4⟩,
     ⟨S64x64, gated e 384 slices_S64x512_o0_384_S64x64 v5⟩,
     ⟨S64x64, extractStridedSlice S64x64 ![0, 448] e slices_S64x512_o0_448_S64x64⟩]
    concatenates_S64x64_S64x64_S64x64_S64x64_S64x64_S64x64_S64x64_S64x64_S64x512_d1) bitsLt_bf16_f32) shapeCasts_S64x512_S1x64x512

/-- Store the weights of query block `n`. -/
def pPut (n : Nat) (hn : n < 128) (x : Vec F S1x64x512 .bf16) : TProg F PUnit := do
  let _ ← getAt B.p (Rect.unit (s := S128x64x512) ![n, 0, 0] S1x64x512.size (in_p hn)) h_S1x64x512
  putAt B.p B.hp (Rect.unit (s := S128x64x512) ![n, 0, 0] S1x64x512.size (in_p hn)) h_S1x64x512
    (packed3 _ (by decide) (by decide)) x

/-- Slot `b` of the keys. -/
def kaAt (b : Nat) (hb : b < 16) : TProg F (Vec F S1x512x64 .bf16) :=
  getAt B.ka (Rect.unit (s := S16x512x64) ![b, 0, 0] S1x512x64.size (in_ka512 hb)) h_S1x512x64

/-- The weights of query block `n` against slot `b`. -/
def weigh (n b : Nat) (hn : n < 128) (hb : b < 16) : TProg F PUnit := do
  let q : Vec F S1x1x64x64 .bf16 ← blkAt B.q n hn
  let ka : Vec F S1x512x64 .bf16 ← kaAt B b hb
  let v3 : Elt F .i32 ← idxAt B n 3 hn (by decide)
  let v4 : Elt F .i32 ← idxAt B n 4 hn (by decide)
  let v5 : Elt F .i32 ← idxAt B n 5 hn (by decide)
  pPut B n hn (weights3 (expScores q ka) v3 v4 v5)

/-- The weights of query block `n` against slot `b`, all six blocks gated. -/
def weigh6 (n b : Nat) (hn : n < 128) (hb : b < 16) : TProg F PUnit := do
  let q : Vec F S1x1x64x64 .bf16 ← blkAt B.q n hn
  let ka : Vec F S1x512x64 .bf16 ← kaAt B b hb
  let v0 : Elt F .i32 ← idxAt B n 0 hn (by decide)
  let v1 : Elt F .i32 ← idxAt B n 1 hn (by decide)
  let v2 : Elt F .i32 ← idxAt B n 2 hn (by decide)
  let v3 : Elt F .i32 ← idxAt B n 3 hn (by decide)
  let v4 : Elt F .i32 ← idxAt B n 4 hn (by decide)
  let v5 : Elt F .i32 ← idxAt B n 5 hn (by decide)
  pPut B n hn (weights6 (expScores q ka) v0 v1 v2 v3 v4 v5)

/-- The weighted values over the sum of the weights. -/
def average (p : Vec F S1x64x512 .bf16) (va : Vec F S1x512x128 .bf16) : FVec F S64x64 .bf16 :=
  let ol : FVec F S64x128 .f32 := matmul dot_S64x512_S512x128_S64x128_1_0_0_1_n_n none
    (shapeCast S64x512 p shapeCasts_S1x64x512_S64x512) (shapeCast S512x128 va shapeCasts_S1x512x128_S512x128)
    (constant S64x128 .f32 0x00000000#32)
  truncf .bf16 (divf (extractStridedSlice S64x64 ![0, 0] ol slices_S64x128_o0_0_S64x64)
    (extractStridedSlice S64x64 ![0, 64] ol slices_S64x128_o0_64_S64x64)) bitsLt_bf16_f32

/-- Store block `n` of the output. -/
def oPut (n : Nat) (hn : n < 128) (x : FVec F S64x64 .bf16) : TProg F PUnit := do
  let _ ← blkAt (F := F) B.o n hn
  putAt B.o B.ho (Rect.unit (s := S1x128x64x64) ![0, n, 0, 0] S1x1x64x64.size (in_blk hn)) h_S1x1x64x64
    (packed4 _ (by decide) (by decide)) (shapeCast S1x1x64x64 x shapeCasts_S64x64_S1x1x64x64)

/-- Slot `b` of the values. -/
def vaAt (b : Nat) (hb : b < 16) : TProg F (Vec F S1x512x128 .bf16) :=
  getAt B.va (Rect.unit (s := S16x512x128) ![b, 0, 0] S1x512x128.size (in_va512 hb)) h_S1x512x128

/-- Block `n` of the output, from its weights and slot `b` of the values. -/
def apply (n b : Nat) (hn : n < 128) (hb : b < 16) : TProg F PUnit := do
  let p : Vec F S1x64x512 .bf16 ← getAt B.p (Rect.unit (s := S128x64x512) ![n, 0, 0] S1x64x512.size (in_p hn)) h_S1x64x512
  let va : Vec F S1x512x128 .bf16 ← vaAt B b hb
  oPut B n hn (average p va)

/-! ## The first block and the slots' constant parts -/

/-- Query block 0, against every key. -/
def average0 (q : Vec F S1x1x64x64 .bf16) (k v : Vec F S1x128x64x64 .bf16) : FVec F S64x64 .bf16 :=
  let e : FVec F S64x8192 .f32 := exp (matmul dot_S64x64_S8192x64_S64x8192_1_1_0_0_n_n none
    (shapeCast S64x64 q shapeCasts_S1x1x64x64_S64x64)
    (shapeCast S8192x64 (shapeCast S128x64x64 k shapeCasts_S1x128x64x64_S128x64x64) shapeCasts_S128x64x64_S8192x64)
    (constant S64x8192 .f32 0x00000000#32))
  truncf .bf16 (divf
    (matmul dot_S64x8192_S8192x64_S64x64_1_0_0_1_n_n none (truncf .bf16 e bitsLt_bf16_f32)
      (shapeCast S8192x64 (shapeCast S128x64x64 v shapeCasts_S1x128x64x64_S128x64x64) shapeCasts_S128x64x64_S8192x64)
      (constant S64x64 .f32 0x00000000#32))
    (broadcastTo S64x64 (shapeCast S64x1 (multiReduction .add [1] S64 e 0x00000000#32 reduces_S64x8192_S64 (.inl rfl) rfl)
      shapeCasts_S64_S64x1) broadcasts_S64x1_S64x64)) bitsLt_bf16_f32

/-- All blocks of a head array. -/
def allAt (m : Memref sig .tc .vmem S1x128x64x64 .bf16) : TProg F (Vec F S1x128x64x64 .bf16) :=
  getAt m (Rect.unit (s := S1x128x64x64) ![0, 0, 0, 0] S1x128x64x64.size in_all) h_S1x128x64x64

/-- Block 0 of the output. -/
def first : TProg F PUnit := do
  let k : Vec F S1x128x64x64 .bf16 ← allAt B.k
  let v : Vec F S1x128x64x64 .bf16 ← allAt B.v
  let q : Vec F S1x1x64x64 .bf16 ← blkAt B.q 0 (by decide)
  oPut B 0 (by decide) (average0 q k v)

/-- The parts of slot `b` no block's turn changes: the first block's keys and values, the ones beside the values,
    the zeros at the end. -/
def prepare (b : Nat) (hb : b < 16) : TProg F PUnit := do
  let k : Vec F S1x1x64x64 .bf16 ← blkAt B.k 0 (by decide)
  kaPut B b 0 hb (by decide) (by decide) (shapeCast S64x64 k shapeCasts_S1x1x64x64_S64x64)
  kaPut B b 448 hb (by decide) (by decide) (broadcast S64x64 (Scalar.ofBits .bf16 0x0000#16))
  let v : Vec F S1x1x64x64 .bf16 ← blkAt B.v 0 (by decide)
  vaPut B b 0 hb (by decide) (by decide) (shapeCast S64x64 v shapeCasts_S1x1x64x64_S64x64)
  let _ ← getAt (F := F) B.va (Rect.unit (s := S16x512x128) ![b, 0, 64] S1x512x64.size (in_vaOnes hb)) h_S1x512x64
  putAt B.va B.hva (Rect.unit (s := S16x512x128) ![b, 0, 64] S1x512x64.size (in_vaOnes hb)) h_S1x512x64
    (packed3 _ (by decide) (by decide)) (shapeCast S1x512x64 (broadcast S512x64 (Scalar.ofBits .bf16 0x3F80#16)) shapeCasts_S512x64_S1x512x64)
  let _ ← getAt (F := F) B.va (Rect.unit (s := S16x512x128) ![b, 448, 0] S1x64x128.size (in_vaPad hb)) h_S1x64x128
  putAt B.va B.hva (Rect.unit (s := S16x512x128) ![b, 448, 0] S1x64x128.size (in_vaPad hb)) h_S1x64x128
    (packed3 _ (by decide) (by decide)) (shapeCast S1x64x128 (broadcast S64x128 (Scalar.ofBits .bf16 0x0000#16)) shapeCasts_S64x128_S1x64x128)

/-! ## The loops' trips -/

/-- The query block of slot `b` in trip `k`, as a machine word. -/
def trip16 (k : Nat) (b : Nat) : BitVec 32 :=
  Scalar.addi (Scalar.addi (Scalar.muli 16#32 (Scf.iv 0#32 1#32 k)) 2#32) (BitVec.ofNat 32 b)

/-- The query block of slot `b` in trip `k`. -/
def blockOf (k b : Nat) : Nat := (Scalar.indexCast (trip16 k b)).toNat
/-- The block before it. -/
def beforeOf (k b : Nat) : Nat := (Scalar.indexCast (Scalar.subi (trip16 k b) 1#32)).toNat

theorem blocks_table : ∀ k : Fin 7, ∀ b : Fin 16, blockOf k b = 16 * k + 2 + b ∧ beforeOf k b = 16 * k + 1 + b := by
  decide +kernel

theorem blockOf_eq {k b : Nat} (hk : k < 7) (hb : b < 16) : blockOf k b = 16 * k + 2 + b := (blocks_table ⟨k, hk⟩ ⟨b, hb⟩).1
theorem beforeOf_eq {k b : Nat} (hk : k < 7) (hb : b < 16) : beforeOf k b = 16 * k + 1 + b := (blocks_table ⟨k, hk⟩ ⟨b, hb⟩).2

theorem blockOf_lt {k b : Nat} (hk : k < 7) (hb : b < 16) : blockOf k b < 128 := by
  rw [blockOf_eq hk hb]; omega
theorem beforeOf_le {k b : Nat} (hk : k < 7) (hb : b < 16) : beforeOf k b + 3 ≤ 128 := by
  rw [beforeOf_eq hk hb]; omega

/-- The sixteen slots. -/
def slots : List (Fin 16) := [0, 1, 2, 3, 4, 5, 6, 7, 8, 9, 10, 11, 12, 13, 14, 15]

/-- One trip of the first loop: fill the sixteen slots of keys, then weigh. -/
def tripK (k : Nat) (hk : k < 7) : TProg F PUnit := do
  eachOf (fun b : Fin 16 => kaFill B (blockOf k b) (beforeOf k b) b (blockOf_lt hk b.2) (beforeOf_le hk b.2) b.2) slots
  eachOf (fun b : Fin 16 => weigh B (blockOf k b) b (blockOf_lt hk b.2) b.2) slots

/-- One trip of the second loop: fill the sixteen slots of values, then average. -/
def tripV (k : Nat) (hk : k < 7) : TProg F PUnit := do
  eachOf (fun b : Fin 16 => vaFill B (blockOf k b) (beforeOf k b) b (blockOf_lt hk b.2) (beforeOf_le hk b.2) b.2) slots
  eachOf (fun b : Fin 16 => apply B (blockOf k b) b (blockOf_lt hk b.2) b.2) slots

/-! ## The blocks the loops leave -/

/-- The twelve blocks 114 to 125, by their slots 0 to 11. -/
def slots12 : List (Fin 12) := [0, 1, 2, 3, 4, 5, 6, 7, 8, 9, 10, 11]

/-- The three blocks at the ends, with their slots. -/
def ends : List (Fin 128 × Fin 16) := [(1, 12), (126, 13), (127, 14)]

/-- Block 0 and the slots' constant parts. -/
def opening : TProg F PUnit := do
  first B
  eachOf (fun b : Fin 16 => prepare B b b.2) slots

/-- Fill and weigh the blocks the first loop leaves. -/
def restK : TProg F PUnit := do
  eachOf (fun b : Fin 12 => kaFill B (114 + b) (113 + b) b (by omega) (by omega) (by omega)) slots12
  eachOf (fun e : Fin 128 × Fin 16 => kaFill6 B e.1 e.2 e.1.2 e.2.2) ends
  eachOf (fun b : Fin 12 => weigh B (114 + b) b (by omega) (by omega)) slots12
  eachOf (fun e : Fin 128 × Fin 16 => weigh6 B e.1 e.2 e.1.2 e.2.2) ends

/-- Fill and average the blocks the second loop leaves. -/
def restV : TProg F PUnit := do
  eachOf (fun b : Fin 12 => vaFill B (114 + b) (113 + b) b (by omega) (by omega) (by omega)) slots12
  eachOf (fun e : Fin 128 × Fin 16 => vaFill6 B e.1 e.2 e.1.2 e.2.2) ends
  eachOf (fun b : Fin 12 => apply B (114 + b) b (by omega) (by omega)) slots12
  eachOf (fun e : Fin 128 × Fin 16 => apply B e.1 e.2 e.1.2 e.2.2) ends

/-- The first loop. -/
def loopK : TProg F PUnit := Scf.Loop.for k1_t1_loop k1_t1_ok ⟨⟩ fun k _ => tripK B k k.2

/-- The second loop. -/
def loopV : TProg F PUnit := Scf.Loop.for k1_t2_loop k1_t2_ok ⟨⟩ fun k _ => tripV B k k.2

/-- The attention body by its stages. -/
def staged : TProg F PUnit := do
  opening B
  loopK B
  restK B
  loopV B
  restV B

theorem trips1 : k1_t1_loop.trips = 7 := rfl

theorem trips2 : k1_t2_loop.trips = 7 := rfl

end Cert.KernelIdeal.Proof
end
-- ==== Proof.Rules.lean ====
/-
  The attention body's memory as pure arrays: what a program of the body does to them, as triples over pure states, one
  rule per kind of step.
-/
module

public import proofs.«01_k».proof.Proof.Stages
public import Idealize.ShloMosaic.Lib.Tactic
public import Idealize.ShloMosaic.Lib.WritesUnit
public import Idealize.ShloMosaic.Lib.Memref
public import Idealize.ShloMosaic.Lib.Scf

@[expose] public section

noncomputable section

namespace Cert.KernelIdeal.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

variable {F : FTy → Type} [FloatOps F] [Cert.KernelIdeal.Facts]
variable {Ix : Type} [DecidableEq Ix] {U : Type} [URA U] {Lvl : Type} [Preorder Lvl]

local notation "𝕄" => MT nD τ sig Ix (Elt F) ℕ U Lvl

/-- What the body only reads: the table and the head's queries, keys and values. -/
structure Inputs (F : FTy → Type) where
  idx : S128x6.Idx → Elt F .i32
  q : S1x128x64x64.Idx → Elt F .bf16
  k : S1x128x64x64.Idx → Elt F .bf16
  v : S1x128x64x64.Idx → Elt F .bf16

/-- What the body writes: the output, the slots of keys and of values, the weights. -/
structure St (F : FTy → Type) where
  o : S1x128x64x64.Idx → Elt F .bf16
  ka : S16x512x64.Idx → Elt F .bf16
  va : S16x512x128.Idx → Elt F .bf16
  p : S128x64x512.Idx → Elt F .bf16

/-- The buffers hold the inputs and the state. -/
def own (c : Dev nD) (B : Bufs) (R : Inputs F) (s : St F) : sProp 𝕄 :=
  iprop(owns (c : Thread nD τ) B.idx fullShare R.idx ∗ owns (c : Thread nD τ) B.q fullShare R.q
    ∗ owns (c : Thread nD τ) B.k fullShare R.k ∗ owns (c : Thread nD τ) B.v fullShare R.v
    ∗ owns (c : Thread nD τ) B.o fullShare s.o ∗ owns (c : Thread nD τ) B.ka fullShare s.ka
    ∗ owns (c : Thread nD τ) B.va fullShare s.va ∗ owns (c : Thread nD τ) B.p fullShare s.p)

/-- An array with a piece written over it. -/
def putU {s : Shape} {e : EltTy} (off size : Fin s.rank → Nat) (inb : ∀ a, off a + size a ≤ s.size a)
    (x : (Rect.unit off size inb).shape.Idx → Elt F e) (A : s.Idx → Elt F e) : s.Idx → Elt F e := fun y =>
  if h : ∀ a, off a ≤ (y a).val ∧ (y a).val < off a + size a then
    x (Rect.unitLocal (s := s) (off := off) (size := size) y h) else A y

section Wp

variable {defs : Defs nD τ sig (Elt F) Λ₀} (𝒱 : Variants) (c : Dev nD) (E : Set ℕ)

theorem wp_getAt {s : Shape} (m : Memref sig .tc .vmem s .bf16) (r : Rect s) (h : 0 < r.shape.numel)
    (X : s.Idx → Elt F .bf16) (Q : (r.shape.Idx → Elt F .bf16) → sProp 𝕄) :
    iprop(owns (c : Thread nD τ) m fullShare X ∗ (owns (c : Thread nD τ) m fullShare X -∗ Q (fun i => X (r.emb i))))
      ⊢ wp frame (wpE defs 𝒱 (c : Thread nD τ) none) E (getAt m r h) Q := by
  unfold owns getAt
  iintro ⟨⟨%f, %hf, H⟩, HQ⟩
  iapply (wp_load_rect 𝒱 (c : Thread nD τ) none E (m := m) (r := r) (hl := View.loadsAt_vmem h) (S := m.view.set) (k := Prog.ret) (f := f) (View.set_slice_subset _ r)) $$ H
  iintro H
  rw [wp_ret]
  imodintro
  have e : (m.access r).read (Elt F) f = fun i => X (r.emb i) := by rw [← hf]; rfl
  rw [e]
  iapply HQ
  iexists f
  isplitr; · ipureintro; exact hf
  iexact H

theorem wp_putAt {s : Shape} (m : Memref sig .tc .vmem s .bf16) (hm : m.IsWhole) (off size : Fin s.rank → Nat)
    (inb : ∀ a, off a + size a ≤ s.size a) (h : 0 < (Rect.unit off size inb).shape.numel)
    (hpk : (Rect.unit off size inb).PackedRows (EltTy.packing .bf16)) (x : (Rect.unit off size inb).shape.Idx → Elt F .bf16)
    (X : s.Idx → Elt F .bf16) (Q : PUnit → sProp 𝕄) :
    iprop(owns (c : Thread nD τ) m fullShare X ∗ (owns (c : Thread nD τ) m fullShare (putU off size inb x X) -∗ Q ⟨⟩))
      ⊢ wp frame (wpE defs 𝒱 (c : Thread nD τ) none) E (putAt m hm (Rect.unit off size inb) h hpk x) Q := by
  unfold owns putAt
  iintro ⟨⟨%f, %hf, H⟩, HQ⟩
  iapply (wp_store_writes₀ 𝒱 (c : Thread nD τ) none E (S := m.view.set) (k := Prog.ret) (f := f)
    (r := Rect.unit off size inb) (w := x) (View.set_slice_subset _ _)) $$ H
  iintro H
  rw [wp_ret]
  imodintro
  iapply HQ
  iexists (m.view.writes (Elt F) f [⟨Rect.unit off size inb, x⟩])
  isplitr
  · ipureintro
    funext y
    refine (View.read_writes_cons_unit m.view f inb x [] y rfl).trans ?_
    rw [← hf]
    rfl
  iexact H

theorem wp_word {s : Shape} (m : Memref sig .tc .smem s .i32) (r : Rect s) (h1 : r.shape.numel = 1)
    (X : s.Idx → Elt F .i32) (Q : Elt F .i32 → sProp 𝕄) :
    iprop(owns (c : Thread nD τ) m fullShare X
        ∗ (owns (c : Thread nD τ) m fullShare X -∗ Q (X (r.emb (Shape.Idx.first (h1.symm ▸ Nat.one_pos))))))
      ⊢ wp frame (wpE defs 𝒱 (c : Thread nD τ) none) E (smemLoad m r h1 rfl) Q := by
  unfold owns smemLoad
  iintro ⟨⟨%f, %hf, H⟩, HQ⟩
  iapply (wp_smemLoadElt 𝒱 (c : Thread nD τ) none E (m := m) (r := r) (S := m.view.set) (k := Prog.ret) (f := f) (View.set_slice_subset _ r)) $$ H
  iintro H
  rw [wp_ret]
  imodintro
  have e : (m.access r).read (Elt F) f = fun i => X (r.emb i) := by rw [← hf]; rfl
  rw [e]
  iapply HQ
  iexists f
  isplitr; · ipureintro; exact hf
  iexact H

end Wp

/-! ## Triples over pure states -/

/-- From any state of `P`, `p` runs to its return `a` in some state of `Q a`, the inputs as they were. -/
def Tri {α : Type} (B : Bufs) (R : Inputs F) (P : St F → Prop) (p : TProg F α) (Q : α → St F → Prop) : Prop :=
  ∀ (Ix : Type) [DecidableEq Ix] (U : Type) [URA U] (Lvl : Type) [Preorder Lvl] (defs : Defs nD τ sig (Elt F) Λ₀)
    (𝒱 : Variants) (c : Dev nD) (E : Set ℕ) (s : St F), P s → ∀ Φ : α → sProp (MT nD τ sig Ix (Elt F) ℕ U Lvl),
    iprop(own c B R s ∗ (∀ a s', ⌜Q a s'⌝ -∗ own c B R s' -∗ Φ a))
      ⊢ wp frame (wpE defs 𝒱 (c : Thread nD τ) none) E p Φ

variable {B : Bufs} {R : Inputs F}

theorem Tri.pure {α : Type} {P : St F → Prop} {a : α} {Q : α → St F → Prop} (h : ∀ s, P s → Q a s) :
    Tri B R P (Pure.pure a) Q := by
  intro Ix _ U _ Lvl _ defs 𝒱 c E s hs Φ
  rw [wp_pure]
  iintro ⟨Hs, HQ⟩
  imodintro
  iapply HQ $$ %a %s [] Hs
  ipureintro; exact h s hs

theorem Tri.bind {α β : Type} {P : St F → Prop} {p : TProg F α} {Q : α → St F → Prop} {k : α → TProg F β}
    {Q' : β → St F → Prop} (h : Tri B R P p Q) (hk : ∀ a, Tri B R (Q a) (k a) Q') : Tri B R P (p >>= k) Q' := by
  intro Ix _ U _ Lvl _ defs 𝒱 c E s hs Φ
  rw [wp_bind]
  iintro ⟨Hs, HQ⟩
  iapply (h Ix U Lvl defs 𝒱 c E s hs)
  isplitl [Hs]; · iexact Hs
  iintro %a %s' %hq Hs'
  iapply (hk a Ix U Lvl defs 𝒱 c E s' hq)
  isplitl [Hs']; · iexact Hs'
  iexact HQ

theorem Tri.conseq {α : Type} {P P' : St F → Prop} {p : TProg F α} {Q Q' : α → St F → Prop} (h : Tri B R P p Q)
    (hP : ∀ s, P' s → P s) (hQ : ∀ a s, Q a s → Q' a s) : Tri B R P' p Q' := by
  intro Ix _ U _ Lvl _ defs 𝒱 c E s hs Φ
  iintro ⟨Hs, HQ⟩
  iapply (h Ix U Lvl defs 𝒱 c E s (hP s hs))
  isplitl [Hs]; · iexact Hs
  iintro %a %s' %hq Hs'
  iapply HQ $$ %a %s' [] Hs'
  ipureintro; exact hQ a s' hq

/-- A step whose result is known in states of `C` and that leaves the state, then the rest. -/
theorem Tri.bindWhen {α β : Type} {P C : St F → Prop} {p : TProg F α} {x : α} {k : α → TProg F β} {Q' : β → St F → Prop}
    (h : ∀ Q : α → St F → Prop, Tri B R (fun s => C s ∧ Q x s) p Q) (hC : ∀ s, P s → C s) (hk : Tri B R P (k x) Q') :
    Tri B R P (p >>= k) Q' := by
  refine Tri.bind ((h fun v s => v = x ∧ P s).conseq (fun s hs => ⟨hC s hs, rfl, hs⟩) (fun _ _ h => h)) fun a => ?_
  intro Ix _ U _ Lvl _ defs 𝒱 c E st hs
  obtain ⟨rfl, hs⟩ := hs
  exact hk Ix U Lvl defs 𝒱 c E st hs

/-- A step whose result is known and that leaves the state, then the rest. -/
theorem Tri.bindDet {α β : Type} {P : St F → Prop} {p : TProg F α} {x : α} {k : α → TProg F β} {Q' : β → St F → Prop}
    (h : ∀ Q : α → St F → Prop, Tri B R (fun s => Q x s) p Q) (hk : Tri B R P (k x) Q') : Tri B R P (p >>= k) Q' :=
  Tri.bindWhen (C := fun _ => True) (fun Q => (h Q).conseq (fun _ hs => hs.2) fun _ _ h => h) (fun _ _ => trivial) hk

/-- A read: the state stays, the result is the piece. -/
theorem Tri.get {s : Shape} {m : Memref sig .tc .vmem s .bf16} {r : Rect s} {h : 0 < r.shape.numel}
    (g : St F → s.Idx → Elt F .bf16) {Q : (r.shape.Idx → Elt F .bf16) → St F → Prop}
    (acc : ∀ (Ix : Type) [DecidableEq Ix] (U : Type) [URA U] (Lvl : Type) [Preorder Lvl] (c : Dev nD) (st : St F),
      (own c B R st : sProp (MT nD τ sig Ix (Elt F) ℕ U Lvl))
        ⊢ iprop(owns (c : Thread nD τ) m fullShare (g st) ∗ (owns (c : Thread nD τ) m fullShare (g st) -∗ own c B R st))) :
    Tri B R (fun st => Q (fun i => g st (r.emb i)) st) (getAt m r h) Q := by
  intro Ix _ U _ Lvl _ defs 𝒱 c E st hs Φ
  iintro ⟨Hs, HQ⟩
  ihave H := (acc Ix U Lvl c st) $$ Hs
  icases H with ⟨H, Hb⟩
  iapply (wp_getAt 𝒱 c E m r h (g st))
  isplitl [H]; · iexact H
  iintro H
  iapply HQ $$ %_ %st [] [H Hb]
  · ipureintro; exact hs
  iapply Hb; iexact H

/-- A write: the array gets the piece. -/
theorem Tri.put {s : Shape} {m : Memref sig .tc .vmem s .bf16} {hm : m.IsWhole} {off size : Fin s.rank → Nat}
    {inb : ∀ a, off a + size a ≤ s.size a} {h : 0 < (Rect.unit off size inb).shape.numel}
    {hpk : (Rect.unit off size inb).PackedRows (EltTy.packing .bf16)} {x : (Rect.unit off size inb).shape.Idx → Elt F .bf16}
    (g : St F → s.Idx → Elt F .bf16) (set : St F → (s.Idx → Elt F .bf16) → St F) {Q : PUnit → St F → Prop}
    (acc : ∀ (Ix : Type) [DecidableEq Ix] (U : Type) [URA U] (Lvl : Type) [Preorder Lvl] (c : Dev nD) (st : St F)
      (X : s.Idx → Elt F .bf16),
      (own c B R st : sProp (MT nD τ sig Ix (Elt F) ℕ U Lvl))
        ⊢ iprop(owns (c : Thread nD τ) m fullShare (g st) ∗ (owns (c : Thread nD τ) m fullShare X -∗ own c B R (set st X)))) :
    Tri B R (fun st => Q ⟨⟩ (set st (putU off size inb x (g st)))) (putAt m hm (Rect.unit off size inb) h hpk x) Q := by
  intro Ix _ U _ Lvl _ defs 𝒱 c E st hs Φ
  iintro ⟨Hs, HQ⟩
  ihave H := (acc Ix U Lvl c st (putU off size inb x (g st))) $$ Hs
  icases H with ⟨H, Hb⟩
  iapply (wp_putAt 𝒱 c E m hm off size inb h hpk x (g st))
  isplitl [H]; · iexact H
  iintro H
  iapply HQ $$ %_ %_ [] [H Hb]
  · ipureintro; exact hs
  iapply Hb; iexact H

/-- A counted loop, by an invariant of the trips done. -/
theorem Tri.loop {l : Scf.Loop 32} {hok : l.OK} {body : Fin l.trips → PUnit → TProg F PUnit} (I : Nat → St F → Prop)
    (hbody : ∀ k : Fin l.trips, Tri B R (I k) (body k ⟨⟩) (fun _ => I (k.val + 1))) :
    Tri B R (I 0) (Scf.Loop.for l hok ⟨⟩ body) (fun _ => I l.trips) := by
  intro Ix _ U _ Lvl _ defs 𝒱 c E st hs Φ
  iintro ⟨Hs, HQ⟩
  iapply (Scf.wp_for frame (wpE defs 𝒱 (c : Thread nD τ) none) E l.lb l.ub l.st hok ⟨⟩ body
    (fun k _ => iprop(∃ s', ⌜I k s'⌝ ∗ own c B R s')) (fun k acc => by
      iintro ⟨%s', %h, H⟩
      iapply (hbody k Ix U Lvl defs 𝒱 c E s' h)
      isplitl [H]; · iexact H
      iintro %a %s'' %h' H
      iexists s''
      isplitr; · ipureintro; exact h'
      iexact H))
  isplitl [Hs]
  · iexists st
    isplitr; · ipureintro; exact hs
    iexact Hs
  iintro %a ⟨%s', %h, H⟩
  iapply HQ $$ %a %s' [] H
  ipureintro; exact h

/-- The members of a list in turn, by an invariant of the members done. -/
theorem Tri.each {α : Type} {f : α → TProg F PUnit} (I : List α → St F → Prop) :
    ∀ (l done : List α), (∀ a ∈ l, ∀ done, Tri B R (I done) (f a) (fun _ => I (a :: done))) →
      Tri B R (I done) (eachOf f l) (fun _ => I (l.reverse ++ done))
  | [], done, _ => Tri.pure fun _ hs => by simpa using hs
  | a :: l, done, h => (h a (by simp) done).bind fun _ =>
      ((Tri.each I l (a :: done) fun a' ha' => h a' (by simp [ha'])).conseq (fun _ hs => hs) (fun _ s hs => by simpa using hs))

end Cert.KernelIdeal.Proof
end
-- ==== Proof.Ends.lean ====
/-
  The bodies of the first and the last kernel, run once each.
-/
module

public import proofs.«01_k».proof.Proof.Seg
public import proofs.«01_k».proof.Proof.Rules
public import Idealize.ShloMosaic.Lib.ValueIdxCore
public import Idealize.ShloMosaic.Lib.Pipeline.Value

@[expose] public section

noncomputable section

namespace Cert.KernelIdeal.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Idealize.ShloMosaic.ValueIdx
open Cert.KernelIdeal Cert.KernelIdeal.Gen

variable {F : FTy → Type} [FloatOps F]

local notation "𝕄" => MT nD τ sig Unit (Elt F) ℕ (UR sig nD τ) ℕ

/-- A whole array's rectangle leaves every index where it is. -/
theorem unit_full {s : Shape} (off : Fin s.rank → ℕ) (ho : ∀ a, off a = 0) (inb : ∀ a, off a + s.size a ≤ s.size a) (i : s.Idx) :
    (Rect.unit off s.size inb).emb i = i := funext fun a => Fin.ext (by
  show off a + 1 * (i a).val = (i a).val
  rw [ho a]; omega)

/-! ## The last kernel: the heads side by side, times the output weights -/

/-- The heads' columns side by side. -/
def headsFlat (A : S16x1024x64.Idx → Elt F .bf16) : S1024x1024.Idx → Elt F .bf16 := fun y =>
  A (ix3 ⟨(y 1).val / 64, by have : (y 1).val < 1024 := (y 1).isLt; omega⟩ (y 0) ⟨(y 1).val % 64, Nat.mod_lt _ (by decide)⟩)

/-- The output weights, their head and column axes one. -/
def weightsFlat (w : S16x64x1024.Idx → Elt F .bf16) : S1024x1024.Idx → Elt F .bf16 := fun y =>
  w (ix3 ⟨(y 0).val / 64, by have : (y 0).val < 1024 := (y 0).isLt; omega⟩ ⟨(y 0).val % 64, Nat.mod_lt _ (by decide)⟩ (y 1))

/-- The block of the result. -/
def projected (A : S16x1024x64.Idx → Elt F .bf16) (w : S16x64x1024.Idx → Elt F .bf16) : S1024x1024.Idx → Elt F .f32 :=
  matmul dot_S1024x1024_S1024x1024_S1024x1024_1_0_0_1_n_n none (headsFlat A) (weightsFlat w) (constant S1024x1024 .f32 0x00000000#32)

theorem slab_inb (n : Fin 16) : ∀ a, (![n.val, 0, 0] : Fin 3 → ℕ) a + S1x1024x64.size a ≤ S16x1024x64.size a := by
  intro a
  have := n.isLt
  fin_cases a <;> simp [S1x1024x64, S16x1024x64] <;> omega

/-- One head's columns as the body reads them. -/
def slab (A : S16x1024x64.Idx → Elt F .bf16) (n : Fin 16) : S1024x64.Idx → Elt F .bf16 :=
  shapeCast S1024x64 (fun i : S1x1024x64.Idx => A ((Rect.unit (s := S16x1024x64) ![n.val, 0, 0] S1x1024x64.size (slab_inb n)).emb i)) shapeCasts_S1x1024x64_S1024x64

theorem slab_apply (A : S16x1024x64.Idx → Elt F .bf16) (n : Fin 16) (i : S1024x64.Idx) : slab A n i = A (ix3 n (i 0) (i 1)) := by
  unfold slab
  refine (shapeCast_apply _ _ i (ix3 0 (i 0) (i 1)) ?_).trans (congrArg A ?_)
  · rw [Shape.rowMajor_val_three, Shape.rowMajor_val_two]
    simp [S1x1024x64, S1024x64]
  · funext a
    apply Fin.ext
    fin_cases a <;> simp [Rect.unit, Rect.emb, ix3] <;> rfl

theorem headsFlat_eq (A : S16x1024x64.Idx → Elt F .bf16)
    (h : Shape.Concatenates ((List.ofFn fun n : Fin 16 => (⟨S1024x64, slab A n⟩ : (s : Shape) × (s.Idx → Elt F .bf16))).map (·.1)) S1024x1024 1) :
    concatenate S1024x1024 1 (List.ofFn fun n : Fin 16 => (⟨S1024x64, slab A n⟩ : (s : Shape) × (s.Idx → Elt F .bf16))) h = headsFlat A := by
  funext y
  have hy : (y 1).val < 1024 := (y 1).isLt
  refine (concatenate_ofFn_apply 1 (fun n : Fin 16 => slab A n) h rfl 64 rfl y ⟨(y 1).val / 64, by omega⟩ rfl
    (ix2 (y 0) ⟨(y 1).val % 64, Nat.mod_lt _ (by decide)⟩) rfl ?_).trans (slab_apply _ _ _)
  intro b hb
  match b with
  | ⟨0, _⟩ => rfl
  | ⟨1, _⟩ => exact absurd rfl hb

theorem weightsFlat_eq (w : S16x64x1024.Idx → Elt F .bf16) :
    shapeCast S1024x1024 (shapeCast S16x64x1024 w shapeCasts_S16x64x1024_S16x64x1024) shapeCasts_S16x64x1024_S1024x1024 = weightsFlat w := by
  rw [shapeCast_self]
  funext y
  refine shapeCast_apply _ _ y _ ?_
  rw [Shape.rowMajor_val_three, Shape.rowMajor_val_two]
  show ((y 0).val / 64 * 64 + (y 0).val % 64) * 1024 + (y 1).val = (y 0).val * 1024 + (y 1).val
  omega

set_option maxHeartbeats 1000000 in
/-- The last body's run: the result's block from the two it reads. -/
theorem projRun (c : Dev nD) (i : grid2.Coords) (M0 : Memref sig .tc .vmem S16x1024x64 .bf16) (h0 : M0.IsWhole)
    (M1 : Memref sig .tc .vmem S16x64x1024 .bf16) (h1 : M1.IsWhole) (M2 : Memref sig .tc .vmem S1024x1024 .f32) (h2 : M2.IsWhole)
    (f0 : Buf (Elt F) (M0.view.loc (c : Thread nD τ))) (f1 : Buf (Elt F) (M1.view.loc (c : Thread nD τ)))
    (f2 : Buf (Elt F) (M2.view.loc (c : Thread nD τ))) (E : Set ℕ) (Q : PUnit → sProp 𝕄) :
        iprop((M0.view.loc (c : Thread nD τ) ↦{fullShare} f0) ∗ (M1.view.loc (c : Thread nD τ) ↦{fullShare} f1) ∗ (M2.view.loc (c : Thread nD τ) ↦{fullShare} f2)
          ∗ (∀ g, ⌜M2.view.read (Elt F) g = projected (M0.view.read (Elt F) f0) (M1.view.read (Elt F) f1)⌝ -∗ (M0.view.loc (c : Thread nD τ) ↦{fullShare} f0)
            -∗ (M1.view.loc (c : Thread nD τ) ↦{fullShare} f1) -∗ (M2.view.loc (c : Thread nD τ) ↦{fullShare} g) -∗ Q ⟨⟩))
          ⊢ wp frame (wpE (defs₀ (F := F)) Variants.none c none) E (cc2__proj_kernel i M0 h0 M1 h1 M2 h2) Q := by
    iintro ⟨H0, H1, H2, HQ⟩
    sl_exec!
    sl_step
    iapply HQ $$ %_ [] H0 H1 H2
    ipureintro
    funext y
    dsimp only [projRun.sl.H2_1]
    refine (View.read_writes_cons_unit_of_mem (v := M2.view) (f := M2.view.junk) _ _ [] y y rfl ?_).trans ?_
    · intro a
      fin_cases a <;> simp
    unfold projected
    dsimp only [projRun.sl.v36]
    refine congrFun (congr (congrArg (fun A B => matmul dot_S1024x1024_S1024x1024_S1024x1024_1_0_0_1_n_n none A B (constant S1024x1024 .f32 0x00000000#32)) ?_) ?_) y
    · rw [← headsFlat_eq (M0.view.read (Elt F) f0) concatenates_S1024x64_S1024x64_S1024x64_S1024x64_S1024x64_S1024x64_S1024x64_S1024x64_S1024x64_S1024x64_S1024x64_S1024x64_S1024x64_S1024x64_S1024x64_S1024x64_S1024x1024_d1]
      rfl
    · rw [← weightsFlat_eq]
      have e : (fun i : S16x64x1024.Idx => M1.view.read (Elt F) f1 ((Rect.unit (s := S16x64x1024) ![0, 0, 0] S16x64x1024.size inb_S16x64x1024_S16x64x1024_0_0_0).emb i))
          = M1.view.read (Elt F) f1 := funext fun i => congrArg (M1.view.read (Elt F) f1) (unit_full _ (by decide) _ i)
      exact congrArg (fun w : S16x64x1024.Idx → Elt F .bf16 => shapeCast S1024x1024 (shapeCast S16x64x1024 w shapeCasts_S16x64x1024_S16x64x1024) shapeCasts_S16x64x1024_S1024x1024) e

/-! ## The first kernel: queries, keys and values of eight heads -/

/-- The products of a block of rows with a block of columns. -/
def qkvMat (X : S2048x1024.Idx → Elt F .f32) (W : S1024x512.Idx → Elt F .bf16) : S2048x512.Idx → Elt F .bf16 :=
  truncf .bf16 (matmul dot_S2048x1024_S1024x512_S2048x512_1_0_0_1_n_n none (truncf .bf16 X bitsLt_bf16_f32 : FVec F S2048x1024 .bf16) W
    (constant S2048x512 .f32 0x00000000#32) : FVec F S2048x512 .f32) bitsLt_bf16_f32

/-- The same, cut into heads. -/
def qkvOf (X : S2048x1024.Idx → Elt F .f32) (W : S1024x512.Idx → Elt F .bf16) : S8x2048x64.Idx → Elt F .bf16 := fun y =>
  qkvMat X W (ix2 (y 1) ⟨64 * (y 0).val + (y 2).val, by
    have : (y 0).val < 8 := (y 0).isLt
    have : (y 2).val < 64 := (y 2).isLt
    omega⟩)

/-- One head's cut of the products. -/
theorem cut_apply (A : S2048x512.Idx → Elt F .bf16) (o : ℕ) (h : S2048x512.Slices ![0, o] S2048x64) (hc : S2048x64.ShapeCasts S1x2048x64)
    (i : S1x2048x64.Idx) (k : S2048x512.Idx) (h0 : (k 0).val = (i 1).val) (h1 : (k 1).val = o + (i 2).val) :
    shapeCast S1x2048x64 (extractStridedSlice S2048x64 ![0, o] A h) hc i = A k := by
  have hi : (i 0).val = 0 := Nat.lt_one_iff.mp (i 0).isLt
  refine (shapeCast_apply _ hc i (ix2 (i 1) (i 2)) ?_).trans (congrArg A ?_)
  · rw [Shape.rowMajor_val_three, Shape.rowMajor_val_two]
    show (i 1).val * 64 + (i 2).val = ((i 0).val * 2048 + (i 1).val) * 64 + (i 2).val
    rw [hi]; omega
  · funext a
    apply Fin.ext
    match a with
    | ⟨0, _⟩ => exact (Nat.zero_add _).trans h0.symm
    | ⟨1, _⟩ => exact h1.symm

/-- A place of head `k`, counted from the head's start. -/
theorem at_head (y : S8x2048x64.Idx) (k : ℕ) (h : (y 0).val = k) :
    ∀ a, (y a).val = (![k, 0, 0] : Fin 3 → ℕ) a + (ix3 (0 : Fin 1) (y 1) (y 2) a).val := by
  intro a
  match a with
  | ⟨0, _⟩ => exact h
  | ⟨1, _⟩ => exact (Nat.zero_add _).symm
  | ⟨2, _⟩ => exact (Nat.zero_add _).symm

set_option maxHeartbeats 1000000 in
/-- The first body's run: the heads' block from the two it reads. -/
theorem qkvRun (c : Dev nD) (i : grid0.Coords) (M0 : Memref sig .tc .vmem S2048x1024 .f32) (h0 : M0.IsWhole)
    (M1 : Memref sig .tc .vmem S1024x512 .bf16) (h1 : M1.IsWhole) (M2 : Memref sig .tc .vmem S8x2048x64 .bf16) (h2 : M2.IsWhole)
    (f0 : Buf (Elt F) (M0.view.loc (c : Thread nD τ))) (f1 : Buf (Elt F) (M1.view.loc (c : Thread nD τ)))
    (f2 : Buf (Elt F) (M2.view.loc (c : Thread nD τ))) (E : Set ℕ) (Q : PUnit → sProp 𝕄) :
        iprop((M0.view.loc (c : Thread nD τ) ↦{fullShare} f0) ∗ (M1.view.loc (c : Thread nD τ) ↦{fullShare} f1) ∗ (M2.view.loc (c : Thread nD τ) ↦{fullShare} f2)
          ∗ (∀ g, ⌜M2.view.read (Elt F) g = qkvOf (M0.view.read (Elt F) f0) (M1.view.read (Elt F) f1)⌝ -∗ (M0.view.loc (c : Thread nD τ) ↦{fullShare} f0)
            -∗ (M1.view.loc (c : Thread nD τ) ↦{fullShare} f1) -∗ (M2.view.loc (c : Thread nD τ) ↦{fullShare} g) -∗ Q ⟨⟩))
          ⊢ wp frame (wpE (defs₀ (F := F)) Variants.none c none) E (cc0__qkv_kernel i M0 h0 M1 h1 M2 h2) Q := by
    iintro ⟨H0, H1, H2, HQ⟩
    sl_exec!
    sl_step
    iapply HQ $$ %_ [] H0 H1 H2
    ipureintro
    have e0 : (fun i : S2048x1024.Idx => M0.view.read (Elt F) f0 ((Rect.unit (s := S2048x1024) ![0, 0] S2048x1024.size inb_S2048x1024_S2048x1024_0_0).emb i))
        = M0.view.read (Elt F) f0 := funext fun i => congrArg (M0.view.read (Elt F) f0) (unit_full _ (by decide) _ i)
    have e1 : (fun i : S1024x512.Idx => M1.view.read (Elt F) f1 ((Rect.unit (s := S1024x512) ![0, 0] S1024x512.size inb_S1024x512_S1024x512_0_0).emb i))
        = M1.view.read (Elt F) f1 := funext fun i => congrArg (M1.view.read (Elt F) f1) (unit_full _ (by decide) _ i)
    have e6 : qkvRun.sl.v6 c M0 M1 f0 f1 = qkvMat (M0.view.read (Elt F) f0) (M1.view.read (Elt F) f1) := by
      have hX : shapeCast S2048x1024 (fun i : S2048x1024.Idx => M0.view.read (Elt F) f0 ((Rect.unit (s := S2048x1024) ![0, 0] S2048x1024.size inb_S2048x1024_S2048x1024_0_0).emb i))
          shapeCasts_S2048x1024_S2048x1024 = M0.view.read (Elt F) f0 := by rw [shapeCast_self, e0]
      have hW : shapeCast S1024x512 (fun i : S1024x512.Idx => M1.view.read (Elt F) f1 ((Rect.unit (s := S1024x512) ![0, 0] S1024x512.size inb_S1024x512_S1024x512_0_0).emb i))
          shapeCasts_S1024x512_S1024x512 = M1.view.read (Elt F) f1 := by rw [shapeCast_self, e1]
      exact congr (congrArg qkvMat hX) hW
    funext y
    unfold qkvOf
    rw [← e6]
    have hy : (y 0).val < 8 := (y 0).isLt
    dsimp only [qkvRun.sl.H2_8]
    have hcase : (y 0).val = 0 ∨ (y 0).val = 1 ∨ (y 0).val = 2 ∨ (y 0).val = 3 ∨ (y 0).val = 4 ∨ (y 0).val = 5 ∨ (y 0).val = 6 ∨ (y 0).val = 7 := by omega
    rcases hcase with h | h | h | h | h | h | h | h
    · refine (View.read_writes_cons_unit_of_not_mem (v := M2.view) (f := M2.view.junk) _ _ _ y rfl 0 (Or.inl (by show (y 0).val < 7; omega))).trans ?_
      refine (View.read_writes_cons_unit_of_not_mem (v := M2.view) (f := M2.view.junk) _ _ _ y rfl 0 (Or.inl (by show (y 0).val < 6; omega))).trans ?_
      refine (View.read_writes_cons_unit_of_not_mem (v := M2.view) (f := M2.view.junk) _ _ _ y rfl 0 (Or.inl (by show (y 0).val < 5; omega))).trans ?_
      refine (View.read_writes_cons_unit_of_not_mem (v := M2.view) (f := M2.view.junk) _ _ _ y rfl 0 (Or.inl (by show (y 0).val < 4; omega))).trans ?_
      refine (View.read_writes_cons_unit_of_not_mem (v := M2.view) (f := M2.view.junk) _ _ _ y rfl 0 (Or.inl (by show (y 0).val < 3; omega))).trans ?_
      refine (View.read_writes_cons_unit_of_not_mem (v := M2.view) (f := M2.view.junk) _ _ _ y rfl 0 (Or.inl (by show (y 0).val < 2; omega))).trans ?_
      refine (View.read_writes_cons_unit_of_not_mem (v := M2.view) (f := M2.view.junk) _ _ _ y rfl 0 (Or.inl (by show (y 0).val < 1; omega))).trans ?_
      refine (View.read_writes_cons_unit_of_mem (v := M2.view) (f := M2.view.junk) _ _ _ y (ix3 0 (y 1) (y 2)) rfl (at_head y 0 h)).trans ?_
      exact cut_apply (qkvRun.sl.v6 c M0 M1 f0 f1) 0 _ _ (ix3 0 (y 1) (y 2)) _ rfl (by show 64 * (y 0).val + (y 2).val = 0 + (y 2).val; omega)
    · refine (View.read_writes_cons_unit_of_not_mem (v := M2.view) (f := M2.view.junk) _ _ _ y rfl 0 (Or.inl (by show (y 0).val < 7; omega))).trans ?_
      refine (View.read_writes_cons_unit_of_not_mem (v := M2.view) (f := M2.view.junk) _ _ _ y rfl 0 (Or.inl (by show (y 0).val < 6; omega))).trans ?_
      refine (View.read_writes_cons_unit_of_not_mem (v := M2.view) (f := M2.view.junk) _ _ _ y rfl 0 (Or.inl (by show (y 0).val < 5; omega))).trans ?_
      refine (View.read_writes_cons_unit_of_not_mem (v := M2.view) (f := M2.view.junk) _ _ _ y rfl 0 (Or.inl (by show (y 0).val < 4; omega))).trans ?_
      refine (View.read_writes_cons_unit_of_not_mem (v := M2.view) (f := M2.view.junk) _ _ _ y rfl 0 (Or.inl (by show (y 0).val < 3; omega))).trans ?_
      refine (View.read_writes_cons_unit_of_not_mem (v := M2.view) (f := M2.view.junk) _ _ _ y rfl 0 (Or.inl (by show (y 0).val < 2; omega))).trans ?_
      refine (View.read_writes_cons_unit_of_mem (v := M2.view) (f := M2.view.junk) _ _ _ y (ix3 0 (y 1) (y 2)) rfl (at_head y 1 h)).trans ?_
      exact cut_apply (qkvRun.sl.v6 c M0 M1 f0 f1) 64 _ _ (ix3 0 (y 1) (y 2)) _ rfl (by show 64 * (y 0).val + (y 2).val = 64 + (y 2).val; omega)
    · refine (View.read_writes_cons_unit_of_not_mem (v := M2.view) (f := M2.view.junk) _ _ _ y rfl 0 (Or.inl (by show (y 0).val < 7; omega))).trans ?_
      refine (View.read_writes_cons_unit_of_not_mem (v := M2.view) (f := M2.view.junk) _ _ _ y rfl 0 (Or.inl (by show (y 0).val < 6; omega))).trans ?_
      refine (View.read_writes_cons_unit_of_not_mem (v := M2.view) (f := M2.view.junk) _ _ _ y rfl 0 (Or.inl (by show (y 0).val < 5; omega))).trans ?_
      refine (View.read_writes_cons_unit_of_not_mem (v := M2.view) (f := M2.view.junk) _ _ _ y rfl 0 (Or.inl (by show (y 0).val < 4; omega))).trans ?_
      refine (View.read_writes_cons_unit_of_not_mem (v := M2.view) (f := M2.view.junk) _ _ _ y rfl 0 (Or.inl (by show (y 0).val < 3; omega))).trans ?_
      refine (View.read_writes_cons_unit_of_mem (v := M2.view) (f := M2.view.junk) _ _ _ y (ix3 0 (y 1) (y 2)) rfl (at_head y 2 h)).trans ?_
      exact cut_apply (qkvRun.sl.v6 c M0 M1 f0 f1) 128 _ _ (ix3 0 (y 1) (y 2)) _ rfl (by show 64 * (y 0).val + (y 2).val = 128 + (y 2).val; omega)
    · refine (View.read_writes_cons_unit_of_not_mem (v := M2.view) (f := M2.view.junk) _ _ _ y rfl 0 (Or.inl (by show (y 0).val < 7; omega))).trans ?_
      refine (View.read_writes_cons_unit_of_not_mem (v := M2.view) (f := M2.view.junk) _ _ _ y rfl 0 (Or.inl (by show (y 0).val < 6; omega))).trans ?_
      refine (View.read_writes_cons_unit_of_not_mem (v := M2.view) (f := M2.view.junk) _ _ _ y rfl 0 (Or.inl (by show (y 0).val < 5; omega))).trans ?_
      refine (View.read_writes_cons_unit_of_not_mem (v := M2.view) (f := M2.view.junk) _ _ _ y rfl 0 (Or.inl (by show (y 0).val < 4; omega))).trans ?_
      refine (View.read_writes_cons_unit_of_mem (v := M2.view) (f := M2.view.junk) _ _ _ y (ix3 0 (y 1) (y 2)) rfl (at_head y 3 h)).trans ?_
      exact cut_apply (qkvRun.sl.v6 c M0 M1 f0 f1) 192 _ _ (ix3 0 (y 1) (y 2)) _ rfl (by show 64 * (y 0).val + (y 2).val = 192 + (y 2).val; omega)
    · refine (View.read_writes_cons_unit_of_not_mem (v := M2.view) (f := M2.view.junk) _ _ _ y rfl 0 (Or.inl (by show (y 0).val < 7; omega))).trans ?_
      refine (View.read_writes_cons_unit_of_not_mem (v := M2.view) (f := M2.view.junk) _ _ _ y rfl 0 (Or.inl (by show (y 0).val < 6; omega))).trans ?_
      refine (View.read_writes_cons_unit_of_not_mem (v := M2.view) (f := M2.view.junk) _ _ _ y rfl 0 (Or.inl (by show (y 0).val < 5; omega))).trans ?_
      refine (View.read_writes_cons_unit_of_mem (v := M2.view) (f := M2.view.junk) _ _ _ y (ix3 0 (y 1) (y 2)) rfl (at_head y 4 h)).trans ?_
      exact cut_apply (qkvRun.sl.v6 c M0 M1 f0 f1) 256 _ _ (ix3 0 (y 1) (y 2)) _ rfl (by show 64 * (y 0).val + (y 2).val = 256 + (y 2).val; omega)
    · refine (View.read_writes_cons_unit_of_not_mem (v := M2.view) (f := M2.view.junk) _ _ _ y rfl 0 (Or.inl (by show (y 0).val < 7; omega))).trans ?_
      refine (View.read_writes_cons_unit_of_not_mem (v := M2.view) (f := M2.view.junk) _ _ _ y rfl 0 (Or.inl (by show (y 0).val < 6; omega))).trans ?_
      refine (View.read_writes_cons_unit_of_mem (v := M2.view) (f := M2.view.junk) _ _ _ y (ix3 0 (y 1) (y 2)) rfl (at_head y 5 h)).trans ?_
      exact cut_apply (qkvRun.sl.v6 c M0 M1 f0 f1) 320 _ _ (ix3 0 (y 1) (y 2)) _ rfl (by show 64 * (y 0).val + (y 2).val = 320 + (y 2).val; omega)
    · refine (View.read_writes_cons_unit_of_not_mem (v := M2.view) (f := M2.view.junk) _ _ _ y rfl 0 (Or.inl (by show (y 0).val < 7; omega))).trans ?_
      refine (View.read_writes_cons_unit_of_mem (v := M2.view) (f := M2.view.junk) _ _ _ y (ix3 0 (y 1) (y 2)) rfl (at_head y 6 h)).trans ?_
      exact cut_apply (qkvRun.sl.v6 c M0 M1 f0 f1) 384 _ _ (ix3 0 (y 1) (y 2)) _ rfl (by show 64 * (y 0).val + (y 2).val = 384 + (y 2).val; omega)
    · refine (View.read_writes_cons_unit_of_mem (v := M2.view) (f := M2.view.junk) _ _ _ y (ix3 0 (y 1) (y 2)) rfl (at_head y 7 h)).trans ?_
      exact cut_apply (qkvRun.sl.v6 c M0 M1 f0 f1) 448 _ _ (ix3 0 (y 1) (y 2)) _ rfl (by show 64 * (y 0).val + (y 2).val = 448 + (y 2).val; omega)

end Cert.KernelIdeal.Proof
end
-- ==== Proof.Slots.lean ====
/-
  What each stage of the attention body does to the arrays it writes: pieces put into the slots of keys and of values,
  the weights, the output.
-/
module

public import proofs.«01_k».proof.Proof.Rules
public import Idealize.ShloMosaic.Lib.ValueIdxCore
public import Idealize.ShloMosaic.Lib.ValueLayout
public import Idealize.ShloMosaic.Lib.Pipeline.Value

@[expose] public section

noncomputable section

namespace Cert.KernelIdeal.Proof

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

variable {F : FTy → Type} [FloatOps F] [Cert.KernelIdeal.Facts]
variable {B : Bufs} {R : Inputs F}

/-! ## Reading and filling by numbers -/

/-- Row `r`, column `d` of block `n` of a head array. -/
def rd {α : Type} (A : S1x128x64x64.Idx → α) (n r d : Nat) : α :=
  A (ix4 0 (Fin.ofNat 128 n) (Fin.ofNat 64 r) (Fin.ofNat 64 d))

/-- Word `(n, j)` of the table. -/
def word (R : Inputs F) (n j : Nat) : Elt F .i32 := R.idx (ix2 (Fin.ofNat 128 n) (Fin.ofNat 6 j))

/-- The block in place `j` for query block `n`: the window's for the first three places of a block inside, else the
    one the word names. -/
def src (R : Inputs F) (n j : Nat) : Nat :=
  if 2 ≤ n ∧ n ≤ 125 ∧ j < 3 then n - 1 + j else k1_off3 (word R n j) 1

/-- What the slot of query block `n` holds of a head array. -/
def rowT (R : Inputs F) (A : S1x128x64x64.Idx → Elt F .bf16) (n r d : Nat) : Elt F .bf16 :=
  if r < 64 then rd A 0 r d else if r < 448 then rd A (src R n (r / 64 - 1)) r d else Scalar.ofBits .bf16 0x0000#16

/-- The keys of query block `n`. -/
def keyT (R : Inputs F) (n r d : Nat) : Elt F .bf16 := rowT R R.k n r d

/-- The values of query block `n`, and ones beside them. -/
def valT (R : Inputs F) (n r d : Nat) : Elt F .bf16 :=
  if d < 64 then rowT R R.v n r d else if r < 448 then Scalar.ofBits .bf16 0x3F80#16 else Scalar.ofBits .bf16 0x0000#16

/-- Rows `lo` to `hi`, columns `cl` to `ch` of member `b` filled with `T`. -/
def fill {α : Type} {m n w : Nat} (b lo hi cl ch : Nat) (T : Nat → Nat → α) (A : (⟨3, ![m, n, w]⟩ : Shape).Idx → α) :
    (⟨3, ![m, n, w]⟩ : Shape).Idx → α := fun y =>
  if (y 0).val = b ∧ (lo ≤ (y 1).val ∧ (y 1).val < hi) ∧ (cl ≤ (y 2).val ∧ (y 2).val < ch) then T (y 1).val (y 2).val else A y

theorem fill_fill {α : Type} {m n w : Nat} {b lo mid hi cl ch : Nat} {T : Nat → Nat → α} (A : (⟨3, ![m, n, w]⟩ : Shape).Idx → α)
    (h1 : lo ≤ mid) (h2 : mid ≤ hi) : fill b mid hi cl ch T (fill b lo mid cl ch T A) = fill b lo hi cl ch T A := by
  funext y
  simp only [fill]
  split_ifs <;> first | rfl | omega

theorem putU_hit {s : Shape} {e : EltTy} {off size : Fin s.rank → Nat} {inb : ∀ a, off a + size a ≤ s.size a}
    {x : (Rect.unit off size inb).shape.Idx → Elt F e} {A : s.Idx → Elt F e} {y : s.Idx}
    (j : (Rect.unit off size inb).shape.Idx) (h : ∀ a, (y a).val = off a + (j a).val) : putU off size inb x A y = x j := by
  have hh : ∀ a, off a ≤ (y a).val ∧ (y a).val < off a + size a := fun a => by
    have := (j a).isLt
    have e : (Rect.unit off size inb).shape.size a = size a := rfl
    rw [h a]; omega
  unfold putU
  rw [dif_pos hh]
  congr 1
  funext a
  apply Fin.ext
  rw [Rect.unitLocal_val, h a]
  omega

theorem putU_miss {s : Shape} {e : EltTy} {off size : Fin s.rank → Nat} {inb : ∀ a, off a + size a ≤ s.size a}
    {x : (Rect.unit off size inb).shape.Idx → Elt F e} {A : s.Idx → Elt F e} {y : s.Idx}
    (h : ¬ ∀ a, off a ≤ (y a).val ∧ (y a).val < off a + size a) : putU off size inb x A y = A y := by
  unfold putU; rw [dif_neg h]

/-- A piece of one member put in is a fill. -/
theorem put_fill {m n w nr nc b r c : Nat} {e : EltTy}
    {inb : ∀ a, (![b, r, c] : Fin 3 → Nat) a + (![1, nr, nc] : Fin 3 → Nat) a ≤ (⟨3, ![m, n, w]⟩ : Shape).size a}
    {x : (⟨3, ![1, nr, nc]⟩ : Shape).Idx → Elt F e} {A : (⟨3, ![m, n, w]⟩ : Shape).Idx → Elt F e} (T : Nat → Nat → Elt F e)
    (hx : ∀ (i : Fin nr) (j : Fin nc), x (ix3 0 i j) = T (r + i) (c + j)) :
    putU (s := ⟨3, ![m, n, w]⟩) ![b, r, c] ![1, nr, nc] inb x A = fill b r (r + nr) c (c + nc) T A := by
  funext y
  unfold fill
  split_ifs with h
  · rw [putU_hit (j := (ix3 (0 : Fin 1) (⟨(y 1).val - r, by omega⟩ : Fin nr) (⟨(y 2).val - c, by omega⟩ : Fin nc)))]
    · rw [hx]; congr 1 <;> simp only <;> omega
    · intro a
      fin_cases a
      · exact h.1
      · show (y 1).val = r + ((y 1).val - r); omega
      · show (y 2).val = c + ((y 2).val - c); omega
  · apply putU_miss
    intro hh
    have h0 : b ≤ (y 0).val ∧ (y 0).val < b + 1 := hh 0
    have h1 : r ≤ (y 1).val ∧ (y 1).val < r + nr := hh 1
    have h2 : c ≤ (y 2).val ∧ (y 2).val < c + nc := hh 2
    omega

/-! ## Access to the buffers -/

section Acc

variable {Ix : Type} [DecidableEq Ix] {U : Type} [URA U] {Lvl : Type} [Preorder Lvl] (c : Dev nD) (s : St F)

local notation "𝕄" => MT nD τ sig Ix (Elt F) ℕ U Lvl

theorem own_q : (own c B R s : sProp 𝕄) ⊢ iprop(owns (c : Thread nD τ) B.q fullShare R.q
    ∗ (owns (c : Thread nD τ) B.q fullShare R.q -∗ own c B R s)) := by
  unfold own
  iintro ⟨H0, H1, H2, H3, H4, H5, H6, H7⟩
  isplitl [H1]; · iexact H1
  iintro H1; iframe

theorem own_k : (own c B R s : sProp 𝕄) ⊢ iprop(owns (c : Thread nD τ) B.k fullShare R.k
    ∗ (owns (c : Thread nD τ) B.k fullShare R.k -∗ own c B R s)) := by
  unfold own
  iintro ⟨H0, H1, H2, H3, H4, H5, H6, H7⟩
  isplitl [H2]; · iexact H2
  iintro H2; iframe

theorem own_v : (own c B R s : sProp 𝕄) ⊢ iprop(owns (c : Thread nD τ) B.v fullShare R.v
    ∗ (owns (c : Thread nD τ) B.v fullShare R.v -∗ own c B R s)) := by
  unfold own
  iintro ⟨H0, H1, H2, H3, H4, H5, H6, H7⟩
  isplitl [H3]; · iexact H3
  iintro H3; iframe

theorem own_idx : (own c B R s : sProp 𝕄) ⊢ iprop(owns (c : Thread nD τ) B.idx fullShare R.idx
    ∗ (owns (c : Thread nD τ) B.idx fullShare R.idx -∗ own c B R s)) := by
  unfold own
  iintro ⟨H0, H1, H2, H3, H4, H5, H6, H7⟩
  isplitl [H0]; · iexact H0
  iintro H0; iframe

theorem own_o (X) : (own c B R s : sProp 𝕄) ⊢ iprop(owns (c : Thread nD τ) B.o fullShare s.o
    ∗ (owns (c : Thread nD τ) B.o fullShare X -∗ own c B R { s with o := X })) := by
  unfold own
  iintro ⟨H0, H1, H2, H3, H4, H5, H6, H7⟩
  isplitl [H4]; · iexact H4
  iintro H4; iframe

theorem own_ka (X) : (own c B R s : sProp 𝕄) ⊢ iprop(owns (c : Thread nD τ) B.ka fullShare s.ka
    ∗ (owns (c : Thread nD τ) B.ka fullShare X -∗ own c B R { s with ka := X })) := by
  unfold own
  iintro ⟨H0, H1, H2, H3, H4, H5, H6, H7⟩
  isplitl [H5]; · iexact H5
  iintro H5; iframe

theorem own_va (X) : (own c B R s : sProp 𝕄) ⊢ iprop(owns (c : Thread nD τ) B.va fullShare s.va
    ∗ (owns (c : Thread nD τ) B.va fullShare X -∗ own c B R { s with va := X })) := by
  unfold own
  iintro ⟨H0, H1, H2, H3, H4, H5, H6, H7⟩
  isplitl [H6]; · iexact H6
  iintro H6; iframe

theorem own_p (X) : (own c B R s : sProp 𝕄) ⊢ iprop(owns (c : Thread nD τ) B.p fullShare s.p
    ∗ (owns (c : Thread nD τ) B.p fullShare X -∗ own c B R { s with p := X })) := by
  unfold own
  iintro ⟨H0, H1, H2, H3, H4, H5, H6, H7⟩
  isplitl [H7]; · iexact H7
  iintro H7; iframe

end Acc

/-! ## The reads -/

theorem ofNat_eq {m n : Nat} [NeZero m] (h : n < m) : Fin.ofNat m n = ⟨n, h⟩ := Fin.ext (Nat.mod_eq_of_lt h)

theorem emb4 {n : Nat} (hn : n < 128) (j : S1x1x64x64.Idx) :
    (Rect.unit (s := S1x128x64x64) ![0, n, 0, 0] S1x1x64x64.size (in_blk hn)).emb j = ix4 0 ⟨n, hn⟩ (j 2) (j 3) := by
  funext a
  apply Fin.ext
  have h0 : (j 0).val < 1 := (j 0).isLt
  have h1 : (j 1).val < 1 := (j 1).isLt
  fin_cases a
  · show 0 + 1 * (j 0).val = 0; omega
  · show n + 1 * (j 1).val = n; omega
  · show 0 + 1 * (j 2).val = (j 2).val; omega
  · show 0 + 1 * (j 3).val = (j 3).val; omega

/-- Block `n` of a head array, as it is loaded. -/
def blk {α : Type} (A : S1x128x64x64.Idx → α) (n : Nat) : S1x1x64x64.Idx → α := fun j => rd A n (j 2).val (j 3).val

theorem blk_eq {α : Type} (A : S1x128x64x64.Idx → α) {n : Nat} (hn : n < 128) :
    (fun j => A ((Rect.unit (s := S1x128x64x64) ![0, n, 0, 0] S1x1x64x64.size (in_blk hn)).emb j)) = blk A n := by
  funext j
  show A _ = A _
  rw [emb4 hn, ofNat_eq hn, ofNat_eq (m := 64) (j 2).isLt, ofNat_eq (m := 64) (j 3).isLt]
  rfl

theorem cast_blk {α : Type} (A : S1x128x64x64.Idx → α) (n : Nat) (h : S1x1x64x64.ShapeCasts S64x64) (r d : Fin 64) :
    shapeCast S64x64 (blk A n) h (ix2 r d) = rd A n r d := by
  rw [shapeCast_apply (blk A n) h (ix2 r d) (ix4 0 0 r d) (by
    rw [Shape.rowMajor_val_four, Shape.rowMajor_val_two]; simp)]
  show A _ = A _
  rw [ofNat_eq r.isLt, ofNat_eq d.isLt]

theorem tri_blkAt_q {n : Nat} (hn : n < 128) {Q : Vec F S1x1x64x64 .bf16 → St F → Prop} :
    Tri B R (fun s => Q (blk R.q n) s) (blkAt B.q n hn) Q := by
  rw [← blk_eq R.q hn]
  exact Tri.get (fun _ => R.q) fun Ix _ U _ Lvl _ c st => own_q c st

theorem tri_blkAt_k {n : Nat} (hn : n < 128) {Q : Vec F S1x1x64x64 .bf16 → St F → Prop} :
    Tri B R (fun s => Q (blk R.k n) s) (blkAt B.k n hn) Q := by
  rw [← blk_eq R.k hn]
  exact Tri.get (fun _ => R.k) fun Ix _ U _ Lvl _ c st => own_k c st

theorem tri_blkAt_v {n : Nat} (hn : n < 128) {Q : Vec F S1x1x64x64 .bf16 → St F → Prop} :
    Tri B R (fun s => Q (blk R.v n) s) (blkAt B.v n hn) Q := by
  rw [← blk_eq R.v hn]
  exact Tri.get (fun _ => R.v) fun Ix _ U _ Lvl _ c st => own_v c st

theorem tri_idxAt {n j : Nat} (hn : n < 128) (hj : j < 6) {Q : Elt F .i32 → St F → Prop} :
    Tri B R (fun s => Q (word R n j) s) (idxAt B n j hn hj) Q := by
  intro Ix _ U _ Lvl _ defs 𝒱 c E st hs Φ
  iintro ⟨Hs, HQ⟩
  ihave H := (own_idx (B := B) (R := R) (Ix := Ix) (U := U) (Lvl := Lvl) c st) $$ Hs
  icases H with ⟨H, Hb⟩
  iapply (wp_word 𝒱 c E B.idx _ numel1_S1x1 R.idx)
  isplitl [H]; · iexact H
  iintro H
  have e : (Rect.unit (s := S128x6) ![n, j] S1x1.size (in_idx hn hj)).emb (Shape.Idx.first (numel1_S1x1.symm ▸ Nat.one_pos))
      = ix2 (Fin.ofNat 128 n) (Fin.ofNat 6 j) := by
    funext a
    apply Fin.ext
    fin_cases a
    · show n + 1 * _ = n % 128
      rw [Nat.mod_eq_of_lt hn]
      have := ((Shape.Idx.first (s := S1x1) (numel1_S1x1.symm ▸ Nat.one_pos)) 0).isLt
      show n + 1 * ((Shape.Idx.first (s := S1x1) (numel1_S1x1.symm ▸ Nat.one_pos)) 0).val = n
      simp [S1x1] at this; omega
    · show j + 1 * _ = j % 6
      rw [Nat.mod_eq_of_lt hj]
      have := ((Shape.Idx.first (s := S1x1) (numel1_S1x1.symm ▸ Nat.one_pos)) 1).isLt
      show j + 1 * ((Shape.Idx.first (s := S1x1) (numel1_S1x1.symm ▸ Nat.one_pos)) 1).val = j
      simp [S1x1] at this; omega
  rw [e]
  iapply HQ $$ %_ %st [] [H Hb]
  · ipureintro; exact hs
  iapply Hb; iexact H

theorem tri_idxOk (hT : ∀ n j, k1_chk1 (word R n j)) {n j : Nat} (hn : n < 128) (hj : j < 6)
    (Q : (Σ' v : Elt F .i32, k1_chk1 v) → St F → Prop) :
    Tri B R (fun s => Q ⟨word R n j, hT n j⟩ s) (idxOk B n j hn hj) Q := by
  refine Tri.bindDet (fun Q => tri_idxAt hn hj) ?_
  intro Ix _ U _ Lvl _ defs 𝒱 c E st hs Φ
  iintro ⟨Hs, HQ⟩
  iapply (wp_assume 𝒱 (c : Thread nD τ) none E (hT n j))
  show _ ⊢ wp _ _ _ (Prog.ret (⟨word R n j, hT n j⟩ : Σ' v : Elt F .i32, k1_chk1 v)) _
  rw [wp_ret]
  iintro ⟨Hs, HQ⟩
  imodintro
  iapply HQ $$ %_ %st [] Hs
  ipureintro; exact hs

theorem off3_eq (v : BitVec 32) : k1_off3 v = ![0, k1_off3 v 1, 0, 0] := rfl

theorem off3_lt {v : BitVec 32} (h : k1_chk1 v) : k1_off3 v 1 < 128 := by
  have := h 1
  have e : S1x1x64x64.size 1 = 1 := rfl
  have e' : S1x128x64x64.size 1 = 128 := rfl
  omega

theorem tri_blkOf_k {v : Elt F .i32} (h : k1_chk1 v) {Q : Vec F S1x1x64x64 .bf16 → St F → Prop} :
    Tri B R (fun s => Q (blk R.k (k1_off3 v 1)) s) (blkOf B.k v h) Q :=
  tri_blkAt_k (off3_lt h)

theorem tri_blkOf_v {v : Elt F .i32} (h : k1_chk1 v) {Q : Vec F S1x1x64x64 .bf16 → St F → Prop} :
    Tri B R (fun s => Q (blk R.v (k1_off3 v 1)) s) (blkOf B.v v h) Q :=
  tri_blkAt_v (off3_lt h)

/-- Blocks `w` to `w + 2`, as they are loaded. -/
def win {α : Type} (A : S1x128x64x64.Idx → α) (w : Nat) : S1x3x64x64.Idx → α :=
  fun j => rd A (w + (j 1).val) (j 2).val (j 3).val

theorem win_eq {α : Type} (A : S1x128x64x64.Idx → α) {w : Nat} (hw : w + 3 ≤ 128) :
    (fun j => A ((Rect.unit (s := S1x128x64x64) ![0, w, 0, 0] S1x3x64x64.size (in_win hw)).emb j)) = win A w := by
  funext j
  show A _ = A _
  congr 1
  have h0 : (j 0).val < 1 := (j 0).isLt
  have h1 : (j 1).val < 3 := (j 1).isLt
  rw [ofNat_eq (m := 128) (n := w + (j 1).val) (by omega), ofNat_eq (m := 64) (j 2).isLt, ofNat_eq (m := 64) (j 3).isLt]
  funext a
  apply Fin.ext
  fin_cases a
  · show 0 + 1 * (j 0).val = 0; omega
  · show w + 1 * (j 1).val = w + (j 1).val; omega
  · show 0 + 1 * (j 2).val = (j 2).val; omega
  · show 0 + 1 * (j 3).val = (j 3).val; omega

theorem tri_winAt_k {w : Nat} (hw : w + 3 ≤ 128) {Q : Vec F S1x3x64x64 .bf16 → St F → Prop} :
    Tri B R (fun s => Q (win R.k w) s) (winAt B.k w hw) Q := by
  rw [← win_eq R.k hw]
  exact Tri.get (fun _ => R.k) fun Ix _ U _ Lvl _ c st => own_k c st

theorem tri_winAt_v {w : Nat} (hw : w + 3 ≤ 128) {Q : Vec F S1x3x64x64 .bf16 → St F → Prop} :
    Tri B R (fun s => Q (win R.v w) s) (winAt B.v w hw) Q := by
  rw [← win_eq R.v hw]
  exact Tri.get (fun _ => R.v) fun Ix _ U _ Lvl _ c st => own_v c st

/-- Three blocks laid row after row. -/
theorem cast_win {α : Type} (A : S1x128x64x64.Idx → α) (w : Nat) (h1 : S1x3x64x64.ShapeCasts S3x64x64)
    (h2 : S3x64x64.ShapeCasts S192x64) (h3 : S192x64.ShapeCasts S1x192x64) (r : Fin 192) (d : Fin 64) :
    shapeCast S1x192x64 (shapeCast S192x64 (shapeCast S3x64x64 (win A w) h1) h2) h3 (ix3 0 r d)
      = rd A (w + r.val / 64) r.val d.val := by
  have hr := r.isLt
  have hd := d.isLt
  rw [shapeCast_apply _ h3 (ix3 0 r d) (ix2 r d) (by
      rw [Shape.rowMajor_val_three, Shape.rowMajor_val_two]; simp),
    shapeCast_apply _ h2 (ix2 r d) (ix3 (⟨r.val / 64, by omega⟩ : Fin 3) (⟨r.val % 64, by omega⟩ : Fin 64) d) (by
      rw [Shape.rowMajor_val_three, Shape.rowMajor_val_two]
      show (r.val / 64 * 64 + r.val % 64) * 64 + d.val = r.val * 64 + d.val
      omega),
    shapeCast_apply _ h1 (ix3 (⟨r.val / 64, by omega⟩ : Fin 3) (⟨r.val % 64, by omega⟩ : Fin 64) d)
      (ix4 0 (⟨r.val / 64, by omega⟩ : Fin 3) (⟨r.val % 64, by omega⟩ : Fin 64) d) (by
      rw [Shape.rowMajor_val_four, Shape.rowMajor_val_three]; simp)]
  show rd A (w + r.val / 64) (r.val % 64) d.val = _
  unfold rd
  congr 2
  apply Fin.ext
  show r.val % 64 % 64 = r.val % 64
  omega

/-! ## The fills of the slots -/

theorem tri_kaPut {b r : Nat} (hb : b < 16) (hr : r + 64 ≤ 512) (h2 : 2 ∣ r) (x : FVec F S64x64 .bf16) (T : Nat → Nat → F .bf16)
    (hx : ∀ i j : Fin 64, x (ix2 i j) = T (r + i) j) {Q : PUnit → St F → Prop} :
    Tri B R (fun s => Q ⟨⟩ { s with ka := fill b r (r + 64) 0 64 T s.ka }) (kaPut B b r hb hr h2 x) Q := by
  unfold kaPut
  refine (Tri.get (fun st => st.ka) (Q := fun _ s => Q ⟨⟩ { s with ka := fill b r (r + 64) 0 64 T s.ka })
    fun Ix _ U _ Lvl _ c st => own_ka c st _).bind fun _ => ?_
  refine (Tri.put (fun st => st.ka) (fun st X => { st with ka := X }) fun Ix _ U _ Lvl _ c st X => own_ka c st X).conseq
    (fun s hs => ?_) (fun _ _ h => h)
  have e := put_fill (m := 16) (n := 512) (w := 64) (nr := 64) (nc := 64) (b := b) (r := r) (c := 0) (e := .bf16)
    (inb := in_ka64 hb hr) (x := shapeCast S1x64x64 x shapeCasts_S64x64_S1x64x64) (A := s.ka) T fun i j => by
      rw [shapeCast_ab_1ab_apply, hx, Nat.zero_add]
  rw [Nat.zero_add] at e
  show Q ⟨⟩ { s with ka := putU _ _ _ _ _ }
  rw [e]
  exact hs

theorem tri_vaPut {b r : Nat} (hb : b < 16) (hr : r + 64 ≤ 512) (h2 : 2 ∣ r) (x : FVec F S64x64 .bf16) (T : Nat → Nat → F .bf16)
    (hx : ∀ i j : Fin 64, x (ix2 i j) = T (r + i) j) {Q : PUnit → St F → Prop} :
    Tri B R (fun s => Q ⟨⟩ { s with va := fill b r (r + 64) 0 64 T s.va }) (vaPut B b r hb hr h2 x) Q := by
  unfold vaPut
  refine (Tri.get (fun st => st.va) (Q := fun _ s => Q ⟨⟩ { s with va := fill b r (r + 64) 0 64 T s.va })
    fun Ix _ U _ Lvl _ c st => own_va c st _).bind fun _ => ?_
  refine (Tri.put (fun st => st.va) (fun st X => { st with va := X }) fun Ix _ U _ Lvl _ c st X => own_va c st X).conseq
    (fun s hs => ?_) (fun _ _ h => h)
  have e := put_fill (m := 16) (n := 512) (w := 128) (nr := 64) (nc := 64) (b := b) (r := r) (c := 0) (e := .bf16)
    (inb := in_va64 hb hr) (x := shapeCast S1x64x64 x shapeCasts_S64x64_S1x64x64) (A := s.va) T fun i j => by
      rw [shapeCast_ab_1ab_apply, hx, Nat.zero_add]
  rw [Nat.zero_add] at e
  show Q ⟨⟩ { s with va := putU _ _ _ _ _ }
  rw [e]
  exact hs

theorem rd_mod {α : Type} (A : S1x128x64x64.Idx → α) (n r d m : Nat) (h : r % 64 = m % 64) : rd A n r d = rd A n m d := by
  unfold rd
  congr 2
  exact Fin.ext h

theorem rowT_slot (A : S1x128x64x64.Idx → F .bf16) {n j i d : Nat} (hj : j < 6) (hi : i < 64) :
    rowT R A n ((j + 1) * 64 + i) d = rd A (src R n j) i d := by
  unfold rowT
  rw [if_neg (by omega), if_pos (by omega), show ((j + 1) * 64 + i) / 64 - 1 = j by omega]
  exact rd_mod _ _ _ _ _ (by omega)

theorem tri_kaSlot (hT : ∀ n j, k1_chk1 (word R n j)) {n b j : Nat} (hn : n < 128) (hb : b < 16) (hj : j < 6)
    (hw : ¬ (2 ≤ n ∧ n ≤ 125 ∧ j < 3)) {Q : PUnit → St F → Prop} :
    Tri B R (fun s => Q ⟨⟩ { s with ka := fill b ((j + 1) * 64) ((j + 1) * 64 + 64) 0 64 (keyT R n) s.ka }) (kaSlot B n b hn hb j hj) Q :=
  Tri.bindDet (fun Q => tri_idxOk hT hn hj Q) <| Tri.bindDet (fun Q => tri_blkOf_k (hT n j)) <|
    tri_kaPut hb _ _ _ (keyT R n) fun i d => by rw [cast_blk, keyT, rowT_slot _ hj i.isLt, src, if_neg hw]

theorem valT_lt {n r d : Nat} (hd : d < 64) : valT R n r d = rowT R R.v n r d := if_pos hd

theorem tri_vaSlot (hT : ∀ n j, k1_chk1 (word R n j)) {n b j : Nat} (hn : n < 128) (hb : b < 16) (hj : j < 6)
    (hw : ¬ (2 ≤ n ∧ n ≤ 125 ∧ j < 3)) {Q : PUnit → St F → Prop} :
    Tri B R (fun s => Q ⟨⟩ { s with va := fill b ((j + 1) * 64) ((j + 1) * 64 + 64) 0 64 (valT R n) s.va }) (vaSlot B n b hn hb j hj) Q :=
  Tri.bindDet (fun Q => tri_idxOk hT hn hj Q) <| Tri.bindDet (fun Q => tri_blkOf_v (hT n j)) <|
    tri_vaPut hb _ _ _ (valT R n) fun i d => by rw [cast_blk, valT_lt d.isLt, rowT_slot _ hj i.isLt, src, if_neg hw]

theorem rowT_win (A : S1x128x64x64.Idx → F .bf16) {n w i d : Nat} (hw : n = w + 1) (hn : 2 ≤ n ∧ n ≤ 125) (hi : i < 192) :
    rowT R A n (64 + i) d = rd A (w + i / 64) i d := by
  unfold rowT
  rw [if_neg (by omega), if_pos (by omega), src, if_pos (by omega), show n - 1 + ((64 + i) / 64 - 1) = w + i / 64 by omega]
  exact rd_mod _ _ _ _ _ (by omega)

theorem tri_kaWin {n w b : Nat} (hw : w + 3 ≤ 128) (hb : b < 16) (hn : 2 ≤ n ∧ n ≤ 125) (h : n = w + 1)
    {Q : PUnit → St F → Prop} :
    Tri B R (fun s => Q ⟨⟩ { s with ka := fill b 64 256 0 64 (keyT R n) s.ka }) (kaWin B w b hw hb) Q := by
  refine Tri.bindDet (fun Q => tri_winAt_k hw) ?_
  refine (Tri.get (fun st => st.ka) (Q := fun _ s => Q ⟨⟩ { s with ka := fill b 64 256 0 64 (keyT R n) s.ka })
    fun Ix _ U _ Lvl _ c st => own_ka c st _).bind fun _ => ?_
  refine (Tri.put (fun st => st.ka) (fun st X => { st with ka := X }) fun Ix _ U _ Lvl _ c st X => own_ka c st X).conseq
    (fun s hs => ?_) (fun _ _ h => h)
  have e := put_fill (m := 16) (n := 512) (w := 64) (nr := 192) (nc := 64) (b := b) (r := 64) (c := 0) (e := .bf16)
    (inb := in_ka192 hb) (x := (shapeCast S1x192x64 (shapeCast S192x64 (shapeCast S3x64x64 (win R.k w) shapeCasts_S1x3x64x64_S3x64x64) shapeCasts_S3x64x64_S192x64) shapeCasts_S192x64_S1x192x64)) (A := s.ka) (keyT R n) fun i j => by
      rw [cast_win, keyT, rowT_win _ h hn i.isLt, Nat.zero_add]
  show Q ⟨⟩ { s with ka := putU _ _ _ _ _ }
  rw [e]
  exact hs

theorem tri_vaWin {n w b : Nat} (hw : w + 3 ≤ 128) (hb : b < 16) (hn : 2 ≤ n ∧ n ≤ 125) (h : n = w + 1)
    {Q : PUnit → St F → Prop} :
    Tri B R (fun s => Q ⟨⟩ { s with va := fill b 64 256 0 64 (valT R n) s.va }) (vaWin B w b hw hb) Q := by
  refine Tri.bindDet (fun Q => tri_winAt_v hw) ?_
  refine (Tri.get (fun st => st.va) (Q := fun _ s => Q ⟨⟩ { s with va := fill b 64 256 0 64 (valT R n) s.va })
    fun Ix _ U _ Lvl _ c st => own_va c st _).bind fun _ => ?_
  refine (Tri.put (fun st => st.va) (fun st X => { st with va := X }) fun Ix _ U _ Lvl _ c st X => own_va c st X).conseq
    (fun s hs => ?_) (fun _ _ h => h)
  have e := put_fill (m := 16) (n := 512) (w := 128) (nr := 192) (nc := 64) (b := b) (r := 64) (c := 0) (e := .bf16)
    (inb := in_va192 hb) (x := (shapeCast S1x192x64 (shapeCast S192x64 (shapeCast S3x64x64 (win R.v w) shapeCasts_S1x3x64x64_S3x64x64) shapeCasts_S3x64x64_S192x64) shapeCasts_S192x64_S1x192x64)) (A := s.va) (valT R n) fun i j => by
      rw [cast_win, Nat.zero_add, valT_lt j.isLt, rowT_win _ h hn i.isLt]
  show Q ⟨⟩ { s with va := putU _ _ _ _ _ }
  rw [e]
  exact hs

/-- The rows of slot `b` that change with the query block, filled for block `n`. -/
abbrev St.setKa (s : St F) (R : Inputs F) (b n : Nat) : St F := { s with ka := fill b 64 448 0 64 (keyT R n) s.ka }
abbrev St.setVa (s : St F) (R : Inputs F) (b n : Nat) : St F := { s with va := fill b 64 448 0 64 (valT R n) s.va }

theorem tri_kaFill (hT : ∀ n j, k1_chk1 (word R n j)) {n w b : Nat} (hn : n < 128) (hw : w + 3 ≤ 128) (hb : b < 16)
    (hn' : 2 ≤ n ∧ n ≤ 125) (h : n = w + 1) {Q : PUnit → St F → Prop} :
    Tri B R (fun s => Q ⟨⟩ (s.setKa R b n)) (kaFill B n w b hn hw hb) Q := by
  refine ((tri_kaWin hw hb hn' h).bind fun _ => (tri_kaSlot hT hn hb (by decide) (by omega)).bind fun _ =>
    (tri_kaSlot hT hn hb (by decide) (by omega)).bind fun _ => tri_kaSlot hT hn hb (by decide) (by omega)).conseq
    (fun s hs => ?_) (fun _ _ h => h)
  show Q ⟨⟩ { s with ka := fill b 384 448 0 64 _ (fill b 320 384 0 64 _ (fill b 256 320 0 64 _ (fill b 64 256 0 64 _ _))) }
  rw [fill_fill, fill_fill, fill_fill] <;> first | exact hs | decide

theorem tri_vaFill (hT : ∀ n j, k1_chk1 (word R n j)) {n w b : Nat} (hn : n < 128) (hw : w + 3 ≤ 128) (hb : b < 16)
    (hn' : 2 ≤ n ∧ n ≤ 125) (h : n = w + 1) {Q : PUnit → St F → Prop} :
    Tri B R (fun s => Q ⟨⟩ (s.setVa R b n)) (vaFill B n w b hn hw hb) Q := by
  refine ((tri_vaWin hw hb hn' h).bind fun _ => (tri_vaSlot hT hn hb (by decide) (by omega)).bind fun _ =>
    (tri_vaSlot hT hn hb (by decide) (by omega)).bind fun _ => tri_vaSlot hT hn hb (by decide) (by omega)).conseq
    (fun s hs => ?_) (fun _ _ h => h)
  show Q ⟨⟩ { s with va := fill b 384 448 0 64 _ (fill b 320 384 0 64 _ (fill b 256 320 0 64 _ (fill b 64 256 0 64 _ _))) }
  rw [fill_fill, fill_fill, fill_fill] <;> first | exact hs | decide

theorem tri_kaFill6 (hT : ∀ n j, k1_chk1 (word R n j)) {n b : Nat} (hn : n < 128) (hb : b < 16) (hn' : ¬ (2 ≤ n ∧ n ≤ 125))
    {Q : PUnit → St F → Prop} : Tri B R (fun s => Q ⟨⟩ (s.setKa R b n)) (kaFill6 B n b hn hb) Q := by
  refine ((tri_kaSlot hT hn hb (by decide) (by omega)).bind fun _ => (tri_kaSlot hT hn hb (by decide) (by omega)).bind fun _ =>
    (tri_kaSlot hT hn hb (by decide) (by omega)).bind fun _ => (tri_kaSlot hT hn hb (by decide) (by omega)).bind fun _ =>
    (tri_kaSlot hT hn hb (by decide) (by omega)).bind fun _ => tri_kaSlot hT hn hb (by decide) (by omega)).conseq
    (fun s hs => ?_) (fun _ _ h => h)
  show Q ⟨⟩ { s with ka := fill b 384 448 0 64 _ (fill b 320 384 0 64 _ (fill b 256 320 0 64 _ (fill b 192 256 0 64 _
    (fill b 128 192 0 64 _ (fill b 64 128 0 64 _ _))))) }
  rw [fill_fill, fill_fill, fill_fill, fill_fill, fill_fill] <;> first | exact hs | decide

theorem tri_vaFill6 (hT : ∀ n j, k1_chk1 (word R n j)) {n b : Nat} (hn : n < 128) (hb : b < 16) (hn' : ¬ (2 ≤ n ∧ n ≤ 125))
    {Q : PUnit → St F → Prop} : Tri B R (fun s => Q ⟨⟩ (s.setVa R b n)) (vaFill6 B n b hn hb) Q := by
  refine ((tri_vaSlot hT hn hb (by decide) (by omega)).bind fun _ => (tri_vaSlot hT hn hb (by decide) (by omega)).bind fun _ =>
    (tri_vaSlot hT hn hb (by decide) (by omega)).bind fun _ => (tri_vaSlot hT hn hb (by decide) (by omega)).bind fun _ =>
    (tri_vaSlot hT hn hb (by decide) (by omega)).bind fun _ => tri_vaSlot hT hn hb (by decide) (by omega)).conseq
    (fun s hs => ?_) (fun _ _ h => h)
  show Q ⟨⟩ { s with va := fill b 384 448 0 64 _ (fill b 320 384 0 64 _ (fill b 256 320 0 64 _ (fill b 192 256 0 64 _
    (fill b 128 192 0 64 _ (fill b 64 128 0 64 _ _))))) }
  rw [fill_fill, fill_fill, fill_fill, fill_fill, fill_fill] <;> first | exact hs | decide

end Cert.KernelIdeal.Proof
end
-- ==== Proof.Body.lean ====
/-
  What the attention body leaves: which slots hold which block's keys and values, which blocks' weights and outputs are
  done, from the opening to the end. At the end every block of the output is the one its inputs determine.
-/
module

public import proofs.«01_k».proof.Proof.Slots

@[expose] public section

noncomputable section

namespace Cert.KernelIdeal.Proof

open Idealize.ShloMosaic Idealize.ShloMosaic.TcCoe Idealize.ShloMosaic.ValueIdx
open Idealize.SL.RA Idealize.SL.Sem
open Cert.KernelIdeal Cert.KernelIdeal.Facts₀ Cert.KernelIdeal.Facts

variable {F : FTy → Type} [FloatOps F] [Cert.KernelIdeal.Facts]
variable {B : Bufs} {R : Inputs F}

/-! ## What the body computes -/

/-- A slot of keys filled for block `n`. -/
def slotK (R : Inputs F) (n : Nat) : Vec F S1x512x64 .bf16 := fun j => keyT R n (j 1).val (j 2).val

/-- A slot of values filled for block `n`. -/
def slotV (R : Inputs F) (n : Nat) : Vec F S1x512x128 .bf16 := fun j => valT R n (j 1).val (j 2).val

/-- The weights of block `n`. -/
def weightsOf (R : Inputs F) (n : Nat) : Vec F S1x64x512 .bf16 :=
  if 2 ≤ n ∧ n ≤ 125 then weights3 (expScores (blk R.q n) (slotK R n)) (word R n 3) (word R n 4) (word R n 5)
  else weights6 (expScores (blk R.q n) (slotK R n)) (word R n 0) (word R n 1) (word R n 2) (word R n 3) (word R n 4) (word R n 5)

/-- Block `n` of the output. -/
def outOf (R : Inputs F) (n : Nat) : FVec F S64x64 .bf16 :=
  if n = 0 then average0 (blk R.q 0) R.k R.v else average (weightsOf R n) (slotV R n)

/-- The whole output of a head. -/
def final (R : Inputs F) : S1x128x64x64.Idx → Elt F .bf16 := fun y => outOf R (y 1).val (ix2 (y 2) (y 3))

/-! ## The invariant -/

/-- Slots `PB` are prepared, slots `DK` hold the keys and `DV` the values of the block `f` gives them, the weights of
    the blocks `P` and the outputs of the blocks `O` are done. -/
structure Good (R : Inputs F) (f : Nat → Nat) (PB DK DV P O : Nat → Prop) (s : St F) : Prop where
  kb : ∀ y, PB (y 0).val → ((y 1).val < 64 ∨ 448 ≤ (y 1).val) → s.ka y = keyT R 0 (y 1).val (y 2).val
  vb : ∀ y, PB (y 0).val → ((y 1).val < 64 ∨ 448 ≤ (y 1).val ∨ 64 ≤ (y 2).val) → s.va y = valT R 0 (y 1).val (y 2).val
  ks : ∀ y, DK (y 0).val → s.ka y = keyT R (f (y 0).val) (y 1).val (y 2).val
  vs : ∀ y, DV (y 0).val → s.va y = valT R (f (y 0).val) (y 1).val (y 2).val
  ps : ∀ y, P (y 0).val → s.p y = weightsOf R (y 0).val (ix3 0 (y 1) (y 2))
  os : ∀ y, O (y 1).val → s.o y = final R y

variable {f : Nat → Nat} {PB DK DV P O : Nat → Prop}

theorem Good.mono {f' : Nat → Nat} {PB' DK' DV' P' O' : Nat → Prop} {s : St F} (h : Good R f PB DK DV P O s)
    (hB : ∀ b, PB' b → PB b) (hK : ∀ b, DK' b → DK b ∧ f' b = f b) (hV : ∀ b, DV' b → DV b ∧ f' b = f b)
    (hP : ∀ b, P' b → P b) (hO : ∀ b, O' b → O b) : Good R f' PB' DK' DV' P' O' s where
  kb y hy := h.kb y (hB _ hy)
  vb y hy := h.vb y (hB _ hy)
  ks y hy := by rw [(hK _ hy).2]; exact h.ks y (hK _ hy).1
  vs y hy := by rw [(hV _ hy).2]; exact h.vs y (hV _ hy).1
  ps y hy := h.ps y (hP _ hy)
  os y hy := h.os y (hO _ hy)

theorem keyT_base (n r d : Nat) (h : r < 64 ∨ 448 ≤ r) : keyT R n r d = keyT R 0 r d := by
  unfold keyT rowT
  split_ifs <;> first | rfl | omega

theorem valT_base (n r d : Nat) (h : r < 64 ∨ 448 ≤ r ∨ 64 ≤ d) : valT R n r d = valT R 0 r d := by
  unfold valT rowT
  split_ifs <;> first | rfl | omega

theorem Good.setKa {s : St F} (h : Good R f PB DK DV P O s) {b : Nat} (hb : PB b) :
    Good R f PB (fun b' => DK b' ∨ b' = b) DV P O (s.setKa R b (f b)) where
  kb y hy hr := by
    show fill b 64 448 0 64 (keyT R (f b)) s.ka y = _
    unfold fill; rw [if_neg (by omega)]; exact h.kb y hy hr
  vb := h.vb
  ks y hy := by
    show fill b 64 448 0 64 (keyT R (f b)) s.ka y = _
    have h2 : (y 2).val < 64 := (y 2).isLt
    unfold fill
    by_cases e : (y 0).val = b
    · by_cases hr : 64 ≤ (y 1).val ∧ (y 1).val < 448
      · rw [if_pos ⟨e, hr, by omega⟩, e]
      · rw [if_neg (by omega), h.kb y (e ▸ hb) (by omega)]
        exact (keyT_base _ _ _ (by omega)).symm
    · rw [if_neg (by omega)]
      exact h.ks y (hy.resolve_right e)
  vs := h.vs
  ps := h.ps
  os := h.os

theorem Good.setVa {s : St F} (h : Good R f PB DK DV P O s) {b : Nat} (hb : PB b) :
    Good R f PB DK (fun b' => DV b' ∨ b' = b) P O (s.setVa R b (f b)) where
  kb := h.kb
  vb y hy hr := by
    show fill b 64 448 0 64 (valT R (f b)) s.va y = _
    unfold fill; rw [if_neg (by omega)]; exact h.vb y hy hr
  ks := h.ks
  vs y hy := by
    show fill b 64 448 0 64 (valT R (f b)) s.va y = _
    unfold fill
    by_cases e : (y 0).val = b
    · by_cases hr : (64 ≤ (y 1).val ∧ (y 1).val < 448) ∧ (y 2).val < 64
      · rw [if_pos ⟨e, hr.1, by omega⟩, e]
      · rw [if_neg (by omega), h.vb y (e ▸ hb) (by omega)]
        exact (valT_base _ _ _ (by omega)).symm
    · rw [if_neg (by omega)]
      exact h.vs y (hy.resolve_right e)
  ps := h.ps
  os := h.os

/-! ## The stages on the invariant -/

theorem good_kaFill (hT : ∀ n j, k1_chk1 (word R n j)) {n w b : Nat} (hn : n < 128) (hw : w + 3 ≤ 128) (hb : b < 16)
    (hn' : 2 ≤ n ∧ n ≤ 125) (h : n = w + 1) (hB : PB b) (hf : f b = n) :
    Tri B R (Good R f PB DK DV P O) (kaFill B n w b hn hw hb) (fun _ => Good R f PB (fun b' => DK b' ∨ b' = b) DV P O) :=
  (tri_kaFill hT hn hw hb hn' h).conseq (fun _ hs => hf ▸ hs.setKa hB) fun _ _ h => h

theorem good_kaFill6 (hT : ∀ n j, k1_chk1 (word R n j)) {n b : Nat} (hn : n < 128) (hb : b < 16)
    (hn' : ¬ (2 ≤ n ∧ n ≤ 125)) (hB : PB b) (hf : f b = n) :
    Tri B R (Good R f PB DK DV P O) (kaFill6 B n b hn hb) (fun _ => Good R f PB (fun b' => DK b' ∨ b' = b) DV P O) :=
  (tri_kaFill6 hT hn hb hn').conseq (fun _ hs => hf ▸ hs.setKa hB) fun _ _ h => h

theorem good_vaFill (hT : ∀ n j, k1_chk1 (word R n j)) {n w b : Nat} (hn : n < 128) (hw : w + 3 ≤ 128) (hb : b < 16)
    (hn' : 2 ≤ n ∧ n ≤ 125) (h : n = w + 1) (hB : PB b) (hf : f b = n) :
    Tri B R (Good R f PB DK DV P O) (vaFill B n w b hn hw hb) (fun _ => Good R f PB DK (fun b' => DV b' ∨ b' = b) P O) :=
  (tri_vaFill hT hn hw hb hn' h).conseq (fun _ hs => hf ▸ hs.setVa hB) fun _ _ h => h

theorem good_vaFill6 (hT : ∀ n j, k1_chk1 (word R n j)) {n b : Nat} (hn : n < 128) (hb : b < 16)
    (hn' : ¬ (2 ≤ n ∧ n ≤ 125)) (hB : PB b) (hf : f b = n) :
    Tri B R (Good R f PB DK DV P O) (vaFill6 B n b hn hb) (fun _ => Good R f PB DK (fun b' => DV b' ∨ b' = b) P O) :=
  (tri_vaFill6 hT hn hb hn').conseq (fun _ hs => hf ▸ hs.setVa hB) fun _ _ h => h

/-- A slot of keys read when it holds block `n`'s. -/
theorem tri_kaAt {n b : Nat} (hb : b < 16) {Q : Vec F S1x512x64 .bf16 → St F → Prop} :
    Tri B R (fun s => (∀ y, (y 0).val = b → s.ka y = keyT R n (y 1).val (y 2).val) ∧ Q (slotK R n) s) (kaAt B b hb) Q := by
  refine (Tri.get (fun st => st.ka) (Q := Q) fun Ix _ U _ Lvl _ c st => own_ka c st _).conseq (fun s hs => ?_) (fun _ _ h => h)
  have e : (fun i => s.ka ((Rect.unit (s := S16x512x64) ![b, 0, 0] S1x512x64.size (in_ka512 hb)).emb i)) = slotK R n := by
    funext j
    have h0 : (j 0).val < 1 := (j 0).isLt
    refine (hs.1 _ (show b + 1 * (j 0).val = b by omega)).trans ?_
    show keyT R n (0 + 1 * (j 1).val) (0 + 1 * (j 2).val) = _
    rw [Nat.zero_add, Nat.zero_add, Nat.one_mul, Nat.one_mul]; rfl
  rw [e]; exact hs.2

theorem tri_vaAt {n b : Nat} (hb : b < 16) {Q : Vec F S1x512x128 .bf16 → St F → Prop} :
    Tri B R (fun s => (∀ y, (y 0).val = b → s.va y = valT R n (y 1).val (y 2).val) ∧ Q (slotV R n) s) (vaAt B b hb) Q := by
  refine (Tri.get (fun st => st.va) (Q := Q) fun Ix _ U _ Lvl _ c st => own_va c st _).conseq (fun s hs => ?_) (fun _ _ h => h)
  have e : (fun i => s.va ((Rect.unit (s := S16x512x128) ![b, 0, 0] S1x512x128.size (in_va512 hb)).emb i)) = slotV R n := by
    funext j
    have h0 : (j 0).val < 1 := (j 0).isLt
    refine (hs.1 _ (show b + 1 * (j 0).val = b by omega)).trans ?_
    show valT R n (0 + 1 * (j 1).val) (0 + 1 * (j 2).val) = _
    rw [Nat.zero_add, Nat.zero_add, Nat.one_mul, Nat.one_mul]; rfl
  rw [e]; exact hs.2

theorem tri_pAt {n : Nat} (hn : n < 128) {Q : Vec F S1x64x512 .bf16 → St F → Prop} :
    Tri B R (fun s => (∀ y, (y 0).val = n → s.p y = weightsOf R n (ix3 0 (y 1) (y 2))) ∧ Q (weightsOf R n) s)
      (getAt B.p (Rect.unit (s := S128x64x512) ![n, 0, 0] S1x64x512.size (in_p hn)) h_S1x64x512) Q := by
  refine (Tri.get (fun st => st.p) (Q := Q) fun Ix _ U _ Lvl _ c st => own_p c st _).conseq (fun s hs => ?_) (fun _ _ h => h)
  have e : (fun i => s.p ((Rect.unit (s := S128x64x512) ![n, 0, 0] S1x64x512.size (in_p hn)).emb i)) = weightsOf R n := by
    funext j
    have h0 : (j 0).val < 1 := (j 0).isLt
    refine (hs.1 _ (show n + 1 * (j 0).val = n by omega)).trans ?_
    congr 1
    funext a
    apply Fin.ext
    fin_cases a
    · show 0 = (j 0).val; omega
    · show 0 + 1 * (j 1).val = (j 1).val; omega
    · show 0 + 1 * (j 2).val = (j 2).val; omega
  rw [e]; exact hs.2

theorem good_pPut {n : Nat} (hn : n < 128) {x : Vec F S1x64x512 .bf16} (hx : x = weightsOf R n) :
    Tri B R (Good R f PB DK DV P O) (pPut B n hn x) (fun _ => Good R f PB DK DV (fun m => P m ∨ m = n) O) := by
  refine (Tri.get (fun st => st.p) (Q := fun _ => Good R f PB DK DV P O) fun Ix _ U _ Lvl _ c st => own_p c st _).bind fun _ => ?_
  refine (Tri.put (fun st => st.p) (fun st X => { st with p := X }) fun Ix _ U _ Lvl _ c st X => own_p c st X).conseq
    (fun s hs => ?_) (fun _ _ h => h)
  refine ⟨hs.kb, hs.vb, hs.ks, hs.vs, fun y hy => ?_, hs.os⟩
  show putU (s := S128x64x512) (e := .bf16) ![n, 0, 0] S1x64x512.size (in_p hn) x s.p y = _
  by_cases e : (y 0).val = n
  · rw [putU_hit (j := (ix3 (0 : Fin 1) (y 1) (y 2) : S1x64x512.Idx)), hx, e]
    intro a; fin_cases a
    · exact e
    · show (y 1).val = 0 + (y 1).val; omega
    · show (y 2).val = 0 + (y 2).val; omega
  · rw [putU_miss]
    · exact hs.ps y (hy.resolve_right e)
    · intro hh
      have h0 : n ≤ (y 0).val ∧ (y 0).val < n + 1 := hh 0
      omega

theorem cast_out {α : Type} (x : S64x64.Idx → α) (h : S64x64.ShapeCasts S1x1x64x64) (r d : Fin 64) :
    shapeCast S1x1x64x64 x h (ix4 0 0 r d) = x (ix2 r d) :=
  shapeCast_apply x h (ix4 0 0 r d) (ix2 r d) (by rw [Shape.rowMajor_val_four, Shape.rowMajor_val_two]; simp)

theorem good_oPut {n : Nat} (hn : n < 128) {x : FVec F S64x64 .bf16} (hx : x = outOf R n) :
    Tri B R (Good R f PB DK DV P O) (oPut B n hn x) (fun _ => Good R f PB DK DV P (fun m => O m ∨ m = n)) := by
  refine (Tri.get (fun st => st.o) (Q := fun _ => Good R f PB DK DV P O) fun Ix _ U _ Lvl _ c st => own_o c st _).bind fun _ => ?_
  refine (Tri.put (fun st => st.o) (fun st X => { st with o := X }) fun Ix _ U _ Lvl _ c st X => own_o c st X).conseq
    (fun s hs => ?_) (fun _ _ h => h)
  refine ⟨hs.kb, hs.vb, hs.ks, hs.vs, hs.ps, fun y hy => ?_⟩
  show putU (s := S1x128x64x64) (e := .bf16) ![0, n, 0, 0] S1x1x64x64.size (in_blk hn)
    (shapeCast S1x1x64x64 x shapeCasts_S64x64_S1x1x64x64) s.o y = _
  have y0 : (y 0).val < 1 := (y 0).isLt
  by_cases e : (y 1).val = n
  · rw [putU_hit (j := (ix4 (0 : Fin 1) (0 : Fin 1) (y 2) (y 3) : S1x1x64x64.Idx)), hx]
    · refine (cast_out (outOf R n) shapeCasts_S64x64_S1x1x64x64 (y 2) (y 3)).trans ?_
      show _ = outOf R (y 1).val _
      rw [e]
    intro a; fin_cases a
    · show (y 0).val = 0 + 0; omega
    · exact e
    · show (y 2).val = 0 + (y 2).val; omega
    · show (y 3).val = 0 + (y 3).val; omega
  · rw [putU_miss]
    · exact hs.os y (hy.resolve_right e)
    · intro hh
      have h0 : n ≤ (y 1).val ∧ (y 1).val < n + 1 := hh 1
      omega

theorem good_weigh {n b : Nat} (hn : n < 128) (hb : b < 16) (hn' : 2 ≤ n ∧ n ≤ 125) (hK : DK b) (hf : f b = n) :
    Tri B R (Good R f PB DK DV P O) (weigh B n b hn hb) (fun _ => Good R f PB DK DV (fun m => P m ∨ m = n) O) :=
  Tri.bindDet (fun _ => tri_blkAt_q hn) <| Tri.bindWhen (fun _ => tri_kaAt (n := n) hb)
    (fun s hs y hy => by rw [hs.ks y (hy ▸ hK), hy, hf]) <|
  Tri.bindDet (fun _ => tri_idxAt hn _) <| Tri.bindDet (fun _ => tri_idxAt hn _) <| Tri.bindDet (fun _ => tri_idxAt hn _) <|
    good_pPut hn (by rw [weightsOf, if_pos hn'])

theorem good_weigh6 {n b : Nat} (hn : n < 128) (hb : b < 16) (hn' : ¬ (2 ≤ n ∧ n ≤ 125)) (hK : DK b) (hf : f b = n) :
    Tri B R (Good R f PB DK DV P O) (weigh6 B n b hn hb) (fun _ => Good R f PB DK DV (fun m => P m ∨ m = n) O) :=
  Tri.bindDet (fun _ => tri_blkAt_q hn) <| Tri.bindWhen (fun _ => tri_kaAt (n := n) hb)
    (fun s hs y hy => by rw [hs.ks y (hy ▸ hK), hy, hf]) <|
  Tri.bindDet (fun _ => tri_idxAt hn _) <| Tri.bindDet (fun _ => tri_idxAt hn _) <| Tri.bindDet (fun _ => tri_idxAt hn _) <|
  Tri.bindDet (fun _ => tri_idxAt hn _) <| Tri.bindDet (fun _ => tri_idxAt hn _) <| Tri.bindDet (fun _ => tri_idxAt hn _) <|
    good_pPut hn (by rw [weightsOf, if_neg hn'])

theorem good_apply {n b : Nat} (hn : n < 128) (hb : b < 16) (h0 : n ≠ 0) (hV : DV b) (hf : f b = n) (hP : P n) :
    Tri B R (Good R f PB DK DV P O) (apply B n b hn hb) (fun _ => Good R f PB DK DV P (fun m => O m ∨ m = n)) :=
  Tri.bindWhen (fun _ => tri_pAt hn) (fun s hs y hy => by rw [hs.ps y (hy ▸ hP), hy]) <|
  Tri.bindWhen (fun _ => tri_vaAt (n := n) hb) (fun s hs y hy => by rw [hs.vs y (hy ▸ hV), hy, hf]) <|
    good_oPut hn (by rw [outOf, if_neg h0])

/-! ## The whole body -/

theorem tri_allAt_k {Q : Vec F S1x128x64x64 .bf16 → St F → Prop} : Tri B R (fun s => Q R.k s) (allAt B.k) Q := by
  have e : (fun i => R.k ((Rect.unit (s := S1x128x64x64) ![0, 0, 0, 0] S1x128x64x64.size in_all).emb i)) = R.k := by
    funext i; congr 1; funext a; apply Fin.ext
    fin_cases a
    · show 0 + 1 * (i 0).val = (i 0).val; omega
    · show 0 + 1 * (i 1).val = (i 1).val; omega
    · show 0 + 1 * (i 2).val = (i 2).val; omega
    · show 0 + 1 * (i 3).val = (i 3).val; omega
  refine (Tri.get (fun _ => R.k) (Q := Q) fun Ix _ U _ Lvl _ c st => own_k c st).conseq (fun s hs => ?_) (fun _ _ h => h)
  rw [e]; exact hs

theorem tri_allAt_v {Q : Vec F S1x128x64x64 .bf16 → St F → Prop} : Tri B R (fun s => Q R.v s) (allAt B.v) Q := by
  have e : (fun i => R.v ((Rect.unit (s := S1x128x64x64) ![0, 0, 0, 0] S1x128x64x64.size in_all).emb i)) = R.v := by
    funext i; congr 1; funext a; apply Fin.ext
    fin_cases a
    · show 0 + 1 * (i 0).val = (i 0).val; omega
    · show 0 + 1 * (i 1).val = (i 1).val; omega
    · show 0 + 1 * (i 2).val = (i 2).val; omega
    · show 0 + 1 * (i 3).val = (i 3).val; omega
  refine (Tri.get (fun _ => R.v) (Q := Q) fun Ix _ U _ Lvl _ c st => own_v c st).conseq (fun s hs => ?_) (fun _ _ h => h)
  rw [e]; exact hs

theorem good_first : Tri B R (Good R f PB DK DV P O) (first B) (fun _ => Good R f PB DK DV P (fun m => O m ∨ m = 0)) :=
  Tri.bindDet (fun _ => tri_allAt_k) <| Tri.bindDet (fun _ => tri_allAt_v) <| Tri.bindDet (fun _ => tri_blkAt_q (by decide)) <|
    good_oPut (by decide) (by rw [outOf, if_pos rfl])

/-- The ones beside the values. -/
theorem tri_ones {b : Nat} (hb : b < 16) {hp} {Q : PUnit → St F → Prop} :
    Tri B R (fun s => Q ⟨⟩ { s with va := fill b 0 512 64 128 (fun _ _ => Scalar.ofBits .bf16 0x3F80#16) s.va })
      (putAt B.va B.hva (Rect.unit (s := S16x512x128) ![b, 0, 64] S1x512x64.size (in_vaOnes hb)) h_S1x512x64 hp
        (shapeCast S1x512x64 (broadcast S512x64 (Scalar.ofBits .bf16 0x3F80#16)) shapeCasts_S512x64_S1x512x64)) Q := by
  refine (Tri.put (fun st => st.va) (fun st X => { st with va := X }) fun Ix _ U _ Lvl _ c st X => own_va c st X).conseq
    (fun s hs => ?_) (fun _ _ h => h)
  have e := put_fill (m := 16) (n := 512) (w := 128) (nr := 512) (nc := 64) (b := b) (r := 0) (c := 64) (e := .bf16)
    (inb := in_vaOnes hb) (x := shapeCast S1x512x64 (broadcast S512x64 (Scalar.ofBits (F := F) .bf16 0x3F80#16)) shapeCasts_S512x64_S1x512x64)
    (A := s.va) (fun _ _ => Scalar.ofBits .bf16 0x3F80#16) fun i j => rfl
  show Q ⟨⟩ { s with va := putU _ _ _ _ _ }
  rw [e]
  exact hs

/-- The zeros at the end of the values. -/
theorem tri_pad {b : Nat} (hb : b < 16) {hp} {Q : PUnit → St F → Prop} :
    Tri B R (fun s => Q ⟨⟩ { s with va := fill b 448 512 0 128 (fun _ _ => Scalar.ofBits .bf16 0x0000#16) s.va })
      (putAt B.va B.hva (Rect.unit (s := S16x512x128) ![b, 448, 0] S1x64x128.size (in_vaPad hb)) h_S1x64x128 hp
        (shapeCast S1x64x128 (broadcast S64x128 (Scalar.ofBits .bf16 0x0000#16)) shapeCasts_S64x128_S1x64x128)) Q := by
  refine (Tri.put (fun st => st.va) (fun st X => { st with va := X }) fun Ix _ U _ Lvl _ c st X => own_va c st X).conseq
    (fun s hs => ?_) (fun _ _ h => h)
  have e := put_fill (m := 16) (n := 512) (w := 128) (nr := 64) (nc := 128) (b := b) (r := 448) (c := 0) (e := .bf16)
    (inb := in_vaPad hb) (x := shapeCast S1x64x128 (broadcast S64x128 (Scalar.ofBits (F := F) .bf16 0x0000#16)) shapeCasts_S64x128_S1x64x128)
    (A := s.va) (fun _ _ => Scalar.ofBits .bf16 0x0000#16) fun i j => rfl
  show Q ⟨⟩ { s with va := putU _ _ _ _ _ }
  rw [e]
  exact hs

theorem good_prepare {b : Nat} (hb : b < 16) :
    Tri B R (Good R f PB (fun _ => False) (fun _ => False) P O) (prepare B b hb)
      (fun _ => Good R f (fun b' => PB b' ∨ b' = b) (fun _ => False) (fun _ => False) P O) := by
  refine (Tri.bindDet (fun _ => tri_blkAt_k (by decide)) <|
    (tri_kaPut hb _ _ _ (keyT R 0) fun i d => by
      rw [cast_blk, keyT, rowT, Nat.zero_add, if_pos i.isLt]).bind fun _ =>
    (tri_kaPut hb _ _ _ (keyT R 0) fun i d => by
      rw [keyT, rowT, if_neg (by omega), if_neg (by omega)]; rfl).bind fun _ =>
    Tri.bindDet (fun _ => tri_blkAt_v (by decide)) <|
    (tri_vaPut hb _ _ _ (valT R 0) fun i d => by
      rw [cast_blk, valT_lt d.isLt, rowT, Nat.zero_add, if_pos i.isLt]).bind fun _ =>
    (Tri.get (fun st => st.va) (Q := fun _ s => Good R f (fun b' => PB b' ∨ b' = b) (fun _ => False) (fun _ => False) P O
      { s with va := fill b 448 512 0 128 (fun _ _ => Scalar.ofBits .bf16 0x0000#16) (fill b 0 512 64 128 (fun _ _ => Scalar.ofBits .bf16 0x3F80#16) s.va) })
        fun Ix _ U _ Lvl _ c st => own_va c st _).bind fun _ =>
    (tri_ones hb).bind fun _ =>
    (Tri.get (fun st => st.va) (Q := fun _ s => Good R f (fun b' => PB b' ∨ b' = b) (fun _ => False) (fun _ => False) P O
      { s with va := fill b 448 512 0 128 (fun _ _ => Scalar.ofBits .bf16 0x0000#16) s.va })
        fun Ix _ U _ Lvl _ c st => own_va c st _).bind fun _ => tri_pad hb (Q := fun _ s => Good R f (fun b' => PB b' ∨ b' = b) (fun _ => False) (fun _ => False) P O s)).conseq
    (fun s hs => ?_) (fun _ _ h => h)
  constructor
  · intro y hy hr
    have h1 : (y 1).val < 512 := (y 1).isLt
    have h2 : (y 2).val < 64 := (y 2).isLt
    show fill b 448 512 0 64 (keyT R 0) (fill b 0 64 0 64 (keyT R 0) s.ka) y = _
    unfold fill
    split_ifs <;> first | rfl | exact hs.kb y (hy.resolve_right (by omega)) hr
  · intro y hy hr
    have h1 : (y 1).val < 512 := (y 1).isLt
    have h2 : (y 2).val < 128 := (y 2).isLt
    show fill b 448 512 0 128 (fun _ _ => Scalar.ofBits .bf16 0x0000#16) (fill b 0 512 64 128 (fun _ _ => Scalar.ofBits .bf16 0x3F80#16)
      (fill b 0 64 0 64 (valT R 0) s.va)) y = _
    unfold fill
    split_ifs with e1 e2 e3
    · unfold valT rowT
      split_ifs <;> first | rfl | omega
    · unfold valT
      rw [if_neg (by omega), if_pos (by omega)]
    · rfl
    · exact hs.vb y (hy.resolve_right (by omega)) hr
  · exact fun _ h => False.elim h
  · exact fun _ h => False.elim h
  · exact hs.ps
  · exact hs.os

theorem mem_slots (b : Fin 16) : b ∈ slots := by fin_cases b <;> decide
theorem mem_slots12 (b : Fin 12) : b ∈ slots12 := by fin_cases b <;> decide

/-- No slot. -/
abbrev none' : Nat → Prop := fun _ => False
/-- The sixteen slots. -/
abbrev all16 : Nat → Prop := fun b => b < 16

theorem good_opening : Tri B R (fun _ => True) (opening B) (fun _ => Good R f all16 none' none' none' (fun m => m = 0)) := by
  refine (good_first (f := f) (PB := none') (DK := none') (DV := none') (P := none') (O := none')).conseq
    (fun s _ => ⟨fun _ h => False.elim h, fun _ h => False.elim h, fun _ h => False.elim h, fun _ h => False.elim h, fun _ h => False.elim h, fun _ h => False.elim h⟩)
    (fun _ _ h => h) |>.bind fun _ => ?_
  refine (Tri.each (fun done => Good R f (fun b => ∃ a ∈ done, a.val = b) none' none' none' (fun m => m = 0)) slots []
    fun b _ done => (good_prepare b.2).conseq (fun _ hs => hs) fun _ s hs =>
      hs.mono (fun b' ⟨a, ha, e⟩ => ?_) (fun _ h => False.elim h) (fun _ h => False.elim h) (fun _ h => h) (fun _ h => h)).conseq
    (fun s hs => hs.mono (fun _ ⟨_, h, _⟩ => by simp at h) (fun _ h => False.elim h) (fun _ h => False.elim h) (fun _ h => h) (fun _ h => .inr h))
    (fun _ s hs => hs.mono (fun b hb => ⟨⟨b, hb⟩, by simpa using mem_slots _, rfl⟩) (fun _ h => False.elim h) (fun _ h => False.elim h)
      (fun _ h => h) (fun _ h => h))
  rcases List.mem_cons.1 ha with rfl | h
  · exact .inr e.symm
  · exact .inl ⟨a, h, e⟩

/-- A stage run over a list: slots filled with keys one after the other. -/
theorem each_K {α : Type} {g : α → TProg F PUnit} (slot : α → Nat) (l : List α)
    (h : ∀ a ∈ l, ∀ DK : Nat → Prop, Tri B R (Good R f PB DK DV P O) (g a) (fun _ => Good R f PB (fun b => DK b ∨ b = slot a) DV P O)) :
    Tri B R (Good R f PB DK DV P O) (eachOf g l) (fun _ => Good R f PB (fun b => DK b ∨ ∃ a ∈ l, b = slot a) DV P O) := by
  refine (Tri.each (fun done => Good R f PB (fun b => DK b ∨ ∃ a ∈ done, b = slot a) DV P O) l [] fun a ha done =>
    (h a ha _).conseq (fun _ hs => hs) fun _ s hs => hs.mono (fun _ h => h) (fun b hb => ⟨?_, rfl⟩)
      (fun _ h => ⟨h, rfl⟩) (fun _ h => h) (fun _ h => h)).conseq
    (fun s hs => hs.mono (fun _ h => h) (fun b hb => ⟨by simpa using hb, rfl⟩) (fun _ h => ⟨h, rfl⟩) (fun _ h => h) (fun _ h => h))
    (fun _ s hs => hs.mono (fun _ h => h) (fun b hb => ⟨by simpa using hb, rfl⟩) (fun _ h => ⟨h, rfl⟩) (fun _ h => h) (fun _ h => h))
  rcases hb with hb | ⟨a', ha', e⟩
  · exact .inl (.inl hb)
  · rcases List.mem_cons.1 ha' with rfl | h'
    · exact .inr e
    · exact .inl (.inr ⟨a', h', e⟩)

/-- The same for the values, -/
theorem each_V {α : Type} {g : α → TProg F PUnit} (slot : α → Nat) (l : List α)
    (h : ∀ a ∈ l, ∀ DV : Nat → Prop, Tri B R (Good R f PB DK DV P O) (g a) (fun _ => Good R f PB DK (fun b => DV b ∨ b = slot a) P O)) :
    Tri B R (Good R f PB DK DV P O) (eachOf g l) (fun _ => Good R f PB DK (fun b => DV b ∨ ∃ a ∈ l, b = slot a) P O) := by
  refine (Tri.each (fun done => Good R f PB DK (fun b => DV b ∨ ∃ a ∈ done, b = slot a) P O) l [] fun a ha done =>
    (h a ha _).conseq (fun _ hs => hs) fun _ s hs => hs.mono (fun _ h => h) (fun _ h => ⟨h, rfl⟩) (fun b hb => ⟨?_, rfl⟩)
      (fun _ h => h) (fun _ h => h)).conseq
    (fun s hs => hs.mono (fun _ h => h) (fun _ h => ⟨h, rfl⟩) (fun b hb => ⟨by simpa using hb, rfl⟩) (fun _ h => h) (fun _ h => h))
    (fun _ s hs => hs.mono (fun _ h => h) (fun _ h => ⟨h, rfl⟩) (fun b hb => ⟨by simpa using hb, rfl⟩) (fun _ h => h) (fun _ h => h))
  rcases hb with hb | ⟨a', ha', e⟩
  · exact .inl (.inl hb)
  · rcases List.mem_cons.1 ha' with rfl | h'
    · exact .inr e
    · exact .inl (.inr ⟨a', h', e⟩)

/-- for the weights, -/
theorem each_P {α : Type} {g : α → TProg F PUnit} (num : α → Nat) (l : List α)
    (h : ∀ a ∈ l, ∀ P : Nat → Prop, Tri B R (Good R f PB DK DV P O) (g a) (fun _ => Good R f PB DK DV (fun b => P b ∨ b = num a) O)) :
    Tri B R (Good R f PB DK DV P O) (eachOf g l) (fun _ => Good R f PB DK DV (fun b => P b ∨ ∃ a ∈ l, b = num a) O) := by
  refine (Tri.each (fun done => Good R f PB DK DV (fun b => P b ∨ ∃ a ∈ done, b = num a) O) l [] fun a ha done =>
    (h a ha _).conseq (fun _ hs => hs) fun _ s hs => hs.mono (fun _ h => h) (fun _ h => ⟨h, rfl⟩) (fun _ h => ⟨h, rfl⟩)
      (fun b hb => ?_) (fun _ h => h)).conseq
    (fun s hs => hs.mono (fun _ h => h) (fun _ h => ⟨h, rfl⟩) (fun _ h => ⟨h, rfl⟩) (fun b hb => by simpa using hb) (fun _ h => h))
    (fun _ s hs => hs.mono (fun _ h => h) (fun _ h => ⟨h, rfl⟩) (fun _ h => ⟨h, rfl⟩) (fun b hb => by simpa using hb) (fun _ h => h))
  rcases hb with hb | ⟨a', ha', e⟩
  · exact .inl (.inl hb)
  · rcases List.mem_cons.1 ha' with rfl | h'
    · exact .inr e
    · exact .inl (.inr ⟨a', h', e⟩)

/-- and for the outputs. -/
theorem each_O {α : Type} {g : α → TProg F PUnit} (num : α → Nat) (l : List α)
    (h : ∀ a ∈ l, ∀ O : Nat → Prop, Tri B R (Good R f PB DK DV P O) (g a) (fun _ => Good R f PB DK DV P (fun b => O b ∨ b = num a))) :
    Tri B R (Good R f PB DK DV P O) (eachOf g l) (fun _ => Good R f PB DK DV P (fun b => O b ∨ ∃ a ∈ l, b = num a)) := by
  refine (Tri.each (fun done => Good R f PB DK DV P (fun b => O b ∨ ∃ a ∈ done, b = num a)) l [] fun a ha done =>
    (h a ha _).conseq (fun _ hs => hs) fun _ s hs => hs.mono (fun _ h => h) (fun _ h => ⟨h, rfl⟩) (fun _ h => ⟨h, rfl⟩)
      (fun _ h => h) (fun b hb => ?_)).conseq
    (fun s hs => hs.mono (fun _ h => h) (fun _ h => ⟨h, rfl⟩) (fun _ h => ⟨h, rfl⟩) (fun _ h => h) (fun b hb => by simpa using hb))
    (fun _ s hs => hs.mono (fun _ h => h) (fun _ h => ⟨h, rfl⟩) (fun _ h => ⟨h, rfl⟩) (fun _ h => h) (fun b hb => by simpa using hb))
  rcases hb with hb | ⟨a', ha', e⟩
  · exact .inl (.inl hb)
  · rcases List.mem_cons.1 ha' with rfl | h'
    · exact .inr e
    · exact .inl (.inr ⟨a', h', e⟩)

/-- The blocks of one trip, slot by slot. -/
def inTrip (k b : Nat) : Nat := 16 * k + 2 + b

/-- The blocks after the loops, slot by slot. -/
def inRest (b : Nat) : Nat := if b < 12 then 114 + b else if b = 12 then 1 else if b = 13 then 126 else 127

theorem good_tripK (hT : ∀ n j, k1_chk1 (word R n j)) {k : Nat} (hk : k < 7) :
    Tri B R (Good R f all16 none' none' P O) (tripK B k hk)
      (fun _ => Good R f all16 none' none' (fun m => P m ∨ (16 * k + 2 ≤ m ∧ m < 16 * (k + 1) + 2)) O) := by
  refine ((each_K (f := inTrip k) (DK := none') (fun b : Fin 16 => b.val) slots fun b _ DK =>
      good_kaFill hT _ _ b.2 (by rw [blockOf_eq hk b.2]; omega) (by rw [blockOf_eq hk b.2, beforeOf_eq hk b.2]; omega) b.2
        (by rw [blockOf_eq hk b.2]; rfl)).bind fun _ =>
    each_P (f := inTrip k) (fun b : Fin 16 => blockOf k b) slots fun b hb P =>
      good_weigh (blockOf_lt hk b.2) b.2 (by rw [blockOf_eq hk b.2]; omega) (.inr ⟨b, hb, rfl⟩)
        (by rw [blockOf_eq hk b.2]; rfl)).conseq
    (fun s hs => hs.mono (fun _ h => h) (fun _ h => False.elim h) (fun _ h => False.elim h) (fun _ h => h) (fun _ h => h))
    (fun _ s hs => hs.mono (fun _ h => h) (fun _ h => False.elim h) (fun _ h => False.elim h) (fun m hm => ?_) (fun _ h => h))
  rcases hm with hm | hm
  · exact .inl hm
  · refine .inr ⟨⟨m - (16 * k + 2), by omega⟩, mem_slots _, ?_⟩
    rw [blockOf_eq hk (by show m - (16 * k + 2) < 16; omega)]
    show m = 16 * k + 2 + (m - (16 * k + 2))
    omega

theorem good_tripV (hT : ∀ n j, k1_chk1 (word R n j)) {k : Nat} (hk : k < 7) (hP : ∀ n, 1 ≤ n → n < 128 → P n) :
    Tri B R (Good R f all16 none' none' P O) (tripV B k hk)
      (fun _ => Good R f all16 none' none' P (fun m => O m ∨ (16 * k + 2 ≤ m ∧ m < 16 * (k + 1) + 2))) := by
  refine ((each_V (f := inTrip k) (DV := none') (fun b : Fin 16 => b.val) slots fun b _ DV =>
      good_vaFill hT _ _ b.2 (by rw [blockOf_eq hk b.2]; omega) (by rw [blockOf_eq hk b.2, beforeOf_eq hk b.2]; omega) b.2
        (by rw [blockOf_eq hk b.2]; rfl)).bind fun _ =>
    each_O (f := inTrip k) (fun b : Fin 16 => blockOf k b) slots fun b hb O =>
      good_apply (blockOf_lt hk b.2) b.2 (by rw [blockOf_eq hk b.2]; omega) (.inr ⟨b, hb, rfl⟩)
        (by rw [blockOf_eq hk b.2]; rfl) (hP _ (by rw [blockOf_eq hk b.2]; omega) (blockOf_lt hk b.2))).conseq
    (fun s hs => hs.mono (fun _ h => h) (fun _ h => False.elim h) (fun _ h => False.elim h) (fun _ h => h) (fun _ h => h))
    (fun _ s hs => hs.mono (fun _ h => h) (fun _ h => False.elim h) (fun _ h => False.elim h) (fun _ h => h) (fun m hm => ?_))
  rcases hm with hm | hm
  · exact .inl hm
  · refine .inr ⟨⟨m - (16 * k + 2), by omega⟩, mem_slots _, ?_⟩
    rw [blockOf_eq hk (by show m - (16 * k + 2) < 16; omega)]
    show m = 16 * k + 2 + (m - (16 * k + 2))
    omega

theorem ends_ok {e : Fin 128 × Fin 16} (h : e ∈ ends) : ¬ (2 ≤ e.1.val ∧ e.1.val ≤ 125) ∧ inRest e.2 = e.1 ∧ e.1.val ≠ 0 := by
  simp only [ends, List.mem_cons, List.not_mem_nil, or_false] at h
  rcases h with rfl | rfl | rfl <;> decide

theorem inRest_lt (b : Fin 12) : inRest b = 114 + b := if_pos b.2

/-- Which blocks the rest goes over. -/
theorem rest_blocks {m : Nat} (h : m = 1 ∨ (114 ≤ m ∧ m < 128)) :
    (∃ a ∈ slots12, m = 114 + a.val) ∨ ∃ e ∈ ends, m = e.1.val := by
  by_cases h' : 114 ≤ m ∧ m < 126
  · exact .inl ⟨⟨m - 114, by omega⟩, mem_slots12 _, by show m = 114 + (m - 114); omega⟩
  · right
    rcases (show m = 1 ∨ m = 126 ∨ m = 127 by omega) with rfl | rfl | rfl
    · exact ⟨(1, 12), by simp [ends], rfl⟩
    · exact ⟨(126, 13), by simp [ends], rfl⟩
    · exact ⟨(127, 14), by simp [ends], rfl⟩

theorem good_restK (hT : ∀ n j, k1_chk1 (word R n j)) :
    Tri B R (Good R f all16 none' none' P O) (restK B)
      (fun _ => Good R f all16 none' none' (fun m => P m ∨ (m = 1 ∨ (114 ≤ m ∧ m < 128))) O) := by
  refine ((each_K (f := inRest) (DK := none') (fun b : Fin 12 => b.val) slots12 fun b _ DK =>
      good_kaFill hT _ _ _ (by omega) (by omega) (by show b.val < 16; omega) (inRest_lt b)).bind fun _ =>
    (each_K (f := inRest) (fun e : Fin 128 × Fin 16 => e.2.val) ends fun e he DK =>
      good_kaFill6 hT e.1.2 e.2.2 (ends_ok he).1 e.2.2 (ends_ok he).2.1).bind fun _ =>
    (each_P (f := inRest) (fun b : Fin 12 => 114 + b.val) slots12 fun b hb P =>
      good_weigh (by omega) (by omega) (by omega) (.inl (.inr ⟨b, hb, rfl⟩)) (inRest_lt b)).bind fun _ =>
    each_P (f := inRest) (fun e : Fin 128 × Fin 16 => e.1.val) ends fun e he P =>
      good_weigh6 e.1.2 e.2.2 (ends_ok he).1 (.inr ⟨e, he, rfl⟩) (ends_ok he).2.1).conseq
    (fun s hs => hs.mono (fun _ h => h) (fun _ h => False.elim h) (fun _ h => False.elim h) (fun _ h => h) (fun _ h => h))
    (fun _ s hs => hs.mono (fun _ h => h) (fun _ h => False.elim h) (fun _ h => False.elim h) (fun m hm => ?_) (fun _ h => h))
  rcases hm with hm | hm
  · exact .inl (.inl hm)
  · rcases rest_blocks hm with h | h
    · exact .inl (.inr h)
    · exact .inr h

theorem good_restV (hT : ∀ n j, k1_chk1 (word R n j)) (hP : ∀ n, 1 ≤ n → n < 128 → P n) :
    Tri B R (Good R f all16 none' none' P O) (restV B)
      (fun _ => Good R f all16 none' none' P (fun m => O m ∨ (m = 1 ∨ (114 ≤ m ∧ m < 128)))) := by
  refine ((each_V (f := inRest) (DV := none') (fun b : Fin 12 => b.val) slots12 fun b _ DV =>
      good_vaFill hT _ _ _ (by omega) (by omega) (by show b.val < 16; omega) (inRest_lt b)).bind fun _ =>
    (each_V (f := inRest) (fun e : Fin 128 × Fin 16 => e.2.val) ends fun e he DV =>
      good_vaFill6 hT e.1.2 e.2.2 (ends_ok he).1 e.2.2 (ends_ok he).2.1).bind fun _ =>
    (each_O (f := inRest) (fun b : Fin 12 => 114 + b.val) slots12 fun b hb O =>
      good_apply (by omega) (by omega) (by omega) (.inl (.inr ⟨b, hb, rfl⟩)) (inRest_lt b) (hP _ (show 1 ≤ 114 + b.val by omega) (show 114 + b.val < 128 by omega))).bind fun _ =>
    each_O (f := inRest) (fun e : Fin 128 × Fin 16 => e.1.val) ends fun e he O =>
      good_apply e.1.2 e.2.2 (ends_ok he).2.2 (.inr ⟨e, he, rfl⟩) (ends_ok he).2.1
        (hP _ (Nat.one_le_iff_ne_zero.2 (ends_ok he).2.2) e.1.2)).conseq
    (fun s hs => hs.mono (fun _ h => h) (fun _ h => False.elim h) (fun _ h => False.elim h) (fun _ h => h) (fun _ h => h))
    (fun _ s hs => hs.mono (fun _ h => h) (fun _ h => False.elim h) (fun _ h => False.elim h) (fun _ h => h) (fun m hm => ?_))
  rcases hm with hm | hm
  · exact .inl (.inl hm)
  · rcases rest_blocks hm with h | h
    · exact .inl (.inr h)
    · exact .inr h

theorem good_loopK (hT : ∀ n j, k1_chk1 (word R n j)) :
    Tri B R (Good R f all16 none' none' none' O) (loopK B)
      (fun _ => Good R f all16 none' none' (fun m => 2 ≤ m ∧ m < 114) O) := by
  have h : Tri B R (Good R f all16 none' none' (fun m => 2 ≤ m ∧ m < 16 * 0 + 2) O) (loopK B)
      (fun _ => Good R f all16 none' none' (fun m => 2 ≤ m ∧ m < 16 * k1_t1_loop.trips + 2) O) := by
    refine Tri.loop (fun k => Good R f all16 none' none' (fun m => 2 ≤ m ∧ m < 16 * k + 2) O) fun k => ?_
    refine (good_tripK hT k.2).conseq (fun _ hs => hs) ?_
    intro _ s hs
    refine hs.mono (fun _ h => h) (fun _ h => False.elim h) (fun _ h => False.elim h) (fun m hm => ?_) (fun _ h => h)
    show (2 ≤ m ∧ m < 16 * k.val + 2) ∨ (16 * k.val + 2 ≤ m ∧ m < 16 * (k.val + 1) + 2)
    omega
  refine h.conseq ?_ ?_
  · intro s hs
    refine hs.mono (fun _ h => h) (fun _ h => False.elim h) (fun _ h => False.elim h) (fun m hm => ?_) (fun _ h => h)
    omega
  · intro _ s hs
    exact hs.mono (fun _ h => h) (fun _ h => False.elim h) (fun _ h => False.elim h) (fun m hm => hm) (fun _ h => h)

theorem good_loopV (hT : ∀ n j, k1_chk1 (word R n j)) (hP : ∀ n, 1 ≤ n → n < 128 → P n) :
    Tri B R (Good R f all16 none' none' P (fun m => m = 0)) (loopV B)
      (fun _ => Good R f all16 none' none' P (fun m => m = 0 ∨ (2 ≤ m ∧ m < 114))) := by
  have h : Tri B R (Good R f all16 none' none' P (fun m => m = 0 ∨ (2 ≤ m ∧ m < 16 * 0 + 2))) (loopV B)
      (fun _ => Good R f all16 none' none' P (fun m => m = 0 ∨ (2 ≤ m ∧ m < 16 * k1_t2_loop.trips + 2))) := by
    refine Tri.loop (fun k => Good R f all16 none' none' P (fun m => m = 0 ∨ (2 ≤ m ∧ m < 16 * k + 2))) fun k => ?_
    refine (good_tripV hT k.2 hP).conseq (fun _ hs => hs) ?_
    intro _ s hs
    refine hs.mono (fun _ h => h) (fun _ h => False.elim h) (fun _ h => False.elim h) (fun _ h => h) (fun m hm => ?_)
    show (m = 0 ∨ (2 ≤ m ∧ m < 16 * k.val + 2)) ∨ (16 * k.val + 2 ≤ m ∧ m < 16 * (k.val + 1) + 2)
    omega
  refine h.conseq ?_ ?_
  · intro s hs
    refine hs.mono (fun _ h => h) (fun _ h => False.elim h) (fun _ h => False.elim h) (fun _ h => h) (fun m hm => ?_)
    show m = 0
    omega
  · intro _ s hs
    exact hs.mono (fun _ h => h) (fun _ h => False.elim h) (fun _ h => False.elim h) (fun _ h => h) (fun m hm => hm)

/-- The attention body, from any contents of what it writes, leaves the output its inputs determine. -/
theorem tri_staged (hT : ∀ n j, k1_chk1 (word R n j)) :
    Tri B R (fun _ => True) (staged B) (fun _ s => s.o = final R) := by
  refine Tri.bind (good_opening (f := id)) fun _ => Tri.bind (good_loopK (f := id) hT) fun _ => Tri.bind (good_restK (f := id) hT) fun _ =>
    Tri.bind (p := loopV B) ((good_loopV (f := id) hT (P := fun m => 1 ≤ m ∧ m < 128) fun _ h1 h2 => ⟨h1, h2⟩).conseq
      (fun _ hs => hs.mono (fun _ h => h) (fun _ h => False.elim h) (fun _ h => False.elim h) (fun m hm => ?_) (fun _ h => h))
      (fun _ _ hs => hs)) fun _ =>
    (good_restV (f := id) hT fun _ h1 h2 => ⟨h1, h2⟩).conseq (fun _ hs => hs) (fun _ s hs => ?_)
  · show (2 ≤ m ∧ m < 114) ∨ _
    omega
  · funext y
    refine hs.os y ?_
    have : (y 1).val < 128 := (y 1).isLt
    show (_ ∨ (2 ≤ _ ∧ _ < 114)) ∨ _
    omega

end Cert.KernelIdeal.Proof
end
-- ==== Proof.Trip.lean ====
module

public import proofs.«01_k».proof.Proof.Stages

@[expose] public section

noncomputable section

namespace Cert.KernelIdeal.Proof

open Idealize.ShloMosaic Idealize.ShloMosaic.TcCoe Idealize.SL.Sem
open Cert.KernelIdeal Cert.KernelIdeal.Facts₀ Cert.KernelIdeal.Facts

variable {F : FTy → Type} [FloatOps F] [Cert.KernelIdeal.Facts]
variable (B : Bufs)

/-- The window of the text that holds the first loop. -/
theorem part82_eq : k1_part82 (F := F) B.i B.idx B.hidx B.q B.hq B.k B.hk B.v B.hv B.o B.ho B.ka B.hka B.va B.hva B.p B.hp =
    (prepare B 15 (by decide) >>= fun _ => loopK B >>= fun _ => winAt B.k 113 (by decide)) := by
  chain_rfl

/-- The window of the text that holds the second loop. -/
def cut119 : TProg F (Σ' v : Elt F .i32, k1_chk1 v) := k1_part119 B.i B.idx B.hidx B.q B.hq B.k B.hk B.v B.hv B.o B.ho B.ka B.hka B.va B.hva B.p B.hp 0#32 7#32

/-- It is the loop and what follows. -/
theorem part119_eq : cut119 (F := F) B =
    (loopV B >>= fun _ => vaWin B 113 0 (by decide) (by decide) >>= fun _ => vaSlot B 114 0 (by decide) (by decide) 3 (by decide)
      >>= fun _ => vaSlot B 114 0 (by decide) (by decide) 4 (by decide)
      >>= fun _ => idxOk (F := F) B 114 5 (by decide) (by decide)) := by
  chain_rfl

/-- The text up to the window of the first loop. -/
def upTo82 : TProg F PUnit := do
  let ⟨v25, v26⟩ ← k1_part68 B.i B.idx B.hidx B.q B.hq B.k B.hk B.v B.hv B.o B.ho B.ka B.hka B.va B.hva B.p B.hp
  k1_part69 B.i B.idx B.hidx B.q B.hq B.k B.hk B.v B.hv B.o B.ho B.ka B.hka B.va B.hva B.p B.hp v25 v26
  let v74 ← k1_part70 B.i B.idx B.hidx B.q B.hq B.k B.hk B.v B.hv B.o B.ho B.ka B.hka B.va B.hva B.p B.hp
  let v100 ← k1_part71 B.i B.idx B.hidx B.q B.hq B.k B.hk B.v B.hv B.o B.ho B.ka B.hka B.va B.hva B.p B.hp v74
  let v126 ← k1_part72 B.i B.idx B.hidx B.q B.hq B.k B.hk B.v B.hv B.o B.ho B.ka B.hka B.va B.hva B.p B.hp v100
  k1_part73 B.i B.idx B.hidx B.q B.hq B.k B.hk B.v B.hv B.o B.ho B.ka B.hka B.va B.hva B.p B.hp v126
  let v175 ← k1_part74 B.i B.idx B.hidx B.q B.hq B.k B.hk B.v B.hv B.o B.ho B.ka B.hka B.va B.hva B.p B.hp
  let v201 ← k1_part75 B.i B.idx B.hidx B.q B.hq B.k B.hk B.v B.hv B.o B.ho B.ka B.hka B.va B.hva B.p B.hp v175
  k1_part76 B.i B.idx B.hidx B.q B.hq B.k B.hk B.v B.hv B.o B.ho B.ka B.hka B.va B.hva B.p B.hp v201
  let v250 ← k1_part77 B.i B.idx B.hidx B.q B.hq B.k B.hk B.v B.hv B.o B.ho B.ka B.hka B.va B.hva B.p B.hp
  let cst_308 ← k1_part78 B.i B.idx B.hidx B.q B.hq B.k B.hk B.v B.hv B.o B.ho B.ka B.hka B.va B.hva B.p B.hp v250
  let v301 ← k1_part79 B.i B.idx B.hidx B.q B.hq B.k B.hk B.v B.hv B.o B.ho B.ka B.hka B.va B.hva B.p B.hp cst_308
  let ⟨v324, v325⟩ ← k1_part80 B.i B.idx B.hidx B.q B.hq B.k B.hk B.v B.hv B.o B.ho B.ka B.hka B.va B.hva B.p B.hp v301
  k1_part81 B.i B.idx B.hidx B.q B.hq B.k B.hk B.v B.hv B.o B.ho B.ka B.hka B.va B.hva B.p B.hp v324 v325
  pure ⟨⟩

/-- The text between the windows of the two loops. -/
def between (v373 : Vec F S1x3x64x64 .bf16) : TProg F PUnit := do
  let v399 ← k1_part83 B.i B.idx B.hidx B.q B.hq B.k B.hk B.v B.hv B.o B.ho B.ka B.hka B.va B.hva B.p B.hp v373
  k1_part84 B.i B.idx B.hidx B.q B.hq B.k B.hk B.v B.hv B.o B.ho B.ka B.hka B.va B.hva B.p B.hp v399
  let ⟨v447, k1_hw56⟩ ← k1_part85 B.i B.idx B.hidx B.q B.hq B.k B.hk B.v B.hv B.o B.ho B.ka B.hka B.va B.hva B.p B.hp
  let v476 ← k1_part86 B.i B.idx B.hidx B.q B.hq B.k B.hk B.v B.hv B.o B.ho B.ka B.hka B.va B.hva B.p B.hp v447 k1_hw56
  let ⟨v499, k1_hw61, v500⟩ ← k1_part87 B.i B.idx B.hidx B.q B.hq B.k B.hk B.v B.hv B.o B.ho B.ka B.hka B.va B.hva B.p B.hp v476
  let v525 ← k1_part88 B.i B.idx B.hidx B.q B.hq B.k B.hk B.v B.hv B.o B.ho B.ka B.hka B.va B.hva B.p B.hp v499 k1_hw61 v500
  let v552 ← k1_part89 B.i B.idx B.hidx B.q B.hq B.k B.hk B.v B.hv B.o B.ho B.ka B.hka B.va B.hva B.p B.hp v525
  let ⟨v575, k1_hw69, v576⟩ ← k1_part90 B.i B.idx B.hidx B.q B.hq B.k B.hk B.v B.hv B.o B.ho B.ka B.hka B.va B.hva B.p B.hp v552
  let v601 ← k1_part91 B.i B.idx B.hidx B.q B.hq B.k B.hk B.v B.hv B.o B.ho B.ka B.hka B.va B.hva B.p B.hp v575 k1_hw69 v576
  let ⟨v627, k1_hw74⟩ ← k1_part92 B.i B.idx B.hidx B.q B.hq B.k B.hk B.v B.hv B.o B.ho B.ka B.hka B.va B.hva B.p B.hp v601
  let v653 ← k1_part93 B.i B.idx B.hidx B.q B.hq B.k B.hk B.v B.hv B.o B.ho B.ka B.hka B.va B.hva B.p B.hp v627 k1_hw74
  k1_part94 B.i B.idx B.hidx B.q B.hq B.k B.hk B.v B.hv B.o B.ho B.ka B.hka B.va B.hva B.p B.hp v653
  k1_part95 B.i B.idx B.hidx B.q B.hq B.k B.hk B.v B.hv B.o B.ho B.ka B.hka B.va B.hva B.p B.hp
  let v729 ← k1_part96 B.i B.idx B.hidx B.q B.hq B.k B.hk B.v B.hv B.o B.ho B.ka B.hka B.va B.hva B.p B.hp
  let v753 ← k1_part97 B.i B.idx B.hidx B.q B.hq B.k B.hk B.v B.hv B.o B.ho B.ka B.hka B.va B.hva B.p B.hp v729
  let v780 ← k1_part98 B.i B.idx B.hidx B.q B.hq B.k B.hk B.v B.hv B.o B.ho B.ka B.hka B.va B.hva B.p B.hp v753
  k1_part99 B.i B.idx B.hidx B.q B.hq B.k B.hk B.v B.hv B.o B.ho B.ka B.hka B.va B.hva B.p B.hp v780
  let ⟨v829, k1_hw97, c0_i32_915⟩ ← k1_part100 B.i B.idx B.hidx B.q B.hq B.k B.hk B.v B.hv B.o B.ho B.ka B.hka B.va B.hva B.p B.hp
  let ⟨v853, k1_hw100⟩ ← k1_part101 B.i B.idx B.hidx B.q B.hq B.k B.hk B.v B.hv B.o B.ho B.ka B.hka B.va B.hva B.p B.hp v829 k1_hw97 c0_i32_915
  let ⟨v878, v880⟩ ← k1_part102 B.i B.idx B.hidx B.q B.hq B.k B.hk B.v B.hv B.o B.ho B.ka B.hka B.va B.hva B.p B.hp v853 k1_hw100
  let v912 ← k1_part103 B.i B.idx B.hidx B.q B.hq B.k B.hk B.v B.hv B.o B.ho B.ka B.hka B.va B.hva B.p B.hp v878 v880
  let v944 ← k1_part104 B.i B.idx B.hidx B.q B.hq B.k B.hk B.v B.hv B.o B.ho B.ka B.hka B.va B.hva B.p B.hp v912
  let ⟨v975, v976⟩ ← k1_part105 B.i B.idx B.hidx B.q B.hq B.k B.hk B.v B.hv B.o B.ho B.ka B.hka B.va B.hva B.p B.hp v944
  let ⟨v1006, v1008⟩ ← k1_part106 B.i B.idx B.hidx B.q B.hq B.k B.hk B.v B.hv B.o B.ho B.ka B.hka B.va B.hva B.p B.hp v975 v976
  let ⟨v1037, v1039, cst_1108, cst_1109⟩ ← k1_part107 B.i B.idx B.hidx B.q B.hq B.k B.hk B.v B.hv B.o B.ho B.ka B.hka B.va B.hva B.p B.hp v1006 v1008
  let ⟨v1068, v1071, v1072⟩ ← k1_part108 B.i B.idx B.hidx B.q B.hq B.k B.hk B.v B.hv B.o B.ho B.ka B.hka B.va B.hva B.p B.hp v1037 v1039 cst_1108 cst_1109
  let ⟨v1099, v1103, v1104, v1105⟩ ← k1_part109 B.i B.idx B.hidx B.q B.hq B.k B.hk B.v B.hv B.o B.ho B.ka B.hka B.va B.hva B.p B.hp v1068 v1071 v1072
  let ⟨v1130, v1134, v1137⟩ ← k1_part110 B.i B.idx B.hidx B.q B.hq B.k B.hk B.v B.hv B.o B.ho B.ka B.hka B.va B.hva B.p B.hp v1099 v1103 v1104 v1105
  let ⟨v1161, v1165, v1168, v1169⟩ ← k1_part111 B.i B.idx B.hidx B.q B.hq B.k B.hk B.v B.hv B.o B.ho B.ka B.hka B.va B.hva B.p B.hp v1130 v1134 v1137
  let ⟨v1192, v1196, v1199, v1201⟩ ← k1_part112 B.i B.idx B.hidx B.q B.hq B.k B.hk B.v B.hv B.o B.ho B.ka B.hka B.va B.hva B.p B.hp v1161 v1165 v1168 v1169
  let ⟨v1223, v1227, v1230, v1232, cst_1269, cst_1270⟩ ← k1_part113 B.i B.idx B.hidx B.q B.hq B.k B.hk B.v B.hv B.o B.ho B.ka B.hka B.va B.hva B.p B.hp v1192 v1196 v1199 v1201
  let ⟨v1254, v1258, v1261, v1264, v1265⟩ ← k1_part114 B.i B.idx B.hidx B.q B.hq B.k B.hk B.v B.hv B.o B.ho B.ka B.hka B.va B.hva B.p B.hp v1223 v1227 v1230 v1232 cst_1269 cst_1270
  k1_part115 B.i B.idx B.hidx B.q B.hq B.k B.hk B.v B.hv B.o B.ho B.ka B.hka B.va B.hva B.p B.hp v1254 v1258 v1261 v1264 v1265
  let ⟨v1303, v1307, v1310, v1316, v1322, v1328, v1330⟩ ← k1_part116 B.i B.idx B.hidx B.q B.hq B.k B.hk B.v B.hv B.o B.ho B.ka B.hka B.va B.hva B.p B.hp
  let ⟨v1352, v1356, v1359, v1361, cst_1377, cst_1378⟩ ← k1_part117 B.i B.idx B.hidx B.q B.hq B.k B.hk B.v B.hv B.o B.ho B.ka B.hka B.va B.hva B.p B.hp v1303 v1307 v1310 v1316 v1322 v1328 v1330
  let _ ← k1_part118 B.i B.idx B.hidx B.q B.hq B.k B.hk B.v B.hv B.o B.ho B.ka B.hka B.va B.hva B.p B.hp v1352 v1356 v1359 v1361 cst_1377 cst_1378
  pure ⟨⟩

/-- The text after the window of the second loop, to the cut before the last window. -/
def after119 (v1419 : Elt F .i32) (k1_hw153 : k1_chk153 v1419) :
    TProg F (Σ' (v1621 : Elt F .i32) (_ : k1_chk173 v1621), BitVec 32) := do
  let v1445 ← k1_part120 B.i B.idx B.hidx B.q B.hq B.k B.hk B.v B.hv B.o B.ho B.ka B.hka B.va B.hva B.p B.hp v1419 k1_hw153
  k1_part121 B.i B.idx B.hidx B.q B.hq B.k B.hk B.v B.hv B.o B.ho B.ka B.hka B.va B.hva B.p B.hp v1445
  let ⟨v1493, k1_hw160⟩ ← k1_part122 B.i B.idx B.hidx B.q B.hq B.k B.hk B.v B.hv B.o B.ho B.ka B.hka B.va B.hva B.p B.hp
  let v1519 ← k1_part123 B.i B.idx B.hidx B.q B.hq B.k B.hk B.v B.hv B.o B.ho B.ka B.hka B.va B.hva B.p B.hp v1493 k1_hw160
  k1_part124 B.i B.idx B.hidx B.q B.hq B.k B.hk B.v B.hv B.o B.ho B.ka B.hka B.va B.hva B.p B.hp v1519
  let ⟨v1569, k1_hw168⟩ ← k1_part125 B.i B.idx B.hidx B.q B.hq B.k B.hk B.v B.hv B.o B.ho B.ka B.hka B.va B.hva B.p B.hp
  let v1595 ← k1_part126 B.i B.idx B.hidx B.q B.hq B.k B.hk B.v B.hv B.o B.ho B.ka B.hka B.va B.hva B.p B.hp v1569 k1_hw168
  let ⟨v1621, k1_hw173, v1622⟩ ← k1_part127 B.i B.idx B.hidx B.q B.hq B.k B.hk B.v B.hv B.o B.ho B.ka B.hka B.va B.hva B.p B.hp v1595
  pure ⟨v1621, k1_hw173, v1622⟩

/-- The same from the word read and its check. -/
def afterWord (r : Σ' v : Elt F .i32, k1_chk1 v) : TProg F (Σ' (v1621 : Elt F .i32) (_ : k1_chk173 v1621), BitVec 32) :=
  after119 B r.1 r.2

/-- The text after that cut. -/
def ending (r : Σ' (v1621 : Elt F .i32) (_ : k1_chk173 v1621), BitVec 32) : TProg F PUnit := do
  let ⟨v2070, v2072⟩ ← k1_part145 B.i B.idx B.hidx B.q B.hq B.k B.hk B.v B.hv B.o B.ho B.ka B.hka B.va B.hva B.p B.hp r.1 r.2.1 r.2.2
  have cst_2136 : FVec F S64x128 .f32 := constant S64x128 .f32 0x00000000#32
  have v2073 : FVec F S64x128 .f32 := matmul dot_S64x512_S512x128_S64x128_1_0_0_1_n_n none v2070 v2072 cst_2136
  have v2074 : FVec F S64x64 .f32 := extractStridedSlice S64x64 ![0, 0] v2073 slices_S64x128_o0_0_S64x64
  have v2075 : FVec F S64x64 .f32 := extractStridedSlice S64x64 ![0, 64] v2073 slices_S64x128_o0_64_S64x64
  have v2076 : FVec F S64x64 .f32 := divf v2074 v2075
  have v2077 : FVec F S64x64 .bf16 := truncf .bf16 v2076 bitsLt_bf16_f32
  let v2078 : Vec F S1x1x64x64 .bf16 ← Prog.lift (.load B.o (Rect.unit (s := S1x128x64x64) ![0, 127, 0, 0] S1x1x64x64.size inb_S1x128x64x64_S1x1x64x64_0_127_0_0).toLoadRect (View.loadsAt_vmem h_S1x1x64x64))
  have v2079 : FVec F S64x64 .bf16 := shapeCast S64x64 v2078 shapeCasts_S1x1x64x64_S64x64
  have v2080 : FVec F S1x1x64x64 .bf16 := shapeCast S1x1x64x64 v2077 shapeCasts_S64x64_S1x1x64x64
  Prog.lift (.store B.o (Rect.unit (s := S1x128x64x64) ![0, 127, 0, 0] S1x1x64x64.size inb_S1x128x64x64_S1x1x64x64_0_127_0_0) v2080 Finset.univ (View.stores_vmem h_S1x1x64x64 (B.ho.storeExact_slice rfl _ packedbf16_S1x128x64x64_S1x1x64x64_0_127_0_0) (fun _ => rfl)) (.inl rfl))
  pure ⟨⟩

theorem part144_eq : k1_part144 (F := F) B.i B.idx B.hidx B.q B.hq B.k B.hk B.v B.hv B.o B.ho B.ka B.hka B.va B.hva B.p B.hp =
    (upTo82 B >>= fun _ => k1_part82 B.i B.idx B.hidx B.q B.hq B.k B.hk B.v B.hv B.o B.ho B.ka B.hka B.va B.hva B.p B.hp >>= fun v => between B v >>= fun _ =>
      cut119 B >>= fun r => afterWord B r) := by
  chain_rfl

theorem body_cut : cc1__attn_kernel (F := F) B.i B.idx B.hidx B.q B.hq B.k B.hk B.v B.hv B.o B.ho B.ka B.hka B.va B.hva B.p B.hp = (k1_part144 B.i B.idx B.hidx B.q B.hq B.k B.hk B.v B.hv B.o B.ho B.ka B.hka B.va B.hva B.p B.hp >>= fun r => ending B r) := by
  chain_rfl

/-- Up to the first loop: block 0 and the slots' constant parts. -/
theorem opening_eq : (upTo82 (F := F) B >>= fun _ => prepare B 15 (by decide)) = opening B := by
  chain_rfl

/-- Between the loops. -/
theorem restK_eq : (winAt (F := F) B.k 113 (by decide) >>= fun v => between B v) = restK B := by
  chain_rfl

/-- After the second loop. -/
theorem restV_eq : (vaWin B 113 0 (by decide) (by decide) >>= fun _ => vaSlot B 114 0 (by decide) (by decide) 3 (by decide)
      >>= fun _ => vaSlot B 114 0 (by decide) (by decide) 4 (by decide)
      >>= fun _ => idxOk (F := F) B 114 5 (by decide) (by decide) >>= fun r => afterWord B r >>= fun r => ending B r)
    = restV B := by
  chain_rfl

/-- The printed attention body is its stages. -/
theorem body_eq : cc1__attn_kernel (F := F) B.i B.idx B.hidx B.q B.hq B.k B.hk B.v B.hv B.o B.ho B.ka B.hka B.va B.hva B.p B.hp = staged B := by
  unfold staged
  rw [body_cut, part144_eq, part82_eq, part119_eq, ← opening_eq, ← restK_eq, ← restV_eq]
  simp only [bind_assoc]

end Cert.KernelIdeal.Proof
end
-- ==== Proof.Data.lean ====
/-
  The three kernels' proof data, each at the valuation it is entered from: what every staging buffer holds after the
  body at a point, what is carried from point to point, and the body run at every point.
-/
module

public import proofs.«01_k».proof.Proof.Seg
public import proofs.«01_k».proof.Proof.Ends
public import proofs.«01_k».proof.Proof.Body
public import proofs.«01_k».proof.Proof.Trip

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal Cert.KernelIdeal.Gen

variable {F : FTy → Type} [FloatOps F]

local notation "𝕄" => MT nD τ sig Unit (Elt F) ℕ (UR sig nD τ) ℕ

/-- A whole memref owned at contents: its buffer held at something read as them. -/
theorem owns_whole_view {sp : Space} {s : Shape} {e : EltTy} (c : Dev nD) (M : Memref sig .tc sp s e) (h : M.IsWhole) (X : s.Idx → Elt F e) :
    (owns (c : Thread nD τ) M fullShare X : sProp 𝕄)
      = iprop(∃ f : Buf (Elt F) (M.view.loc (c : Thread nD τ)), ⌜M.view.read (Elt F) f = X⌝ ∗ (M.view.loc (c : Thread nD τ) ↦{fullShare} f)) := by
  unfold owns
  rw [h.set_eq_univ]

/-- A buffer held whole is its whole memref owned. -/
theorem owns_of_whole (c : Dev nD) (b : Ref sig .tc) (f : Buf (Elt F) ((c : Thread nD τ).loc b)) :
    ((((c : Thread nD τ).loc b) ↦{fullShare} f : sProp 𝕄)) ⊢ owns (c : Thread nD τ) (Memref.whole b) fullShare f := by
  rw [owns_whole_eq]
  iintro H
  iexists f; isplitr; · ipureintro; rfl
  iexact H

variable (V : Dev nD → Valuation τ sig (Elt F))

/-! ## The projection of queries, keys and values -/

/-- Rows of the input, columns of the stacked weights, at a point. -/
abbrev rows0 (c : Dev nD) (t : Fin cfg0.N) : FVec F S2048x1024 .f32 :=
  ((cfg0.win 0).blk t).view.read (Elt F) (V c (Proc.devRef .tc main_v0))
abbrev cols0 (c : Dev nD) (t : Fin cfg0.N) : FVec F S1024x512 .bf16 :=
  ((cfg0.win 1).blk t).view.read (Elt F) (V c (Proc.devRef .tc main_v4))

/-- Its proof data. -/
def dat0 (c : Dev nD) : Dat τ (Elt F) Unit ℕ (UR sig nD τ) ℕ cfg0 c where
  A w := V c (Proc.devRef .tc (arrRef spec0 w))
  after w t := match w with
    | ⟨0, _⟩ => rows0 V c t
    | ⟨1, _⟩ => cols0 V c t
    | ⟨2, _⟩ => qkvOf (rows0 V c t) (cols0 V c t)
  Φ _ := scopedRest spec0 c
  q w := shareOf spec0 w
  owed _ := 0

theorem before0_0 (c : Dev nD) (t : Fin cfg0.N) (d) : (dat0 V c).before 0 t d = rows0 V c t :=
  (dat0 V c).before_in_eq_fetched 0 rfl (fun _ => rfl) (fun _ _ _ => rfl) (fun _ => rfl) t d

theorem before0_1 (c : Dev nD) (t : Fin cfg0.N) (d) : (dat0 V c).before 1 t d = cols0 V c t :=
  (dat0 V c).before_in_eq_fetched 1 rfl (fun _ => rfl) (fun _ _ _ => rfl) (fun _ => rfl) t d

/-- The body at every point. -/
theorem body0 (c : Dev nD) : BodyObligationLoose (dat0 V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (win0_0.stage (cfg0.slots t 0)) fullShare ((dat0 V c).before 0 t d))
      ∗ (∃ d, owns (c : Thread nD τ) (win0_1.stage (cfg0.slots t 1)) fullShare ((dat0 V c).before 1 t d))
      ∗ (∃ d, owns (c : Thread nD τ) (win0_2.stage (cfg0.slots t 2)) fullShare ((dat0 V c).before 2 t d)))
    ⊢ wp frame (wpE (defs₀ (F := F)) Variants.none c none) Set.univ (bodyAt0 t) fun _ =>
      iprop((dat0 V c).Φ t.castSucc ∗ (dat0 V c).owesAt () t.castSucc
        ∗ owns (c : Thread nD τ) (win0_0.stage (cfg0.slots t 0)) fullShare (rows0 V c t)
        ∗ owns (c : Thread nD τ) (win0_1.stage (cfg0.slots t 1)) fullShare (cols0 V c t)
        ∗ owns (c : Thread nD τ) (win0_2.stage (cfg0.slots t 2)) fullShare (qkvOf (rows0 V c t) (cols0 V c t)))
  simp only [owns_whole_view c (win0_0.stage (cfg0.slots t 0)) (hstage0_0 ((cfg0.slots t 0).cast nbuf0_0)),
    owns_whole_view c (win0_1.stage (cfg0.slots t 1)) (hstage0_1 ((cfg0.slots t 1).cast nbuf0_1)),
    owns_whole_view c (win0_2.stage (cfg0.slots t 2)) (hstage0_2 ((cfg0.slots t 2).cast nbuf0_2))]
  iintro ⟨HΦ, Howes, ⟨%d0, %f0, %hf0, H0⟩, ⟨%d1, %f1, %hf1, H1⟩, ⟨%d2, %f2, -, H2⟩⟩
  rw [before0_0] at hf0
  rw [before0_1] at hf1
  iapply (qkvRun c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2)) f0 f1 f2 Set.univ _)
  isplitl [H0]; · iexact H0
  isplitl [H1]; · iexact H1
  isplitl [H2]; · iexact H2
  iintro %g %hg H0 H1 H2
  rw [hf0, hf1] at hg
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  iexists g; isplitr; swap; (· iexact H2); ipureintro; exact hg

/-! ## The output projection -/

/-- Rows of every head, and the whole weight, at a point. -/
abbrev rows2 (c : Dev nD) (t : Fin cfg2.N) : FVec F S16x1024x64 .bf16 :=
  ((cfg2.win 0).blk t).view.read (Elt F) (V c (Proc.devRef .tc main_v8))
abbrev weight2 (c : Dev nD) (t : Fin cfg2.N) : FVec F S16x64x1024 .bf16 :=
  ((cfg2.win 1).blk t).view.read (Elt F) (V c (Proc.devRef .tc main_v10))

/-- Its proof data. -/
def dat2 (c : Dev nD) : Dat τ (Elt F) Unit ℕ (UR sig nD τ) ℕ cfg2 c where
  A w := V c (Proc.devRef .tc (arrRef spec2 w))
  after w t := match w with
    | ⟨0, _⟩ => rows2 V c t
    | ⟨1, _⟩ => weight2 V c t
    | ⟨2, _⟩ => projected (rows2 V c t) (weight2 V c t)
  Φ _ := scopedRest spec2 c
  q w := shareOf spec2 w
  owed _ := 0

theorem before2_0 (c : Dev nD) (t : Fin cfg2.N) (d) : (dat2 V c).before 0 t d = rows2 V c t :=
  (dat2 V c).before_in_eq_fetched 0 rfl (fun _ => rfl) (fun _ _ _ => rfl) (fun _ => rfl) t d

theorem before2_1 (c : Dev nD) (t : Fin cfg2.N) (d) : (dat2 V c).before 1 t d = weight2 V c t :=
  (dat2 V c).before_in_eq_fetched 1 rfl (fun _ => rfl) (fun _ _ _ => rfl) (fun _ => rfl) t d

/-- The body at every point. -/
theorem body2 (c : Dev nD) : BodyObligationLoose (dat2 V c) (defs₀ (F := F)) Variants.none () Set.univ := fun t => by
  rw [bigSep_W2, bigSep_W2]
  show iprop((dat2 V c).Φ t.castSucc ∗ (dat2 V c).owesAt () t.castSucc
      ∗ (∃ d, owns (c : Thread nD τ) (win2_0.stage (cfg2.slots t 0)) fullShare ((dat2 V c).before 0 t d))
      ∗ (∃ d, owns (c : Thread nD τ) (win2_1.stage (cfg2.slots t 1)) fullShare ((dat2 V c).before 1 t d))
      ∗ (∃ d, owns (c : Thread nD τ) (win2_2.stage (cfg2.slots t 2)) fullShare ((dat2 V c).before 2 t d)))
    ⊢ wp frame (wpE (defs₀ (F := F)) Variants.none c none) Set.univ (bodyAt2 t) fun _ =>
      iprop((dat2 V c).Φ t.castSucc ∗ (dat2 V c).owesAt () t.castSucc
        ∗ owns (c : Thread nD τ) (win2_0.stage (cfg2.slots t 0)) fullShare (rows2 V c t)
        ∗ owns (c : Thread nD τ) (win2_1.stage (cfg2.slots t 1)) fullShare (weight2 V c t)
        ∗ owns (c : Thread nD τ) (win2_2.stage (cfg2.slots t 2)) fullShare (projected (rows2 V c t) (weight2 V c t)))
  simp only [owns_whole_view c (win2_0.stage (cfg2.slots t 0)) (hstage2_0 ((cfg2.slots t 0).cast nbuf2_0)),
    owns_whole_view c (win2_1.stage (cfg2.slots t 1)) (hstage2_1 ((cfg2.slots t 1).cast nbuf2_1)),
    owns_whole_view c (win2_2.stage (cfg2.slots t 2)) (hstage2_2 ((cfg2.slots t 2).cast nbuf2_2))]
  iintro ⟨HΦ, Howes, ⟨%d0, %f0, %hf0, H0⟩, ⟨%d1, %f1, %hf1, H1⟩, ⟨%d2, %f2, -, H2⟩⟩
  rw [before2_0] at hf0
  rw [before2_1] at hf1
  iapply (projRun c (grid2.coords t) (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2)) f0 f1 f2 Set.univ _)
  isplitl [H0]; · iexact H0
  isplitl [H1]; · iexact H1
  isplitl [H2]; · iexact H2
  iintro %g %hg H0 H1 H2
  rw [hf0, hf1] at hg
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  iexists g; isplitr; swap; (· iexact H2); ipureintro; exact hg

/-! ## Attention -/

variable (a : (pcfg1 (F := F)).Adm)

/-- The table of block indices. -/
abbrev table1 : S128x6.Idx → Elt F .i32 := a.1 0

/-- Queries, keys and values of the head at a point. -/
abbrev head1 (c : Dev nD) (t : Fin grid1.N) (w : Fin 4) : ((cfg1 a).win w).block.Idx → Elt F ((cfg1 a).win w).elt :=
  (((cfg1 a).win w).blk t).view.read (Elt F) (V c (Proc.devRef .tc (arrRef spec1 w)))

/-- What the body reads at a point. -/
def inputs1 (c : Dev nD) (t : Fin grid1.N) : Inputs F := ⟨table1 a, head1 V a c t 0, head1 V a c t 1, head1 V a c t 2⟩

/-- Its proof data. -/
def dat1 (c : Dev nD) : Dat τ (Elt F) Unit ℕ (UR sig nD τ) ℕ (cfg1 a) c where
  A w := V c (Proc.devRef .tc (arrRef spec1 w))
  after w t := match w with
    | ⟨0, _⟩ => head1 V a c t 0
    | ⟨1, _⟩ => head1 V a c t 1
    | ⟨2, _⟩ => head1 V a c t 2
    | ⟨3, _⟩ => final (inputs1 V a c t)
  Φ _ := iprop(scopedRest spec1 c ∗ prefHeld pre1 c (fun _ => fullShare) a.1)
  q w := shareOf spec1 w
  owed _ := 0

theorem before1_0 (c : Dev nD) (t : Fin (cfg1 a).N) (d) : (dat1 V a c).before 0 t d = head1 V a c t 0 :=
  (dat1 V a c).before_in_eq_fetched 0 rfl (fun _ => rfl) (fun _ _ _ => rfl) (fun _ => rfl) t d
theorem before1_1 (c : Dev nD) (t : Fin (cfg1 a).N) (d) : (dat1 V a c).before 1 t d = head1 V a c t 1 :=
  (dat1 V a c).before_in_eq_fetched 1 rfl (fun _ => rfl) (fun _ _ _ => rfl) (fun _ => rfl) t d
theorem before1_2 (c : Dev nD) (t : Fin (cfg1 a).N) (d) : (dat1 V a c).before 2 t d = head1 V a c t 2 :=
  (dat1 V a c).before_in_eq_fetched 2 rfl (fun _ => rfl) (fun _ _ _ => rfl) (fun _ => rfl) t d

/-- The buffers the body takes at a point. -/
def bufs1 (t : Fin (cfg1 a).N) : Bufs where
  i := grid1.coords t
  idx := Memref.whole main_arg5
  hidx := Memref.isWhole_whole _
  q := spec1_0.stage ((cfg1 a).slots t 0)
  hq := hstage1_0 (((cfg1 a).slots t 0).cast nbuf1_0)
  k := spec1_1.stage ((cfg1 a).slots t 1)
  hk := hstage1_1 (((cfg1 a).slots t 1).cast nbuf1_1)
  v := spec1_2.stage ((cfg1 a).slots t 2)
  hv := hstage1_2 (((cfg1 a).slots t 2).cast nbuf1_2)
  o := spec1_3.stage ((cfg1 a).slots t 3)
  ho := hstage1_3 (((cfg1 a).slots t 3).cast nbuf1_3)
  ka := Memref.whole cc1_scratch0
  hka := Memref.isWhole_whole _
  va := Memref.whole cc1_scratch1
  hva := Memref.isWhole_whole _
  p := Memref.whole cc1_scratch2
  hp := Memref.isWhole_whole _

/-- The body at every point, when the table's words are in range. -/
theorem body1 (hw : ∀ n j, k1_chk1 (table1 a (ValueIdx.ix2 (Fin.ofNat 128 n) (Fin.ofNat 6 j)))) (c : Dev nD) :
    BodyObligationLoose (dat1 V a c) (defs₀ (F := F)) Variants.none () Set.univ := fun t => by
  rw [bigSep_W1, bigSep_W1]
  show iprop(iprop(scopedRest spec1 c ∗ prefHeld pre1 c (fun _ => fullShare) a.1) ∗ (dat1 V a c).owesAt () t.castSucc
      ∗ (∃ d, owns (c : Thread nD τ) (bufs1 a t).q fullShare ((dat1 V a c).before 0 t d))
      ∗ (∃ d, owns (c : Thread nD τ) (bufs1 a t).k fullShare ((dat1 V a c).before 1 t d))
      ∗ (∃ d, owns (c : Thread nD τ) (bufs1 a t).v fullShare ((dat1 V a c).before 2 t d))
      ∗ (∃ d, owns (c : Thread nD τ) (bufs1 a t).o fullShare ((dat1 V a c).before 3 t d)))
    ⊢ wp frame (wpE (defs₀ (F := F)) Variants.none c none) Set.univ
      (cc1__attn_kernel (F := F) (bufs1 a t).i (bufs1 a t).idx (bufs1 a t).hidx (bufs1 a t).q (bufs1 a t).hq (bufs1 a t).k (bufs1 a t).hk
        (bufs1 a t).v (bufs1 a t).hv (bufs1 a t).o (bufs1 a t).ho (bufs1 a t).ka (bufs1 a t).hka (bufs1 a t).va (bufs1 a t).hva (bufs1 a t).p (bufs1 a t).hp) fun _ =>
      iprop(iprop(scopedRest spec1 c ∗ prefHeld pre1 c (fun _ => fullShare) a.1) ∗ (dat1 V a c).owesAt () t.castSucc
        ∗ owns (c : Thread nD τ) (bufs1 a t).q fullShare (head1 V a c t 0)
        ∗ owns (c : Thread nD τ) (bufs1 a t).k fullShare (head1 V a c t 1)
        ∗ owns (c : Thread nD τ) (bufs1 a t).v fullShare (head1 V a c t 2)
        ∗ owns (c : Thread nD τ) (bufs1 a t).o fullShare (final (inputs1 V a c t)))
  rw [body_eq]
  simp only [before1_0, before1_1, before1_2]
  rw [scopedRest1_eq]
  unfold prefHeld
  rw [show (Finset.univ : Finset (Fin pre1.K)) = {(0 : Fin 1)} from rfl, BI.bigSep_singleton]
  iintro ⟨⟨⟨R0, R1, R2, R3, R4, R5, ⟨%ka, HA⟩, ⟨%va, HB⟩, ⟨%pp, HC⟩, RR⟩, HT⟩, Howes, ⟨%d0, H0⟩, ⟨%d1, H1⟩, ⟨%d2, H2⟩, ⟨%d3, H3⟩⟩
  have hs := tri_staged (B := bufs1 a t) (R := inputs1 V a c t) (F := F) hw
  iapply (hs Unit (UR sig nD τ) ℕ (defs₀ (F := F)) Variants.none c Set.univ ⟨(dat1 V a c).before 3 t d3, ka, va, pp⟩ trivial _)
  isplitl [HA HB HC HT H0 H1 H2 H3]
  · unfold own
    isplitl [HT]
    · iapply (owns_of_whole c main_arg5 (a.1 0)); iexact HT
    isplitl [H0]; · iexact H0
    isplitl [H1]; · iexact H1
    isplitl [H2]; · iexact H2
    isplitl [H3]; · iexact H3
    isplitl [HA]
    · iapply (owns_of_whole c cc1_scratch0 ka); iexact HA
    isplitl [HB]
    · iapply (owns_of_whole c cc1_scratch1 va); iexact HB
    iapply (owns_of_whole c cc1_scratch2 pp); iexact HC
  iintro %_ %s' %hs' Hown
  have hopen : (own c (bufs1 a t) (inputs1 V a c t) s' : sProp 𝕄)
      ⊢ iprop((((c : Thread nD τ).loc main_arg5) ↦{fullShare} (a.1 0)) ∗ owns (c : Thread nD τ) (bufs1 a t).q fullShare (head1 V a c t 0)
        ∗ owns (c : Thread nD τ) (bufs1 a t).k fullShare (head1 V a c t 1) ∗ owns (c : Thread nD τ) (bufs1 a t).v fullShare (head1 V a c t 2)
        ∗ owns (c : Thread nD τ) (bufs1 a t).o fullShare (final (inputs1 V a c t))
        ∗ (∃ f, ((c : Thread nD τ).loc cc1_scratch0) ↦{fullShare} f) ∗ (∃ f, ((c : Thread nD τ).loc cc1_scratch1) ↦{fullShare} f)
        ∗ (∃ f, ((c : Thread nD τ).loc cc1_scratch2) ↦{fullShare} f)) := by
    show iprop(owns (c : Thread nD τ) (Memref.whole main_arg5) fullShare (table1 a) ∗ owns (c : Thread nD τ) (bufs1 a t).q fullShare (head1 V a c t 0)
        ∗ owns (c : Thread nD τ) (bufs1 a t).k fullShare (head1 V a c t 1) ∗ owns (c : Thread nD τ) (bufs1 a t).v fullShare (head1 V a c t 2)
        ∗ owns (c : Thread nD τ) (bufs1 a t).o fullShare s'.o
        ∗ owns (c : Thread nD τ) (Memref.whole cc1_scratch0) fullShare s'.ka ∗ owns (c : Thread nD τ) (Memref.whole cc1_scratch1) fullShare s'.va
        ∗ owns (c : Thread nD τ) (Memref.whole cc1_scratch2) fullShare s'.p) ⊢ _
    rw [hs', owns_whole_eq, owns_whole_eq, owns_whole_eq, owns_whole_eq]
    iintro ⟨⟨%fT, %hT, HT⟩, H0, H1, H2, H3, ⟨%fA, -, HA⟩, ⟨%fB, -, HB⟩, ⟨%fC, -, HC⟩⟩
    subst hT
    isplitl [HT]; · iexact HT
    isplitl [H0]; · iexact H0
    isplitl [H1]; · iexact H1
    isplitl [H2]; · iexact H2
    isplitl [H3]; · iexact H3
    isplitl [HA]; · iexists fA; iexact HA
    isplitl [HB]; · iexists fB; iexact HB
    iexists fC; iexact HC
  ihave H := hopen $$ Hown
  icases H with ⟨HT, H0, H1, H2, H3, HA, HB, HC⟩
  isplitl [R0 R1 R2 R3 R4 R5 RR HA HB HC HT]
  · isplitr [HT]
    · isplitl [R0]; · iexact R0
      isplitl [R1]; · iexact R1
      isplitl [R2]; · iexact R2
      isplitl [R3]; · iexact R3
      isplitl [R4]; · iexact R4
      isplitl [R5]; · iexact R5
      isplitl [HA]; · iexact HA
      isplitl [HB]; · iexact HB
      isplitl [HC]; · iexact HC
      iexact RR
    iexact HT
  isplitl [Howes]; · iexact Howes
  isplitl [H0]; · iexact H0
  isplitl [H1]; · iexact H1
  isplitl [H2]; · iexact H2
  iexact H3

end Cert.KernelIdeal.Proof
end
-- ==== Proof.Run.lean ====
/-
  The whole program: the valuations after every kernel, the kernels as steps between them, and the run — every argument
  ends as it was launched, the result ends at the last valuation's, and every semaphore ends at zero.
-/
module

public import proofs.«01_k».proof.Proof.Data

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The table of block indices at launch. -/
def adm1 : (pcfg1 (F := F)).Adm :=
  ⟨fun k => m (((0 : Dev nD) : Thread nD τ).loc (pre1.ref k)), trivial⟩

def adms : (p : Fin 3) → (pcfgs (F := F) p).Adm
  | ⟨0, _⟩ => ⟨fun k => k.elim0, trivial⟩
  | ⟨1, _⟩ => adm1 m
  | ⟨2, _⟩ => ⟨fun k => k.elim0, trivial⟩

/-! ## What every kernel leaves -/

/-- The heads' queries, keys and values. -/
def left0 (c : Dev nD) : Buf (Elt F) ((c : Thread nD τ).loc main_v5) := (dat0 (V1 m) c).arrAt 2 cfg0.N

abbrev W2 (c : Dev nD) : Valuation τ sig (Elt F) := Function.update (V1 m c) (Proc.devRef .tc main_v5) (left0 m c)
abbrev W3 (c : Dev nD) : Valuation τ sig (Elt F) := StableHlo.after hostOps1 (W2 m c)

/-- The heads' outputs. -/
def left1 (c : Dev nD) : Buf (Elt F) ((c : Thread nD τ).loc main_v7) := (dat1 (W3 m) (adm1 m) c).arrAt 3 (cfg1 (adm1 m)).N

abbrev W4 (c : Dev nD) : Valuation τ sig (Elt F) := Function.update (W3 m c) (Proc.devRef .tc main_v7) (left1 m c)
abbrev W5 (c : Dev nD) : Valuation τ sig (Elt F) := StableHlo.after hostOps2 (W4 m c)

/-- The projected rows. -/
def left2 (c : Dev nD) : Buf (Elt F) ((c : Thread nD τ).loc main_v11) := (dat2 (W5 m) c).arrAt 2 cfg2.N

abbrev W6 (c : Dev nD) : Valuation τ sig (Elt F) := Function.update (W5 m c) (Proc.devRef .tc main_v11) (left2 m c)
abbrev W7 (c : Dev nD) : Valuation τ sig (Elt F) := StableHlo.after hostOps3 (W6 m c)

/-- The three, by buffer. -/
def lefts : Outs (F := F) := fun _ r c =>
  Function.update (Function.update (Function.update (fun r => m ((c : Thread nD τ).loc r)) main_v5 (left0 m c)) main_v7 (left1 m c)) main_v11 (left2 m c) r

theorem ne57 : (main_v5 : Ref sig .tc) ≠ main_v7 := by decide
theorem ne511 : (main_v5 : Ref sig .tc) ≠ main_v11 := by decide
theorem ne711 : (main_v7 : Ref sig .tc) ≠ main_v11 := by decide

theorem lefts_v5 (c : Dev nD) : lefts m 2 main_v5 c = left0 m c := by
  unfold lefts
  rw [Function.update_of_ne ne511, Function.update_of_ne ne57, Function.update_self]
theorem lefts_v7 (c : Dev nD) : lefts m 4 main_v7 c = left1 m c := by
  unfold lefts
  rw [Function.update_of_ne ne711, Function.update_self]
theorem lefts_v11 (c : Dev nD) : lefts m 6 main_v11 c = left2 m c := by
  unfold lefts
  rw [Function.update_self]

theorem V2_eq (c : Dev nD) : V2 m (lefts m) c = W2 m c := by unfold V2; rw [lefts_v5]
theorem V3_eq (c : Dev nD) : V3 m (lefts m) c = W3 m c := by unfold V3; rw [V2_eq]
theorem V4_eq (c : Dev nD) : V4 m (lefts m) c = W4 m c := by unfold V4; rw [V3_eq, lefts_v7]
theorem V5_eq (c : Dev nD) : V5 m (lefts m) c = W5 m c := by unfold V5; rw [V4_eq]
theorem V6_eq (c : Dev nD) : V6 m (lefts m) c = W6 m c := by unfold V6; rw [V5_eq, lefts_v11]
theorem V7_eq (c : Dev nD) : V7 m (lefts m) c = W7 m c := by unfold V7; rw [V6_eq]

def pdats : (p : Fin 3) → (c : Dev nD) → Dat τ (Elt F) Unit ℕ (UR sig nD τ) ℕ (pin (pcfgs (F := F)) (adms m) p) c
  | ⟨0, _⟩ => dat0 (V1 m)
  | ⟨1, _⟩ => dat1 (W3 m) (adm1 m)
  | ⟨2, _⟩ => dat2 (W5 m)

/-! ## The kernels as steps -/

theorem off_arr {p : Fin 3} {b : DevRef τ sig} (hb : b ∈ outside (F := F) p) (w : Fin (pcfgs (F := F) p).W) :
    b ≠ Proc.devRef .tc (arrRef (pcfgs (F := F) p).spec w) := fun h => by
  have h1 := (Finset.mem_sdiff.1 (Finset.mem_sdiff.1 hb).1).2
  refine h1 ?_
  rw [h]
  exact Finset.mem_map.2 ⟨_, Finset.mem_image.2 ⟨w, Finset.mem_univ _, rfl⟩, rfl⟩

theorem table_kept (c : Dev nD) : W3 m c (Proc.devRef .tc main_arg5) = m ((c : Thread nD τ).loc main_arg5) := by
  rw [← V3_eq]
  exact (V3_of m _ c main_arg5 (by decide)).trans ((V2_of m _ c main_arg5 (by decide)).trans (V1_of m c main_arg5 (by decide)))

theorem keep2 (c : Dev nD) (r : Ref sig .tc) (h : r ≠ main_v5) : W2 m c (Proc.devRef .tc r) = V1 m c (Proc.devRef .tc r) :=
  Function.update_of_ne (StableHlo.devRef_ne_of_ne h) _ _
theorem keep4 (c : Dev nD) (r : Ref sig .tc) (h : r ≠ main_v7) : W4 m c (Proc.devRef .tc r) = W3 m c (Proc.devRef .tc r) :=
  Function.update_of_ne (StableHlo.devRef_ne_of_ne h) _ _
theorem keep6 (c : Dev nD) (r : Ref sig .tc) (h : r ≠ main_v11) : W6 m c (Proc.devRef .tc r) = W5 m c (Proc.devRef .tc r) :=
  Function.update_of_ne (StableHlo.devRef_ne_of_ne h) _ _

section Ends

variable (V V' : Dev nD → Valuation τ sig (Elt F)) (a : (pcfg1 (F := F)).Adm) (c : Dev nD)

theorem end0 (h : ∀ r : Ref sig .tc, r ≠ main_v5 → V' c (Proc.devRef .tc r) = V c (Proc.devRef .tc r))
    (ho : V' c (Proc.devRef .tc main_v5) = (dat0 V c).arrAt 2 cfg0.N) (w : Fin 3) :
    (dat0 V c).arrAt w cfg0.N = V' c (Proc.devRef .tc (arrRef spec0 w)) := by
  fin_cases w
  · exact ((dat0 V c).arrAt_in 0 rfl _).trans (h main_v0 (by decide)).symm
  · exact ((dat0 V c).arrAt_in 1 rfl _).trans (h main_v4 (by decide)).symm
  · exact ho.symm

theorem end1 (h : ∀ r : Ref sig .tc, r ≠ main_v7 → V' c (Proc.devRef .tc r) = V c (Proc.devRef .tc r))
    (ho : V' c (Proc.devRef .tc main_v7) = (dat1 V a c).arrAt 3 (cfg1 a).N) (w : Fin 4) :
    (dat1 V a c).arrAt w (cfg1 a).N = V' c (Proc.devRef .tc (arrRef spec1 w)) := by
  fin_cases w
  · exact ((dat1 V a c).arrAt_in 0 rfl _).trans (h main_v6 (by decide)).symm
  · exact ((dat1 V a c).arrAt_in 1 rfl _).trans (h main_v6 (by decide)).symm
  · exact ((dat1 V a c).arrAt_in 2 rfl _).trans (h main_v6 (by decide)).symm
  · exact ho.symm

theorem end2 (h : ∀ r : Ref sig .tc, r ≠ main_v11 → V' c (Proc.devRef .tc r) = V c (Proc.devRef .tc r))
    (ho : V' c (Proc.devRef .tc main_v11) = (dat2 V c).arrAt 2 cfg2.N) (w : Fin 3) :
    (dat2 V c).arrAt w cfg2.N = V' c (Proc.devRef .tc (arrRef spec2 w)) := by
  fin_cases w
  · exact ((dat2 V c).arrAt_in 0 rfl _).trans (h main_v8 (by decide)).symm
  · exact ((dat2 V c).arrAt_in 1 rfl _).trans (h main_v10 (by decide)).symm
  · exact ho.symm

theorem start0 (w : Fin 3) : (dat0 V c).arrAt w 0 = V c (Proc.devRef .tc (arrRef spec0 w)) := rfl
theorem start1 (w : Fin 4) : (dat1 V a c).arrAt w 0 = V c (Proc.devRef .tc (arrRef spec1 w)) := rfl
theorem start2 (w : Fin 3) : (dat2 V c).arrAt w 0 = V c (Proc.devRef .tc (arrRef spec2 w)) := rfl

end Ends

def step0 : RegionSeg (pcfgs (F := F)) (adms m) (pdats m) () defs₀ Variants.none noIx noLv 0 :=
  kernelSeg (adms m) (pdats m) 0 launch0.to₀ (fun c => body0 (V1 m) c) (fun _ _ => rfl) (fun _ => rfl) (fun _ _ _ => rfl)
    (fun c => show iprop(scopedRest spec0 c ∗ tablesAt (pcfgs (F := F)) (adms m) 0 c) ⊢ (scopedRest spec0 c : sProp 𝕄) from by
      iintro ⟨H, -⟩; iexact H)
    (fun c => show (scopedRest spec0 c : sProp 𝕄) ⊢ iprop(scopedRest spec0 c ∗ tablesAt (pcfgs (F := F)) (adms m) 0 c) from by
      iintro H
      isplitl [H]; · iexact H
      iapply (show (BI.emp : sProp 𝕄) ⊢ tablesAt (pcfgs (F := F)) (adms m) 0 c from .rfl)
      iempintro)
    (V1 m) (W2 m) (start0 (V1 m))
    (fun c => end0 (V1 m) (W2 m) c (keep2 m c) (Function.update_self _ _ _))
    (fun _ k => k.elim0) (fun _ k => k.elim0)
    (fun c b hb => Function.update_of_ne (off_arr hb 2) _ _)

def step2 : RegionSeg (pcfgs (F := F)) (adms m) (pdats m) () defs₀ Variants.none noIx noLv 2 :=
  kernelSeg (adms m) (pdats m) 2 launch2.to₀ (fun c => body2 (W5 m) c) (fun _ _ => rfl) (fun _ => rfl) (fun _ _ _ => rfl)
    (fun c => show iprop(scopedRest spec2 c ∗ tablesAt (pcfgs (F := F)) (adms m) 2 c) ⊢ (scopedRest spec2 c : sProp 𝕄) from by
      iintro ⟨H, -⟩; iexact H)
    (fun c => show (scopedRest spec2 c : sProp 𝕄) ⊢ iprop(scopedRest spec2 c ∗ tablesAt (pcfgs (F := F)) (adms m) 2 c) from by
      iintro H
      isplitl [H]; · iexact H
      iapply (show (BI.emp : sProp 𝕄) ⊢ tablesAt (pcfgs (F := F)) (adms m) 2 c from .rfl)
      iempintro)
    (W5 m) (W6 m) (start2 (W5 m))
    (fun c => end2 (W5 m) (W6 m) c (keep6 m c) (Function.update_self _ _ _))
    (fun _ k => k.elim0) (fun _ k => k.elim0)
    (fun c b hb => Function.update_of_ne (off_arr hb 2) _ _)

/-- Every word of the table is in range. -/
def InRange : Prop := ∀ n j, k1_chk1 (table1 (adm1 m) (ValueIdx.ix2 (Fin.ofNat 128 n) (Fin.ofNat 6 j)))

theorem tables_at (c : Dev nD) : (tablesAt (pcfgs (F := F)) (adms m) 1 c : sProp 𝕄) = prefHeld pre1 c (fun _ => fullShare) (adm1 m).1 := rfl

def step1 (hw : InRange m) : RegionSeg (pcfgs (F := F)) (adms m) (pdats m) () defs₀ Variants.none noIx noLv 1 :=
  kernelSeg (adms m) (pdats m) 1 launch₀1 (fun c => body1 (W3 m) (adm1 m) hw c) (fun _ _ => rfl) (fun _ => rfl) (fun _ _ _ => rfl)
    (fun c => .rfl) (fun c => .rfl)
    (W3 m) (W4 m) (start1 (W3 m) (adm1 m))
    (fun c => end1 (W3 m) (W4 m) (adm1 m) c (keep4 m c) (Function.update_self _ _ _))
    (fun c k => by
      obtain rfl : k = (0 : Fin 1) := Subsingleton.elim (α := Fin 1) _ _
      obtain rfl : c = 0 := Subsingleton.elim (α := Fin 1) _ _
      exact (table_kept m 0).symm)
    (fun c k => by
      obtain rfl : k = (0 : Fin 1) := Subsingleton.elim (α := Fin 1) _ _
      obtain rfl : c = 0 := Subsingleton.elim (α := Fin 1) _ _
      exact (table_kept m 0).symm.trans (keep4 m 0 main_arg5 (by decide)).symm)
    (fun c b hb => Function.update_of_ne (off_arr hb 3) _ _)

/-! ## The run -/

theorem held_eq (c : Dev nD) {V V' : Valuation τ sig (Elt F)} (h : V = V') :
    (iprop(StableHlo.held (c.tc : Thread nD τ) (ucRefs τ sig) V ∗ idleCore c) : sProp 𝕄)
      ⊢ iprop(StableHlo.held (c.tc : Thread nD τ) (ucRefs τ sig) V' ∗ idleCore c) := by
  rw [h]

set_option backward.isDefEq.respectTransparency.types false in
/-- The program from memory `m`, when the table's words are in range: it ends, the result is the last valuation's, every
    argument is as launched and every semaphore is at zero. -/
theorem run (hw : InRange m) (ρ : Dev nD → PrngReg) :
    θ_run defs (onTc (τ := τ) (main (F := F))) ⟨m, fun _ => 0, ρ⟩ (fun r => (∀ c : Dev nD,
      r.2.mem ((c.tc : Thread nD τ).loc main_v12) = W7 m c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine Pipeline.θ_run_regions_kit_dev_sems (pcfgs (F := F)) (adms m) (pdats m) () (cellOf_inj (adms m)) emb₁ defs₀ Variants.none noIx noLv m ρ main
    (segs m (lefts m) Variants.none noIx noLv (fun _ => idleCore) () (adms m) (pdats m) (step0 m) (step1 m hw) (step2 m))
    (fun c Q => by
      rewrite [main_chain c, Seg.run_eq_chain,
        show (segs m (lefts m) Variants.none noIx noLv (fun _ => idleCore) () (adms m) (pdats m) (step0 m) (step1 m hw) (step2 m) c).map Seg.prog = [
          StableHlo.seq hostOps0, Prog.lift (.customCall (Pipeline.entry 0) ()), StableHlo.seq hostOps1,
          Prog.lift (.customCall (Pipeline.entry 1) ()), StableHlo.seq hostOps2, Prog.lift (.customCall (Pipeline.entry 2) ()),
          StableHlo.seq hostOps3] from rfl]
      exact .rfl)
    (fun c => by simp only [segs, Seg.pipes_host, Seg.pipes_region, Seg.pipes_nil]; decide) 0 (fun _ _ => rfl) (fun _ => BI.emp)
    (initOf (cells (pin (pcfgs (F := F)) (adms m)) (cellOf_inj (adms m))) (launchToks (pin (pcfgs (F := F)) (adms m)) (cellOf_inj (adms m))))
    (hu₀ := by
      iintro Hu; imodintro
      isplitl [Hu]
      · iapply (show (ownU _ : sProp 𝕄) ⊢ BI.own (emb₁ (initOf (cells (pin (pcfgs (F := F)) (adms m)) (cellOf_inj (adms m)))
            (launchToks (pin (pcfgs (F := F)) (adms m)) (cellOf_inj (adms m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (ucRefs τ sig) (V0 m c) ∗ idleCore c))
    (Tₙ := fun c => StableHlo.held (c.tc : Thread nD τ) (ucRefs τ sig) (W7 m c))
    (hch := fun c => ⟨.rfl, .rfl, held_eq c (V2_eq m c).symm, held_eq c (V3_eq m c), held_eq c (V4_eq m c).symm,
      held_eq c (V5_eq m c), held_eq c (V6_eq m c).symm, held_eq c (V7_eq m c)⟩)
    (hinit := ?_)
    (QY := fun c s => s.mem ((c.tc : Thread nD τ).loc main_v12) = W7 m c (Proc.devRef .tc main_v12)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h hz => ⟨h, funext fun g => hz g (.inr (regions_no_unscoped g.2))⟩)
  · refine initEach noIx noLv fun c => ?_
    rw [show unscopedBufs c (fun b => m ((c.tc : Thread nD τ).loc b)) = StableHlo.held (c.tc : Thread nD τ) (ucRefs τ sig) (V0 m c)
      from unscopedBufs_held (Ix := Unit) (Name := ℕ) (U := UR sig nD τ) (Lvl := ℕ) c (V0 m c)]
    iintro ⟨⟨Hh, -, HO, -⟩, -⟩
    imodintro
    isplitl [Hh]; · iexact Hh
    iexists ∅
    iexact HO
  · unfold StableHlo.held
    iintro ⟨Hh, HSI⟩
    ihave Hr := (pointsTo_read_all (ucRefs τ sig) (fun b => ((c : Thread nD τ).1, b)) (W7 m c) s') $$ [Hh HSI]
    · isplitl [Hh] <;> iassumption
    icases Hr with ⟨%h, HSI⟩
    imodintro
    isplitr; swap; (· iexact HSI)
    ipureintro
    have at_ (r : Ref sig .tc) (hr : ¬ (Proc.devRef .tc r : DevRef τ sig).isScoped) := h (Proc.devRef .tc r) (Finset.mem_filter.mpr ⟨StableHlo.devRef_mem_tcRefs r, hr⟩)
    rw [← V7_eq] at at_ ⊢
    exact ⟨at_ main_v12 (by decide), (at_ main_arg0 (by decide)).trans (V7_main_arg0 m _ c), (at_ main_arg1 (by decide)).trans (V7_main_arg1 m _ c),
      (at_ main_arg2 (by decide)).trans (V7_main_arg2 m _ c), (at_ main_arg3 (by decide)).trans (V7_main_arg3 m _ c),
      (at_ main_arg4 (by decide)).trans (V7_main_arg4 m _ c), (at_ main_arg5 (by decide)).trans (V7_main_arg5 m _ c)⟩

end Cert.KernelIdeal.Proof
end
-- ==== Proof.Words.lean ====
/-
  What the precondition says of the table of block indices: every word is below 128, and the first three words of a
  row strictly inside name the three blocks around it.
-/
module

public import proofs.«01_k».proof.Proof.Gen.Pre_names_blocks
public import Idealize.ShloMosaic.Lib.PointwiseCore

@[expose] public section

noncomputable section

namespace Cert.KernelIdeal.Proof

open Idealize.ShloMosaic
open Cert.Pre_names_blocks Cert.Pre_names_blocks.Gen

/-- The table's words are in range and the window's are the neighbours. -/
structure Named (T : S128x6.Idx → BitVec 32) : Prop where
  lt : ∀ (n : Fin 128) (j : Fin 6), (T (ix2 n j)).toInt < 128
  window : ∀ (n : Fin 128) (j : Fin 6), 2 ≤ n.val → n.val ≤ 125 → j.val < 3 → T (ix2 n j) = BitVec.ofNat 32 (n.val - 1 + j.val)

theorem and_one : ∀ a b : BitVec 1, IntOp.andi a b = 1#1 → a = 1#1 ∧ b = 1#1 := by decide

theorem or_not : ∀ a b : BitVec 1, IntOp.ori (~~~a) b = 1#1 → a = 1#1 → b = 1#1 := by decide

theorem inside : ∀ (n : Fin 128) (j : Fin 6), 2 ≤ n.val → n.val ≤ 125 → j.val < 3 →
    IntOp.andi (IntOp.andi (IntOp.cmpi .sge (BitVec.ofNat 32 n.val) 2#32) (IntOp.cmpi .sle (BitVec.ofNat 32 n.val) 125#32))
      (IntOp.cmpi .slt (BitVec.ofNat 32 j.val) 3#32) = 1#1 := by decide +kernel

theorem neighbour : ∀ (n : Fin 128) (j : Fin 6), 2 ≤ n.val →
    IntOp.addi (IntOp.subi (BitVec.ofNat 32 n.val) 1#32) (BitVec.ofNat 32 j.val) = BitVec.ofNat 32 (n.val - 1 + j.val) := by decide +kernel

theorem slt_one (a b : BitVec 32) (h : IntOp.cmpi .slt a b = 1#1) : a.toInt < b.toInt := by
  by_contra hc
  simp [IntOp.cmpi, BitVec.slt, hc] at h

theorem eq_one (a b : BitVec 32) (h : IntOp.cmpi .eq a b = 1#1) : a = b := by
  by_contra hc
  have h' : BitVec.ofBool (a == b) = 1#1 := h
  rw [beq_eq_false_iff_ne.2 hc] at h'
  exact absurd h' (by decide)

theorem named_of_pre {F : FTy → Type} [FloatOps F] (x : FVec F S1x8192x1024 .f32) (a b c d : FVec F S1024x1024 .f32) (T : IVec S128x6 32)
    (h : fn x a b c d T = fun _ => 1#1) : Named T := by
  have hp : ∀ (n : Fin 128) (j : Fin 6), fn x a b c d T (ix2 n j) = 1#1 := fun n j => congrFun h _
  constructor
  · intro n j
    have := hp n j
    pointwise [fn, fn_part1] at this
    exact slt_one _ _ (and_one _ _ this).1
  · intro n j h1 h2 h3
    have := hp n j
    pointwise [fn, fn_part1] at this
    exact (eq_one _ _ (or_not _ _ (and_one _ _ this).2 (inside n j h1 h2 h3))).trans (neighbour n j h1)

end Cert.KernelIdeal.Proof
end
-- ==== Proof.Same.lean ====
/-
  The kernel as printed and as idealized are one text: nothing in it was rewritten, so a statement of the one is the
  statement of the other.
-/
module

public import proofs.«01_k».proof.Defs
public import proofs.«01_k».proof.Proof.Gen.Kernel
public import proofs.«01_k».proof.Proof.Gen.KernelIdeal
public import proofs.«01_k».proof.Proof.Gen.Pre_names_blocks
public import Idealize.ShloMosaic.Lib.Tactic

@[expose] public section

noncomputable section

namespace Cert.KernelIdeal.Proof

open Idealize.ShloMosaic Idealize.SL.Sem

/-- The frame of the kernel as printed, said of the other text at machine floats. -/
def FrameAtBits : Prop :=
  ∀ (m : (ℓ : Loc Cert.KernelIdeal.nD Cert.KernelIdeal.τ Cert.KernelIdeal.sig) → Buf (Elt Bits) ℓ) (g : Dev Cert.KernelIdeal.nD → PrngReg),
    (∀ c : Dev Cert.KernelIdeal.nD,
      (Cert.Pre_names_blocks.fn (F := Bits) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)) →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

theorem quiescent_same : Cert.quiescent_Kernel (hKernel := Cert.Kernel.Gen.facts) (hPre_names_blocks := Cert.Pre_names_blocks.Gen.facts) = FrameAtBits := by
  sl_kernel_rfl

end Cert.KernelIdeal.Proof
end
-- ==== Proof.Frames.lean ====
/-
  The three frames: the program as printed, as idealized, and the reference.
-/
module

public import proofs.«01_k».proof.Proof.Run
public import proofs.«01_k».proof.Proof.Words
public import proofs.«01_k».proof.Proof.Same
public import proofs.«01_k».proof.Proof.Gen.ReferenceIdeal.Run
public import Idealize.ShloMosaic.Lib.Quiescent

@[expose] public section

noncomputable section

namespace Cert.KernelIdeal.Proof

open Idealize.ShloMosaic Idealize.SL.Sem
open Cert.KernelIdeal Cert.KernelIdeal.Gen

variable {F : FTy → Type} [FloatOps F]

/-- A word below 128 names a block of the head arrays. -/
theorem chk_of_lt (w : BitVec 32) (h : w.toInt < 128) : k1_chk1 w := by
  unfold k1_chk1
  intro a
  have hm : (Scalar.maxsi w 0#32 : BitVec 32).toNat < 128 := by
    unfold Scalar.maxsi IntOp.maxsi
    split
    · rename_i h0
      have h0' : (0#32 : BitVec 32).toInt < w.toInt := by simpa [BitVec.slt] using h0
      have hz : (0#32 : BitVec 32).toInt = 0 := by decide
      rw [hz] at h0'
      have hw := BitVec.toInt_eq_toNat_cond w
      have := w.isLt
      split at hw <;> omega
    · decide
  fin_cases a
  · show 0 + 1 ≤ 1; omega
  · show (Scalar.maxsi w 0#32 : BitVec 32).toNat + 1 ≤ 128
    omega
  · show 0 + 64 ≤ 64; omega
  · show 0 + 64 ≤ 64; omega

theorem inRange_of_named (m : (ℓ : Loc nD τ sig) → Buf (Elt F) ℓ)
    (h : Named (m (((0 : Dev nD).tc : Thread nD τ).loc main_arg5))) : InRange m :=
  fun n j => chk_of_lt _ (h.lt (Fin.ofNat 128 n) (Fin.ofNat 6 j))

theorem frame_bits : Cert.quiescent_Kernel (hKernel := Cert.Kernel.Gen.facts) (hPre_names_blocks := Cert.Pre_names_blocks.Gen.facts) :=
  quiescent_same.mpr fun m g hp =>
    (θ_run _ _ _).mono (fun _ h => ⟨fun c => (h.1 c).2, h.2⟩) (run (F := Bits) m (inRange_of_named m (named_of_pre _ _ _ _ _ _ (hp 0))) g)

theorem frame_ideal : Cert.quiescent_KernelIdeal (hKernelIdeal := facts) (hPre_names_blocks := Cert.Pre_names_blocks.Gen.facts) :=
  fun m g hp =>
    (θ_run _ _ _).mono (fun _ h => ⟨fun c => (h.1 c).2, h.2⟩) (run (F := Ideal) m (inRange_of_named m (named_of_pre _ _ _ _ _ _ (hp 0))) g)

theorem frame_reference : Cert.quiescent_ReferenceIdeal (hReferenceIdeal := Cert.ReferenceIdeal.Gen.facts) :=
  fun m g _ =>
    (θ_run _ _ _).mono (fun r h => ⟨fun c => (h c).2, sem_eq_zero_of_no_sems (by decide) r.2⟩) (Cert.ReferenceIdeal.Value.run (F := Ideal) m g)

end Cert.KernelIdeal.Proof
end
-- ==== Proof.RefStages.lean ====
/-
  The reference's result as a composition of named steps: the projections, the scores, the softmaxes, the averages.
-/
module

public import proofs.«01_k».proof.Proof.Gen.ReferenceIdeal.Run

@[expose] public section

noncomputable section

namespace Cert.KernelIdeal.Proof.Ref

open Cert.ReferenceIdeal Cert.ReferenceIdeal.Gen Idealize.ShloMosaic Idealize.ShloMosaic.TcCoe Idealize.SL.Sem

variable {F : FTy → Type} [FloatOps F]

/-- `x @ W`. -/
def proj (x : FVec F S1x8192x1024 .f32) (W : FVec F S1024x1024 .f32) : FVec F S1x8192x1024 .f32 :=
  Host.dotGeneral dot_S1x8192x1024_S1024x1024_S1x8192x1024_2_0_01_1_n_n none x W

/-- The heads of `x @ W`. -/
def heads (x : FVec F S1x8192x1024 .f32) (W : FVec F S1024x1024 .f32) : FVec F S1x16x8192x64 .f32 :=
  transpose S1x16x8192x64 [0, 2, 1, 3] (shapeCast _ (proj x W) shapeCasts_S1x8192x1024_S1x8192x16x64)
    transposes_S1x8192x16x64_S1x16x8192x64_0_2_1_3

/-- The heads, the tokens in blocks. -/
def inBlocks (a : FVec F S1x16x8192x64 .f32) : FVec F S1x16x128x64x64 .f32 := shapeCast _ a shapeCasts_S1x16x8192x64_S1x16x128x64x64

/-- The first block. -/
def front (a : FVec F S1x16x8192x64 .f32) : FVec F S1x16x64x64 .f32 :=
  extractStridedSlice S1x16x64x64 ![0, 0, 0, 0] a slices_S1x16x8192x64_S1x16x64x64_0_0_0_0

/-- The first block's scores over every token. -/
def scores0 (q k : FVec F S1x16x8192x64 .f32) : FVec F S1x16x64x8192 .f32 :=
  mulf (Host.dotGeneral dot_S1x16x64x64_S1x16x8192x64_S1x16x64x8192_3_3_2_2_01_01 none (front q) k)
    (broadcastInDim S1x16x64x8192 ![] bcast_S_S1x16x64x8192 (constant S_ .f32 0x3E000000#32))

/-- Each row's maximum. -/
def tops0 (s : FVec F S1x16x64x8192 .f32) : FVec F S1x16x64 .f32 :=
  Host.reduce FloatOps.maximumf s (constant S_ .f32 0xFF800000#32) reducesTo_S1x16x64x8192_S1x16x64_d3 h_S_

/-- The maxima, no less than minus infinity. -/
def lifted0 (M : FVec F S1x16x64 .f32) : FVec F S1x16x64 .f32 :=
  maximumf (broadcastInDim S1x16x64 ![] bcast_S_S1x16x64 (constant S_ .f32 0xFF800000#32)) M

/-- The rows with a number taken off each. -/
def less0 (s : FVec F S1x16x64x8192 .f32) (M : FVec F S1x16x64 .f32) : FVec F S1x16x64x8192 .f32 :=
  subf s (broadcastInDim S1x16x64x8192 ![0, 1, 2, 3] bcast_S1x16x64x1_S1x16x64x8192_0_1_2_3
    (broadcastInDim S1x16x64x1 ![0, 1, 2] bcast_S1x16x64_S1x16x64x1_0_1_2 M))

/-- Their exponentials, the row's maximum taken off. -/
def exps0 (s : FVec F S1x16x64x8192 .f32) : FVec F S1x16x64x8192 .f32 := Host.exp (less0 s (lifted0 (tops0 s)))

/-- The softmax of those rows. -/
def soft0 (s : FVec F S1x16x64x8192 .f32) : FVec F S1x16x64x8192 .f32 :=
  Host.divf (exps0 s) (broadcastInDim S1x16x64x8192 ![0, 1, 2, 3] bcast_S1x16x64x1_S1x16x64x8192_0_1_2_3
    (broadcastInDim S1x16x64x1 ![0, 1, 2] bcast_S1x16x64_S1x16x64x1_0_1_2
      (Host.reduceAdd (exps0 s) (constant S_ .f32 0x00000000#32) reducesTo_S1x16x64x8192_S1x16x64_d3 h_S_)))

/-- The first block's output. -/
def out0 (q k v : FVec F S1x16x8192x64 .f32) : FVec F S1x16x64x64 .f32 :=
  Host.dotGeneral dot_S1x16x64x8192_S1x16x8192x64_S1x16x64x64_3_2_2_3_01_01 none (soft0 (scores0 q k)) v

/-- The words, brought into range. -/
def safe (T : IVec S128x6 32) : IVec S128x6 32 :=
  minsi (broadcastInDim S128x6 ![] bcast_S_S128x6 (id (constantI S_ 32 127#32)))
    (maxsi (broadcastInDim S128x6 ![] bcast_S_S128x6 (id (constantI S_ 32 0#32))) T)

/-- The blocks that the words name. -/
def taken (a : FVec F S1x16x8192x64 .f32) (T : IVec S128x6 32) : FVec F S1x16x128x6x64x64 .f32 :=
  shapeCast _ (Host.gather gather_S1x16x128x64x64_S768x1_S1x16x768x64x64_0134_2_n_n_2_1_11616464 (inBlocks a)
    (broadcastInDim S768x1 ![0] bcast_S768_S768x1_0 (shapeCast _ (safe T) shapeCasts_S128x6_S768)))
    shapeCasts_S1x16x768x64x64_S1x16x128x6x64x64

/-- The positions of the chosen keys. -/
def places (T : IVec S128x6 32) : IVec S128x6x64 32 :=
  addi (broadcastInDim S128x6x64 ![0, 1, 2] bcast_S128x6x1_S128x6x64_0_1_2
      (muli (broadcastInDim S128x6x1 ![0, 1] bcast_S128x6_S128x6x1_0_1 (safe T))
        (broadcastInDim S128x6x1 ![] bcast_S_S128x6x1 (constantI S_ 32 64#32))))
    (broadcastInDim S128x6x64 ![0, 1, 2] bcast_S1x1x64_S128x6x64_0_1_2
      (broadcastInDim S1x1x64 ![2] bcast_S64_S1x1x64_2 (iotaInDim S64 32 0)))

/-- Which chosen keys count. -/
def counts (T : IVec S128x6 32) : IVec S128x6x64 1 :=
  andi (andi (broadcastInDim S128x6x64 ![0, 1, 2] bcast_S128x6x1_S128x6x64_0_1_2
      (broadcastInDim S128x6x1 ![0, 1] bcast_S128x6_S128x6x1_0_1
        (cmpi .sge T (broadcastInDim S128x6 ![] bcast_S_S128x6 (constantI S_ 32 0#32)))))
    (cmpi .slt (places T) (broadcastInDim S128x6x64 ![] bcast_S_S128x6x64 (constantI S_ 32 8192#32))))
    (cmpi .sge (places T) (broadcastInDim S128x6x64 ![] bcast_S_S128x6x64 (constantI S_ 32 64#32)))

/-- Every block's scores over the chosen keys. -/
def scoresC (q k : FVec F S1x16x8192x64 .f32) (T : IVec S128x6 32) : FVec F S1x16x128x64x6x64 .f32 :=
  select (broadcastInDim S1x16x128x64x6x64 ![0, 1, 2, 3, 4, 5] bcast_S1x1x128x1x6x64_S1x16x128x64x6x64_0_1_2_3_4_5
      (broadcastInDim S1x1x128x1x6x64 ![2, 4, 5] bcast_S128x6x64_S1x1x128x1x6x64_2_4_5 (counts T)))
    (mulf (Host.dotGeneral dot_S1x16x128x64x64_S1x16x128x6x64x64_S1x16x128x64x6x64_4_5_3_34_012_012 none (inBlocks q) (taken k T))
      (broadcastInDim S1x16x128x64x6x64 ![] bcast_S_S1x16x128x64x6x64 (constant S_ .f32 0x3E000000#32)))
    (broadcastInDim S1x16x128x64x6x64 ![] bcast_S_S1x16x128x64x6x64 (id (constant S_ .f32 0xFF800000#32)))

/-- Every block's scores over the first block. -/
def scoresF (q k : FVec F S1x16x8192x64 .f32) : FVec F S1x16x128x64x64 .f32 :=
  mulf (Host.dotGeneral dot_S1x16x128x64x64_S1x16x64x64_S1x16x128x64x64_4_3_23_2_01_01 none (inBlocks q) (front k))
    (broadcastInDim S1x16x128x64x64 ![] bcast_S_S1x16x128x64x64 (constant S_ .f32 0x3E000000#32))

/-- Every block's scores. -/
def scores (q k : FVec F S1x16x8192x64 .f32) (T : IVec S128x6 32) : FVec F S1x16x128x64x448 .f32 :=
  concatenate S1x16x128x64x448 4 [⟨S1x16x128x64x64, scoresF q k⟩,
    ⟨S1x16x128x64x384, shapeCast _ (scoresC q k T) shapeCasts_S1x16x128x64x6x64_S1x16x128x64x384⟩]
    concatenates_S1x16x128x64x64_S1x16x128x64x384_S1x16x128x64x448_d4

/-- Each row's maximum. -/
def topsN (s : FVec F S1x16x128x64x448 .f32) : FVec F S1x16x128x64 .f32 :=
  Host.reduce FloatOps.maximumf s (constant S_ .f32 0xFF800000#32) reducesTo_S1x16x128x64x448_S1x16x128x64_d4 h_S_

/-- The maxima, no less than minus infinity. -/
def liftedN (M : FVec F S1x16x128x64 .f32) : FVec F S1x16x128x64 .f32 :=
  maximumf (broadcastInDim S1x16x128x64 ![] bcast_S_S1x16x128x64 (constant S_ .f32 0xFF800000#32)) M

/-- The rows with a number taken off each. -/
def lessN (s : FVec F S1x16x128x64x448 .f32) (M : FVec F S1x16x128x64 .f32) : FVec F S1x16x128x64x448 .f32 :=
  subf s (broadcastInDim S1x16x128x64x448 ![0, 1, 2, 3, 4] bcast_S1x16x128x64x1_S1x16x128x64x448_0_1_2_3_4
    (broadcastInDim S1x16x128x64x1 ![0, 1, 2, 3] bcast_S1x16x128x64_S1x16x128x64x1_0_1_2_3 M))

/-- Their exponentials, the row's maximum taken off. -/
def expsN (s : FVec F S1x16x128x64x448 .f32) : FVec F S1x16x128x64x448 .f32 := Host.exp (lessN s (liftedN (topsN s)))

/-- The softmax of those rows. -/
def softN (s : FVec F S1x16x128x64x448 .f32) : FVec F S1x16x128x64x448 .f32 :=
  Host.divf (expsN s) (broadcastInDim S1x16x128x64x448 ![0, 1, 2, 3, 4] bcast_S1x16x128x64x1_S1x16x128x64x448_0_1_2_3_4
    (broadcastInDim S1x16x128x64x1 ![0, 1, 2, 3] bcast_S1x16x128x64_S1x16x128x64x1_0_1_2_3
      (Host.reduceAdd (expsN s) (constant S_ .f32 0x00000000#32) reducesTo_S1x16x128x64x448_S1x16x128x64_d4 h_S_)))

/-- Every block's output. -/
def outN (q k v : FVec F S1x16x8192x64 .f32) (T : IVec S128x6 32) : FVec F S1x16x128x64x64 .f32 :=
  addf (Host.dotGeneral dot_S1x16x128x64x64_S1x16x64x64_S1x16x128x64x64_4_2_23_3_01_01 none
      (extractStridedSlice S1x16x128x64x64 ![0, 0, 0, 0, 0] (softN (scores q k T)) slices_S1x16x128x64x448_S1x16x128x64x64_0_0_0_0_0) (front v))
    (Host.dotGeneral dot_S1x16x128x64x384_S1x16x128x384x64_S1x16x128x64x64_4_3_3_4_012_012 none
      (extractStridedSlice S1x16x128x64x384 ![0, 0, 0, 0, 64] (softN (scores q k T)) slices_S1x16x128x64x448_S1x16x128x64x384_0_0_0_0_64)
      (shapeCast _ (taken v T) shapeCasts_S1x16x128x6x64x64_S1x16x128x384x64))

/-- The heads' outputs, the first block's put in. -/
def mixed (q k v : FVec F S1x16x8192x64 .f32) (T : IVec S128x6 32) : FVec F S1x16x8192x64 .f32 :=
  select (broadcastInDim S1x16x8192x64 ![0, 1, 2, 3] bcast_S1x1x8192x1_S1x16x8192x64_0_1_2_3
      (broadcastInDim S1x1x8192x1 ![2] bcast_S8192_S1x1x8192x1_2
        (cmpi .slt (iotaInDim S8192 32 0) (broadcastInDim S8192 ![] bcast_S_S8192 (constantI S_ 32 64#32)))))
    (pad S1x16x8192x64 ![0, 0, 0, 0] ![0, 0, 8128, 0] ![0, 0, 0, 0] (out0 q k v) (sitofp .f32 (constantI S_ 32 0#32))
      pads_S1x16x64x64_S1x16x8192x64_000_000_081280_000 h_S_)
    (shapeCast _ (outN q k v T) shapeCasts_S1x16x128x64x64_S1x16x8192x64)

/-- The result. -/
def whole (x : FVec F S1x8192x1024 .f32) (Wq Wk Wv Wo : FVec F S1024x1024 .f32) (T : IVec S128x6 32) : FVec F S1x8192x1024 .f32 :=
  proj (shapeCast _ (transpose S1x8192x16x64 [0, 2, 1, 3] (mixed (heads x Wq) (heads x Wk) (heads x Wv) T)
    transposes_S1x16x8192x64_S1x8192x16x64_0_2_1_3) shapeCasts_S1x8192x16x64_S1x8192x1024) Wo

set_option maxHeartbeats 4000000 in
set_option maxRecDepth 16384 in
/-- The reference's result, in these steps. -/
theorem result (m : (ℓ : Loc nD τ sig) → Buf (Elt F) ℓ) (c : Dev nD) :
    Value.res_main_v91 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  unfold Value.res_main_v91 whole mixed outN softN expsN lessN liftedN topsN scores scoresF scoresC counts places taken safe out0 soft0 exps0 less0 lifted0 tops0 scores0 front inBlocks heads proj
  rfl

end Cert.KernelIdeal.Proof.Ref
-- ==== Proof.Soft.lean ====
/-
  Sums of extended reals, and the softmax: dividing at the end a sum of weights that are not normalized is the same as
  normalizing them with their maximum taken off, where the scores hold a real number and no plus infinity.
-/
module

public import Idealize.ShloMosaic.PureOps.Ideal.Laws

@[expose] public section

noncomputable section

namespace Cert.KernelIdeal.Proof

open Idealize.ShloMosaic

variable {ι : Type} [Fintype ι]

/-- A positive real factor goes through a sum. -/
theorem mul_sum_real (s : Finset ι) (f : ι → EReal) {c : ℝ} (hc : 0 ≤ c) : (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

theorem coe_sum (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A sum of reals is a real. -/
theorem sum_real {f : ι → EReal} (h : ∀ i, ∃ r : ℝ, f i = r) : ∃ r : ℝ, ∑ i, f i = r := by
  choose g hg using h
  exact ⟨∑ i, g i, by rw [coe_sum]; exact Finset.sum_congr rfl fun i _ => hg i⟩

/-- The weights of `s`, applied to `v` and normalized at the end. -/
def attend (s v : ι → EReal) : EReal := Ideal.div (∑ i, Ideal.exp (s i) * v i) (∑ i, Ideal.exp (s i))

/-- The softmax of `s` with `M` taken off. -/
def soft (s : ι → EReal) (M : EReal) (i : ι) : EReal := Ideal.div (Ideal.exp (s i - M)) (∑ j, Ideal.exp (s j - M))

theorem exp_real {a : EReal} (h : a ≠ ⊤) : ∃ r : ℝ, 0 ≤ r ∧ Ideal.exp a = r ∧ (a ≠ ⊥ → 0 < r) := by
  induction a with
  | bot => exact ⟨0, le_rfl, by simp, fun h => (h rfl).elim⟩
  | top => exact (h rfl).elim
  | coe a => exact ⟨Real.exp a, (Real.exp_pos a).le, by simp, fun _ => Real.exp_pos a⟩

theorem exp_shift {a : EReal} (h : a ≠ ⊤) (M : ℝ) : Ideal.exp (a - M) = ((Real.exp (-M) : ℝ) : EReal) * Ideal.exp a := by
  induction a with
  | bot => simp
  | top => exact (h rfl).elim
  | coe a =>
    rw [← EReal.coe_sub, Ideal.exp_coe, Ideal.exp_coe, ← EReal.coe_mul, ← Real.exp_add, sub_eq_neg_add]

/-- The maximum of scores one of which is real and none plus infinity is real. -/
theorem sup_real {s : ι → EReal} (h : ∀ i, s i ≠ ⊤) {k : ι} (hk : s k ≠ ⊥) : ∃ M : ℝ, Finset.univ.sup s = M := by
  have h1 : Finset.univ.sup s ≠ ⊤ := fun e => by
    have : Finset.univ.sup s < ⊤ := (Finset.sup_lt_iff (by exact bot_lt_top)).2 fun i _ => lt_top_iff_ne_top.2 (h i)
    exact this.ne e
  have h2 : Finset.univ.sup s ≠ ⊥ := fun e => hk (le_bot_iff.1 (e ▸ Finset.le_sup (Finset.mem_univ k)))
  exact ⟨_, (EReal.coe_toReal h1 h2).symm⟩

theorem weights_total {s : ι → EReal} (h : ∀ i, s i ≠ ⊤) {k : ι} (hk : s k ≠ ⊥) : ∃ r : ℝ, 0 < r ∧ ∑ i, Ideal.exp (s i) = r := by
  choose g hg0 hg hgp using fun i => exp_real (h i)
  refine ⟨∑ i, g i, ?_, ?_⟩
  · exact Finset.sum_pos' (fun i _ => hg0 i) ⟨k, Finset.mem_univ k, hgp k hk⟩
  · rw [coe_sum]
    exact Finset.sum_congr rfl fun i _ => hg i

/-- Normalizing at the end and normalizing first are the same. -/
theorem soft_attend {s : ι → EReal} (v : ι → EReal) (h : ∀ i, s i ≠ ⊤) {k : ι} (hk : s k ≠ ⊥) :
    ∑ i, soft s (Finset.univ.sup s) i * v i = attend s v := by
  obtain ⟨M, hM⟩ := sup_real h hk
  obtain ⟨r, hr, hs⟩ := weights_total h hk
  have he : 0 < Real.exp (-M) := Real.exp_pos _
  have hS : ∑ j, Ideal.exp (s j - Finset.univ.sup s) = ((Real.exp (-M) * r : ℝ) : EReal) := by
    rw [EReal.coe_mul, ← hs, mul_sum_real _ _ he.le]
    exact Finset.sum_congr rfl fun j _ => by rw [hM, exp_shift (h j)]
  have hw : ∀ i, soft s (Finset.univ.sup s) i = ((1 / r : ℝ) : EReal) * Ideal.exp (s i) := fun i => by
    obtain ⟨g, -, hg, -⟩ := exp_real (h i)
    unfold soft
    rw [hS, Ideal.div_coe (by positivity), hM, exp_shift (h i), hg, ← EReal.coe_mul, ← EReal.coe_mul, ← EReal.coe_mul]
    congr 1
    field_simp
  unfold attend
  rw [hs, Ideal.div_coe hr.ne', mul_comm, mul_sum_real _ _ (by positivity)]
  exact Finset.sum_congr rfl fun i _ => by rw [hw i, mul_assoc]

end Cert.KernelIdeal.Proof

end
-- ==== Proof.RefRead.lean ====
/-
  The reference's steps read at an index.
-/
module

public import proofs.«01_k».proof.Proof.RefStages
public import proofs.«01_k».proof.Proof.Soft
public import Idealize.ShloMosaic.Lib.Pointwise

@[expose] public section

noncomputable section

namespace Cert.KernelIdeal.Proof.Ref

open Cert.ReferenceIdeal Cert.ReferenceIdeal.Gen Idealize.ShloMosaic Cert.KernelIdeal.Proof

/-- An entry of `x @ W`. -/
def lin (x : S1x8192x1024.Idx → EReal) (W : S1024x1024.Idx → EReal) (s : Fin 8192) (e : Fin 1024) : EReal :=
  ∑ k, x (ix3 0 s k) * W (ix2 k e)

/-- Column `d` of head `h`. -/
def col (h : Fin 16) (d : Fin 64) : Fin 1024 := ⟨h.val * 64 + d.val, by omega⟩

/-- Token `r` of block `n`. -/
def tok (n : Fin 128) (r : Fin 64) : Fin 8192 := ⟨n.val * 64 + r.val, by omega⟩

theorem neg_inf : Ideal.ofBits .f32 0xFF800000#32 = ⊥ := by simp [Ideal.ofBits, Ideal.ieee]

theorem pos_inf : Ideal.ofBits .f32 0x7F800000#32 = ⊤ := by simp [Ideal.ofBits, Ideal.ieee]

theorem eighth : Ideal.ofBits .f32 0x3E000000#32 = ((1 / 8 : ℝ) : EReal) := by
  simp [Ideal.ofBits, Ideal.ieee, -EReal.coe_mul]; norm_num

theorem fold_sup {n : Nat} (f : Fin n → EReal) : Finset.univ.fold max ⊥ f = Finset.univ.sup f := rfl

theorem heads_at (x : FVec Ideal S1x8192x1024 .f32) (W : FVec Ideal S1024x1024 .f32) (h : Fin 16) (s : Fin 8192) (d : Fin 64) :
    heads x W (ix4 0 h s d) = lin x W s (col h d) := by
  pointwise [heads, proj]
  rfl

theorem scores0_at (q k : FVec Ideal S1x16x8192x64 .f32) (h : Fin 16) (r : Fin 64) (t : Fin 8192) :
    scores0 q k (ix4 0 h r t) = (∑ d, q (ix4 0 h (tok 0 r) d) * k (ix4 0 h t d)) * ((1 / 8 : ℝ) : EReal) := by
  pointwise [scores0, front]
  rw [eighth]
  have e : (⟨r.val, by omega⟩ : Fin 8192) = tok 0 r := Fin.ext (by simp [tok])
  rw [← e]

theorem tops0_at (s : FVec Ideal S1x16x64x8192 .f32) (h : Fin 16) (r : Fin 64) :
    tops0 s (ix3 0 h r) = Finset.univ.sup fun t : Fin 8192 => s (ix4 0 h r t) := by
  pointwise [tops0]
  rw [neg_inf, fold_sup]

theorem lifted0_at (M : FVec Ideal S1x16x64 .f32) (h : Fin 16) (r : Fin 64) : lifted0 M (ix3 0 h r) = M (ix3 0 h r) := by
  pointwise [lifted0]
  rw [neg_inf]
  exact max_eq_right bot_le

theorem less0_at (s : FVec Ideal S1x16x64x8192 .f32) (M : FVec Ideal S1x16x64 .f32) (h : Fin 16) (r : Fin 64) (t : Fin 8192) :
    less0 s M (ix4 0 h r t) = s (ix4 0 h r t) - M (ix3 0 h r) := by
  pointwise [less0]

theorem exps0_at (s : FVec Ideal S1x16x64x8192 .f32) (h : Fin 16) (r : Fin 64) (t : Fin 8192) :
    exps0 s (ix4 0 h r t) = Ideal.exp (s (ix4 0 h r t) - Finset.univ.sup fun t : Fin 8192 => s (ix4 0 h r t)) := by
  pointwise [exps0]
  rw [less0_at, lifted0_at, tops0_at]

theorem soft0_at (s : FVec Ideal S1x16x64x8192 .f32) (h : Fin 16) (r : Fin 64) (t : Fin 8192) :
    soft0 s (ix4 0 h r t) = soft (fun t : Fin 8192 => s (ix4 0 h r t)) (Finset.univ.sup fun t : Fin 8192 => s (ix4 0 h r t)) t := by
  pointwise [soft0]
  unfold soft
  simp only [exps0_at]

theorem out0_at (q k v : FVec Ideal S1x16x8192x64 .f32) (h : Fin 16) (r : Fin 64) (d : Fin 64) :
    out0 q k v (ix4 0 h r d) = ∑ t, soft0 (scores0 q k) (ix4 0 h r t) * v (ix4 0 h t d) := by
  pointwise [out0]

theorem topsN_at (s : FVec Ideal S1x16x128x64x448 .f32) (h : Fin 16) (n : Fin 128) (r : Fin 64) :
    topsN s (ix4 0 h n r) = Finset.univ.sup fun i : Fin 448 => s (ix5 0 h n r i) := by
  pointwise [topsN]
  rw [neg_inf, fold_sup]

theorem liftedN_at (M : FVec Ideal S1x16x128x64 .f32) (h : Fin 16) (n : Fin 128) (r : Fin 64) :
    liftedN M (ix4 0 h n r) = M (ix4 0 h n r) := by
  pointwise [liftedN]
  rw [neg_inf]
  exact max_eq_right bot_le

theorem lessN_at (s : FVec Ideal S1x16x128x64x448 .f32) (M : FVec Ideal S1x16x128x64 .f32) (h : Fin 16) (n : Fin 128) (r : Fin 64)
    (i : Fin 448) : lessN s M (ix5 0 h n r i) = s (ix5 0 h n r i) - M (ix4 0 h n r) := by
  pointwise [lessN]

theorem expsN_at (s : FVec Ideal S1x16x128x64x448 .f32) (h : Fin 16) (n : Fin 128) (r : Fin 64) (i : Fin 448) :
    expsN s (ix5 0 h n r i) = Ideal.exp (s (ix5 0 h n r i) - Finset.univ.sup fun i : Fin 448 => s (ix5 0 h n r i)) := by
  pointwise [expsN]
  rw [lessN_at, liftedN_at, topsN_at]

theorem softN_at (s : FVec Ideal S1x16x128x64x448 .f32) (h : Fin 16) (n : Fin 128) (r : Fin 64) (i : Fin 448) :
    softN s (ix5 0 h n r i) = soft (fun i : Fin 448 => s (ix5 0 h n r i)) (Finset.univ.sup fun i : Fin 448 => s (ix5 0 h n r i)) i := by
  pointwise [softN]
  unfold soft
  simp only [expsN_at]

/-- The scores of a block's query: the first block's keys, then the chosen ones that count. -/
theorem scores_at (q k : FVec Ideal S1x16x8192x64 .f32) (T : IVec S128x6 32) (h : Fin 16) (n : Fin 128) (r : Fin 64) (i : Fin 448) :
    scores q k T (ix5 0 h n r i)
      = if hi : i.val < 64 then (∑ d, q (ix4 0 h (tok n r) d) * k (ix4 0 h ⟨i.val, by omega⟩ d)) * ((1 / 8 : ℝ) : EReal)
        else Scalar.select (counts T (ix3 n ⟨(i.val - 64) / 64, by omega⟩ ⟨(i.val - 64) % 64, by omega⟩))
          ((∑ d, q (ix4 0 h (tok n r) d) * taken k T (ix6 0 h n ⟨(i.val - 64) / 64, by omega⟩ ⟨(i.val - 64) % 64, by omega⟩ d)) * ((1 / 8 : ℝ) : EReal)) ⊥ := by
  pointwise [scores, scoresC, scoresF, inBlocks, front]
  have e : id (constant (F := Ideal) S_ .f32 4286578688#32) ix0 = ⊥ := neg_inf
  rw [e, eighth]
  rfl

/-- A gathered block: the word read signed and clamped. -/
theorem gather_at (a : FVec Ideal S1x16x128x64x64 .f32) (idx : IVec S768x1 32) (h : Fin 16) (p : Fin 768) (r : Fin 64) (t : Fin 64) :
    Host.gather gather_S1x16x128x64x64_S768x1_S1x16x768x64x64_0134_2_n_n_2_1_11616464 a idx (ix5 0 h p r t)
      = a (ix5 0 h ⟨min (idx (ix2 p 0)).toInt.toNat 127, by omega⟩ r t) := by
  unfold Host.gather
  refine congrArg a (funext fun b => Fin.ext ?_)
  match b with
  | ⟨0, _⟩ => rfl
  | ⟨1, _⟩ => exact (show 0 + 0 + h.val = h.val by omega)
  | ⟨2, _⟩ =>
    show min (idx _).toInt.toNat 127 + 0 + 0 = min (idx (ix2 p 0)).toInt.toNat 127
    have e : ∀ i j : S768x1.Idx, i 0 = j 0 → i = j := fun i j h => by
      funext b
      match b with
      | ⟨0, _⟩ => exact h
      | ⟨1, _⟩ => exact Subsingleton.elim (α := Fin 1) _ _
    exact congrArg (fun i => min (idx i).toInt.toNat 127) (e _ _ rfl)
  | ⟨3, _⟩ => exact (show 0 + 0 + r.val = r.val by omega)
  | ⟨4, _⟩ => exact (show 0 + 0 + t.val = t.val by omega)

/-- The block that a word names. -/
def named (w : BitVec 32) : Nat := w.toInt.toNat

theorem clip_word (w : BitVec 32) (h : w.toInt < 128) : IntOp.minsi 127#32 (IntOp.maxsi 0#32 w) = BitVec.ofNat 32 (named w) := by
  unfold named
  apply BitVec.eq_of_toInt_eq
  have hr : (BitVec.ofNat 32 w.toInt.toNat).toInt = (w.toInt.toNat : Int) := by
    rw [BitVec.toInt_ofNat']; simp [Int.bmod]; omega
  rw [hr]
  have h127 : (127#32).toInt = 127 := rfl
  have h0 : (0#32).toInt = 0 := rfl
  unfold IntOp.minsi IntOp.maxsi
  simp only [BitVec.slt, BitVec.sle, decide_eq_true_eq]
  split <;> split <;> omega

theorem counts_word : ∀ (b : Fin 128) (r : Fin 64),
    IntOp.cmpi .slt (IntOp.addi (IntOp.muli (BitVec.ofNat 32 b.val) 64#32) (BitVec.ofNat 32 r.val)) 8192#32 = 1#1 ∧
    (IntOp.cmpi .sge (IntOp.addi (IntOp.muli (BitVec.ofNat 32 b.val) 64#32) (BitVec.ofNat 32 r.val)) 64#32 = if 1 ≤ b.val then 1#1 else 0#1) := by
  decide +kernel

theorem counts_at (T : IVec S128x6 32) (n : Fin 128) (j : Fin 6) (r : Fin 64) (h : (T (ix2 n j)).toInt < 128) :
    counts T (ix3 n j r) = if 1 ≤ (T (ix2 n j)).toInt then 1#1 else 0#1 := by
  pointwise [counts, places, safe]
  have e1 : id (constantI S_ 32 127#32) ix0 = 127#32 := rfl
  have e2 : id (constantI S_ 32 0#32) ix0 = 0#32 := rfl
  rw [e1, e2, clip_word _ h]
  have hb : named (T (ix2 n j)) < 128 := by unfold named; omega
  obtain ⟨c1, c2⟩ := counts_word ⟨_, hb⟩ r
  dsimp only at c1 c2
  rw [c1, c2]
  by_cases hw : 1 ≤ (T (ix2 n j)).toInt
  · have hs : IntOp.cmpi .sge (T (ix2 n j)) 0#32 = 1#1 := by
      have h0 : (0#32).toInt = 0 := rfl
      simp only [IntOp.cmpi, BitVec.sle]
      rw [decide_eq_true (by omega)]; rfl
    rw [if_pos hw, if_pos (by unfold named; omega), hs]; rfl
  · rw [if_neg hw, if_neg (by unfold named; omega)]
    generalize IntOp.cmpi .sge (T (ix2 n j)) 0#32 = b
    revert b; decide

theorem taken_at (a : FVec Ideal S1x16x8192x64 .f32) (T : IVec S128x6 32) (h : Fin 16) (n : Fin 128) (j : Fin 6) (r : Fin 64) (t : Fin 64)
    (hT : (T (ix2 n j)).toInt < 128) :
    taken a T (ix6 0 h n j r t) = a (ix4 0 h (tok ⟨named (T (ix2 n j)), by unfold named; omega⟩ r) t) := by
  have hb : named (T (ix2 n j)) < 128 := by unfold named; omega
  pointwise [taken]
  rw [gather_at]
  pointwise [inBlocks, safe]
  have e3 : (BitVec.ofNat 32 (named (T (ix2 n j)))).toInt = named (T (ix2 n j)) := by
    rw [BitVec.toInt_ofNat']; simp [Int.bmod]; omega
  have e4 : min (IntOp.minsi 127#32 (IntOp.maxsi 0#32 (T (ix2 n j)))).toInt.toNat 127 = named (T (ix2 n j)) := by
    rw [clip_word _ hT, e3]; omega
  refine congrArg a (congrArg (fun s => ix4 0 h s t) (Fin.ext ?_))
  exact congrArg (fun b => b * 64 + r.val) e4

theorem outN_at (q k v : FVec Ideal S1x16x8192x64 .f32) (T : IVec S128x6 32) (h : Fin 16) (n : Fin 128) (r : Fin 64) (d : Fin 64) :
    outN q k v T (ix5 0 h n r d)
      = ∑ i : Fin 64, softN (scores q k T) (ix5 0 h n r ⟨i.val, by omega⟩) * v (ix4 0 h ⟨i.val, by omega⟩ d)
        + ∑ i : Fin 384, softN (scores q k T) (ix5 0 h n r ⟨64 + i.val, by omega⟩)
            * taken v T (ix6 0 h n ⟨i.val / 64, by omega⟩ ⟨i.val % 64, by omega⟩ d) := by
  pointwise [outN, front]

theorem mixed_at (q k v : FVec Ideal S1x16x8192x64 .f32) (T : IVec S128x6 32) (h : Fin 16) (n : Fin 128) (r : Fin 64) (d : Fin 64) :
    mixed q k v T (ix4 0 h (tok n r) d) = if n = 0 then out0 q k v (ix4 0 h r d) else outN q k v T (ix5 0 h n r d) := by
  pointwise [mixed]
  have e1 : (⟨(tok n r).val / 64, by simp only [tok]; omega⟩ : Fin 128) = n := Fin.ext (by simp only [tok]; omega)
  have e2 : (⟨(tok n r).val % 64, by omega⟩ : Fin 64) = r := Fin.ext (by simp only [tok]; omega)
  by_cases hn : n = 0
  · subst hn
    rw [if_pos rfl]
    have hc : IntOp.cmpi CmpIPredicate.slt (BitVec.ofNat 32 (tok 0 r).val) 64#32 = 1#1 := by
      revert r; decide
    have hl : (tok 0 r).val < 64 := by simp only [tok]; omega
    rw [hc, dif_pos hl]
    have e : (⟨(tok 0 r).val, hl⟩ : Fin 64) = r := Fin.ext (by simp [tok])
    rw [e]
    rfl
  · rw [if_neg hn]
    have hc : IntOp.cmpi CmpIPredicate.slt (BitVec.ofNat 32 (tok n r).val) 64#32 = 0#1 := by
      have h1 : 64 ≤ (tok n r).val := by simp only [tok]; omega
      have h2 : (tok n r).val < 8192 := (tok n r).isLt
      simp only [IntOp.cmpi, BitVec.slt]
      rw [decide_eq_false]
      · rfl
      · rw [BitVec.toInt_ofNat', BitVec.toInt_ofNat']
        simp [Int.bmod]
        omega
    rw [hc, e1, e2]
    rfl

theorem whole_at (x : FVec Ideal S1x8192x1024 .f32) (Wq Wk Wv Wo : FVec Ideal S1024x1024 .f32) (T : IVec S128x6 32) (s : Fin 8192) (e : Fin 1024) :
    whole x Wq Wk Wv Wo T (ix3 0 s e)
      = ∑ k : Fin 1024, mixed (heads x Wq) (heads x Wk) (heads x Wv) T (ix4 0 ⟨k.val / 64, by omega⟩ s ⟨k.val % 64, by omega⟩) * Wo (ix2 k e) := by
  pointwise [whole, proj]

end Cert.KernelIdeal.Proof.Ref
-- ==== Proof.RefForm.lean ====
/-
  The answer as sums over extended reals, and the reference's result is it where the scores are real numbers.
-/
module

public import proofs.«01_k».proof.Proof.RefRead

@[expose] public section

noncomputable section

namespace Cert.KernelIdeal.Proof.Ref

open Cert.ReferenceIdeal Cert.ReferenceIdeal.Gen Idealize.ShloMosaic Cert.KernelIdeal.Proof

/-- Every element is a real number. -/
def Real' {s : Shape} (x : s.Idx → EReal) : Prop := ∀ i, ∃ r : ℝ, x i = r

section Form

variable (x : S1x8192x1024.Idx → EReal) (Wq Wk Wv Wo : S1024x1024.Idx → EReal) (T : S128x6.Idx → BitVec 32)

/-- The score of token `s` against token `t` in head `h`. -/
def score (h : Fin 16) (s t : Fin 8192) : EReal :=
  (∑ d, lin x Wq s (col h d) * lin x Wk t (col h d)) * ((1 / 8 : ℝ) : EReal)

/-- The place of key `i` of block `n` past the first 64. -/
def place (i : Fin 448) : Fin 6 := Fin.ofNat 6 (i.val / 64 - 1)

/-- The token that key `i` of block `n` is. -/
def key (n : Fin 128) (i : Fin 448) : Fin 8192 :=
  if i.val < 64 then ⟨i.val, by omega⟩ else tok (Fin.ofNat 128 (named (T (ix2 n (place i))))) ⟨i.val % 64, by omega⟩

/-- Whether key `i` of block `n` counts. -/
def live (n : Fin 128) (i : Fin 448) : Prop := i.val < 64 ∨ 1 ≤ (T (ix2 n (place i))).toInt

instance (n : Fin 128) (i : Fin 448) : Decidable (live T n i) := inferInstanceAs (Decidable (_ ∨ _))

/-- What token `r` of block `n` takes from head `h`, in column `d`. -/
def mix (h : Fin 16) (n : Fin 128) (r d : Fin 64) : EReal :=
  if n = 0 then attend (fun t => score x Wq Wk h (tok 0 r) t) (fun t => lin x Wv t (col h d))
  else attend (fun i => if live T n i then score x Wq Wk h (tok n r) (key T n i) else ⊥) (fun i => lin x Wv (key T n i) (col h d))

/-- The answer. -/
def answer (s : Fin 8192) (e : Fin 1024) : EReal :=
  ∑ k : Fin 1024, mix x Wq Wk Wv T ⟨k.val / 64, by omega⟩ ⟨s.val / 64, by omega⟩ ⟨s.val % 64, by omega⟩ ⟨k.val % 64, by omega⟩ * Wo (ix2 k e)

end Form

theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, EReal.coe_mul r s⟩

variable {x : S1x8192x1024.Idx → EReal} {Wq Wk Wv Wo : S1024x1024.Idx → EReal} {T : S128x6.Idx → BitVec 32}

theorem lin_real {W : S1024x1024.Idx → EReal} (hx : Real' x) (hW : Real' W) (s : Fin 8192) (e : Fin 1024) : ∃ r : ℝ, lin x W s e = r :=
  sum_real fun _ => real_mul (hx _) (hW _)

theorem score_real (hx : Real' x) (hq : Real' Wq) (hk : Real' Wk) (h : Fin 16) (s t : Fin 8192) : ∃ r : ℝ, score x Wq Wk h s t = r :=
  real_mul (sum_real fun _ => real_mul (lin_real hx hq _ _) (lin_real hx hk _ _)) ⟨_, rfl⟩

theorem real_ne {a : EReal} (h : ∃ r : ℝ, a = r) : a ≠ ⊤ ∧ a ≠ ⊥ := by
  obtain ⟨r, rfl⟩ := h
  exact ⟨EReal.coe_ne_top r, EReal.coe_ne_bot r⟩

/-- The reference's scores. -/
theorem scores_form (hT : ∀ n j, (T (ix2 n j)).toInt < 128) (h : Fin 16) (n : Fin 128) (r : Fin 64) (i : Fin 448) :
    scores (heads (F := Ideal) x Wq) (heads x Wk) T (ix5 0 h n r i) = if live T n i then score x Wq Wk h (tok n r) (key T n i) else ⊥ := by
  rw [scores_at]
  by_cases hi : i.val < 64
  · rw [dif_pos hi, if_pos (show live T n i from Or.inl hi)]
    unfold score key
    rw [if_pos hi]
    simp only [heads_at]
  · have hp : (⟨(i.val - 64) / 64, by omega⟩ : Fin 6) = place i := Fin.ext (by
      simp only [place, Fin.ofNat]; omega)
    have hm : (⟨(i.val - 64) % 64, by omega⟩ : Fin 64) = ⟨i.val % 64, by omega⟩ := Fin.ext (by dsimp only; omega)
    have hb : named (T (ix2 n (place i))) < 128 := by have := hT n (place i); unfold named; omega
    have hf : Fin.ofNat 128 (named (T (ix2 n (place i)))) = ⟨named (T (ix2 n (place i))), hb⟩ := Fin.ext (Nat.mod_eq_of_lt hb)
    rw [dif_neg hi, hp, hm, counts_at T n (place i) _ (hT n _)]
    simp only [taken_at _ T h n (place i) _ _ (hT n _), heads_at]
    by_cases hw : 1 ≤ (T (ix2 n (place i))).toInt
    · rw [if_pos hw, if_pos (show live T n i from Or.inr hw)]
      unfold score key
      rw [if_neg hi, hf]
      rfl
    · rw [if_neg hw, if_neg (show ¬ live T n i from fun hl => hl.elim hi hw)]
      rfl

/-- The values beside them. -/
theorem outN_form (hx : Real' x) (hq : Real' Wq) (hk : Real' Wk) (hT : ∀ n j, (T (ix2 n j)).toInt < 128) (h : Fin 16) (n : Fin 128) (r d : Fin 64) :
    outN (heads (F := Ideal) x Wq) (heads x Wk) (heads x Wv) T (ix5 0 h n r d)
      = attend (fun i => if live T n i then score x Wq Wk h (tok n r) (key T n i) else ⊥) (fun i => lin x Wv (key T n i) (col h d)) := by
  rw [outN_at]
  simp only [softN_at, scores_form hT]
  rw [← soft_attend (fun i => lin x Wv (key T n i) (col h d)) (k := (0 : Fin 448))]
  · rw [Fin.sum_univ_two_halves 64 384 rfl]
    congr 1
    · refine Finset.sum_congr rfl fun i _ => ?_
      rw [heads_at]
      unfold key
      rw [if_pos (show i.val < 64 from i.isLt)]
    · refine Finset.sum_congr rfl fun i _ => ?_
      have hp : (⟨i.val / 64, by omega⟩ : Fin 6) = place ⟨64 + i.val, by omega⟩ := Fin.ext (by simp only [place, Fin.ofNat]; omega)
      have hm : (⟨i.val % 64, by omega⟩ : Fin 64) = ⟨(64 + i.val) % 64, by omega⟩ := Fin.ext (by dsimp only; omega)
      have hb : named (T (ix2 n (place ⟨64 + i.val, by omega⟩))) < 128 := by
        have := hT n (place ⟨64 + i.val, by omega⟩); unfold named; omega
      rw [hp, hm, taken_at _ T h n _ _ _ (hT n _), heads_at]
      unfold key
      rw [if_neg (show ¬ 64 + i.val < 64 by omega)]
      have hf : Fin.ofNat 128 (named (T (ix2 n (place ⟨64 + i.val, by omega⟩)))) = ⟨named (T (ix2 n (place ⟨64 + i.val, by omega⟩))), hb⟩ :=
        Fin.ext (Nat.mod_eq_of_lt hb)
      rw [hf]
  · intro i
    split
    · exact (real_ne (score_real hx hq hk _ _ _)).1
    · exact bot_ne_top
  · rw [if_pos (show live T n 0 from Or.inl (by decide))]
    exact (real_ne (score_real hx hq hk _ _ _)).2

theorem out0_form (hx : Real' x) (hq : Real' Wq) (hk : Real' Wk) (h : Fin 16) (r d : Fin 64) :
    out0 (heads (F := Ideal) x Wq) (heads x Wk) (heads x Wv) (ix4 0 h r d)
      = attend (fun t => score x Wq Wk h (tok 0 r) t) (fun t => lin x Wv t (col h d)) := by
  have e : ∀ t, scores0 (heads (F := Ideal) x Wq) (heads x Wk) (ix4 0 h r t) = score x Wq Wk h (tok 0 r) t := fun t => by
    rw [scores0_at]; simp only [heads_at]; rfl
  rw [out0_at]
  simp only [soft0_at, e, heads_at]
  exact soft_attend _ (fun t => (real_ne (score_real hx hq hk _ _ _)).1) (k := 0) (real_ne (score_real hx hq hk _ _ _)).2

/-- The reference's result is the answer. -/
theorem whole_form (hx : Real' x) (hq : Real' Wq) (hk : Real' Wk) (hT : ∀ n j, (T (ix2 n j)).toInt < 128) (s : Fin 8192) (e : Fin 1024) :
    whole (F := Ideal) x Wq Wk Wv Wo T (ix3 0 s e) = answer x Wq Wk Wv Wo T s e := by
  rw [whole_at]
  refine Finset.sum_congr rfl fun k _ => ?_
  have hs : s = tok ⟨s.val / 64, by omega⟩ ⟨s.val % 64, by omega⟩ := Fin.ext (by simp only [tok]; omega)
  congr 1
  conv_lhs => rw [hs]
  rw [mixed_at]
  unfold mix
  rw [out0_form hx hq hk, outN_form hx hq hk hT]

end Cert.KernelIdeal.Proof.Ref
-- ==== Proof.Finite.lean ====
/-
  What the precondition of the equality says: the input and the weights of queries and keys are real numbers, and the
  table's words name blocks. The two frames under it.
-/
module

public import proofs.«01_k».proof.Proof.Frames
public import proofs.«01_k».proof.Proof.RefForm
public import proofs.«01_k».proof.Pre_finite_scores
public import Idealize.ShloMosaic.Lib.ReduceAll

@[expose] public section

noncomputable section

namespace Cert.KernelIdeal.Proof

open Idealize.ShloMosaic Idealize.SL.Sem
open Cert.Pre_finite_scores

/-- The shape relations that the precondition's operations take. -/
instance finiteFacts : Cert.Pre_finite_scores.Facts where
  bcast_S_S1x8192x1024 := by decide
  reducesTo_S1x8192x1024_S_d0_1_2 := by decide
  h_S_ := by decide
  bcast_S_S1024x1024 := by decide
  reducesTo_S1024x1024_S_d0_1 := by decide
  bcast_S128_S128x1_0 := by decide
  bcast_S6_S1x6_1 := by decide
  bcast_S_S128x1 := by decide
  bcast_S_S1x6 := by decide
  bcast_S128x1_S128x6_0_1 := by decide
  bcast_S1x6_S128x6_0_1 := by decide
  bcast_S_S128x6 := by decide
  reducesTo_S128x6_S_d0_1 := by decide

/-- An extended real whose size is below infinity is a real number. -/
theorem real_of_lt (a : EReal) (h : Ideal.cmp .olt (max a (-a)) ⊤ = 1#1) : ∃ r : ℝ, a = r := by
  have hl : max a (-a) < ⊤ := by
    by_contra hc
    have h' : BitVec.ofBool (decide (max a (-a) < ⊤)) = 1#1 := h
    rw [decide_eq_false hc] at h'
    exact absurd h' (by decide)
  induction a using EReal.rec with
  | bot => simp at hl
  | top => simp at hl
  | coe r => exact ⟨r, rfl⟩

theorem all_real (s : Shape) (x inf : FVec Ideal s .f32) (hi : ∀ i, inf i = (⊤ : EReal)) (i : s.Idx)
    (h : cmpf .olt (Host.absf x) inf i = 1#1) : ∃ r : ℝ, x i = r := by
  refine real_of_lt (x i) ?_
  have h' : Ideal.cmp .olt (max (x i) (-(x i))) (inf i) = 1#1 := h
  rwa [hi] at h'

theorem top_everywhere {s : Shape} (h : S_.BroadcastsInDim s (![] : Fin 0 → Fin s.rank)) (i : s.Idx) :
    (broadcastInDim s ![] h (constant S_ .f32 0x7F800000#32 : FVec Ideal S_ .f32)) i = (⊤ : EReal) := Ref.pos_inf

instance : Subsingleton S_.Idx := ⟨fun a b => funext fun k => k.elim0⟩

section
variable (x : FVec Ideal S1x8192x1024 .f32) (a b c d : FVec Ideal S1024x1024 .f32) (T : IVec S128x6 32)

theorem finite_parts (h : fn x a b c d T = fun _ => 1#1) :
    Ref.Real' x ∧ Ref.Real' a ∧ Ref.Real' b ∧ Named T := by
  have e := congrFun h (fun k => k.elim0)
  unfold fn fn_part1 fn_part2 at e
  obtain ⟨e1, e2⟩ := and_one _ _ e
  obtain ⟨e1, e3⟩ := and_one _ _ e1
  obtain ⟨e4, e5⟩ := and_one _ _ e1
  have hT := Host.reduce_andi_all _ _ _ _ _ e2
  refine ⟨fun i => all_real _ _ _ (top_everywhere _) i (Host.reduce_andi_all _ _ _ _ _ e4 i),
    fun i => all_real _ _ _ (top_everywhere _) i (Host.reduce_andi_all _ _ _ _ _ e5 i),
    fun i => all_real _ _ _ (top_everywhere _) i (Host.reduce_andi_all _ _ _ _ _ e3 i), ?_, ?_⟩
  · intro n j
    have := hT (ix2 n j)
    pointwise at this
    exact slt_one _ _ (and_one _ _ this).1
  · intro n j h1 h2 h3
    have := hT (ix2 n j)
    pointwise at this
    exact (eq_one _ _ (or_not _ _ (and_one _ _ this).2 (inside n j h1 h2 h3))).trans (neighbour n j h1)

end

theorem frame_ideal_finite : Cert.quiescent_KernelIdeal_pre_finite_scores (hKernelIdeal := Cert.KernelIdeal.Gen.facts) (hPre_finite_scores := finiteFacts) :=
  fun m g hp =>
    (θ_run _ _ _).mono (fun _ h => ⟨fun c => (h.1 c).2, h.2⟩) (run (F := Ideal) m (inRange_of_named m (finite_parts _ _ _ _ _ _ (hp 0)).2.2.2) g)

theorem frame_reference_finite : Cert.quiescent_ReferenceIdeal_pre_finite_scores (hReferenceIdeal := Cert.ReferenceIdeal.Gen.facts) (hPre_finite_scores := finiteFacts) :=
  fun m g _ =>
    (θ_run _ _ _).mono (fun r h => ⟨fun c => (h c).2, sem_eq_zero_of_no_sems (by decide) r.2⟩) (Cert.ReferenceIdeal.Value.run (F := Ideal) m g)

end Cert.KernelIdeal.Proof
end
-- ==== Proof.AttnRead.lean ====
/-
  The attention body's stages at an element, at the extended reals.
-/
module

public import proofs.«01_k».proof.Proof.Body
public import proofs.«01_k».proof.Proof.Soft
public import Idealize.ShloMosaic.Lib.Pointwise

@[expose] public section

set_option maxRecDepth 16384

noncomputable section

namespace Cert.KernelIdeal.Proof

open Idealize.ShloMosaic
open Cert.KernelIdeal Cert.KernelIdeal.Gen

theorem expScores_at (q : S1x1x64x64.Idx → EReal) (ka : S1x512x64.Idx → EReal) (r : Fin 64) (i : Fin 512) :
    expScores (F := Ideal) q ka (ix2 r i) = Ideal.exp (∑ d : Fin 64, q (ix4 0 0 r d) * ka (ix3 0 i d)) := by
  pointwise [expScores]

theorem one_f32 : (Scalar.ofBits .f32 0x3F800000#32 : Ideal .f32) = (1 : EReal) := by
  show Ideal.ofBits .f32 0x3F800000#32 = 1
  simp [Ideal.ofBits, Ideal.ieee, -EReal.coe_mul]
  norm_num

theorem zero_f32 : (Scalar.ofBits .f32 0x00000000#32 : Ideal .f32) = (0 : EReal) := by
  show Ideal.ofBits .f32 0x00000000#32 = 0
  simp [Ideal.ofBits, Ideal.ieee]

theorem one_bf16 : (Scalar.ofBits .bf16 0x3F80#16 : Ideal .bf16) = (1 : EReal) := by
  show Ideal.ofBits .bf16 0x3F80#16 = 1
  simp [Ideal.ofBits, Ideal.ieee, -EReal.coe_mul]
  norm_num

theorem zero_bf16 : (Scalar.ofBits .bf16 0x0000#16 : Ideal .bf16) = (0 : EReal) := by
  show Ideal.ofBits .bf16 0x0000#16 = 0
  simp [Ideal.ofBits, Ideal.ieee]

theorem gate_eq (w : BitVec 32) : gate (F := Ideal) w = if 1 ≤ w.toInt then (1 : EReal) else 0 := by
  unfold gate
  rw [one_f32, zero_f32]
  have h1 : (1#32 : BitVec 32).toInt = 1 := by decide
  by_cases h : 1 ≤ w.toInt
  · have : Scalar.cmpi .sge w 1#32 = 1#1 := by simp [Scalar.cmpi, IntOp.cmpi, BitVec.sle, h1, h]
    rw [this, if_pos h]
    rfl
  · have : Scalar.cmpi .sge w 1#32 = 0#1 := by simp [Scalar.cmpi, IntOp.cmpi, BitVec.sle, h1, h]
    rw [this, if_neg h]
    rfl

theorem gated_at (e : S64x512.Idx → EReal) (c : Nat) (hc : c + 64 ≤ 512) (h : S64x512.Slices ![0, c] S64x64) (v : BitVec 32) (r d : Fin 64) :
    gated (F := Ideal) e c h v (ix2 r d) = e (ix2 r ⟨c + d.val, by omega⟩) * gate (F := Ideal) v := by
  show e _ * gate (F := Ideal) v = _
  refine congrArg (fun i => e i * gate (F := Ideal) v) (funext fun a => Fin.ext ?_)
  fin_cases a
  · exact Nat.zero_add _
  · rfl

theorem ix_col {e : S64x512.Idx → EReal} {r : Fin 64} {i : Fin 512} {n : Nat} (hn : n < 512) (h : n = i.val) : e (ix2 r ⟨n, hn⟩) = e (ix2 r i) := by
  subst h; rfl

theorem ix_col_mul {e : S64x512.Idx → EReal} {r : Fin 64} {i : Fin 512} {n : Nat} {g : EReal} (hn : n < 512) (h : n = i.val) :
    e (ix2 r ⟨n, hn⟩) * g = e (ix2 r i) * g := by
  subst h; rfl

/-- Column `i`'s gate where the last three blocks are gated. -/
def gates3 (v3 v4 v5 : BitVec 32) (i : Nat) : EReal :=
  if i < 256 then 1 else if i < 320 then gate (F := Ideal) v3 else if i < 384 then gate (F := Ideal) v4 else if i < 448 then gate (F := Ideal) v5 else 1

/-- Column `i`'s gate where all six blocks are gated. -/
def gates6 (v0 v1 v2 v3 v4 v5 : BitVec 32) (i : Nat) : EReal :=
  if i < 64 then 1 else if i < 128 then gate (F := Ideal) v0 else if i < 192 then gate (F := Ideal) v1 else if i < 256 then gate (F := Ideal) v2
  else if i < 320 then gate (F := Ideal) v3 else if i < 384 then gate (F := Ideal) v4 else if i < 448 then gate (F := Ideal) v5 else 1

theorem weights3_at (e : S64x512.Idx → EReal) (v3 v4 v5 : BitVec 32) (r : Fin 64) (i : Fin 512) :
    weights3 (F := Ideal) e v3 v4 v5 (ix3 0 r i) = e (ix2 r i) * gates3 v3 v4 v5 i.val := by
  pointwise [weights3, gated]
  unfold gates3
  have hc : i.val < 256 ∨ (256 ≤ i.val ∧ i.val < 320) ∨ (320 ≤ i.val ∧ i.val < 384) ∨ (384 ≤ i.val ∧ i.val < 448) ∨ 448 ≤ i.val := by omega
  rcases hc with hc | hc | hc | hc | hc
  · rw [dif_pos (show i.val < 256 by omega)]
    rw [if_pos (show i.val < 256 by omega)]
    exact (mul_one _).symm
  · rw [dif_neg (show ¬ i.val < 256 by omega), dif_pos (show i.val - 256 < 64 by omega)]
    rw [if_neg (show ¬ i.val < 256 by omega), if_pos (show i.val < 320 by omega)]
    refine ix_col_mul _ ?_
    omega
  · rw [dif_neg (show ¬ i.val < 256 by omega), dif_neg (show ¬ i.val - 256 < 64 by omega), dif_pos (show i.val - 256 - 64 < 64 by omega)]
    rw [if_neg (show ¬ i.val < 256 by omega), if_neg (show ¬ i.val < 320 by omega), if_pos (show i.val < 384 by omega)]
    refine ix_col_mul _ ?_
    omega
  · rw [dif_neg (show ¬ i.val < 256 by omega), dif_neg (show ¬ i.val - 256 < 64 by omega), dif_neg (show ¬ i.val - 256 - 64 < 64 by omega), dif_pos (show i.val - 256 - 64 - 64 < 64 by omega)]
    rw [if_neg (show ¬ i.val < 256 by omega), if_neg (show ¬ i.val < 320 by omega), if_neg (show ¬ i.val < 384 by omega), if_pos (show i.val < 448 by omega)]
    refine ix_col_mul _ ?_
    omega
  · rw [dif_neg (show ¬ i.val < 256 by omega), dif_neg (show ¬ i.val - 256 < 64 by omega), dif_neg (show ¬ i.val - 256 - 64 < 64 by omega), dif_neg (show ¬ i.val - 256 - 64 - 64 < 64 by omega)]
    rw [if_neg (show ¬ i.val < 256 by omega), if_neg (show ¬ i.val < 320 by omega), if_neg (show ¬ i.val < 384 by omega), if_neg (show ¬ i.val < 448 by omega)]
    refine (ix_col _ ?_).trans (mul_one _).symm
    omega

theorem weights6_at (e : S64x512.Idx → EReal) (v0 v1 v2 v3 v4 v5 : BitVec 32) (r : Fin 64) (i : Fin 512) :
    weights6 (F := Ideal) e v0 v1 v2 v3 v4 v5 (ix3 0 r i) = e (ix2 r i) * gates6 v0 v1 v2 v3 v4 v5 i.val := by
  pointwise [weights6, gated]
  unfold gates6
  have hc : i.val < 64 ∨ (64 ≤ i.val ∧ i.val < 128) ∨ (128 ≤ i.val ∧ i.val < 192) ∨ (192 ≤ i.val ∧ i.val < 256) ∨ (256 ≤ i.val ∧ i.val < 320) ∨ (320 ≤ i.val ∧ i.val < 384) ∨ (384 ≤ i.val ∧ i.val < 448) ∨ 448 ≤ i.val := by omega
  rcases hc with hc | hc | hc | hc | hc | hc | hc | hc
  · rw [dif_pos (show i.val < 64 by omega)]
    rw [if_pos (show i.val < 64 by omega)]
    exact (mul_one _).symm
  · rw [dif_neg (show ¬ i.val < 64 by omega), dif_pos (show i.val - 64 < 64 by omega)]
    rw [if_neg (show ¬ i.val < 64 by omega), if_pos (show i.val < 128 by omega)]
    refine ix_col_mul _ ?_
    omega
  · rw [dif_neg (show ¬ i.val < 64 by omega), dif_neg (show ¬ i.val - 64 < 64 by omega), dif_pos (show i.val - 64 - 64 < 64 by omega)]
    rw [if_neg (show ¬ i.val < 64 by omega), if_neg (show ¬ i.val < 128 by omega), if_pos (show i.val < 192 by omega)]
    refine ix_col_mul _ ?_
    omega
  · rw [dif_neg (show ¬ i.val < 64 by omega), dif_neg (show ¬ i.val - 64 < 64 by omega), dif_neg (show ¬ i.val - 64 - 64 < 64 by omega), dif_pos (show i.val - 64 - 64 - 64 < 64 by omega)]
    rw [if_neg (show ¬ i.val < 64 by omega), if_neg (show ¬ i.val < 128 by omega), if_neg (show ¬ i.val < 192 by omega), if_pos (show i.val < 256 by omega)]
    refine ix_col_mul _ ?_
    omega
  · rw [dif_neg (show ¬ i.val < 64 by omega), dif_neg (show ¬ i.val - 64 < 64 by omega), dif_neg (show ¬ i.val - 64 - 64 < 64 by omega), dif_neg (show ¬ i.val - 64 - 64 - 64 < 64 by omega), dif_pos (show i.val - 64 - 64 - 64 - 64 < 64 by omega)]
    rw [if_neg (show ¬ i.val < 64 by omega), if_neg (show ¬ i.val < 128 by omega), if_neg (show ¬ i.val < 192 by omega), if_neg (show ¬ i.val < 256 by omega), if_pos (show i.val < 320 by omega)]
    refine ix_col_mul _ ?_
    omega
  · rw [dif_neg (show ¬ i.val < 64 by omega), dif_neg (show ¬ i.val - 64 < 64 by omega), dif_neg (show ¬ i.val - 64 - 64 < 64 by omega), dif_neg (show ¬ i.val - 64 - 64 - 64 < 64 by omega), dif_neg (show ¬ i.val - 64 - 64 - 64 - 64 < 64 by omega), dif_pos (show i.val - 64 - 64 - 64 - 64 - 64 < 64 by omega)]
    rw [if_neg (show ¬ i.val < 64 by omega), if_neg (show ¬ i.val < 128 by omega), if_neg (show ¬ i.val < 192 by omega), if_neg (show ¬ i.val < 256 by omega), if_neg (show ¬ i.val < 320 by omega), if_pos (show i.val < 384 by omega)]
    refine ix_col_mul _ ?_
    omega
  · rw [dif_neg (show ¬ i.val < 64 by omega), dif_neg (show ¬ i.val - 64 < 64 by omega), dif_neg (show ¬ i.val - 64 - 64 < 64 by omega), dif_neg (show ¬ i.val - 64 - 64 - 64 < 64 by omega), dif_neg (show ¬ i.val - 64 - 64 - 64 - 64 < 64 by omega), dif_neg (show ¬ i.val - 64 - 64 - 64 - 64 - 64 < 64 by omega), dif_pos (show i.val - 64 - 64 - 64 - 64 - 64 - 64 < 64 by omega)]
    rw [if_neg (show ¬ i.val < 64 by omega), if_neg (show ¬ i.val < 128 by omega), if_neg (show ¬ i.val < 192 by omega), if_neg (show ¬ i.val < 256 by omega), if_neg (show ¬ i.val < 320 by omega), if_neg (show ¬ i.val < 384 by omega), if_pos (show i.val < 448 by omega)]
    refine ix_col_mul _ ?_
    omega
  · rw [dif_neg (show ¬ i.val < 64 by omega), dif_neg (show ¬ i.val - 64 < 64 by omega), dif_neg (show ¬ i.val - 64 - 64 < 64 by omega), dif_neg (show ¬ i.val - 64 - 64 - 64 < 64 by omega), dif_neg (show ¬ i.val - 64 - 64 - 64 - 64 < 64 by omega), dif_neg (show ¬ i.val - 64 - 64 - 64 - 64 - 64 < 64 by omega), dif_neg (show ¬ i.val - 64 - 64 - 64 - 64 - 64 - 64 < 64 by omega)]
    rw [if_neg (show ¬ i.val < 64 by omega), if_neg (show ¬ i.val < 128 by omega), if_neg (show ¬ i.val < 192 by omega), if_neg (show ¬ i.val < 256 by omega), if_neg (show ¬ i.val < 320 by omega), if_neg (show ¬ i.val < 384 by omega), if_neg (show ¬ i.val < 448 by omega)]
    refine (ix_col _ ?_).trans (mul_one _).symm
    omega

theorem average_at (p : S1x64x512.Idx → EReal) (va : S1x512x128.Idx → EReal) (r d : Fin 64) :
    average (F := Ideal) p va (ix2 r d) = Ideal.div (∑ i : Fin 512, p (ix3 0 r i) * va (ix3 0 i ⟨d.val, by omega⟩))
      (∑ i : Fin 512, p (ix3 0 r i) * va (ix3 0 i ⟨64 + d.val, by omega⟩)) := by
  pointwise [average]

/-! ## The first block, against every key -/

/-- Its exponentials. -/
def exps0 (q : FVec Ideal S1x1x64x64 .bf16) (k : FVec Ideal S1x128x64x64 .bf16) : FVec Ideal S64x8192 .f32 :=
  exp (matmul (φ₁ := .bf16) (φ₂ := .bf16) dot_S64x64_S8192x64_S64x8192_1_1_0_0_n_n none
    (shapeCast S64x64 q shapeCasts_S1x1x64x64_S64x64)
    (shapeCast S8192x64 (shapeCast S128x64x64 k shapeCasts_S1x128x64x64_S128x64x64) shapeCasts_S128x64x64_S8192x64)
    (constant S64x8192 .f32 0x00000000#32))

/-- Its average from them. -/
def averageBy (e : FVec Ideal S64x8192 .f32) (v : FVec Ideal S1x128x64x64 .bf16) : FVec Ideal S64x64 .bf16 :=
  truncf .bf16 (divf
    (matmul (φ₁ := .bf16) (φ₂ := .bf16) dot_S64x8192_S8192x64_S64x64_1_0_0_1_n_n none (truncf .bf16 e bitsLt_bf16_f32)
      (shapeCast S8192x64 (shapeCast S128x64x64 v shapeCasts_S1x128x64x64_S128x64x64) shapeCasts_S128x64x64_S8192x64)
      (constant S64x64 .f32 0x00000000#32))
    (broadcastTo S64x64 (shapeCast S64x1 (multiReduction .add [1] S64 e 0x00000000#32 reduces_S64x8192_S64 (.inl rfl) rfl)
      shapeCasts_S64_S64x1) broadcasts_S64x1_S64x64)) bitsLt_bf16_f32

theorem average0_eq (q : S1x1x64x64.Idx → EReal) (k v : S1x128x64x64.Idx → EReal) :
    average0 (F := Ideal) q k v = averageBy (exps0 q k) v := rfl

theorem exps0_at (q : S1x1x64x64.Idx → EReal) (k : S1x128x64x64.Idx → EReal) (r : Fin 64) (t : Fin 8192) :
    exps0 q k (ix2 r t) = Ideal.exp (∑ d : Fin 64, q (ix4 0 0 r d) * k (ix4 0 ⟨t.val / 64, by omega⟩ ⟨t.val % 64, by omega⟩ d)) := by
  pointwise [exps0]

theorem averageBy_at (e : S64x8192.Idx → EReal) (v : S1x128x64x64.Idx → EReal) (r d : Fin 64) :
    averageBy e v (ix2 r d) = Ideal.div (∑ t : Fin 8192, e (ix2 r t) * v (ix4 0 ⟨t.val / 64, by omega⟩ ⟨t.val % 64, by omega⟩ d)) (∑ t : Fin 8192, e (ix2 r t)) := by
  pointwise [averageBy]

end Cert.KernelIdeal.Proof
end
-- ==== Proof.Arrays.lean ====
/-
  What the three kernels leave in their output arrays, element by element, at the extended reals.
-/
module

public import proofs.«01_k».proof.Proof.Run
public import Idealize.ShloMosaic.Lib.Pointwise
public import Idealize.ShloMosaic.Lib.Pipeline.ValueKit
public import Idealize.ShloMosaic.Lib.Pipeline.Covers

@[expose] public section

set_option maxRecDepth 16384

noncomputable section

namespace Cert.KernelIdeal.Proof

open Idealize.ShloMosaic Idealize.ShloMosaic.Pipeline
open Cert.KernelIdeal Cert.KernelIdeal.Gen

theorem qkvMat_at (X : S2048x1024.Idx → EReal) (W : S1024x512.Idx → EReal) (s : Fin 2048) (e : Fin 512) :
    qkvMat (F := Ideal) X W (ix2 s e) = ∑ k : Fin 1024, X (ix2 s k) * W (ix2 k e) := by
  pointwise [qkvMat]

theorem projected_at (A : S16x1024x64.Idx → EReal) (w : S16x64x1024.Idx → EReal) (s e : Fin 1024) :
    projected (F := Ideal) A w (ix2 s e) = ∑ k : Fin 1024, headsFlat (F := Ideal) A (ix2 s k) * weightsFlat (F := Ideal) w (ix2 k e) := by
  pointwise [projected]

variable (V : Dev nD → Valuation τ sig (Elt Ideal)) (c : Dev nD)

/-- The heads' queries, keys and values: rows of the input against columns of the stacked weights. -/
def qkvAll (X : S8192x1024.Idx → EReal) (W : S1024x3072.Idx → EReal) : S48x8192x64.Idx → EReal := fun y =>
  ∑ k : Fin 1024, X (ix2 (y 1) k) * W (ix2 k ⟨64 * (y 0).val + (y 2).val, by
    have : (y 0).val < 48 := (y 0).isLt
    have : (y 2).val < 64 := (y 2).isLt
    omega⟩)

theorem index0_0 : ∀ t : Fin cfg0.N, win0_0.index t = ![(grid0.coords t 0).val, 0] := (by decide +kernel : ∀ t : Fin grid0.N, _)
theorem index0_1 : ∀ t : Fin cfg0.N, win0_1.index t = ![0, (grid0.coords t 1).val] := (by decide +kernel : ∀ t : Fin grid0.N, _)
theorem index0_2 : ∀ t : Fin cfg0.N, win0_2.index t = ![(grid0.coords t 1).val, (grid0.coords t 0).val, 0] := (by decide +kernel : ∀ t : Fin grid0.N, _)

/-- A row of the input's block is a row of the input. -/
theorem rows0_at (t : Fin cfg0.N) (s : Fin 2048) (k : Fin 1024) :
    rows0 V c t (ix2 s k) = V c (Proc.devRef .tc main_v0) (ix2 ⟨(grid0.coords t 0).val * 2048 + s.val, by
      have : (grid0.coords t 0).val < 4 := (grid0.coords t 0).isLt
      omega⟩ k) := by
  refine congrArg (V c (Proc.devRef .tc main_v0)) (funext fun a => Fin.ext ?_)
  fin_cases a <;> blk_simp [index0_0]
  all_goals rfl

theorem cols0_at (t : Fin cfg0.N) (k : Fin 1024) (e : Fin 512) :
    cols0 V c t (ix2 k e) = V c (Proc.devRef .tc main_v4) (ix2 k ⟨(grid0.coords t 1).val * 512 + e.val, by
      have : (grid0.coords t 1).val < 6 := (grid0.coords t 1).isLt
      omega⟩) := by
  refine congrArg (V c (Proc.devRef .tc main_v4)) (funext fun a => Fin.ext ?_)
  fin_cases a <;> blk_simp [index0_1]
  all_goals rfl

theorem arr0 : (dat0 V c).arrAt 2 cfg0.N = qkvAll (V c (Proc.devRef .tc main_v0)) (V c (Proc.devRef .tc main_v4)) := by
  refine (dat0 V c).arrAt_eq_of_covers 2 _ (by decide +kernel) fun t hf y => ?_
  blk_simp [index0_2]
  show qkvOf (F := Ideal) (rows0 V c t) (cols0 V c t) y = _
  refine (qkvMat_at _ _ _ _).trans ?_
  unfold qkvAll
  refine Finset.sum_congr rfl fun k _ => ?_
  refine (congrArg₂ (· * ·) (rows0_at V c t _ _) (cols0_at V c t _ _)).trans ?_
  refine congrArg₂ (· * ·) (congrArg (V c (Proc.devRef .tc main_v0)) (congrArg (fun i => ix2 i k) (Fin.ext ?_)))
    (congrArg (V c (Proc.devRef .tc main_v4)) (congrArg (fun i => ix2 k i) (Fin.ext ?_)))
  · blk_simp [index0_2]
  · blk_simp [index0_2]
    show (grid0.coords t 1).val * 512 + (64 * (y 0).val + (y 2).val) = 64 * ((grid0.coords t 1).val * 8 + (y 0).val) + (y 2).val
    omega

/-! ## The output projection -/

theorem index2_0 : ∀ t : Fin cfg2.N, win2_0.index t = ![0, (grid2.coords t 0).val, 0] := (by decide +kernel : ∀ t : Fin grid2.N, _)
theorem index2_1 : ∀ t : Fin cfg2.N, win2_1.index t = ![0, 0, 0] := (by decide +kernel : ∀ t : Fin grid2.N, _)
theorem index2_2 : ∀ t : Fin cfg2.N, win2_2.index t = ![(grid2.coords t 0).val, 0] := (by decide +kernel : ∀ t : Fin grid2.N, _)

/-- The projected rows: every head's row against the whole weight. -/
def projAll (A : S16x8192x64.Idx → EReal) (w : S16x64x1024.Idx → EReal) : S8192x1024.Idx → EReal := fun y =>
  ∑ k : Fin 1024, A (ix3 ⟨k.val / 64, by omega⟩ (y 0) ⟨k.val % 64, by omega⟩) * w (ix3 ⟨k.val / 64, by omega⟩ ⟨k.val % 64, by omega⟩ (y 1))

theorem rows2_at (t : Fin cfg2.N) (h : Fin 16) (s : Fin 1024) (d : Fin 64) :
    rows2 V c t (ix3 h s d) = V c (Proc.devRef .tc main_v8) (ix3 h ⟨(grid2.coords t 0).val * 1024 + s.val, by
      have : (grid2.coords t 0).val < 8 := (grid2.coords t 0).isLt
      omega⟩ d) := by
  refine congrArg (V c (Proc.devRef .tc main_v8)) (funext fun a => Fin.ext ?_)
  fin_cases a <;> blk_simp [index2_0]
  all_goals rfl

theorem weight2_at (t : Fin cfg2.N) (h : Fin 16) (d : Fin 64) (e : Fin 1024) :
    weight2 V c t (ix3 h d e) = V c (Proc.devRef .tc main_v10) (ix3 h d e) := by
  refine congrArg (V c (Proc.devRef .tc main_v10)) (funext fun a => Fin.ext ?_)
  fin_cases a <;> blk_simp [index2_1]

theorem arr2 : (dat2 V c).arrAt 2 cfg2.N = projAll (V c (Proc.devRef .tc main_v8)) (V c (Proc.devRef .tc main_v10)) := by
  refine (dat2 V c).arrAt_eq_of_covers 2 _ (by decide +kernel) fun t hf y => ?_
  blk_simp [index2_2]
  show projected (F := Ideal) (rows2 V c t) (weight2 V c t) y = _
  refine (congrArg (projected (F := Ideal) (rows2 V c t) (weight2 V c t)) (show y = (ix2 (y 0) (y 1) : S1024x1024.Idx) from funext fun a => by fin_cases a <;> rfl)).trans ?_
  refine (projected_at _ _ _ _).trans ?_
  unfold projAll
  refine Finset.sum_congr rfl fun k _ => ?_
  unfold headsFlat weightsFlat
  refine (congrArg₂ (· * ·) (rows2_at V c t _ _ _) (weight2_at V c t _ _ _)).trans ?_
  refine congrArg₂ (· * ·) (congrArg (V c (Proc.devRef .tc main_v8)) (congrArg (fun i => ix3 _ i _) (Fin.ext ?_)))
    (congrArg (V c (Proc.devRef .tc main_v10)) (congrArg (fun i => ix3 _ _ i) (Fin.ext ?_)))
  · blk_simp [index2_2]
  · blk_simp [index2_2]

/-! ## Attention -/

variable (a : (pcfg1 (F := Ideal)).Adm)

/-- One head of the stacked heads. -/
def headOf (A : S48x128x64x64.Idx → EReal) (h : Fin 48) : S1x128x64x64.Idx → EReal := fun i => A (ix4 h (i 1) (i 2) (i 3))

/-- What head `h` of the attention reads. -/
def inputsOf (T : S128x6.Idx → BitVec 32) (A : S48x128x64x64.Idx → EReal) (h : Fin 16) : Inputs Ideal :=
  ⟨T, headOf A ⟨h.val, by omega⟩, headOf A ⟨h.val + 16, by omega⟩, headOf A ⟨h.val + 32, by omega⟩⟩

/-- The heads' outputs from the heads' queries, keys and values. -/
def mixAll (T : S128x6.Idx → BitVec 32) (A : S48x128x64x64.Idx → EReal) : S16x128x64x64.Idx → EReal := fun y =>
  final (inputsOf T A (y 0)) (ix4 0 (y 1) (y 2) (y 3))

theorem mixAll_of (T : S128x6.Idx → BitVec 32) (A : S48x128x64x64.Idx → EReal) (h : Fin 16) (z : S16x128x64x64.Idx) (y : S1x128x64x64.Idx)
    (e0 : (z 0).val = h.val) (e1 : (z 1).val = (y 1).val) (e2 : (z 2).val = (y 2).val) (e3 : (z 3).val = (y 3).val) :
    final (inputsOf T A h) y = mixAll T A z := by
  have d0 : z 0 = h := Fin.ext e0
  have d1 : z 1 = y 1 := Fin.ext e1
  have d2 : z 2 = y 2 := Fin.ext e2
  have d3 : z 3 = y 3 := Fin.ext e3
  unfold mixAll
  rw [d0, d1, d2, d3]
  rfl

theorem index1_0 : ∀ t : Fin grid1.N, cc1_transform_0 (grid1.coords t) = ![(grid1.coords t 0).val, 0, 0, 0] := by decide +kernel
theorem index1_1 : ∀ t : Fin grid1.N, cc1_transform_1 (grid1.coords t) = ![(grid1.coords t 0).val + 16, 0, 0, 0] := by decide +kernel
theorem index1_2 : ∀ t : Fin grid1.N, cc1_transform_2 (grid1.coords t) = ![(grid1.coords t 0).val + 32, 0, 0, 0] := by decide +kernel
theorem index1_3 : ∀ t : Fin grid1.N, cc1_transform_3 (grid1.coords t) = ![(grid1.coords t 0).val, 0, 0, 0] := by decide +kernel

theorem point1 : ∀ h : Fin 16, ∃ t : Fin grid1.N, (grid1.coords t 0).val = h.val := by decide +kernel

/-- Every head's block is written at some point. -/
theorem covers1 : ((cfg1 a).win 3).Covers :=
  ((cfg1 a).win 3).covers_of_index_surj rfl (show ∀ k : Fin 4, 0 < S1x128x64x64.size k by decide) fun β => by
    obtain ⟨t, ht⟩ := point1 ⟨(β (0 : Fin 4)).val, lt_of_lt_of_eq (β (0 : Fin 4)).isLt (show ((cfg1 a).win 3).nblk (0 : Fin 4) = 16 by show (16 + 1 - 1) / 1 = 16; decide)⟩
    refine ⟨t, fun k => ?_⟩
    show cc1_transform_3 (grid1.coords t) k = (β k).val
    rw [index1_3]
    revert k
    show ∀ k : Fin 4, ![(grid1.coords t 0).val, 0, 0, 0] k = (β k).val
    have h1 : (β (1 : Fin 4)).val < 1 := lt_of_lt_of_eq (β (1 : Fin 4)).isLt (show ((cfg1 a).win 3).nblk (1 : Fin 4) = 1 by show (128 + 128 - 1) / 128 = 1; decide)
    have h2 : (β (2 : Fin 4)).val < 1 := lt_of_lt_of_eq (β (2 : Fin 4)).isLt (show ((cfg1 a).win 3).nblk (2 : Fin 4) = 1 by show (64 + 64 - 1) / 64 = 1; decide)
    have h3 : (β (3 : Fin 4)).val < 1 := lt_of_lt_of_eq (β (3 : Fin 4)).isLt (show ((cfg1 a).win 3).nblk (3 : Fin 4) = 1 by show (64 + 64 - 1) / 64 = 1; decide)
    intro k
    fin_cases k
    · exact ht
    · show 0 = (β (1 : Fin 4)).val
      omega
    · show 0 = (β (2 : Fin 4)).val
      omega
    · show 0 = (β (3 : Fin 4)).val
      omega

theorem head1_0 (t : Fin grid1.N) : head1 V a c t 0
    = headOf (V c (Proc.devRef .tc main_v6)) ⟨(grid1.coords t 0).val, by have : (grid1.coords t 0).val < 16 := (grid1.coords t 0).isLt; omega⟩ := by
  funext i
  refine congrArg (V c (Proc.devRef .tc main_v6)) (funext fun k => Fin.ext ?_)
  have h0 : (i 0).val < 1 := (i 0).isLt
  have e := congrFun (index1_0 t)
  revert k
  show ∀ k : Fin 4, cc1_transform_0 (grid1.coords t) k * S1x128x64x64.size k + 1 * (i k).val = _
  intro k
  rw [e k]
  fin_cases k
  · show ((grid1.coords t 0).val) * 1 + 1 * (i 0).val = (grid1.coords t 0).val
    omega
  · show 0 * 128 + 1 * (i 1).val = (i 1).val
    omega
  · show 0 * 64 + 1 * (i 2).val = (i 2).val
    omega
  · show 0 * 64 + 1 * (i 3).val = (i 3).val
    omega

theorem head1_1 (t : Fin grid1.N) : head1 V a c t 1
    = headOf (V c (Proc.devRef .tc main_v6)) ⟨(grid1.coords t 0).val + 16, by have : (grid1.coords t 0).val < 16 := (grid1.coords t 0).isLt; omega⟩ := by
  funext i
  refine congrArg (V c (Proc.devRef .tc main_v6)) (funext fun k => Fin.ext ?_)
  have h0 : (i 0).val < 1 := (i 0).isLt
  have e := congrFun (index1_1 t)
  revert k
  show ∀ k : Fin 4, cc1_transform_1 (grid1.coords t) k * S1x128x64x64.size k + 1 * (i k).val = _
  intro k
  rw [e k]
  fin_cases k
  · show ((grid1.coords t 0).val + 16) * 1 + 1 * (i 0).val = (grid1.coords t 0).val + 16
    omega
  · show 0 * 128 + 1 * (i 1).val = (i 1).val
    omega
  · show 0 * 64 + 1 * (i 2).val = (i 2).val
    omega
  · show 0 * 64 + 1 * (i 3).val = (i 3).val
    omega

theorem head1_2 (t : Fin grid1.N) : head1 V a c t 2
    = headOf (V c (Proc.devRef .tc main_v6)) ⟨(grid1.coords t 0).val + 32, by have : (grid1.coords t 0).val < 16 := (grid1.coords t 0).isLt; omega⟩ := by
  funext i
  refine congrArg (V c (Proc.devRef .tc main_v6)) (funext fun k => Fin.ext ?_)
  have h0 : (i 0).val < 1 := (i 0).isLt
  have e := congrFun (index1_2 t)
  revert k
  show ∀ k : Fin 4, cc1_transform_2 (grid1.coords t) k * S1x128x64x64.size k + 1 * (i k).val = _
  intro k
  rw [e k]
  fin_cases k
  · show ((grid1.coords t 0).val + 32) * 1 + 1 * (i 0).val = (grid1.coords t 0).val + 32
    omega
  · show 0 * 128 + 1 * (i 1).val = (i 1).val
    omega
  · show 0 * 64 + 1 * (i 2).val = (i 2).val
    omega
  · show 0 * 64 + 1 * (i 3).val = (i 3).val
    omega

/-- What the body reads at a point is what its head reads. -/
theorem inputs1_eq (t : Fin grid1.N) : inputs1 V a c t = inputsOf (table1 a) (V c (Proc.devRef .tc main_v6)) (grid1.coords t 0) := by
  unfold inputs1
  rw [head1_0, head1_1, head1_2]
  rfl

theorem arr1 : (dat1 V a c).arrAt 3 (cfg1 a).N = mixAll (table1 a) (V c (Proc.devRef .tc main_v6)) := by
  refine (dat1 V a c).arrAt_eq_of_covers 3 _ (covers1 a) fun t hf y => ?_
  blk_simp
  show final (inputs1 V a c t) y = _
  rw [inputs1_eq]
  have e := congrFun (index1_3 t)
  have h0 : (y (0 : Fin 4)).val < 1 := (y (0 : Fin 4)).isLt
  refine mixAll_of _ _ _ _ y ?_ ?_ ?_ ?_
  · show cc1_transform_3 (grid1.coords t) 0 * 1 + 1 * (y (0 : Fin 4)).val = (grid1.coords t 0).val
    rw [e 0]
    show (grid1.coords t 0).val * 1 + 1 * (y (0 : Fin 4)).val = (grid1.coords t 0).val
    omega
  · show cc1_transform_3 (grid1.coords t) 1 * 128 + 1 * (y (1 : Fin 4)).val = (y (1 : Fin 4)).val
    rw [e 1]
    show 0 * 128 + 1 * (y (1 : Fin 4)).val = (y (1 : Fin 4)).val
    omega
  · show cc1_transform_3 (grid1.coords t) 2 * 64 + 1 * (y (2 : Fin 4)).val = (y (2 : Fin 4)).val
    rw [e 2]
    show 0 * 64 + 1 * (y (2 : Fin 4)).val = (y (2 : Fin 4)).val
    omega
  · show cc1_transform_3 (grid1.coords t) 3 * 64 + 1 * (y (3 : Fin 4)).val = (y (3 : Fin 4)).val
    rw [e 3]
    show 0 * 64 + 1 * (y (3 : Fin 4)).val = (y (3 : Fin 4)).val
    omega

end Cert.KernelIdeal.Proof
end
-- ==== Proof.Attn.lean ====
/-
  The attention kernel's output for a head, from arrays that hold the projections: what each query block takes.
-/
module

public import proofs.«01_k».proof.Proof.AttnRead
public import proofs.«01_k».proof.Proof.Arrays
public import proofs.«01_k».proof.Proof.RefForm
public import proofs.«01_k».proof.Proof.Words

@[expose] public section

set_option maxRecDepth 16384

noncomputable section

namespace Cert.KernelIdeal.Proof

open Idealize.ShloMosaic
open Cert.KernelIdeal Cert.KernelIdeal.Gen
open Cert.KernelIdeal.Proof.Ref (lin col tok score key live place mix)

variable {x : S1x8192x1024.Idx → EReal} {Wq Wk Wv Wo : S1024x1024.Idx → EReal} {T : S128x6.Idx → BitVec 32}
variable {A : S48x128x64x64.Idx → EReal}

/-- An array of 48 heads holds the scaled queries, the keys and the values. -/
structure Holds (x : S1x8192x1024.Idx → EReal) (Wq Wk Wv : S1024x1024.Idx → EReal) (A : S48x128x64x64.Idx → EReal) : Prop where
  q : ∀ (h : Fin 16) (n : Fin 128) (r d : Fin 64), A (ix4 ⟨h.val, by omega⟩ n r d) = ∑ k, x (ix3 0 (tok n r) k) * (Wq (ix2 k (col h d)) * ((1 / 8 : ℝ) : EReal))
  k : ∀ (h : Fin 16) (n : Fin 128) (r d : Fin 64), A (ix4 ⟨h.val + 16, by omega⟩ n r d) = lin x Wk (tok n r) (col h d)
  v : ∀ (h : Fin 16) (n : Fin 128) (r d : Fin 64), A (ix4 ⟨h.val + 32, by omega⟩ n r d) = lin x Wv (tok n r) (col h d)

/-- Scaling the queries' weights scales the scores. -/
theorem scaled_score (h : Fin 16) (s t : Fin 8192) :
    ∑ d : Fin 64, (∑ k, x (ix3 0 s k) * (Wq (ix2 k (col h d)) * ((1 / 8 : ℝ) : EReal))) * lin x Wk t (col h d) = score x Wq Wk h s t := by
  unfold score
  rw [mul_comm, mul_sum_real _ _ (by norm_num : (0 : ℝ) ≤ 1 / 8)]
  refine Finset.sum_congr rfl fun d _ => ?_
  rw [← mul_assoc]
  congr 1
  unfold lin
  rw [mul_sum_real _ _ (by norm_num : (0 : ℝ) ≤ 1 / 8)]
  refine Finset.sum_congr rfl fun k _ => ?_
  rw [← mul_assoc, mul_comm]

/-! ## The slots -/

theorem off3_named (w : BitVec 32) : k1_off3 w 1 = Ref.named w := by
  show (Scalar.indexCast (Scalar.maxsi w 0#32)).toNat = w.toInt.toNat
  have h0 : (0#32 : BitVec 32).toInt = 0 := rfl
  have hm : (Scalar.maxsi w 0#32 : BitVec 32).toInt = (w.toInt.toNat : Int) := by
    unfold Scalar.maxsi IntOp.maxsi
    simp only [BitVec.slt, BitVec.sle, decide_eq_true_eq]
    split <;> omega
  show (Scalar.maxsi w 0#32 : BitVec 32).toNat = w.toInt.toNat
  have h1 := BitVec.toInt_eq_toNat_cond (Scalar.maxsi w 0#32 : BitVec 32)
  have h2 := (Scalar.maxsi w 0#32 : BitVec 32).isLt
  split at h1 <;> omega

theorem named_lt (hT : Named T) (n : Fin 128) (j : Fin 6) : Ref.named (T (ix2 n j)) < 128 := by
  have := hT.lt n j
  unfold Ref.named
  omega

theorem window_toInt (hT : Named T) (n : Fin 128) (j : Fin 6) (h1 : 2 ≤ n.val) (h2 : n.val ≤ 125) (h3 : j.val < 3) :
    (T (ix2 n j)).toInt = ((n.val - 1 + j.val : Nat) : Int) := by
  rw [hT.window n j h1 h2 h3, BitVec.toInt_eq_toNat_of_lt, BitVec.toNat_ofNat, Nat.mod_eq_of_lt]
  · omega
  · rw [BitVec.toNat_ofNat, Nat.mod_eq_of_lt] <;> omega

theorem word_inputs (h : Fin 16) (n : Fin 128) (j : Fin 6) : word (inputsOf T A h) n.val j.val = T (ix2 n j) := by
  show T (ix2 (Fin.ofNat 128 n.val) (Fin.ofNat 6 j.val)) = _
  rw [ofNat_eq n.isLt, ofNat_eq j.isLt]

theorem src_named (hT : Named T) (h : Fin 16) (n : Fin 128) (j : Fin 6) : src (inputsOf T A h) n.val j.val = Ref.named (T (ix2 n j)) := by
  unfold src
  split_ifs with hc
  · unfold Ref.named
    rw [window_toInt hT n j hc.1 hc.2.1 hc.2.2]
    rfl
  · rw [word_inputs, off3_named]

theorem row_key (hT : Named T) (h : Fin 16) (g : Fin 48) (L : Fin 8192 → Fin 64 → EReal) (hL : ∀ n r d, A (ix4 g n r d) = L (tok n r) d)
    (n : Fin 128) (i : Fin 448) (d : Fin 64) : rowT (inputsOf T A h) (headOf A g) n.val i.val d.val = L (key T n i) d := by
  unfold rowT key
  by_cases hi : i.val < 64
  · rw [if_pos hi, if_pos hi]
    show A (ix4 g (Fin.ofNat 128 0) (Fin.ofNat 64 i.val) (Fin.ofNat 64 d.val)) = _
    rw [hL, ofNat_eq hi, ofNat_eq d.isLt]
    refine congrArg (fun t => L t d) (Fin.ext ?_)
    show 0 * 64 + i.val = i.val
    omega
  · rw [if_neg hi, if_pos i.isLt, if_neg hi]
    have hj : i.val / 64 - 1 = (place i).val := by
      simp only [place, Fin.ofNat]; omega
    rw [hj, src_named hT]
    show A (ix4 g (Fin.ofNat 128 (Ref.named (T (ix2 n (place i))))) (Fin.ofNat 64 i.val) (Fin.ofNat 64 d.val)) = _
    rw [hL, ofNat_eq d.isLt]
    rfl

/-! ## The weights -/

theorem gates6_live (n : Fin 128) (i : Fin 448) :
    gates6 (T (ix2 n 0)) (T (ix2 n 1)) (T (ix2 n 2)) (T (ix2 n 3)) (T (ix2 n 4)) (T (ix2 n 5)) i.val = if live T n i then 1 else 0 := by
  have key : ∀ j : Fin 6, place i = j → 64 ≤ i.val → gate (F := Ideal) (T (ix2 n j)) = if live T n i then 1 else 0 := by
    intro j hj hi
    rw [gate_eq]
    refine if_congr ?_ rfl rfl
    unfold live
    rw [hj]
    constructor
    · exact Or.inr
    · rintro (h | h)
      · omega
      · exact h
  have pl : ∀ j : Fin 6, i.val / 64 = j.val + 1 → place i = j := fun j hj => Fin.ext (by
    simp only [place, Fin.ofNat]; omega)
  unfold gates6
  have hc : i.val < 64 ∨ (64 ≤ i.val ∧ i.val < 128) ∨ (128 ≤ i.val ∧ i.val < 192) ∨ (192 ≤ i.val ∧ i.val < 256) ∨ (256 ≤ i.val ∧ i.val < 320) ∨ (320 ≤ i.val ∧ i.val < 384) ∨ (384 ≤ i.val ∧ i.val < 448) := by omega
  rcases hc with h | h | h | h | h | h | h
  · rw [if_pos h, if_pos (show live T n i from Or.inl h)]
  · rw [if_neg (show ¬ i.val < 64 by omega), if_pos h.2]
    exact key 0 (pl 0 (by show i.val / 64 = 0 + 1; omega)) (by omega)
  · rw [if_neg (show ¬ i.val < 64 by omega), if_neg (show ¬ i.val < 128 by omega), if_pos h.2]
    exact key 1 (pl 1 (by show i.val / 64 = 1 + 1; omega)) (by omega)
  · rw [if_neg (show ¬ i.val < 64 by omega), if_neg (show ¬ i.val < 128 by omega), if_neg (show ¬ i.val < 192 by omega), if_pos h.2]
    exact key 2 (pl 2 (by show i.val / 64 = 2 + 1; omega)) (by omega)
  · rw [if_neg (show ¬ i.val < 64 by omega), if_neg (show ¬ i.val < 128 by omega), if_neg (show ¬ i.val < 192 by omega),
      if_neg (show ¬ i.val < 256 by omega), if_pos h.2]
    exact key 3 (pl 3 (by show i.val / 64 = 3 + 1; omega)) (by omega)
  · rw [if_neg (show ¬ i.val < 64 by omega), if_neg (show ¬ i.val < 128 by omega), if_neg (show ¬ i.val < 192 by omega),
      if_neg (show ¬ i.val < 256 by omega), if_neg (show ¬ i.val < 320 by omega), if_pos h.2]
    exact key 4 (pl 4 (by show i.val / 64 = 4 + 1; omega)) (by omega)
  · rw [if_neg (show ¬ i.val < 64 by omega), if_neg (show ¬ i.val < 128 by omega), if_neg (show ¬ i.val < 192 by omega),
      if_neg (show ¬ i.val < 256 by omega), if_neg (show ¬ i.val < 320 by omega), if_neg (show ¬ i.val < 384 by omega), if_pos h.2]
    exact key 5 (pl 5 (by show i.val / 64 = 5 + 1; omega)) (by omega)

/-- The window's gates are open, so gating the last three is gating all six. -/
theorem gates3_live (hT : Named T) (n : Fin 128) (h1 : 2 ≤ n.val) (h2 : n.val ≤ 125) (i : Fin 448) :
    gates3 (T (ix2 n 3)) (T (ix2 n 4)) (T (ix2 n 5)) i.val = if live T n i then 1 else 0 := by
  rw [← gates6_live]
  have one : ∀ j : Fin 6, j.val < 3 → gate (F := Ideal) (T (ix2 n j)) = 1 := by
    intro j hj
    rw [gate_eq, if_pos]
    rw [window_toInt hT n j h1 h2 hj]
    omega
  unfold gates3 gates6
  rw [one 0 (by decide), one 1 (by decide), one 2 (by decide)]
  split_ifs <;> first | rfl | omega

theorem weights_live (hT : Named T) (h : Fin 16) (n : Fin 128) (r : Fin 64) (i : Fin 448) :
    weightsOf (inputsOf T A h) n.val (ix3 0 r ⟨i.val, by omega⟩)
      = expScores (F := Ideal) (blk (inputsOf T A h).q n.val) (slotK (inputsOf T A h) n.val) (ix2 r ⟨i.val, by omega⟩) * if live T n i then 1 else 0 := by
  unfold weightsOf
  have w0 := word_inputs (T := T) (A := A) h n 0
  have w1 := word_inputs (T := T) (A := A) h n 1
  have w2 := word_inputs (T := T) (A := A) h n 2
  have w3 := word_inputs (T := T) (A := A) h n 3
  have w4 := word_inputs (T := T) (A := A) h n 4
  have w5 := word_inputs (T := T) (A := A) h n 5
  change word (inputsOf T A h) n.val 0 = _ at w0
  change word (inputsOf T A h) n.val 1 = _ at w1
  change word (inputsOf T A h) n.val 2 = _ at w2
  change word (inputsOf T A h) n.val 3 = _ at w3
  change word (inputsOf T A h) n.val 4 = _ at w4
  change word (inputsOf T A h) n.val 5 = _ at w5
  by_cases hc : 2 ≤ n.val ∧ n.val ≤ 125
  · rw [if_pos hc, w3, w4, w5]
    refine (weights3_at _ _ _ _ r _).trans ?_
    rw [gates3_live hT n hc.1 hc.2 i]
  · rw [if_neg hc, w0, w1, w2, w3, w4, w5]
    refine (weights6_at _ _ _ _ _ _ _ r _).trans ?_
    rw [gates6_live n i]

theorem exp_live (p : Prop) [Decidable p] (s : EReal) : (Ideal.exp s * if p then 1 else 0) = Ideal.exp (if p then s else ⊥) := by
  split_ifs <;> simp

/-! ## The output -/

section Out

variable (H : Holds x Wq Wk Wv A) (hT : Named T) (h : Fin 16) (n : Fin 128) (r d : Fin 64)
include H hT

theorem weight_key (i : Fin 448) : weightsOf (inputsOf T A h) n.val (ix3 0 r ⟨i.val, by omega⟩)
    = Ideal.exp (if live T n i then score x Wq Wk h (tok n r) (key T n i) else ⊥) := by
  rw [weights_live hT, expScores_at, ← exp_live, ← scaled_score]
  refine congrArg (fun z => Ideal.exp z * if live T n i then 1 else 0) (Finset.sum_congr rfl fun d _ => ?_)
  refine congrArg₂ (· * ·) ?_ ?_
  · show A (ix4 ⟨h.val, _⟩ (Fin.ofNat 128 n.val) (Fin.ofNat 64 r.val) (Fin.ofNat 64 d.val)) = _
    rw [ofNat_eq n.isLt, ofNat_eq r.isLt, ofNat_eq d.isLt]
    exact H.q h n r d
  · exact row_key hT h _ (fun t d => lin x Wk t (col h d)) (H.k h) n i d

theorem value_key (i : Fin 448) : slotV (inputsOf T A h) n.val (ix3 0 ⟨i.val, by omega⟩ ⟨d.val, by omega⟩) = lin x Wv (key T n i) (col h d) := by
  show valT (inputsOf T A h) n.val i.val d.val = _
  unfold valT
  rw [if_pos d.isLt]
  exact row_key hT h _ (fun t d => lin x Wv t (col h d)) (H.v h) n i d

omit H hT in
theorem value_past (i : Fin 64) : slotV (inputsOf T A h) n.val (ix3 0 ⟨448 + i.val, by omega⟩ ⟨d.val, by omega⟩) = (0 : EReal) := by
  show valT (inputsOf T A h) n.val (448 + i.val) d.val = _
  unfold valT rowT
  rw [if_pos d.isLt, if_neg (by omega), if_neg (by omega)]
  exact zero_bf16

omit H hT in
theorem ones_key (i : Fin 448) : slotV (inputsOf T A h) n.val (ix3 0 ⟨i.val, by omega⟩ ⟨64 + d.val, by omega⟩) = (1 : EReal) := by
  show valT (inputsOf T A h) n.val i.val (64 + d.val) = _
  unfold valT
  rw [if_neg (by omega), if_pos i.isLt]
  exact one_bf16

omit H hT in
theorem ones_past (i : Fin 64) : slotV (inputsOf T A h) n.val (ix3 0 ⟨448 + i.val, by omega⟩ ⟨64 + d.val, by omega⟩) = (0 : EReal) := by
  show valT (inputsOf T A h) n.val (448 + i.val) (64 + d.val) = _
  unfold valT
  rw [if_neg (by omega), if_neg (by omega)]
  exact zero_bf16

/-- What the kernel leaves for token `r` of block `n` in column `d` of head `h`. -/
theorem final_mix : final (inputsOf T A h) (ix4 0 n r d) = mix x Wq Wk Wv T h n r d := by
  show outOf (inputsOf T A h) n.val (ix2 r d) = _
  unfold outOf mix
  by_cases hn : n = 0
  · rw [if_pos (show n.val = 0 from congrArg Fin.val hn), if_pos hn, average0_eq]
    refine (averageBy_at _ _ r d).trans ?_
    have ht : ∀ t : Fin 8192, tok ⟨t.val / 64, by omega⟩ ⟨t.val % 64, by omega⟩ = t := fun t => Fin.ext (by
      show t.val / 64 * 64 + t.val % 64 = t.val; omega)
    have he : ∀ t : Fin 8192, exps0 (blk (inputsOf T A h).q 0) (inputsOf T A h).k (ix2 r t) = Ideal.exp (score x Wq Wk h (tok 0 r) t) := by
      intro t
      rw [exps0_at, ← scaled_score]
      refine congrArg Ideal.exp (Finset.sum_congr rfl fun d _ => ?_)
      refine congrArg₂ (· * ·) ?_ ?_
      · show A (ix4 ⟨h.val, _⟩ (Fin.ofNat 128 0) (Fin.ofNat 64 r.val) (Fin.ofNat 64 d.val)) = _
        rw [ofNat_eq r.isLt, ofNat_eq d.isLt]
        exact H.q h 0 r d
      · exact (H.k h _ _ d).trans (congrArg (fun t => lin x Wk t (col h d)) (ht t))
    unfold attend
    refine congrArg₂ Ideal.div (Finset.sum_congr rfl fun t _ => ?_) (Finset.sum_congr rfl fun t _ => he t)
    refine congrArg₂ (· * ·) (he t) ?_
    exact (H.v h _ _ d).trans (congrArg (fun t => lin x Wv t (col h d)) (ht t))
  · rw [if_neg (show ¬ n.val = 0 from fun e => hn (Fin.ext e)), if_neg hn]
    refine (average_at _ _ r d).trans ?_
    unfold attend
    refine congrArg₂ Ideal.div ?_ ?_
    · rw [Fin.sum_univ_two_halves 448 64 rfl]
      refine (congrArg₂ (· + ·) (Finset.sum_congr rfl fun i _ => ?_) (Finset.sum_eq_zero fun i _ => ?_)).trans (add_zero _)
      · exact congrArg₂ (· * ·) (weight_key H hT h n r i) (value_key H hT h n d i)
      · exact (congrArg _ (value_past h n d i)).trans (mul_zero _)
    · rw [Fin.sum_univ_two_halves 448 64 rfl]
      refine (congrArg₂ (· + ·) (Finset.sum_congr rfl fun i _ => ?_) (Finset.sum_eq_zero fun i _ => ?_)).trans (add_zero _)
      · exact (congrArg₂ (· * ·) (weight_key H hT h n r i) (ones_key h n d i)).trans (mul_one _)
      · exact (congrArg _ (ones_past h n d i)).trans (mul_zero _)

end Out

end Cert.KernelIdeal.Proof
end
-- ==== Proof.Host.lean ====
/-
  The operations between the kernels, element by element, at the extended reals.
-/
module

public import proofs.«01_k».proof.Proof.Arrays
public import Idealize.ShloMosaic.Lib.StableHlo.ReadAt

@[expose] public section

set_option maxRecDepth 16384

noncomputable section

namespace Cert.KernelIdeal.Proof

open Idealize.ShloMosaic
open Cert.KernelIdeal Cert.KernelIdeal.Gen

variable (V : Valuation τ sig (Elt Ideal))

theorem host0_v0 (s : Fin 8192) (k : Fin 1024) :
    StableHlo.after hostOps0 V (Proc.devRef .tc main_v0) (ix2 s k) = V (Proc.devRef .tc main_arg0) (ix3 0 s k) := by
  unfold hostOps0
  after_reads_at

theorem host0_q (A : S1024x1024.Idx → EReal) (hA : V (Proc.devRef .tc main_arg1) = A) (k : Fin 1024) (e : Fin 1024) :
    StableHlo.after hostOps0 V (Proc.devRef .tc main_v4) (ix2 k ⟨e.val, by omega⟩) = A (ix2 k e) * Ideal.ofBits .f32 0x3E000000#32 := by
  unfold hostOps0
  after_reads_at
  unfold StableHlo.upto
  simp only [List.take_succ_cons, List.take_zero]
  after_reads_at
  exact congrArg (fun B : S1024x1024.Idx → EReal => B (ix2 k e) * Ideal.ofBits .f32 0x3E000000#32) hA

theorem host0_k (A : S1024x1024.Idx → EReal) (hA : V (Proc.devRef .tc main_arg2) = A) (k : Fin 1024) (e : Fin 1024) :
    StableHlo.after hostOps0 V (Proc.devRef .tc main_v4) (ix2 k ⟨1024 + e.val, by omega⟩) = A (ix2 k e) := by
  unfold hostOps0
  after_reads_at
  unfold StableHlo.upto
  simp only [List.take_succ_cons, List.take_zero]
  after_reads_at
  exact congrArg (fun B : S1024x1024.Idx → EReal => B (ix2 k e)) hA

theorem host0_v (A : S1024x1024.Idx → EReal) (hA : V (Proc.devRef .tc main_arg3) = A) (k : Fin 1024) (e : Fin 1024) :
    StableHlo.after hostOps0 V (Proc.devRef .tc main_v4) (ix2 k ⟨2048 + e.val, by omega⟩) = A (ix2 k e) := by
  unfold hostOps0
  after_reads_at
  unfold StableHlo.upto
  simp only [List.take_succ_cons, List.take_zero]
  after_reads_at
  rw [dif_neg (show ¬ 2048 + e.val < 1024 by omega), dif_neg (show ¬ 2048 + e.val - 1024 < 1024 by omega)]
  have he : (⟨2048 + e.val - 1024 - 1024, by omega⟩ : Fin 1024) = e := Fin.ext (by dsimp only; omega)
  refine Eq.trans ?_ (congrArg (fun B : S1024x1024.Idx → EReal => B (ix2 k e)) hA)
  exact congrArg (fun i : Fin 1024 => V (Proc.devRef .tc main_arg3) (ix2 k i)) he

theorem host1_v6 (g : Fin 48) (n : Fin 128) (r d : Fin 64) :
    StableHlo.after hostOps1 V (Proc.devRef .tc main_v6) (ix4 g n r d) = V (Proc.devRef .tc main_v5) (ix3 g ⟨n.val * 64 + r.val, by omega⟩ d) := by
  unfold hostOps1
  after_reads_at

theorem host2_v8 (h : Fin 16) (s : Fin 8192) (d : Fin 64) :
    StableHlo.after hostOps2 V (Proc.devRef .tc main_v8) (ix3 h s d) = V (Proc.devRef .tc main_v7) (ix4 h ⟨s.val / 64, by omega⟩ ⟨s.val % 64, by omega⟩ d) := by
  unfold hostOps2
  after_reads_at

theorem host2_v10 (h : Fin 16) (d : Fin 64) (e : Fin 1024) :
    StableHlo.after hostOps2 V (Proc.devRef .tc main_v10) (ix3 h d e) = V (Proc.devRef .tc main_arg4) (ix2 ⟨h.val * 64 + d.val, by omega⟩ e) := by
  unfold hostOps2
  after_reads_at

theorem host3_v12 (s : Fin 8192) (e : Fin 1024) :
    StableHlo.after hostOps3 V (Proc.devRef .tc main_v12) (ix3 0 s e) = V (Proc.devRef .tc main_v11) (ix2 s e) := by
  unfold hostOps3
  after_reads_at

end Cert.KernelIdeal.Proof
end
-- ==== Proof.Algebra.lean ====
/-
  The kernel's result is the reference's, as sums over extended reals.
-/
module

public import proofs.«01_k».proof.Proof.Attn
public import proofs.«01_k».proof.Proof.Host
public import proofs.«01_k».proof.Proof.Finite

@[expose] public section

set_option maxRecDepth 16384

noncomputable section

namespace Cert.KernelIdeal.Proof

open Idealize.ShloMosaic Idealize.ShloMosaic.TcCoe
open Idealize.SL.Sem
open Cert.KernelIdeal Cert.KernelIdeal.Gen
open Cert.KernelIdeal.Proof.Ref (lin col tok score key live place mix answer)

section Parts

variable {x : S1x8192x1024.Idx → EReal} {Wq Wk Wv Wo : S1024x1024.Idx → EReal} {T : S128x6.Idx → BitVec 32}

/-- The first kernel's heads, cut into blocks, hold the queries, the keys and the values. -/
theorem holds_of {X : S8192x1024.Idx → EReal} {W : S1024x3072.Idx → EReal} {A : S48x128x64x64.Idx → EReal}
    (hX : ∀ s k, X (ix2 s k) = x (ix3 0 s k))
    (hq : ∀ (k e : Fin 1024), W (ix2 k ⟨e.val, by omega⟩) = Wq (ix2 k e) * Ideal.ofBits .f32 0x3E000000#32)
    (hk : ∀ (k e : Fin 1024), W (ix2 k ⟨1024 + e.val, by omega⟩) = Wk (ix2 k e))
    (hv : ∀ (k e : Fin 1024), W (ix2 k ⟨2048 + e.val, by omega⟩) = Wv (ix2 k e))
    (hA : ∀ g n r d, A (ix4 g n r d) = qkvAll X W (ix3 g (tok n r) d)) : Holds x Wq Wk Wv A := by
  constructor
  · intro h n r d
    rw [hA]
    refine Finset.sum_congr rfl fun k _ => congrArg₂ (· * ·) (hX _ _) ?_
    rw [← Ref.eighth, ← hq]
    refine congrArg (fun i : Fin 3072 => W (ix2 k i)) (Fin.ext ?_)
    show 64 * h.val + d.val = h.val * 64 + d.val
    omega
  · intro h n r d
    rw [hA]
    refine Finset.sum_congr rfl fun k _ => congrArg₂ (· * ·) (hX _ _) ?_
    rw [← hk]
    refine congrArg (fun i : Fin 3072 => W (ix2 k i)) (Fin.ext ?_)
    show 64 * (h.val + 16) + d.val = 1024 + (h.val * 64 + d.val)
    omega
  · intro h n r d
    rw [hA]
    refine Finset.sum_congr rfl fun k _ => congrArg₂ (· * ·) (hX _ _) ?_
    rw [← hv]
    refine congrArg (fun i : Fin 3072 => W (ix2 k i)) (Fin.ext ?_)
    show 64 * (h.val + 32) + d.val = 2048 + (h.val * 64 + d.val)
    omega

/-- The last kernel's rows are the answer. -/
theorem answer_of {A : S48x128x64x64.Idx → EReal} {B : S16x8192x64.Idx → EReal} {w : S16x64x1024.Idx → EReal}
    (H : Holds x Wq Wk Wv A) (hT : Named T)
    (hB : ∀ h (s : Fin 8192) d, B (ix3 h s d) = mixAll T A (ix4 h ⟨s.val / 64, by omega⟩ ⟨s.val % 64, by omega⟩ d))
    (hw : ∀ (h : Fin 16) (d : Fin 64) e, w (ix3 h d e) = Wo (ix2 (col h d) e)) (s : Fin 8192) (e : Fin 1024) :
    projAll B w (ix2 s e) = answer x Wq Wk Wv Wo T s e := by
  refine Finset.sum_congr rfl fun k _ => congrArg₂ (· * ·) ?_ ?_
  · exact (hB _ _ _).trans (final_mix H hT _ _ _ _)
  · refine (hw _ _ _).trans (congrArg (fun i : Fin 1024 => Wo (ix2 i e)) (Fin.ext ?_))
    show k.val / 64 * 64 + k.val % 64 = k.val
    omega

end Parts

variable (m : (ℓ : Loc nD τ sig) → Buf (Elt Ideal) ℓ) (c : Dev nD)

theorem put2 : W2 m c (Proc.devRef .tc main_v5) = left0 m c := Function.update_self _ _ _
theorem put4 : W4 m c (Proc.devRef .tc main_v7) = left1 m c := Function.update_self _ _ _
theorem put6 : W6 m c (Proc.devRef .tc main_v11) = left2 m c := Function.update_self _ _ _

theorem heads_held : Holds (m ((c : Thread nD τ).loc main_arg0)) (m ((c : Thread nD τ).loc main_arg1)) (m ((c : Thread nD τ).loc main_arg2))
    (m ((c : Thread nD τ).loc main_arg3)) (W3 m c (Proc.devRef .tc main_v6)) := by
  refine holds_of (X := V1 m c (Proc.devRef .tc main_v0)) (W := V1 m c (Proc.devRef .tc main_v4)) ?_ ?_ ?_ ?_ ?_
  · exact fun s k => host0_v0 (V0 m c) s k
  · exact fun k e => host0_q (V0 m c) _ rfl k e
  · exact fun k e => host0_k (V0 m c) _ rfl k e
  · exact fun k e => host0_v (V0 m c) _ rfl k e
  · intro g n r d
    refine (host1_v6 (W2 m c) g n r d).trans ?_
    exact congrFun ((put2 m c).trans (arr0 (V1 m) c)) (ix3 g (tok n r) d)

theorem out_kept : W4 m c (Proc.devRef .tc main_arg4) = m ((c : Thread nD τ).loc main_arg4) := by
  rw [← V4_eq]
  exact (V4_of m _ c main_arg4 (by decide)).trans ((V3_of m _ c main_arg4 (by decide)).trans
    ((V2_of m _ c main_arg4 (by decide)).trans (V1_of m c main_arg4 (by decide))))

/-- What the kernel's program leaves. -/
theorem kernel_answer (hT : Named (m ((c : Thread nD τ).loc main_arg5))) (s : Fin 8192) (e : Fin 1024) :
    W7 m c (Proc.devRef .tc main_v12) (ix3 0 s e)
      = answer (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) s e := by
  refine (host3_v12 (W6 m c) s e).trans ?_
  refine (congrFun ((put6 m c).trans (arr2 (W5 m) c)) (ix2 s e)).trans ?_
  refine answer_of (heads_held m c) hT ?_ ?_ s e
  · intro h s d
    refine (host2_v8 (W4 m c) h s d).trans ?_
    refine (congrFun ((put4 m c).trans (arr1 (W3 m) c (adm1 m))) _).trans ?_
    rw [Subsingleton.elim c 0]
    rfl
  · intro h d e
    refine (host2_v10 (W4 m c) h d e).trans ?_
    exact congrFun (out_kept m c) (ix2 (col h d) e)

theorem algebraic : Cert.algebraic_KernelIdeal_ReferenceIdeal_pre_finite_scores (hKernelIdeal := facts)
    (hReferenceIdeal := Cert.ReferenceIdeal.Gen.facts) (hPre_finite_scores := finiteFacts) := by
  intro m g m' g' hp hin
  obtain ⟨hx, hq, hk, hT⟩ := finite_parts _ _ _ _ _ _ (hp 0)
  refine ⟨fun c => W7 m c (Proc.devRef .tc main_v12), ?_, ?_⟩
  · exact (θ_run _ _ _).mono (fun _ h => h.1) (run (F := Ideal) m (inRange_of_named m hT) g)
  · refine (θ_run _ _ _).mono (fun r h c => ⟨(h c).1.trans ?_, (h c).2⟩) (Cert.ReferenceIdeal.Value.run (F := Ideal) m' g')
    obtain ⟨e0, e1, e2, e3, e4, e5⟩ := hin c
    refine (Ref.result m' c).trans ?_
    rw [e0, e1, e2, e3, e4, e5]
    have hc : c = 0 := Subsingleton.elim _ _
    subst hc
    refine funext fun (y : S1x8192x1024.Idx) => ?_
    have hy : y = ix3 (0 : Fin 1) (y 1) (y 2) := by
      funext a
      fin_cases a
      · exact Subsingleton.elim (α := Fin 1) _ _
      · rfl
      · rfl
    rw [hy]
    exact (Ref.whole_form hx hq hk hT.lt (y 1) (y 2)).trans (kernel_answer m 0 hT (y 1) (y 2)).symm

end Cert.KernelIdeal.Proof
end
-- ==== Proof.lean ====
/-
  The claim: the programs' side conditions, the frames, and that the kernel leaves what the reference leaves.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_names_blocks
public import proofs.«01_k».proof.Proof.Frames
public import proofs.«01_k».proof.Proof.Finite
public import proofs.«01_k».proof.Proof.Algebra
public import Idealize.ShloMosaic.Adequacy
public import Idealize.ShloMosaic.Init

@[expose] public section

noncomputable section

namespace Cert.Proof

open Cert.KernelIdeal.Proof

theorem claim : Cert.Claim :=
  ⟨Cert.Kernel.Gen.facts, Cert.KernelIdeal.Gen.facts, Cert.ReferenceIdeal.Gen.facts, Cert.Pre_names_blocks.Gen.facts, finiteFacts,
    frame_bits, frame_ideal, frame_ideal_finite, frame_reference, frame_reference_finite, trivial, algebraic⟩

end Cert.Proof

end
